-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 64]⟩ ⟨2, ![1024, 1024]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![64, 1024]⟩ ⟨2, ![1024, 1024]⟩ 0 16 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x64 : Shape := ⟨2, ![1024, 64]⟩
abbrev S64x1024 : Shape := ⟨2, ![64, 1024]⟩
abbrev S1024x1024 : Shape := ⟨2, ![1024, 1024]⟩
abbrev S8x8x64x256 : Shape := ⟨4, ![8, 8, 64, 256]⟩
abbrev S8x15 : Shape := ⟨2, ![8, 15]⟩
abbrev S_ : Shape := ⟨0, ![]⟩
abbrev S1x1 : Shape := ⟨2, ![1, 1]⟩
abbrev S1x1x64x256 : Shape := ⟨4, ![1, 1, 64, 256]⟩
abbrev S64x256 : Shape := ⟨2, ![64, 256]⟩

abbrev nBuf : Space → Nat
  | .hbm => 3
  | .vmem => 4
  | .smem => 0
  | _ => 0

abbrev bufTy : (tb : Table) → Fin (tcTables nBuf tb) → BufTy
  | .hbm, ⟨0, _⟩ => ⟨S1024x64, .f32⟩
  | .hbm, ⟨1, _⟩ => ⟨S64x1024, .f32⟩
  | .hbm, ⟨2, _⟩ => ⟨S1024x1024, .f32⟩
  | .local _ .vmem, ⟨0, _⟩ => ⟨S1024x64, .f32⟩
  | .local _ .vmem, ⟨1, _⟩ => ⟨S64x1024, .f32⟩
  | .local _ .vmem, ⟨2, _⟩ => ⟨S1024x1024, .f32⟩
  | .local _ .vmem, ⟨3, _⟩ => ⟨S8x8x64x256, .f32⟩
  | _, _ => ⟨S1024x64, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 243 → Bool
  | ⟨i, _⟩ => dmaSemScopedAt i

abbrev sig : RefSig :=
  (ofTc nBuf bufTy 1 243 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem2_0 : DmaSem sig := 2
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_85 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c12_i32_46 : BitVec 32 := 12#32
  let c14_i32_43 : BitVec 32 := 14#32
  let v59 : BitVec 1 := Scalar.cmpi .eq v2 c14_i32_43
  let c10_i32_44 : BitVec 32 := 10#32
  let c13_i32_41 : BitVec 32 := 13#32
  let v57 : BitVec 1 := Scalar.cmpi .eq v2 c13_i32_41
  let c14_i32_42 : BitVec 32 := 14#32
  let c12_i32_39 : BitVec 32 := 12#32
  let v55 : BitVec 1 := Scalar.cmpi .eq v2 c12_i32_39
  let c8_i32_40 : BitVec 32 := 8#32
  let c11_i32_37 : BitVec 32 := 11#32
  let v53 : BitVec 1 := Scalar.cmpi .eq v2 c11_i32_37
  let c15_i32_38 : BitVec 32 := 15#32
  let c10_i32_35 : BitVec 32 := 10#32
  let v51 : BitVec 1 := Scalar.cmpi .eq v2 c10_i32_35
  let c6_i32_36 : BitVec 32 := 6#32
  let c9_i32_33 : BitVec 32 := 9#32
  let v49 : BitVec 1 := Scalar.cmpi .eq v2 c9_i32_33
  let c13_i32_34 : BitVec 32 := 13#32
  let c8_i32_31 : BitVec 32 := 8#32
  let v47 : BitVec 1 := Scalar.cmpi .eq v2 c8_i32_31
  let c4_i32_32 : BitVec 32 := 4#32
  let c7_i32_29 : BitVec 32 := 7#32
  let v45 : BitVec 1 := Scalar.cmpi .eq v2 c7_i32_29
  let c11_i32_30 : BitVec 32 := 11#32
  let c6_i32_27 : BitVec 32 := 6#32
  let v43 : BitVec 1 := Scalar.cmpi .eq v2 c6_i32_27
  let c2_i32_28 : BitVec 32 := 2#32
  let c5_i32_25 : BitVec 32 := 5#32
  let v41 : BitVec 1 := Scalar.cmpi .eq v2 c5_i32_25
  let c9_i32_26 : BitVec 32 := 9#32
  let c4_i32_23 : BitVec 32 := 4#32
  let v39 : BitVec 1 := Scalar.cmpi .eq v2 c4_i32_23
  let c0_i32_24 : BitVec 32 := 0#32
  let c3_i32_21 : BitVec 32 := 3#32
  let v37 : BitVec 1 := Scalar.cmpi .eq v2 c3_i32_21
  let c7_i32_22 : BitVec 32 := 7#32
  let c2_i32_19 : BitVec 32 := 2#32
  let v35 : BitVec 1 := Scalar.cmpi .eq v2 c2_i32_19
  let c3_i32_20 : BitVec 32 := 3#32
  let c1_i32_16 : BitVec 32 := 1#32
  let v33 : BitVec 1 := Scalar.cmpi .eq v2 c1_i32_16
  let c5_i32_17 : BitVec 32 := 5#32
  let c1_i32_18 : BitVec 32 := 1#32
  let v34 : BitVec 32 := Scalar.select v33 c5_i32_17 c1_i32_18
  let v36 : BitVec 32 := Scalar.select v35 c3_i32_20 v34
  let v38 : BitVec 32 := Scalar.select v37 c7_i32_22 v36
  let v40 : BitVec 32 := Scalar.select v39 c0_i32_24 v38
  let v42 : BitVec 32 := Scalar.select v41 c9_i32_26 v40
  let v44 : BitVec 32 := Scalar.select v43 c2_i32_28 v42
  let v46 : BitVec 32 := Scalar.select v45 c11_i32_30 v44
  let v48 : BitVec 32 := Scalar.select v47 c4_i32_32 v46
  let v50 : BitVec 32 := Scalar.select v49 c13_i32_34 v48
  let v52 : BitVec 32 := Scalar.select v51 c6_i32_36 v50
  let v54 : BitVec 32 := Scalar.select v53 c15_i32_38 v52
  let v56 : BitVec 32 := Scalar.select v55 c8_i32_40 v54
  let v58 : BitVec 32 := Scalar.select v57 c14_i32_42 v56
  let v60 : BitVec 32 := Scalar.select v59 c10_i32_44 v58
  let v62 : BitVec 32 := Scalar.select v61 c12_i32_46 v60
  let c1_i32_84 : BitVec 32 := 1#32
  let v100 : BitVec 32 := Scalar.muli v62 c1_i32_84
  let v101 : BitVec 32 := Scalar.addi c0_i32_85 v100
  v101.toNat
def k0_dev2 (d0 : Dev nD) : Nat :=
  let c0_i32_88 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c11_i32_77 : BitVec 32 := 11#32
  let c14_i32_74 : BitVec 32 := 14#32
  let v89 : BitVec 1 := Scalar.cmpi .eq v2 c14_i32_74
  let c13_i32_75 : BitVec 32 := 13#32
  let c13_i32_72 : BitVec 32 := 13#32
  let v87 : BitVec 1 := Scalar.cmpi .eq v2 c13_i32_72
  let c9_i32_73 : BitVec 32 := 9#32
  let c12_i32_70 : BitVec 32 := 12#32
  let v85 : BitVec 1 := Scalar.cmpi .eq v2 c12_i32_70
  let c15_i32_71 : BitVec 32 := 15#32
  let c11_i32_68 : BitVec 32 := 11#32
  let v83 : BitVec 1 := Scalar.cmpi .eq v2 c11_i32_68
  let c7_i32_69 : BitVec 32 := 7#32
  let c10_i32_66 : BitVec 32 := 10#32
  let v81 : BitVec 1 := Scalar.cmpi .eq v2 c10_i32_66
  let c14_i32_67 : BitVec 32 := 14#32
  let c9_i32_64 : BitVec 32 := 9#32
  let v79 : BitVec 1 := Scalar.cmpi .eq v2 c9_i32_64
  let c5_i32_65 : BitVec 32 := 5#32
  let c8_i32_62 : BitVec 32 := 8#32
  let v77 : BitVec 1 := Scalar.cmpi .eq v2 c8_i32_62
  let c12_i32_63 : BitVec 32 := 12#32
  let c7_i32_60 : BitVec 32 := 7#32
  let v75 : BitVec 1 := Scalar.cmpi .eq v2 c7_i32_60
  let c3_i32_61 : BitVec 32 := 3#32
  let c6_i32_58 : BitVec 32 := 6#32
  let v73 : BitVec 1 := Scalar.cmpi .eq v2 c6_i32_58
  let c10_i32_59 : BitVec 32 := 10#32
  let c5_i32_56 : BitVec 32 := 5#32
  let v71 : BitVec 1 := Scalar.cmpi .eq v2 c5_i32_56
  let c1_i32_57 : BitVec 32 := 1#32
  let c4_i32_54 : BitVec 32 := 4#32
  let v69 : BitVec 1 := Scalar.cmpi .eq v2 c4_i32_54
  let c8_i32_55 : BitVec 32 := 8#32
  let c3_i32_52 : BitVec 32 := 3#32
  let v67 : BitVec 1 := Scalar.cmpi .eq v2 c3_i32_52
  let c2_i32_53 : BitVec 32 := 2#32
  let c2_i32_50 : BitVec 32 := 2#32
  let v65 : BitVec 1 := Scalar.cmpi .eq v2 c2_i32_50
  let c6_i32_51 : BitVec 32 := 6#32
  let c1_i32_47 : BitVec 32 := 1#32
  let v63 : BitVec 1 := Scalar.cmpi .eq v2 c1_i32_47
  let c0_i32_48 : BitVec 32 := 0#32
  let c4_i32_49 : BitVec 32 := 4#32
  let v64 : BitVec 32 := Scalar.select v63 c0_i32_48 c4_i32_49
  let v66 : BitVec 32 := Scalar.select v65 c6_i32_51 v64
  let v68 : BitVec 32 := Scalar.select v67 c2_i32_53 v66
  let v70 : BitVec 32 := Scalar.select v69 c8_i32_55 v68
  let v72 : BitVec 32 := Scalar.select v71 c1_i32_57 v70
  let v74 : BitVec 32 := Scalar.select v73 c10_i32_59 v72
  let v76 : BitVec 32 := Scalar.select v75 c3_i32_61 v74
  let v78 : BitVec 32 := Scalar.select v77 c12_i32_63 v76
  let v80 : BitVec 32 := Scalar.select v79 c5_i32_65 v78
  let v82 : BitVec 32 := Scalar.select v81 c14_i32_67 v80
  let v84 : BitVec 32 := Scalar.select v83 c7_i32_69 v82
  let v86 : BitVec 32 := Scalar.select v85 c15_i32_71 v84
  let v88 : BitVec 32 := Scalar.select v87 c9_i32_73 v86
  let v90 : BitVec 32 := Scalar.select v89 c13_i32_75 v88
  let v92 : BitVec 32 := Scalar.select v91 c11_i32_77 v90
  let c1_i32_87 : BitVec 32 := 1#32
  let v102 : BitVec 32 := Scalar.muli v92 c1_i32_87
  let v103 : BitVec 32 := Scalar.addi c0_i32_88 v102
  v103.toNat
def k0_off1 (d0 : Dev nD) (c_m8_i32 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let v104 : BitVec 32 := Scalar.addi v32 c_m8_i32
  let c16_i32_90 : BitVec 32 := 16#32
  let c0_i32_91 : BitVec 32 := 0#32
  let v105 : BitVec 1 := Scalar.cmpi .eq c16_i32_90 c0_i32_91
  let c1_i32_92 : BitVec 32 := 1#32
  let v106 : BitVec 32 := Scalar.select v105 c1_i32_92 c16_i32_90
  let v107 : BitVec 32 := Scalar.remsi v104 v106
  let c0_i32_94 : BitVec 32 := 0#32
  let v109 : BitVec 1 := Scalar.cmpi .slt v107 c0_i32_94
  let c0_i32_95 : BitVec 32 := 0#32
  let v110 : BitVec 1 := Scalar.cmpi .slt v106 c0_i32_95
  let v111 : BitVec 1 := Scalar.xori v109 v110
  let c0_i32_93 : BitVec 32 := 0#32
  let v108 : BitVec 1 := Scalar.cmpi .ne v107 c0_i32_93
  let v112 : BitVec 1 := Scalar.andi v111 v108
  let v113 : BitVec 32 := Scalar.addi v107 v106
  let v114 : BitVec 32 := Scalar.select v112 v113 v107
  let c64_i32 : BitVec 32 := 64#32
  let v115 : BitVec 32 := Scalar.muli v114 c64_i32
  let c0_i32_106 : BitVec 32 := 0#32
  ![v115.toNat, 0]
def k0_off1_at (r : Fin 16) : BitVec 32 :=
  if r.val < 8 then
    if r.val < 4 then
      if r.val < 2 then
        if r.val < 1 then
          4294967288#32
        else
          7#32
      else
        if r.val < 3 then
          4294967289#32
        else
          6#32
    else
      if r.val < 6 then
        if r.val < 5 then
          4294967290#32
        else
          5#32
      else
        if r.val < 7 then
          4294967291#32
        else
          4#32
  else
    if r.val < 12 then
      if r.val < 10 then
        if r.val < 9 then
          4294967292#32
        else
          3#32
      else
        if r.val < 11 then
          4294967293#32
        else
          2#32
    else
      if r.val < 14 then
        if r.val < 13 then
          4294967294#32
        else
          1#32
      else
        if r.val < 15 then
          4294967295#32
        else
          0#32
def k0_dev3 (d0 : Dev nD) : Nat :=
  let c0_i32_103 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c11_i32_77 : BitVec 32 := 11#32
  let c14_i32_74 : BitVec 32 := 14#32
  let v89 : BitVec 1 := Scalar.cmpi .eq v2 c14_i32_74
  let c13_i32_75 : BitVec 32 := 13#32
  let c13_i32_72 : BitVec 32 := 13#32
  let v87 : BitVec 1 := Scalar.cmpi .eq v2 c13_i32_72
  let c9_i32_73 : BitVec 32 := 9#32
  let c12_i32_70 : BitVec 32 := 12#32
  let v85 : BitVec 1 := Scalar.cmpi .eq v2 c12_i32_70
  let c15_i32_71 : BitVec 32 := 15#32
  let c11_i32_68 : BitVec 32 := 11#32
  let v83 : BitVec 1 := Scalar.cmpi .eq v2 c11_i32_68
  let c7_i32_69 : BitVec 32 := 7#32
  let c10_i32_66 : BitVec 32 := 10#32
  let v81 : BitVec 1 := Scalar.cmpi .eq v2 c10_i32_66
  let c14_i32_67 : BitVec 32 := 14#32
  let c9_i32_64 : BitVec 32 := 9#32
  let v79 : BitVec 1 := Scalar.cmpi .eq v2 c9_i32_64
  let c5_i32_65 : BitVec 32 := 5#32
  let c8_i32_62 : BitVec 32 := 8#32
  let v77 : BitVec 1 := Scalar.cmpi .eq v2 c8_i32_62
  let c12_i32_63 : BitVec 32 := 12#32
  let c7_i32_60 : BitVec 32 := 7#32
  let v75 : BitVec 1 := Scalar.cmpi .eq v2 c7_i32_60
  let c3_i32_61 : BitVec 32 := 3#32
  let c6_i32_58 : BitVec 32 := 6#32
  let v73 : BitVec 1 := Scalar.cmpi .eq v2 c6_i32_58
  let c10_i32_59 : BitVec 32 := 10#32
  let c5_i32_56 : BitVec 32 := 5#32
  let v71 : BitVec 1 := Scalar.cmpi .eq v2 c5_i32_56
  let c1_i32_57 : BitVec 32 := 1#32
  let c4_i32_54 : BitVec 32 := 4#32
  let v69 : BitVec 1 := Scalar.cmpi .eq v2 c4_i32_54
  let c8_i32_55 : BitVec 32 := 8#32
  let c3_i32_52 : BitVec 32 := 3#32
  let v67 : BitVec 1 := Scalar.cmpi .eq v2 c3_i32_52
  let c2_i32_53 : BitVec 32 := 2#32
  let c2_i32_50 : BitVec 32 := 2#32
  let v65 : BitVec 1 := Scalar.cmpi .eq v2 c2_i32_50
  let c6_i32_51 : BitVec 32 := 6#32
  let c1_i32_47 : BitVec 32 := 1#32
  let v63 : BitVec 1 := Scalar.cmpi .eq v2 c1_i32_47
  let c0_i32_48 : BitVec 32 := 0#32
  let c4_i32_49 : BitVec 32 := 4#32
  let v64 : BitVec 32 := Scalar.select v63 c0_i32_48 c4_i32_49
  let v66 : BitVec 32 := Scalar.select v65 c6_i32_51 v64
  let v68 : BitVec 32 := Scalar.select v67 c2_i32_53 v66
  let v70 : BitVec 32 := Scalar.select v69 c8_i32_55 v68
  let v72 : BitVec 32 := Scalar.select v71 c1_i32_57 v70
  let v74 : BitVec 32 := Scalar.select v73 c10_i32_59 v72
  let v76 : BitVec 32 := Scalar.select v75 c3_i32_61 v74
  let v78 : BitVec 32 := Scalar.select v77 c12_i32_63 v76
  let v80 : BitVec 32 := Scalar.select v79 c5_i32_65 v78
  let v82 : BitVec 32 := Scalar.select v81 c14_i32_67 v80
  let v84 : BitVec 32 := Scalar.select v83 c7_i32_69 v82
  let v86 : BitVec 32 := Scalar.select v85 c15_i32_71 v84
  let v88 : BitVec 32 := Scalar.select v87 c9_i32_73 v86
  let v90 : BitVec 32 := Scalar.select v89 c13_i32_75 v88
  let v92 : BitVec 32 := Scalar.select v91 c11_i32_77 v90
  let c1_i32_102 : BitVec 32 := 1#32
  let v116 : BitVec 32 := Scalar.muli v92 c1_i32_102
  let v117 : BitVec 32 := Scalar.addi c0_i32_103 v116
  v117.toNat
def k0_dev4 (d0 : Dev nD) : Nat :=
  let c0_i32_122 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c12_i32_46 : BitVec 32 := 12#32
  let c14_i32_43 : BitVec 32 := 14#32
  let v59 : BitVec 1 := Scalar.cmpi .eq v2 c14_i32_43
  let c10_i32_44 : BitVec 32 := 10#32
  let c13_i32_41 : BitVec 32 := 13#32
  let v57 : BitVec 1 := Scalar.cmpi .eq v2 c13_i32_41
  let c14_i32_42 : BitVec 32 := 14#32
  let c12_i32_39 : BitVec 32 := 12#32
  let v55 : BitVec 1 := Scalar.cmpi .eq v2 c12_i32_39
  let c8_i32_40 : BitVec 32 := 8#32
  let c11_i32_37 : BitVec 32 := 11#32
  let v53 : BitVec 1 := Scalar.cmpi .eq v2 c11_i32_37
  let c15_i32_38 : BitVec 32 := 15#32
  let c10_i32_35 : BitVec 32 := 10#32
  let v51 : BitVec 1 := Scalar.cmpi .eq v2 c10_i32_35
  let c6_i32_36 : BitVec 32 := 6#32
  let c9_i32_33 : BitVec 32 := 9#32
  let v49 : BitVec 1 := Scalar.cmpi .eq v2 c9_i32_33
  let c13_i32_34 : BitVec 32 := 13#32
  let c8_i32_31 : BitVec 32 := 8#32
  let v47 : BitVec 1 := Scalar.cmpi .eq v2 c8_i32_31
  let c4_i32_32 : BitVec 32 := 4#32
  let c7_i32_29 : BitVec 32 := 7#32
  let v45 : BitVec 1 := Scalar.cmpi .eq v2 c7_i32_29
  let c11_i32_30 : BitVec 32 := 11#32
  let c6_i32_27 : BitVec 32 := 6#32
  let v43 : BitVec 1 := Scalar.cmpi .eq v2 c6_i32_27
  let c2_i32_28 : BitVec 32 := 2#32
  let c5_i32_25 : BitVec 32 := 5#32
  let v41 : BitVec 1 := Scalar.cmpi .eq v2 c5_i32_25
  let c9_i32_26 : BitVec 32 := 9#32
  let c4_i32_23 : BitVec 32 := 4#32
  let v39 : BitVec 1 := Scalar.cmpi .eq v2 c4_i32_23
  let c0_i32_24 : BitVec 32 := 0#32
  let c3_i32_21 : BitVec 32 := 3#32
  let v37 : BitVec 1 := Scalar.cmpi .eq v2 c3_i32_21
  let c7_i32_22 : BitVec 32 := 7#32
  let c2_i32_19 : BitVec 32 := 2#32
  let v35 : BitVec 1 := Scalar.cmpi .eq v2 c2_i32_19
  let c3_i32_20 : BitVec 32 := 3#32
  let c1_i32_16 : BitVec 32 := 1#32
  let v33 : BitVec 1 := Scalar.cmpi .eq v2 c1_i32_16
  let c5_i32_17 : BitVec 32 := 5#32
  let c1_i32_18 : BitVec 32 := 1#32
  let v34 : BitVec 32 := Scalar.select v33 c5_i32_17 c1_i32_18
  let v36 : BitVec 32 := Scalar.select v35 c3_i32_20 v34
  let v38 : BitVec 32 := Scalar.select v37 c7_i32_22 v36
  let v40 : BitVec 32 := Scalar.select v39 c0_i32_24 v38
  let v42 : BitVec 32 := Scalar.select v41 c9_i32_26 v40
  let v44 : BitVec 32 := Scalar.select v43 c2_i32_28 v42
  let v46 : BitVec 32 := Scalar.select v45 c11_i32_30 v44
  let v48 : BitVec 32 := Scalar.select v47 c4_i32_32 v46
  let v50 : BitVec 32 := Scalar.select v49 c13_i32_34 v48
  let v52 : BitVec 32 := Scalar.select v51 c6_i32_36 v50
  let v54 : BitVec 32 := Scalar.select v53 c15_i32_38 v52
  let v56 : BitVec 32 := Scalar.select v55 c8_i32_40 v54
  let v58 : BitVec 32 := Scalar.select v57 c14_i32_42 v56
  let v60 : BitVec 32 := Scalar.select v59 c10_i32_44 v58
  let v62 : BitVec 32 := Scalar.select v61 c12_i32_46 v60
  let c1_i32_121 : BitVec 32 := 1#32
  let v137 : BitVec 32 := Scalar.muli v62 c1_i32_121
  let v138 : BitVec 32 := Scalar.addi c0_i32_122 v137
  v138.toNat
def k0_off2 (d0 : Dev nD) (c_m8_i32_126 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let v146 : BitVec 32 := Scalar.addi v32 c_m8_i32_126
  let c16_i32_127 : BitVec 32 := 16#32
  let c0_i32_128 : BitVec 32 := 0#32
  let v147 : BitVec 1 := Scalar.cmpi .eq c16_i32_127 c0_i32_128
  let c1_i32_129 : BitVec 32 := 1#32
  let v148 : BitVec 32 := Scalar.select v147 c1_i32_129 c16_i32_127
  let v149 : BitVec 32 := Scalar.remsi v146 v148
  let c0_i32_131 : BitVec 32 := 0#32
  let v151 : BitVec 1 := Scalar.cmpi .slt v149 c0_i32_131
  let c0_i32_132 : BitVec 32 := 0#32
  let v152 : BitVec 1 := Scalar.cmpi .slt v148 c0_i32_132
  let v153 : BitVec 1 := Scalar.xori v151 v152
  let c0_i32_130 : BitVec 32 := 0#32
  let v150 : BitVec 1 := Scalar.cmpi .ne v149 c0_i32_130
  let v154 : BitVec 1 := Scalar.andi v153 v150
  let v155 : BitVec 32 := Scalar.addi v149 v148
  let v156 : BitVec 32 := Scalar.select v154 v155 v149
  let c64_i32_133 : BitVec 32 := 64#32
  let v157 : BitVec 32 := Scalar.muli v156 c64_i32_133
  let c256_i32 : BitVec 32 := 256#32
  ![v157.toNat, 256]
def k0_off2_at (r : Fin 16) : BitVec 32 :=
  if r.val < 8 then
    if r.val < 4 then
      if r.val < 2 then
        if r.val < 1 then
          4294967288#32
        else
          7#32
      else
        if r.val < 3 then
          4294967289#32
        else
          6#32
    else
      if r.val < 6 then
        if r.val < 5 then
          4294967290#32
        else
          5#32
      else
        if r.val < 7 then
          4294967291#32
        else
          4#32
  else
    if r.val < 12 then
      if r.val < 10 then
        if r.val < 9 then
          4294967292#32
        else
          3#32
      else
        if r.val < 11 then
          4294967293#32
        else
          2#32
    else
      if r.val < 14 then
        if r.val < 13 then
          4294967294#32
        else
          1#32
      else
        if r.val < 15 then
          4294967295#32
        else
          0#32
def k0_dev5 (d0 : Dev nD) : Nat :=
  let c0_i32_141 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c11_i32_77 : BitVec 32 := 11#32
  let c14_i32_74 : BitVec 32 := 14#32
  let v89 : BitVec 1 := Scalar.cmpi .eq v2 c14_i32_74
  let c13_i32_75 : BitVec 32 := 13#32
  let c13_i32_72 : BitVec 32 := 13#32
  let v87 : BitVec 1 := Scalar.cmpi .eq v2 c13_i32_72
  let c9_i32_73 : BitVec 32 := 9#32
  let c12_i32_70 : BitVec 32 := 12#32
  let v85 : BitVec 1 := Scalar.cmpi .eq v2 c12_i32_70
  let c15_i32_71 : BitVec 32 := 15#32
  let c11_i32_68 : BitVec 32 := 11#32
  let v83 : BitVec 1 := Scalar.cmpi .eq v2 c11_i32_68
  let c7_i32_69 : BitVec 32 := 7#32
  let c10_i32_66 : BitVec 32 := 10#32
  let v81 : BitVec 1 := Scalar.cmpi .eq v2 c10_i32_66
  let c14_i32_67 : BitVec 32 := 14#32
  let c9_i32_64 : BitVec 32 := 9#32
  let v79 : BitVec 1 := Scalar.cmpi .eq v2 c9_i32_64
  let c5_i32_65 : BitVec 32 := 5#32
  let c8_i32_62 : BitVec 32 := 8#32
  let v77 : BitVec 1 := Scalar.cmpi .eq v2 c8_i32_62
  let c12_i32_63 : BitVec 32 := 12#32
  let c7_i32_60 : BitVec 32 := 7#32
  let v75 : BitVec 1 := Scalar.cmpi .eq v2 c7_i32_60
  let c3_i32_61 : BitVec 32 := 3#32
  let c6_i32_58 : BitVec 32 := 6#32
  let v73 : BitVec 1 := Scalar.cmpi .eq v2 c6_i32_58
  let c10_i32_59 : BitVec 32 := 10#32
  let c5_i32_56 : BitVec 32 := 5#32
  let v71 : BitVec 1 := Scalar.cmpi .eq v2 c5_i32_56
  let c1_i32_57 : BitVec 32 := 1#32
  let c4_i32_54 : BitVec 32 := 4#32
  let v69 : BitVec 1 := Scalar.cmpi .eq v2 c4_i32_54
  let c8_i32_55 : BitVec 32 := 8#32
  let c3_i32_52 : BitVec 32 := 3#32
  let v67 : BitVec 1 := Scalar.cmpi .eq v2 c3_i32_52
  let c2_i32_53 : BitVec 32 := 2#32
  let c2_i32_50 : BitVec 32 := 2#32
  let v65 : BitVec 1 := Scalar.cmpi .eq v2 c2_i32_50
  let c6_i32_51 : BitVec 32 := 6#32
  let c1_i32_47 : BitVec 32 := 1#32
  let v63 : BitVec 1 := Scalar.cmpi .eq v2 c1_i32_47
  let c0_i32_48 : BitVec 32 := 0#32
  let c4_i32_49 : BitVec 32 := 4#32
  let v64 : BitVec 32 := Scalar.select v63 c0_i32_48 c4_i32_49
  let v66 : BitVec 32 := Scalar.select v65 c6_i32_51 v64
  let v68 : BitVec 32 := Scalar.select v67 c2_i32_53 v66
  let v70 : BitVec 32 := Scalar.select v69 c8_i32_55 v68
  let v72 : BitVec 32 := Scalar.select v71 c1_i32_57 v70
  let v74 : BitVec 32 := Scalar.select v73 c10_i32_59 v72
  let v76 : BitVec 32 := Scalar.select v75 c3_i32_61 v74
  let v78 : BitVec 32 := Scalar.select v77 c12_i32_63 v76
  let v80 : BitVec 32 := Scalar.select v79 c5_i32_65 v78
  let v82 : BitVec 32 := Scalar.select v81 c14_i32_67 v80
  let v84 : BitVec 32 := Scalar.select v83 c7_i32_69 v82
  let v86 : BitVec 32 := Scalar.select v85 c15_i32_71 v84
  let v88 : BitVec 32 := Scalar.select v87 c9_i32_73 v86
  let v90 : BitVec 32 := Scalar.select v89 c13_i32_75 v88
  let v92 : BitVec 32 := Scalar.select v91 c11_i32_77 v90
  let c1_i32_140 : BitVec 32 := 1#32
  let v158 : BitVec 32 := Scalar.muli v92 c1_i32_140
  let v159 : BitVec 32 := Scalar.addi c0_i32_141 v158
  v159.toNat
def k0_dev6 (d0 : Dev nD) : Nat :=
  let c0_i32_159 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c12_i32_46 : BitVec 32 := 12#32
  let c14_i32_43 : BitVec 32 := 14#32
  let v59 : BitVec 1 := Scalar.cmpi .eq v2 c14_i32_43
  let c10_i32_44 : BitVec 32 := 10#32
  let c13_i32_41 : BitVec 32 := 13#32
  let v57 : BitVec 1 := Scalar.cmpi .eq v2 c13_i32_41
  let c14_i32_42 : BitVec 32 := 14#32
  let c12_i32_39 : BitVec 32 := 12#32
  let v55 : BitVec 1 := Scalar.cmpi .eq v2 c12_i32_39
  let c8_i32_40 : BitVec 32 := 8#32
  let c11_i32_37 : BitVec 32 := 11#32
  let v53 : BitVec 1 := Scalar.cmpi .eq v2 c11_i32_37
  let c15_i32_38 : BitVec 32 := 15#32
  let c10_i32_35 : BitVec 32 := 10#32
  let v51 : BitVec 1 := Scalar.cmpi .eq v2 c10_i32_35
  let c6_i32_36 : BitVec 32 := 6#32
  let c9_i32_33 : BitVec 32 := 9#32
  let v49 : BitVec 1 := Scalar.cmpi .eq v2 c9_i32_33
  let c13_i32_34 : BitVec 32 := 13#32
  let c8_i32_31 : BitVec 32 := 8#32
  let v47 : BitVec 1 := Scalar.cmpi .eq v2 c8_i32_31
  let c4_i32_32 : BitVec 32 := 4#32
  let c7_i32_29 : BitVec 32 := 7#32
  let v45 : BitVec 1 := Scalar.cmpi .eq v2 c7_i32_29
  let c11_i32_30 : BitVec 32 := 11#32
  let c6_i32_27 : BitVec 32 := 6#32
  let v43 : BitVec 1 := Scalar.cmpi .eq v2 c6_i32_27
  let c2_i32_28 : BitVec 32 := 2#32
  let c5_i32_25 : BitVec 32 := 5#32
  let v41 : BitVec 1 := Scalar.cmpi .eq v2 c5_i32_25
  let c9_i32_26 : BitVec 32 := 9#32
  let c4_i32_23 : BitVec 32 := 4#32
  let v39 : BitVec 1 := Scalar.cmpi .eq v2 c4_i32_23
  let c0_i32_24 : BitVec 32 := 0#32
  let c3_i32_21 : BitVec 32 := 3#32
  let v37 : BitVec 1 := Scalar.cmpi .eq v2 c3_i32_21
  let c7_i32_22 : BitVec 32 := 7#32
  let c2_i32_19 : BitVec 32 := 2#32
  let v35 : BitVec 1 := Scalar.cmpi .eq v2 c2_i32_19
  let c3_i32_20 : BitVec 32 := 3#32
  let c1_i32_16 : BitVec 32 := 1#32
  let v33 : BitVec 1 := Scalar.cmpi .eq v2 c1_i32_16
  let c5_i32_17 : BitVec 32 := 5#32
  let c1_i32_18 : BitVec 32 := 1#32
  let v34 : BitVec 32 := Scalar.select v33 c5_i32_17 c1_i32_18
  let v36 : BitVec 32 := Scalar.select v35 c3_i32_20 v34
  let v38 : BitVec 32 := Scalar.select v37 c7_i32_22 v36
  let v40 : BitVec 32 := Scalar.select v39 c0_i32_24 v38
  let v42 : BitVec 32 := Scalar.select v41 c9_i32_26 v40
  let v44 : BitVec 32 := Scalar.select v43 c2_i32_28 v42
  let v46 : BitVec 32 := Scalar.select v45 c11_i32_30 v44
  let v48 : BitVec 32 := Scalar.select v47 c4_i32_32 v46
  let v50 : BitVec 32 := Scalar.select v49 c13_i32_34 v48
  let v52 : BitVec 32 := Scalar.select v51 c6_i32_36 v50
  let v54 : BitVec 32 := Scalar.select v53 c15_i32_38 v52
  let v56 : BitVec 32 := Scalar.select v55 c8_i32_40 v54
  let v58 : BitVec 32 := Scalar.select v57 c14_i32_42 v56
  let v60 : BitVec 32 := Scalar.select v59 c10_i32_44 v58
  let v62 : BitVec 32 := Scalar.select v61 c12_i32_46 v60
  let c1_i32_158 : BitVec 32 := 1#32
  let v179 : BitVec 32 := Scalar.muli v62 c1_i32_158
  let v180 : BitVec 32 := Scalar.addi c0_i32_159 v179
  v180.toNat
def k0_off3 (d0 : Dev nD) (c_m8_i32_163 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let v188 : BitVec 32 := Scalar.addi v32 c_m8_i32_163
  let c16_i32_164 : BitVec 32 := 16#32
  let c0_i32_165 : BitVec 32 := 0#32
  let v189 : BitVec 1 := Scalar.cmpi .eq c16_i32_164 c0_i32_165
  let c1_i32_166 : BitVec 32 := 1#32
  let v190 : BitVec 32 := Scalar.select v189 c1_i32_166 c16_i32_164
  let v191 : BitVec 32 := Scalar.remsi v188 v190
  let c0_i32_168 : BitVec 32 := 0#32
  let v193 : BitVec 1 := Scalar.cmpi .slt v191 c0_i32_168
  let c0_i32_169 : BitVec 32 := 0#32
  let v194 : BitVec 1 := Scalar.cmpi .slt v190 c0_i32_169
  let v195 : BitVec 1 := Scalar.xori v193 v194
  let c0_i32_167 : BitVec 32 := 0#32
  let v192 : BitVec 1 := Scalar.cmpi .ne v191 c0_i32_167
  let v196 : BitVec 1 := Scalar.andi v195 v192
  let v197 : BitVec 32 := Scalar.addi v191 v190
  let v198 : BitVec 32 := Scalar.select v196 v197 v191
  let c64_i32_170 : BitVec 32 := 64#32
  let v199 : BitVec 32 := Scalar.muli v198 c64_i32_170
  let c512_i32 : BitVec 32 := 512#32
  ![v199.toNat, 512]
def k0_off3_at (r : Fin 16) : BitVec 32 :=
  if r.val < 8 then
    if r.val < 4 then
      if r.val < 2 then
        if r.val < 1 then
          4294967288#32
        else
          7#32
      else
        if r.val < 3 then
          4294967289#32
        else
          6#32
    else
      if r.val < 6 then
        if r.val < 5 then
          4294967290#32
        else
          5#32
      else
        if r.val < 7 then
          4294967291#32
        else
          4#32
  else
    if r.val < 12 then
      if r.val < 10 then
        if r.val < 9 then
          4294967292#32
        else
          3#32
      else
        if r.val < 11 then
          4294967293#32
        else
          2#32
    else
      if r.val < 14 then
        if r.val < 13 then
          4294967294#32
        else
          1#32
      else
        if r.val < 15 then
          4294967295#32
        else
          0#32
def k0_dev7 (d0 : Dev nD) : Nat :=
  let c0_i32_178 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c11_i32_77 : BitVec 32 := 11#32
  let c14_i32_74 : BitVec 32 := 14#32
  let v89 : BitVec 1 := Scalar.cmpi .eq v2 c14_i32_74
  let c13_i32_75 : BitVec 32 := 13#32
  let c13_i32_72 : BitVec 32 := 13#32
  let v87 : BitVec 1 := Scalar.cmpi .eq v2 c13_i32_72
  let c9_i32_73 : BitVec 32 := 9#32
  let c12_i32_70 : BitVec 32 := 12#32
  let v85 : BitVec 1 := Scalar.cmpi .eq v2 c12_i32_70
  let c15_i32_71 : BitVec 32 := 15#32
  let c11_i32_68 : BitVec 32 := 11#32
  let v83 : BitVec 1 := Scalar.cmpi .eq v2 c11_i32_68
  let c7_i32_69 : BitVec 32 := 7#32
  let c10_i32_66 : BitVec 32 := 10#32
  let v81 : BitVec 1 := Scalar.cmpi .eq v2 c10_i32_66
  let c14_i32_67 : BitVec 32 := 14#32
  let c9_i32_64 : BitVec 32 := 9#32
  let v79 : BitVec 1 := Scalar.cmpi .eq v2 c9_i32_64
  let c5_i32_65 : BitVec 32 := 5#32
  let c8_i32_62 : BitVec 32 := 8#32
  let v77 : BitVec 1 := Scalar.cmpi .eq v2 c8_i32_62
  let c12_i32_63 : BitVec 32 := 12#32
  let c7_i32_60 : BitVec 32 := 7#32
  let v75 : BitVec 1 := Scalar.cmpi .eq v2 c7_i32_60
  let c3_i32_61 : BitVec 32 := 3#32
  let c6_i32_58 : BitVec 32 := 6#32
  let v73 : BitVec 1 := Scalar.cmpi .eq v2 c6_i32_58
  let c10_i32_59 : BitVec 32 := 10#32
  let c5_i32_56 : BitVec 32 := 5#32
  let v71 : BitVec 1 := Scalar.cmpi .eq v2 c5_i32_56
  let c1_i32_57 : BitVec 32 := 1#32
  let c4_i32_54 : BitVec 32 := 4#32
  let v69 : BitVec 1 := Scalar.cmpi .eq v2 c4_i32_54
  let c8_i32_55 : BitVec 32 := 8#32
  let c3_i32_52 : BitVec 32 := 3#32
  let v67 : BitVec 1 := Scalar.cmpi .eq v2 c3_i32_52
  let c2_i32_53 : BitVec 32 := 2#32
  let c2_i32_50 : BitVec 32 := 2#32
  let v65 : BitVec 1 := Scalar.cmpi .eq v2 c2_i32_50
  let c6_i32_51 : BitVec 32 := 6#32
  let c1_i32_47 : BitVec 32 := 1#32
  let v63 : BitVec 1 := Scalar.cmpi .eq v2 c1_i32_47
  let c0_i32_48 : BitVec 32 := 0#32
  let c4_i32_49 : BitVec 32 := 4#32
  let v64 : BitVec 32 := Scalar.select v63 c0_i32_48 c4_i32_49
  let v66 : BitVec 32 := Scalar.select v65 c6_i32_51 v64
  let v68 : BitVec 32 := Scalar.select v67 c2_i32_53 v66
  let v70 : BitVec 32 := Scalar.select v69 c8_i32_55 v68
  let v72 : BitVec 32 := Scalar.select v71 c1_i32_57 v70
  let v74 : BitVec 32 := Scalar.select v73 c10_i32_59 v72
  let v76 : BitVec 32 := Scalar.select v75 c3_i32_61 v74
  let v78 : BitVec 32 := Scalar.select v77 c12_i32_63 v76
  let v80 : BitVec 32 := Scalar.select v79 c5_i32_65 v78
  let v82 : BitVec 32 := Scalar.select v81 c14_i32_67 v80
  let v84 : BitVec 32 := Scalar.select v83 c7_i32_69 v82
  let v86 : BitVec 32 := Scalar.select v85 c15_i32_71 v84
  let v88 : BitVec 32 := Scalar.select v87 c9_i32_73 v86
  let v90 : BitVec 32 := Scalar.select v89 c13_i32_75 v88
  let v92 : BitVec 32 := Scalar.select v91 c11_i32_77 v90
  let c1_i32_177 : BitVec 32 := 1#32
  let v200 : BitVec 32 := Scalar.muli v92 c1_i32_177
  let v201 : BitVec 32 := Scalar.addi c0_i32_178 v200
  v201.toNat
def k0_dev8 (d0 : Dev nD) : Nat :=
  let c0_i32_196 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c12_i32_46 : BitVec 32 := 12#32
  let c14_i32_43 : BitVec 32 := 14#32
  let v59 : BitVec 1 := Scalar.cmpi .eq v2 c14_i32_43
  let c10_i32_44 : BitVec 32 := 10#32
  let c13_i32_41 : BitVec 32 := 13#32
  let v57 : BitVec 1 := Scalar.cmpi .eq v2 c13_i32_41
  let c14_i32_42 : BitVec 32 := 14#32
  let c12_i32_39 : BitVec 32 := 12#32
  let v55 : BitVec 1 := Scalar.cmpi .eq v2 c12_i32_39
  let c8_i32_40 : BitVec 32 := 8#32
  let c11_i32_37 : BitVec 32 := 11#32
  let v53 : BitVec 1 := Scalar.cmpi .eq v2 c11_i32_37
  let c15_i32_38 : BitVec 32 := 15#32
  let c10_i32_35 : BitVec 32 := 10#32
  let v51 : BitVec 1 := Scalar.cmpi .eq v2 c10_i32_35
  let c6_i32_36 : BitVec 32 := 6#32
  let c9_i32_33 : BitVec 32 := 9#32
  let v49 : BitVec 1 := Scalar.cmpi .eq v2 c9_i32_33
  let c13_i32_34 : BitVec 32 := 13#32
  let c8_i32_31 : BitVec 32 := 8#32
  let v47 : BitVec 1 := Scalar.cmpi .eq v2 c8_i32_31
  let c4_i32_32 : BitVec 32 := 4#32
  let c7_i32_29 : BitVec 32 := 7#32
  let v45 : BitVec 1 := Scalar.cmpi .eq v2 c7_i32_29
  let c11_i32_30 : BitVec 32 := 11#32
  let c6_i32_27 : BitVec 32 := 6#32
  let v43 : BitVec 1 := Scalar.cmpi .eq v2 c6_i32_27
  let c2_i32_28 : BitVec 32 := 2#32
  let c5_i32_25 : BitVec 32 := 5#32
  let v41 : BitVec 1 := Scalar.cmpi .eq v2 c5_i32_25
  let c9_i32_26 : BitVec 32 := 9#32
  let c4_i32_23 : BitVec 32 := 4#32
  let v39 : BitVec 1 := Scalar.cmpi .eq v2 c4_i32_23
  let c0_i32_24 : BitVec 32 := 0#32
  let c3_i32_21 : BitVec 32 := 3#32
  let v37 : BitVec 1 := Scalar.cmpi .eq v2 c3_i32_21
  let c7_i32_22 : BitVec 32 := 7#32
  let c2_i32_19 : BitVec 32 := 2#32
  let v35 : BitVec 1 := Scalar.cmpi .eq v2 c2_i32_19
  let c3_i32_20 : BitVec 32 := 3#32
  let c1_i32_16 : BitVec 32 := 1#32
  let v33 : BitVec 1 := Scalar.cmpi .eq v2 c1_i32_16
  let c5_i32_17 : BitVec 32 := 5#32
  let c1_i32_18 : BitVec 32 := 1#32
  let v34 : BitVec 32 := Scalar.select v33 c5_i32_17 c1_i32_18
  let v36 : BitVec 32 := Scalar.select v35 c3_i32_20 v34
  let v38 : BitVec 32 := Scalar.select v37 c7_i32_22 v36
  let v40 : BitVec 32 := Scalar.select v39 c0_i32_24 v38
  let v42 : BitVec 32 := Scalar.select v41 c9_i32_26 v40
  let v44 : BitVec 32 := Scalar.select v43 c2_i32_28 v42
  let v46 : BitVec 32 := Scalar.select v45 c11_i32_30 v44
  let v48 : BitVec 32 := Scalar.select v47 c4_i32_32 v46
  let v50 : BitVec 32 := Scalar.select v49 c13_i32_34 v48
  let v52 : BitVec 32 := Scalar.select v51 c6_i32_36 v50
  let v54 : BitVec 32 := Scalar.select v53 c15_i32_38 v52
  let v56 : BitVec 32 := Scalar.select v55 c8_i32_40 v54
  let v58 : BitVec 32 := Scalar.select v57 c14_i32_42 v56
  let v60 : BitVec 32 := Scalar.select v59 c10_i32_44 v58
  let v62 : BitVec 32 := Scalar.select v61 c12_i32_46 v60
  let c1_i32_195 : BitVec 32 := 1#32
  let v221 : BitVec 32 := Scalar.muli v62 c1_i32_195
  let v222 : BitVec 32 := Scalar.addi c0_i32_196 v221
  v222.toNat
def k0_off4 (d0 : Dev nD) (c_m8_i32_200 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let v230 : BitVec 32 := Scalar.addi v32 c_m8_i32_200
  let c16_i32_201 : BitVec 32 := 16#32
  let c0_i32_202 : BitVec 32 := 0#32
  let v231 : BitVec 1 := Scalar.cmpi .eq c16_i32_201 c0_i32_202
  let c1_i32_203 : BitVec 32 := 1#32
  let v232 : BitVec 32 := Scalar.select v231 c1_i32_203 c16_i32_201
  let v233 : BitVec 32 := Scalar.remsi v230 v232
  let c0_i32_205 : BitVec 32 := 0#32
  let v235 : BitVec 1 := Scalar.cmpi .slt v233 c0_i32_205
  let c0_i32_206 : BitVec 32 := 0#32
  let v236 : BitVec 1 := Scalar.cmpi .slt v232 c0_i32_206
  let v237 : BitVec 1 := Scalar.xori v235 v236
  let c0_i32_204 : BitVec 32 := 0#32
  let v234 : BitVec 1 := Scalar.cmpi .ne v233 c0_i32_204
  let v238 : BitVec 1 := Scalar.andi v237 v234
  let v239 : BitVec 32 := Scalar.addi v233 v232
  let v240 : BitVec 32 := Scalar.select v238 v239 v233
  let c64_i32_207 : BitVec 32 := 64#32
  let v241 : BitVec 32 := Scalar.muli v240 c64_i32_207
  let c768_i32 : BitVec 32 := 768#32
  ![v241.toNat, 768]
def k0_off4_at (r : Fin 16) : BitVec 32 :=
  if r.val < 8 then
    if r.val < 4 then
      if r.val < 2 then
        if r.val < 1 then
          4294967288#32
        else
          7#32
      else
        if r.val < 3 then
          4294967289#32
        else
          6#32
    else
      if r.val < 6 then
        if r.val < 5 then
          4294967290#32
        else
          5#32
      else
        if r.val < 7 then
          4294967291#32
        else
          4#32
  else
    if r.val < 12 then
      if r.val < 10 then
        if r.val < 9 then
          4294967292#32
        else
          3#32
      else
        if r.val < 11 then
          4294967293#32
        else
          2#32
    else
      if r.val < 14 then
        if r.val < 13 then
          4294967294#32
        else
          1#32
      else
        if r.val < 15 then
          4294967295#32
        else
          0#32
def k0_dev9 (d0 : Dev nD) : Nat :=
  let c0_i32_215 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c11_i32_77 : BitVec 32 := 11#32
  let c14_i32_74 : BitVec 32 := 14#32
  let v89 : BitVec 1 := Scalar.cmpi .eq v2 c14_i32_74
  let c13_i32_75 : BitVec 32 := 13#32
  let c13_i32_72 : BitVec 32 := 13#32
  let v87 : BitVec 1 := Scalar.cmpi .eq v2 c13_i32_72
  let c9_i32_73 : BitVec 32 := 9#32
  let c12_i32_70 : BitVec 32 := 12#32
  let v85 : BitVec 1 := Scalar.cmpi .eq v2 c12_i32_70
  let c15_i32_71 : BitVec 32 := 15#32
  let c11_i32_68 : BitVec 32 := 11#32
  let v83 : BitVec 1 := Scalar.cmpi .eq v2 c11_i32_68
  let c7_i32_69 : BitVec 32 := 7#32
  let c10_i32_66 : BitVec 32 := 10#32
  let v81 : BitVec 1 := Scalar.cmpi .eq v2 c10_i32_66
  let c14_i32_67 : BitVec 32 := 14#32
  let c9_i32_64 : BitVec 32 := 9#32
  let v79 : BitVec 1 := Scalar.cmpi .eq v2 c9_i32_64
  let c5_i32_65 : BitVec 32 := 5#32
  let c8_i32_62 : BitVec 32 := 8#32
  let v77 : BitVec 1 := Scalar.cmpi .eq v2 c8_i32_62
  let c12_i32_63 : BitVec 32 := 12#32
  let c7_i32_60 : BitVec 32 := 7#32
  let v75 : BitVec 1 := Scalar.cmpi .eq v2 c7_i32_60
  let c3_i32_61 : BitVec 32 := 3#32
  let c6_i32_58 : BitVec 32 := 6#32
  let v73 : BitVec 1 := Scalar.cmpi .eq v2 c6_i32_58
  let c10_i32_59 : BitVec 32 := 10#32
  let c5_i32_56 : BitVec 32 := 5#32
  let v71 : BitVec 1 := Scalar.cmpi .eq v2 c5_i32_56
  let c1_i32_57 : BitVec 32 := 1#32
  let c4_i32_54 : BitVec 32 := 4#32
  let v69 : BitVec 1 := Scalar.cmpi .eq v2 c4_i32_54
  let c8_i32_55 : BitVec 32 := 8#32
  let c3_i32_52 : BitVec 32 := 3#32
  let v67 : BitVec 1 := Scalar.cmpi .eq v2 c3_i32_52
  let c2_i32_53 : BitVec 32 := 2#32
  let c2_i32_50 : BitVec 32 := 2#32
  let v65 : BitVec 1 := Scalar.cmpi .eq v2 c2_i32_50
  let c6_i32_51 : BitVec 32 := 6#32
  let c1_i32_47 : BitVec 32 := 1#32
  let v63 : BitVec 1 := Scalar.cmpi .eq v2 c1_i32_47
  let c0_i32_48 : BitVec 32 := 0#32
  let c4_i32_49 : BitVec 32 := 4#32
  let v64 : BitVec 32 := Scalar.select v63 c0_i32_48 c4_i32_49
  let v66 : BitVec 32 := Scalar.select v65 c6_i32_51 v64
  let v68 : BitVec 32 := Scalar.select v67 c2_i32_53 v66
  let v70 : BitVec 32 := Scalar.select v69 c8_i32_55 v68
  let v72 : BitVec 32 := Scalar.select v71 c1_i32_57 v70
  let v74 : BitVec 32 := Scalar.select v73 c10_i32_59 v72
  let v76 : BitVec 32 := Scalar.select v75 c3_i32_61 v74
  let v78 : BitVec 32 := Scalar.select v77 c12_i32_63 v76
  let v80 : BitVec 32 := Scalar.select v79 c5_i32_65 v78
  let v82 : BitVec 32 := Scalar.select v81 c14_i32_67 v80
  let v84 : BitVec 32 := Scalar.select v83 c7_i32_69 v82
  let v86 : BitVec 32 := Scalar.select v85 c15_i32_71 v84
  let v88 : BitVec 32 := Scalar.select v87 c9_i32_73 v86
  let v90 : BitVec 32 := Scalar.select v89 c13_i32_75 v88
  let v92 : BitVec 32 := Scalar.select v91 c11_i32_77 v90
  let c1_i32_214 : BitVec 32 := 1#32
  let v242 : BitVec 32 := Scalar.muli v92 c1_i32_214
  let v243 : BitVec 32 := Scalar.addi c0_i32_215 v242
  v243.toNat
def k0_dev10 (d0 : Dev nD) : Nat :=
  let c0_i32_233 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c12_i32_46 : BitVec 32 := 12#32
  let c14_i32_43 : BitVec 32 := 14#32
  let v59 : BitVec 1 := Scalar.cmpi .eq v2 c14_i32_43
  let c10_i32_44 : BitVec 32 := 10#32
  let c13_i32_41 : BitVec 32 := 13#32
  let v57 : BitVec 1 := Scalar.cmpi .eq v2 c13_i32_41
  let c14_i32_42 : BitVec 32 := 14#32
  let c12_i32_39 : BitVec 32 := 12#32
  let v55 : BitVec 1 := Scalar.cmpi .eq v2 c12_i32_39
  let c8_i32_40 : BitVec 32 := 8#32
  let c11_i32_37 : BitVec 32 := 11#32
  let v53 : BitVec 1 := Scalar.cmpi .eq v2 c11_i32_37
  let c15_i32_38 : BitVec 32 := 15#32
  let c10_i32_35 : BitVec 32 := 10#32
  let v51 : BitVec 1 := Scalar.cmpi .eq v2 c10_i32_35
  let c6_i32_36 : BitVec 32 := 6#32
  let c9_i32_33 : BitVec 32 := 9#32
  let v49 : BitVec 1 := Scalar.cmpi .eq v2 c9_i32_33
  let c13_i32_34 : BitVec 32 := 13#32
  let c8_i32_31 : BitVec 32 := 8#32
  let v47 : BitVec 1 := Scalar.cmpi .eq v2 c8_i32_31
  let c4_i32_32 : BitVec 32 := 4#32
  let c7_i32_29 : BitVec 32 := 7#32
  let v45 : BitVec 1 := Scalar.cmpi .eq v2 c7_i32_29
  let c11_i32_30 : BitVec 32 := 11#32
  let c6_i32_27 : BitVec 32 := 6#32
  let v43 : BitVec 1 := Scalar.cmpi .eq v2 c6_i32_27
  let c2_i32_28 : BitVec 32 := 2#32
  let c5_i32_25 : BitVec 32 := 5#32
  let v41 : BitVec 1 := Scalar.cmpi .eq v2 c5_i32_25
  let c9_i32_26 : BitVec 32 := 9#32
  let c4_i32_23 : BitVec 32 := 4#32
  let v39 : BitVec 1 := Scalar.cmpi .eq v2 c4_i32_23
  let c0_i32_24 : BitVec 32 := 0#32
  let c3_i32_21 : BitVec 32 := 3#32
  let v37 : BitVec 1 := Scalar.cmpi .eq v2 c3_i32_21
  let c7_i32_22 : BitVec 32 := 7#32
  let c2_i32_19 : BitVec 32 := 2#32
  let v35 : BitVec 1 := Scalar.cmpi .eq v2 c2_i32_19
  let c3_i32_20 : BitVec 32 := 3#32
  let c1_i32_16 : BitVec 32 := 1#32
  let v33 : BitVec 1 := Scalar.cmpi .eq v2 c1_i32_16
  let c5_i32_17 : BitVec 32 := 5#32
  let c1_i32_18 : BitVec 32 := 1#32
  let v34 : BitVec 32 := Scalar.select v33 c5_i32_17 c1_i32_18
  let v36 : BitVec 32 := Scalar.select v35 c3_i32_20 v34
  let v38 : BitVec 32 := Scalar.select v37 c7_i32_22 v36
  let v40 : BitVec 32 := Scalar.select v39 c0_i32_24 v38
  let v42 : BitVec 32 := Scalar.select v41 c9_i32_26 v40
  let v44 : BitVec 32 := Scalar.select v43 c2_i32_28 v42
  let v46 : BitVec 32 := Scalar.select v45 c11_i32_30 v44
  let v48 : BitVec 32 := Scalar.select v47 c4_i32_32 v46
  let v50 : BitVec 32 := Scalar.select v49 c13_i32_34 v48
  let v52 : BitVec 32 := Scalar.select v51 c6_i32_36 v50
  let v54 : BitVec 32 := Scalar.select v53 c15_i32_38 v52
  let v56 : BitVec 32 := Scalar.select v55 c8_i32_40 v54
  let v58 : BitVec 32 := Scalar.select v57 c14_i32_42 v56
  let v60 : BitVec 32 := Scalar.select v59 c10_i32_44 v58
  let v62 : BitVec 32 := Scalar.select v61 c12_i32_46 v60
  let c1_i32_232 : BitVec 32 := 1#32
  let v263 : BitVec 32 := Scalar.muli v62 c1_i32_232
  let v264 : BitVec 32 := Scalar.addi c0_i32_233 v263
  v264.toNat
def k0_off5 (d0 : Dev nD) (c_m7_i32 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let v296 : BitVec 32 := Scalar.addi v32 c_m7_i32
  let c16_i32_266 : BitVec 32 := 16#32
  let c0_i32_267 : BitVec 32 := 0#32
  let v297 : BitVec 1 := Scalar.cmpi .eq c16_i32_266 c0_i32_267
  let c1_i32_268 : BitVec 32 := 1#32
  let v298 : BitVec 32 := Scalar.select v297 c1_i32_268 c16_i32_266
  let v299 : BitVec 32 := Scalar.remsi v296 v298
  let c0_i32_270 : BitVec 32 := 0#32
  let v301 : BitVec 1 := Scalar.cmpi .slt v299 c0_i32_270
  let c0_i32_271 : BitVec 32 := 0#32
  let v302 : BitVec 1 := Scalar.cmpi .slt v298 c0_i32_271
  let v303 : BitVec 1 := Scalar.xori v301 v302
  let c0_i32_269 : BitVec 32 := 0#32
  let v300 : BitVec 1 := Scalar.cmpi .ne v299 c0_i32_269
  let v304 : BitVec 1 := Scalar.andi v303 v300
  let v305 : BitVec 32 := Scalar.addi v299 v298
  let v306 : BitVec 32 := Scalar.select v304 v305 v299
  let c64_i32_272 : BitVec 32 := 64#32
  let v307 : BitVec 32 := Scalar.muli v306 c64_i32_272
  let v308 : Index := Scalar.indexCast v307
  let c0_273 : Index := 0#32
  ![v308.toNat, 0]
def k0_off5_at (r : Fin 14) : BitVec 32 :=
  if r.val < 7 then
    if r.val < 3 then
      if r.val < 1 then
        4294967289#32
      else
        if r.val < 2 then
          6#32
        else
          4294967290#32
    else
      if r.val < 5 then
        if r.val < 4 then
          5#32
        else
          4294967291#32
      else
        if r.val < 6 then
          4#32
        else
          4294967292#32
  else
    if r.val < 10 then
      if r.val < 8 then
        3#32
      else
        if r.val < 9 then
          4294967293#32
        else
          2#32
    else
      if r.val < 12 then
        if r.val < 11 then
          4294967294#32
        else
          1#32
      else
        if r.val < 13 then
          4294967295#32
        else
          0#32
def k0_dev11 (d0 : Dev nD) : Nat :=
  let c0_i32_294 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c11_i32_77 : BitVec 32 := 11#32
  let c14_i32_74 : BitVec 32 := 14#32
  let v89 : BitVec 1 := Scalar.cmpi .eq v2 c14_i32_74
  let c13_i32_75 : BitVec 32 := 13#32
  let c13_i32_72 : BitVec 32 := 13#32
  let v87 : BitVec 1 := Scalar.cmpi .eq v2 c13_i32_72
  let c9_i32_73 : BitVec 32 := 9#32
  let c12_i32_70 : BitVec 32 := 12#32
  let v85 : BitVec 1 := Scalar.cmpi .eq v2 c12_i32_70
  let c15_i32_71 : BitVec 32 := 15#32
  let c11_i32_68 : BitVec 32 := 11#32
  let v83 : BitVec 1 := Scalar.cmpi .eq v2 c11_i32_68
  let c7_i32_69 : BitVec 32 := 7#32
  let c10_i32_66 : BitVec 32 := 10#32
  let v81 : BitVec 1 := Scalar.cmpi .eq v2 c10_i32_66
  let c14_i32_67 : BitVec 32 := 14#32
  let c9_i32_64 : BitVec 32 := 9#32
  let v79 : BitVec 1 := Scalar.cmpi .eq v2 c9_i32_64
  let c5_i32_65 : BitVec 32 := 5#32
  let c8_i32_62 : BitVec 32 := 8#32
  let v77 : BitVec 1 := Scalar.cmpi .eq v2 c8_i32_62
  let c12_i32_63 : BitVec 32 := 12#32
  let c7_i32_60 : BitVec 32 := 7#32
  let v75 : BitVec 1 := Scalar.cmpi .eq v2 c7_i32_60
  let c3_i32_61 : BitVec 32 := 3#32
  let c6_i32_58 : BitVec 32 := 6#32
  let v73 : BitVec 1 := Scalar.cmpi .eq v2 c6_i32_58
  let c10_i32_59 : BitVec 32 := 10#32
  let c5_i32_56 : BitVec 32 := 5#32
  let v71 : BitVec 1 := Scalar.cmpi .eq v2 c5_i32_56
  let c1_i32_57 : BitVec 32 := 1#32
  let c4_i32_54 : BitVec 32 := 4#32
  let v69 : BitVec 1 := Scalar.cmpi .eq v2 c4_i32_54
  let c8_i32_55 : BitVec 32 := 8#32
  let c3_i32_52 : BitVec 32 := 3#32
  let v67 : BitVec 1 := Scalar.cmpi .eq v2 c3_i32_52
  let c2_i32_53 : BitVec 32 := 2#32
  let c2_i32_50 : BitVec 32 := 2#32
  let v65 : BitVec 1 := Scalar.cmpi .eq v2 c2_i32_50
  let c6_i32_51 : BitVec 32 := 6#32
  let c1_i32_47 : BitVec 32 := 1#32
  let v63 : BitVec 1 := Scalar.cmpi .eq v2 c1_i32_47
  let c0_i32_48 : BitVec 32 := 0#32
  let c4_i32_49 : BitVec 32 := 4#32
  let v64 : BitVec 32 := Scalar.select v63 c0_i32_48 c4_i32_49
  let v66 : BitVec 32 := Scalar.select v65 c6_i32_51 v64
  let v68 : BitVec 32 := Scalar.select v67 c2_i32_53 v66
  let v70 : BitVec 32 := Scalar.select v69 c8_i32_55 v68
  let v72 : BitVec 32 := Scalar.select v71 c1_i32_57 v70
  let v74 : BitVec 32 := Scalar.select v73 c10_i32_59 v72
  let v76 : BitVec 32 := Scalar.select v75 c3_i32_61 v74
  let v78 : BitVec 32 := Scalar.select v77 c12_i32_63 v76
  let v80 : BitVec 32 := Scalar.select v79 c5_i32_65 v78
  let v82 : BitVec 32 := Scalar.select v81 c14_i32_67 v80
  let v84 : BitVec 32 := Scalar.select v83 c7_i32_69 v82
  let v86 : BitVec 32 := Scalar.select v85 c15_i32_71 v84
  let v88 : BitVec 32 := Scalar.select v87 c9_i32_73 v86
  let v90 : BitVec 32 := Scalar.select v89 c13_i32_75 v88
  let v92 : BitVec 32 := Scalar.select v91 c11_i32_77 v90
  let c1_i32_293 : BitVec 32 := 1#32
  let v328 : BitVec 32 := Scalar.muli v92 c1_i32_293
  let v329 : BitVec 32 := Scalar.addi c0_i32_294 v328
  v329.toNat
def k0_dev12 (d0 : Dev nD) : Nat :=
  let c0_i32_355 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c12_i32_46 : BitVec 32 := 12#32
  let c14_i32_43 : BitVec 32 := 14#32
  let v59 : BitVec 1 := Scalar.cmpi .eq v2 c14_i32_43
  let c10_i32_44 : BitVec 32 := 10#32
  let c13_i32_41 : BitVec 32 := 13#32
  let v57 : BitVec 1 := Scalar.cmpi .eq v2 c13_i32_41
  let c14_i32_42 : BitVec 32 := 14#32
  let c12_i32_39 : BitVec 32 := 12#32
  let v55 : BitVec 1 := Scalar.cmpi .eq v2 c12_i32_39
  let c8_i32_40 : BitVec 32 := 8#32
  let c11_i32_37 : BitVec 32 := 11#32
  let v53 : BitVec 1 := Scalar.cmpi .eq v2 c11_i32_37
  let c15_i32_38 : BitVec 32 := 15#32
  let c10_i32_35 : BitVec 32 := 10#32
  let v51 : BitVec 1 := Scalar.cmpi .eq v2 c10_i32_35
  let c6_i32_36 : BitVec 32 := 6#32
  let c9_i32_33 : BitVec 32 := 9#32
  let v49 : BitVec 1 := Scalar.cmpi .eq v2 c9_i32_33
  let c13_i32_34 : BitVec 32 := 13#32
  let c8_i32_31 : BitVec 32 := 8#32
  let v47 : BitVec 1 := Scalar.cmpi .eq v2 c8_i32_31
  let c4_i32_32 : BitVec 32 := 4#32
  let c7_i32_29 : BitVec 32 := 7#32
  let v45 : BitVec 1 := Scalar.cmpi .eq v2 c7_i32_29
  let c11_i32_30 : BitVec 32 := 11#32
  let c6_i32_27 : BitVec 32 := 6#32
  let v43 : BitVec 1 := Scalar.cmpi .eq v2 c6_i32_27
  let c2_i32_28 : BitVec 32 := 2#32
  let c5_i32_25 : BitVec 32 := 5#32
  let v41 : BitVec 1 := Scalar.cmpi .eq v2 c5_i32_25
  let c9_i32_26 : BitVec 32 := 9#32
  let c4_i32_23 : BitVec 32 := 4#32
  let v39 : BitVec 1 := Scalar.cmpi .eq v2 c4_i32_23
  let c0_i32_24 : BitVec 32 := 0#32
  let c3_i32_21 : BitVec 32 := 3#32
  let v37 : BitVec 1 := Scalar.cmpi .eq v2 c3_i32_21
  let c7_i32_22 : BitVec 32 := 7#32
  let c2_i32_19 : BitVec 32 := 2#32
  let v35 : BitVec 1 := Scalar.cmpi .eq v2 c2_i32_19
  let c3_i32_20 : BitVec 32 := 3#32
  let c1_i32_16 : BitVec 32 := 1#32
  let v33 : BitVec 1 := Scalar.cmpi .eq v2 c1_i32_16
  let c5_i32_17 : BitVec 32 := 5#32
  let c1_i32_18 : BitVec 32 := 1#32
  let v34 : BitVec 32 := Scalar.select v33 c5_i32_17 c1_i32_18
  let v36 : BitVec 32 := Scalar.select v35 c3_i32_20 v34
  let v38 : BitVec 32 := Scalar.select v37 c7_i32_22 v36
  let v40 : BitVec 32 := Scalar.select v39 c0_i32_24 v38
  let v42 : BitVec 32 := Scalar.select v41 c9_i32_26 v40
  let v44 : BitVec 32 := Scalar.select v43 c2_i32_28 v42
  let v46 : BitVec 32 := Scalar.select v45 c11_i32_30 v44
  let v48 : BitVec 32 := Scalar.select v47 c4_i32_32 v46
  let v50 : BitVec 32 := Scalar.select v49 c13_i32_34 v48
  let v52 : BitVec 32 := Scalar.select v51 c6_i32_36 v50
  let v54 : BitVec 32 := Scalar.select v53 c15_i32_38 v52
  let v56 : BitVec 32 := Scalar.select v55 c8_i32_40 v54
  let v58 : BitVec 32 := Scalar.select v57 c14_i32_42 v56
  let v60 : BitVec 32 := Scalar.select v59 c10_i32_44 v58
  let v62 : BitVec 32 := Scalar.select v61 c12_i32_46 v60
  let c1_i32_354 : BitVec 32 := 1#32
  let v393 : BitVec 32 := Scalar.muli v62 c1_i32_354
  let v394 : BitVec 32 := Scalar.addi c0_i32_355 v393
  v394.toNat
def k0_off6 (d0 : Dev nD) (c_m7_i32_388 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let v426 : BitVec 32 := Scalar.addi v32 c_m7_i32_388
  let c16_i32_389 : BitVec 32 := 16#32
  let c0_i32_390 : BitVec 32 := 0#32
  let v427 : BitVec 1 := Scalar.cmpi .eq c16_i32_389 c0_i32_390
  let c1_i32_391 : BitVec 32 := 1#32
  let v428 : BitVec 32 := Scalar.select v427 c1_i32_391 c16_i32_389
  let v429 : BitVec 32 := Scalar.remsi v426 v428
  let c0_i32_393 : BitVec 32 := 0#32
  let v431 : BitVec 1 := Scalar.cmpi .slt v429 c0_i32_393
  let c0_i32_394 : BitVec 32 := 0#32
  let v432 : BitVec 1 := Scalar.cmpi .slt v428 c0_i32_394
  let v433 : BitVec 1 := Scalar.xori v431 v432
  let c0_i32_392 : BitVec 32 := 0#32
  let v430 : BitVec 1 := Scalar.cmpi .ne v429 c0_i32_392
  let v434 : BitVec 1 := Scalar.andi v433 v430
  let v435 : BitVec 32 := Scalar.addi v429 v428
  let v436 : BitVec 32 := Scalar.select v434 v435 v429
  let c64_i32_395 : BitVec 32 := 64#32
  let v437 : BitVec 32 := Scalar.muli v436 c64_i32_395
  let v438 : Index := Scalar.indexCast v437
  let c256 : Index := 256#32
  ![v438.toNat, 256]
def k0_off6_at (r : Fin 14) : BitVec 32 :=
  if r.val < 7 then
    if r.val < 3 then
      if r.val < 1 then
        4294967289#32
      else
        if r.val < 2 then
          6#32
        else
          4294967290#32
    else
      if r.val < 5 then
        if r.val < 4 then
          5#32
        else
          4294967291#32
      else
        if r.val < 6 then
          4#32
        else
          4294967292#32
  else
    if r.val < 10 then
      if r.val < 8 then
        3#32
      else
        if r.val < 9 then
          4294967293#32
        else
          2#32
    else
      if r.val < 12 then
        if r.val < 11 then
          4294967294#32
        else
          1#32
      else
        if r.val < 13 then
          4294967295#32
        else
          0#32
def k0_dev13 (d0 : Dev nD) : Nat :=
  let c0_i32_415 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c11_i32_77 : BitVec 32 := 11#32
  let c14_i32_74 : BitVec 32 := 14#32
  let v89 : BitVec 1 := Scalar.cmpi .eq v2 c14_i32_74
  let c13_i32_75 : BitVec 32 := 13#32
  let c13_i32_72 : BitVec 32 := 13#32
  let v87 : BitVec 1 := Scalar.cmpi .eq v2 c13_i32_72
  let c9_i32_73 : BitVec 32 := 9#32
  let c12_i32_70 : BitVec 32 := 12#32
  let v85 : BitVec 1 := Scalar.cmpi .eq v2 c12_i32_70
  let c15_i32_71 : BitVec 32 := 15#32
  let c11_i32_68 : BitVec 32 := 11#32
  let v83 : BitVec 1 := Scalar.cmpi .eq v2 c11_i32_68
  let c7_i32_69 : BitVec 32 := 7#32
  let c10_i32_66 : BitVec 32 := 10#32
  let v81 : BitVec 1 := Scalar.cmpi .eq v2 c10_i32_66
  let c14_i32_67 : BitVec 32 := 14#32
  let c9_i32_64 : BitVec 32 := 9#32
  let v79 : BitVec 1 := Scalar.cmpi .eq v2 c9_i32_64
  let c5_i32_65 : BitVec 32 := 5#32
  let c8_i32_62 : BitVec 32 := 8#32
  let v77 : BitVec 1 := Scalar.cmpi .eq v2 c8_i32_62
  let c12_i32_63 : BitVec 32 := 12#32
  let c7_i32_60 : BitVec 32 := 7#32
  let v75 : BitVec 1 := Scalar.cmpi .eq v2 c7_i32_60
  let c3_i32_61 : BitVec 32 := 3#32
  let c6_i32_58 : BitVec 32 := 6#32
  let v73 : BitVec 1 := Scalar.cmpi .eq v2 c6_i32_58
  let c10_i32_59 : BitVec 32 := 10#32
  let c5_i32_56 : BitVec 32 := 5#32
  let v71 : BitVec 1 := Scalar.cmpi .eq v2 c5_i32_56
  let c1_i32_57 : BitVec 32 := 1#32
  let c4_i32_54 : BitVec 32 := 4#32
  let v69 : BitVec 1 := Scalar.cmpi .eq v2 c4_i32_54
  let c8_i32_55 : BitVec 32 := 8#32
  let c3_i32_52 : BitVec 32 := 3#32
  let v67 : BitVec 1 := Scalar.cmpi .eq v2 c3_i32_52
  let c2_i32_53 : BitVec 32 := 2#32
  let c2_i32_50 : BitVec 32 := 2#32
  let v65 : BitVec 1 := Scalar.cmpi .eq v2 c2_i32_50
  let c6_i32_51 : BitVec 32 := 6#32
  let c1_i32_47 : BitVec 32 := 1#32
  let v63 : BitVec 1 := Scalar.cmpi .eq v2 c1_i32_47
  let c0_i32_48 : BitVec 32 := 0#32
  let c4_i32_49 : BitVec 32 := 4#32
  let v64 : BitVec 32 := Scalar.select v63 c0_i32_48 c4_i32_49
  let v66 : BitVec 32 := Scalar.select v65 c6_i32_51 v64
  let v68 : BitVec 32 := Scalar.select v67 c2_i32_53 v66
  let v70 : BitVec 32 := Scalar.select v69 c8_i32_55 v68
  let v72 : BitVec 32 := Scalar.select v71 c1_i32_57 v70
  let v74 : BitVec 32 := Scalar.select v73 c10_i32_59 v72
  let v76 : BitVec 32 := Scalar.select v75 c3_i32_61 v74
  let v78 : BitVec 32 := Scalar.select v77 c12_i32_63 v76
  let v80 : BitVec 32 := Scalar.select v79 c5_i32_65 v78
  let v82 : BitVec 32 := Scalar.select v81 c14_i32_67 v80
  let v84 : BitVec 32 := Scalar.select v83 c7_i32_69 v82
  let v86 : BitVec 32 := Scalar.select v85 c15_i32_71 v84
  let v88 : BitVec 32 := Scalar.select v87 c9_i32_73 v86
  let v90 : BitVec 32 := Scalar.select v89 c13_i32_75 v88
  let v92 : BitVec 32 := Scalar.select v91 c11_i32_77 v90
  let c1_i32_414 : BitVec 32 := 1#32
  let v458 : BitVec 32 := Scalar.muli v92 c1_i32_414
  let v459 : BitVec 32 := Scalar.addi c0_i32_415 v458
  v459.toNat
def k0_dev14 (d0 : Dev nD) : Nat :=
  let c0_i32_476 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c12_i32_46 : BitVec 32 := 12#32
  let c14_i32_43 : BitVec 32 := 14#32
  let v59 : BitVec 1 := Scalar.cmpi .eq v2 c14_i32_43
  let c10_i32_44 : BitVec 32 := 10#32
  let c13_i32_41 : BitVec 32 := 13#32
  let v57 : BitVec 1 := Scalar.cmpi .eq v2 c13_i32_41
  let c14_i32_42 : BitVec 32 := 14#32
  let c12_i32_39 : BitVec 32 := 12#32
  let v55 : BitVec 1 := Scalar.cmpi .eq v2 c12_i32_39
  let c8_i32_40 : BitVec 32 := 8#32
  let c11_i32_37 : BitVec 32 := 11#32
  let v53 : BitVec 1 := Scalar.cmpi .eq v2 c11_i32_37
  let c15_i32_38 : BitVec 32 := 15#32
  let c10_i32_35 : BitVec 32 := 10#32
  let v51 : BitVec 1 := Scalar.cmpi .eq v2 c10_i32_35
  let c6_i32_36 : BitVec 32 := 6#32
  let c9_i32_33 : BitVec 32 := 9#32
  let v49 : BitVec 1 := Scalar.cmpi .eq v2 c9_i32_33
  let c13_i32_34 : BitVec 32 := 13#32
  let c8_i32_31 : BitVec 32 := 8#32
  let v47 : BitVec 1 := Scalar.cmpi .eq v2 c8_i32_31
  let c4_i32_32 : BitVec 32 := 4#32
  let c7_i32_29 : BitVec 32 := 7#32
  let v45 : BitVec 1 := Scalar.cmpi .eq v2 c7_i32_29
  let c11_i32_30 : BitVec 32 := 11#32
  let c6_i32_27 : BitVec 32 := 6#32
  let v43 : BitVec 1 := Scalar.cmpi .eq v2 c6_i32_27
  let c2_i32_28 : BitVec 32 := 2#32
  let c5_i32_25 : BitVec 32 := 5#32
  let v41 : BitVec 1 := Scalar.cmpi .eq v2 c5_i32_25
  let c9_i32_26 : BitVec 32 := 9#32
  let c4_i32_23 : BitVec 32 := 4#32
  let v39 : BitVec 1 := Scalar.cmpi .eq v2 c4_i32_23
  let c0_i32_24 : BitVec 32 := 0#32
  let c3_i32_21 : BitVec 32 := 3#32
  let v37 : BitVec 1 := Scalar.cmpi .eq v2 c3_i32_21
  let c7_i32_22 : BitVec 32 := 7#32
  let c2_i32_19 : BitVec 32 := 2#32
  let v35 : BitVec 1 := Scalar.cmpi .eq v2 c2_i32_19
  let c3_i32_20 : BitVec 32 := 3#32
  let c1_i32_16 : BitVec 32 := 1#32
  let v33 : BitVec 1 := Scalar.cmpi .eq v2 c1_i32_16
  let c5_i32_17 : BitVec 32 := 5#32
  let c1_i32_18 : BitVec 32 := 1#32
  let v34 : BitVec 32 := Scalar.select v33 c5_i32_17 c1_i32_18
  let v36 : BitVec 32 := Scalar.select v35 c3_i32_20 v34
  let v38 : BitVec 32 := Scalar.select v37 c7_i32_22 v36
  let v40 : BitVec 32 := Scalar.select v39 c0_i32_24 v38
  let v42 : BitVec 32 := Scalar.select v41 c9_i32_26 v40
  let v44 : BitVec 32 := Scalar.select v43 c2_i32_28 v42
  let v46 : BitVec 32 := Scalar.select v45 c11_i32_30 v44
  let v48 : BitVec 32 := Scalar.select v47 c4_i32_32 v46
  let v50 : BitVec 32 := Scalar.select v49 c13_i32_34 v48
  let v52 : BitVec 32 := Scalar.select v51 c6_i32_36 v50
  let v54 : BitVec 32 := Scalar.select v53 c15_i32_38 v52
  let v56 : BitVec 32 := Scalar.select v55 c8_i32_40 v54
  let v58 : BitVec 32 := Scalar.select v57 c14_i32_42 v56
  let v60 : BitVec 32 := Scalar.select v59 c10_i32_44 v58
  let v62 : BitVec 32 := Scalar.select v61 c12_i32_46 v60
  let c1_i32_475 : BitVec 32 := 1#32
  let v523 : BitVec 32 := Scalar.muli v62 c1_i32_475
  let v524 : BitVec 32 := Scalar.addi c0_i32_476 v523
  v524.toNat
def k0_off7 (d0 : Dev nD) (c_m7_i32_509 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let v556 : BitVec 32 := Scalar.addi v32 c_m7_i32_509
  let c16_i32_510 : BitVec 32 := 16#32
  let c0_i32_511 : BitVec 32 := 0#32
  let v557 : BitVec 1 := Scalar.cmpi .eq c16_i32_510 c0_i32_511
  let c1_i32_512 : BitVec 32 := 1#32
  let v558 : BitVec 32 := Scalar.select v557 c1_i32_512 c16_i32_510
  let v559 : BitVec 32 := Scalar.remsi v556 v558
  let c0_i32_514 : BitVec 32 := 0#32
  let v561 : BitVec 1 := Scalar.cmpi .slt v559 c0_i32_514
  let c0_i32_515 : BitVec 32 := 0#32
  let v562 : BitVec 1 := Scalar.cmpi .slt v558 c0_i32_515
  let v563 : BitVec 1 := Scalar.xori v561 v562
  let c0_i32_513 : BitVec 32 := 0#32
  let v560 : BitVec 1 := Scalar.cmpi .ne v559 c0_i32_513
  let v564 : BitVec 1 := Scalar.andi v563 v560
  let v565 : BitVec 32 := Scalar.addi v559 v558
  let v566 : BitVec 32 := Scalar.select v564 v565 v559
  let c64_i32_516 : BitVec 32 := 64#32
  let v567 : BitVec 32 := Scalar.muli v566 c64_i32_516
  let v568 : Index := Scalar.indexCast v567
  let c512 : Index := 512#32
  ![v568.toNat, 512]
def k0_off7_at (r : Fin 14) : BitVec 32 :=
  if r.val < 7 then
    if r.val < 3 then
      if r.val < 1 then
        4294967289#32
      else
        if r.val < 2 then
          6#32
        else
          4294967290#32
    else
      if r.val < 5 then
        if r.val < 4 then
          5#32
        else
          4294967291#32
      else
        if r.val < 6 then
          4#32
        else
          4294967292#32
  else
    if r.val < 10 then
      if r.val < 8 then
        3#32
      else
        if r.val < 9 then
          4294967293#32
        else
          2#32
    else
      if r.val < 12 then
        if r.val < 11 then
          4294967294#32
        else
          1#32
      else
        if r.val < 13 then
          4294967295#32
        else
          0#32
def k0_dev15 (d0 : Dev nD) : Nat :=
  let c0_i32_536 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c11_i32_77 : BitVec 32 := 11#32
  let c14_i32_74 : BitVec 32 := 14#32
  let v89 : BitVec 1 := Scalar.cmpi .eq v2 c14_i32_74
  let c13_i32_75 : BitVec 32 := 13#32
  let c13_i32_72 : BitVec 32 := 13#32
  let v87 : BitVec 1 := Scalar.cmpi .eq v2 c13_i32_72
  let c9_i32_73 : BitVec 32 := 9#32
  let c12_i32_70 : BitVec 32 := 12#32
  let v85 : BitVec 1 := Scalar.cmpi .eq v2 c12_i32_70
  let c15_i32_71 : BitVec 32 := 15#32
  let c11_i32_68 : BitVec 32 := 11#32
  let v83 : BitVec 1 := Scalar.cmpi .eq v2 c11_i32_68
  let c7_i32_69 : BitVec 32 := 7#32
  let c10_i32_66 : BitVec 32 := 10#32
  let v81 : BitVec 1 := Scalar.cmpi .eq v2 c10_i32_66
  let c14_i32_67 : BitVec 32 := 14#32
  let c9_i32_64 : BitVec 32 := 9#32
  let v79 : BitVec 1 := Scalar.cmpi .eq v2 c9_i32_64
  let c5_i32_65 : BitVec 32 := 5#32
  let c8_i32_62 : BitVec 32 := 8#32
  let v77 : BitVec 1 := Scalar.cmpi .eq v2 c8_i32_62
  let c12_i32_63 : BitVec 32 := 12#32
  let c7_i32_60 : BitVec 32 := 7#32
  let v75 : BitVec 1 := Scalar.cmpi .eq v2 c7_i32_60
  let c3_i32_61 : BitVec 32 := 3#32
  let c6_i32_58 : BitVec 32 := 6#32
  let v73 : BitVec 1 := Scalar.cmpi .eq v2 c6_i32_58
  let c10_i32_59 : BitVec 32 := 10#32
  let c5_i32_56 : BitVec 32 := 5#32
  let v71 : BitVec 1 := Scalar.cmpi .eq v2 c5_i32_56
  let c1_i32_57 : BitVec 32 := 1#32
  let c4_i32_54 : BitVec 32 := 4#32
  let v69 : BitVec 1 := Scalar.cmpi .eq v2 c4_i32_54
  let c8_i32_55 : BitVec 32 := 8#32
  let c3_i32_52 : BitVec 32 := 3#32
  let v67 : BitVec 1 := Scalar.cmpi .eq v2 c3_i32_52
  let c2_i32_53 : BitVec 32 := 2#32
  let c2_i32_50 : BitVec 32 := 2#32
  let v65 : BitVec 1 := Scalar.cmpi .eq v2 c2_i32_50
  let c6_i32_51 : BitVec 32 := 6#32
  let c1_i32_47 : BitVec 32 := 1#32
  let v63 : BitVec 1 := Scalar.cmpi .eq v2 c1_i32_47
  let c0_i32_48 : BitVec 32 := 0#32
  let c4_i32_49 : BitVec 32 := 4#32
  let v64 : BitVec 32 := Scalar.select v63 c0_i32_48 c4_i32_49
  let v66 : BitVec 32 := Scalar.select v65 c6_i32_51 v64
  let v68 : BitVec 32 := Scalar.select v67 c2_i32_53 v66
  let v70 : BitVec 32 := Scalar.select v69 c8_i32_55 v68
  let v72 : BitVec 32 := Scalar.select v71 c1_i32_57 v70
  let v74 : BitVec 32 := Scalar.select v73 c10_i32_59 v72
  let v76 : BitVec 32 := Scalar.select v75 c3_i32_61 v74
  let v78 : BitVec 32 := Scalar.select v77 c12_i32_63 v76
  let v80 : BitVec 32 := Scalar.select v79 c5_i32_65 v78
  let v82 : BitVec 32 := Scalar.select v81 c14_i32_67 v80
  let v84 : BitVec 32 := Scalar.select v83 c7_i32_69 v82
  let v86 : BitVec 32 := Scalar.select v85 c15_i32_71 v84
  let v88 : BitVec 32 := Scalar.select v87 c9_i32_73 v86
  let v90 : BitVec 32 := Scalar.select v89 c13_i32_75 v88
  let v92 : BitVec 32 := Scalar.select v91 c11_i32_77 v90
  let c1_i32_535 : BitVec 32 := 1#32
  let v588 : BitVec 32 := Scalar.muli v92 c1_i32_535
  let v589 : BitVec 32 := Scalar.addi c0_i32_536 v588
  v589.toNat
def k0_dev16 (d0 : Dev nD) : Nat :=
  let c0_i32_597 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c12_i32_46 : BitVec 32 := 12#32
  let c14_i32_43 : BitVec 32 := 14#32
  let v59 : BitVec 1 := Scalar.cmpi .eq v2 c14_i32_43
  let c10_i32_44 : BitVec 32 := 10#32
  let c13_i32_41 : BitVec 32 := 13#32
  let v57 : BitVec 1 := Scalar.cmpi .eq v2 c13_i32_41
  let c14_i32_42 : BitVec 32 := 14#32
  let c12_i32_39 : BitVec 32 := 12#32
  let v55 : BitVec 1 := Scalar.cmpi .eq v2 c12_i32_39
  let c8_i32_40 : BitVec 32 := 8#32
  let c11_i32_37 : BitVec 32 := 11#32
  let v53 : BitVec 1 := Scalar.cmpi .eq v2 c11_i32_37
  let c15_i32_38 : BitVec 32 := 15#32
  let c10_i32_35 : BitVec 32 := 10#32
  let v51 : BitVec 1 := Scalar.cmpi .eq v2 c10_i32_35
  let c6_i32_36 : BitVec 32 := 6#32
  let c9_i32_33 : BitVec 32 := 9#32
  let v49 : BitVec 1 := Scalar.cmpi .eq v2 c9_i32_33
  let c13_i32_34 : BitVec 32 := 13#32
  let c8_i32_31 : BitVec 32 := 8#32
  let v47 : BitVec 1 := Scalar.cmpi .eq v2 c8_i32_31
  let c4_i32_32 : BitVec 32 := 4#32
  let c7_i32_29 : BitVec 32 := 7#32
  let v45 : BitVec 1 := Scalar.cmpi .eq v2 c7_i32_29
  let c11_i32_30 : BitVec 32 := 11#32
  let c6_i32_27 : BitVec 32 := 6#32
  let v43 : BitVec 1 := Scalar.cmpi .eq v2 c6_i32_27
  let c2_i32_28 : BitVec 32 := 2#32
  let c5_i32_25 : BitVec 32 := 5#32
  let v41 : BitVec 1 := Scalar.cmpi .eq v2 c5_i32_25
  let c9_i32_26 : BitVec 32 := 9#32
  let c4_i32_23 : BitVec 32 := 4#32
  let v39 : BitVec 1 := Scalar.cmpi .eq v2 c4_i32_23
  let c0_i32_24 : BitVec 32 := 0#32
  let c3_i32_21 : BitVec 32 := 3#32
  let v37 : BitVec 1 := Scalar.cmpi .eq v2 c3_i32_21
  let c7_i32_22 : BitVec 32 := 7#32
  let c2_i32_19 : BitVec 32 := 2#32
  let v35 : BitVec 1 := Scalar.cmpi .eq v2 c2_i32_19
  let c3_i32_20 : BitVec 32 := 3#32
  let c1_i32_16 : BitVec 32 := 1#32
  let v33 : BitVec 1 := Scalar.cmpi .eq v2 c1_i32_16
  let c5_i32_17 : BitVec 32 := 5#32
  let c1_i32_18 : BitVec 32 := 1#32
  let v34 : BitVec 32 := Scalar.select v33 c5_i32_17 c1_i32_18
  let v36 : BitVec 32 := Scalar.select v35 c3_i32_20 v34
  let v38 : BitVec 32 := Scalar.select v37 c7_i32_22 v36
  let v40 : BitVec 32 := Scalar.select v39 c0_i32_24 v38
  let v42 : BitVec 32 := Scalar.select v41 c9_i32_26 v40
  let v44 : BitVec 32 := Scalar.select v43 c2_i32_28 v42
  let v46 : BitVec 32 := Scalar.select v45 c11_i32_30 v44
  let v48 : BitVec 32 := Scalar.select v47 c4_i32_32 v46
  let v50 : BitVec 32 := Scalar.select v49 c13_i32_34 v48
  let v52 : BitVec 32 := Scalar.select v51 c6_i32_36 v50
  let v54 : BitVec 32 := Scalar.select v53 c15_i32_38 v52
  let v56 : BitVec 32 := Scalar.select v55 c8_i32_40 v54
  let v58 : BitVec 32 := Scalar.select v57 c14_i32_42 v56
  let v60 : BitVec 32 := Scalar.select v59 c10_i32_44 v58
  let v62 : BitVec 32 := Scalar.select v61 c12_i32_46 v60
  let c1_i32_596 : BitVec 32 := 1#32
  let v653 : BitVec 32 := Scalar.muli v62 c1_i32_596
  let v654 : BitVec 32 := Scalar.addi c0_i32_597 v653
  v654.toNat
def k0_off8 (d0 : Dev nD) (c_m7_i32_630 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let v686 : BitVec 32 := Scalar.addi v32 c_m7_i32_630
  let c16_i32_631 : BitVec 32 := 16#32
  let c0_i32_632 : BitVec 32 := 0#32
  let v687 : BitVec 1 := Scalar.cmpi .eq c16_i32_631 c0_i32_632
  let c1_i32_633 : BitVec 32 := 1#32
  let v688 : BitVec 32 := Scalar.select v687 c1_i32_633 c16_i32_631
  let v689 : BitVec 32 := Scalar.remsi v686 v688
  let c0_i32_635 : BitVec 32 := 0#32
  let v691 : BitVec 1 := Scalar.cmpi .slt v689 c0_i32_635
  let c0_i32_636 : BitVec 32 := 0#32
  let v692 : BitVec 1 := Scalar.cmpi .slt v688 c0_i32_636
  let v693 : BitVec 1 := Scalar.xori v691 v692
  let c0_i32_634 : BitVec 32 := 0#32
  let v690 : BitVec 1 := Scalar.cmpi .ne v689 c0_i32_634
  let v694 : BitVec 1 := Scalar.andi v693 v690
  let v695 : BitVec 32 := Scalar.addi v689 v688
  let v696 : BitVec 32 := Scalar.select v694 v695 v689
  let c64_i32_637 : BitVec 32 := 64#32
  let v697 : BitVec 32 := Scalar.muli v696 c64_i32_637
  let v698 : Index := Scalar.indexCast v697
  let c768 : Index := 768#32
  ![v698.toNat, 768]
def k0_off8_at (r : Fin 14) : BitVec 32 :=
  if r.val < 7 then
    if r.val < 3 then
      if r.val < 1 then
        4294967289#32
      else
        if r.val < 2 then
          6#32
        else
          4294967290#32
    else
      if r.val < 5 then
        if r.val < 4 then
          5#32
        else
          4294967291#32
      else
        if r.val < 6 then
          4#32
        else
          4294967292#32
  else
    if r.val < 10 then
      if r.val < 8 then
        3#32
      else
        if r.val < 9 then
          4294967293#32
        else
          2#32
    else
      if r.val < 12 then
        if r.val < 11 then
          4294967294#32
        else
          1#32
      else
        if r.val < 13 then
          4294967295#32
        else
          0#32
def k0_dev17 (d0 : Dev nD) : Nat :=
  let c0_i32_657 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c11_i32_77 : BitVec 32 := 11#32
  let c14_i32_74 : BitVec 32 := 14#32
  let v89 : BitVec 1 := Scalar.cmpi .eq v2 c14_i32_74
  let c13_i32_75 : BitVec 32 := 13#32
  let c13_i32_72 : BitVec 32 := 13#32
  let v87 : BitVec 1 := Scalar.cmpi .eq v2 c13_i32_72
  let c9_i32_73 : BitVec 32 := 9#32
  let c12_i32_70 : BitVec 32 := 12#32
  let v85 : BitVec 1 := Scalar.cmpi .eq v2 c12_i32_70
  let c15_i32_71 : BitVec 32 := 15#32
  let c11_i32_68 : BitVec 32 := 11#32
  let v83 : BitVec 1 := Scalar.cmpi .eq v2 c11_i32_68
  let c7_i32_69 : BitVec 32 := 7#32
  let c10_i32_66 : BitVec 32 := 10#32
  let v81 : BitVec 1 := Scalar.cmpi .eq v2 c10_i32_66
  let c14_i32_67 : BitVec 32 := 14#32
  let c9_i32_64 : BitVec 32 := 9#32
  let v79 : BitVec 1 := Scalar.cmpi .eq v2 c9_i32_64
  let c5_i32_65 : BitVec 32 := 5#32
  let c8_i32_62 : BitVec 32 := 8#32
  let v77 : BitVec 1 := Scalar.cmpi .eq v2 c8_i32_62
  let c12_i32_63 : BitVec 32 := 12#32
  let c7_i32_60 : BitVec 32 := 7#32
  let v75 : BitVec 1 := Scalar.cmpi .eq v2 c7_i32_60
  let c3_i32_61 : BitVec 32 := 3#32
  let c6_i32_58 : BitVec 32 := 6#32
  let v73 : BitVec 1 := Scalar.cmpi .eq v2 c6_i32_58
  let c10_i32_59 : BitVec 32 := 10#32
  let c5_i32_56 : BitVec 32 := 5#32
  let v71 : BitVec 1 := Scalar.cmpi .eq v2 c5_i32_56
  let c1_i32_57 : BitVec 32 := 1#32
  let c4_i32_54 : BitVec 32 := 4#32
  let v69 : BitVec 1 := Scalar.cmpi .eq v2 c4_i32_54
  let c8_i32_55 : BitVec 32 := 8#32
  let c3_i32_52 : BitVec 32 := 3#32
  let v67 : BitVec 1 := Scalar.cmpi .eq v2 c3_i32_52
  let c2_i32_53 : BitVec 32 := 2#32
  let c2_i32_50 : BitVec 32 := 2#32
  let v65 : BitVec 1 := Scalar.cmpi .eq v2 c2_i32_50
  let c6_i32_51 : BitVec 32 := 6#32
  let c1_i32_47 : BitVec 32 := 1#32
  let v63 : BitVec 1 := Scalar.cmpi .eq v2 c1_i32_47
  let c0_i32_48 : BitVec 32 := 0#32
  let c4_i32_49 : BitVec 32 := 4#32
  let v64 : BitVec 32 := Scalar.select v63 c0_i32_48 c4_i32_49
  let v66 : BitVec 32 := Scalar.select v65 c6_i32_51 v64
  let v68 : BitVec 32 := Scalar.select v67 c2_i32_53 v66
  let v70 : BitVec 32 := Scalar.select v69 c8_i32_55 v68
  let v72 : BitVec 32 := Scalar.select v71 c1_i32_57 v70
  let v74 : BitVec 32 := Scalar.select v73 c10_i32_59 v72
  let v76 : BitVec 32 := Scalar.select v75 c3_i32_61 v74
  let v78 : BitVec 32 := Scalar.select v77 c12_i32_63 v76
  let v80 : BitVec 32 := Scalar.select v79 c5_i32_65 v78
  let v82 : BitVec 32 := Scalar.select v81 c14_i32_67 v80
  let v84 : BitVec 32 := Scalar.select v83 c7_i32_69 v82
  let v86 : BitVec 32 := Scalar.select v85 c15_i32_71 v84
  let v88 : BitVec 32 := Scalar.select v87 c9_i32_73 v86
  let v90 : BitVec 32 := Scalar.select v89 c13_i32_75 v88
  let v92 : BitVec 32 := Scalar.select v91 c11_i32_77 v90
  let c1_i32_656 : BitVec 32 := 1#32
  let v718 : BitVec 32 := Scalar.muli v92 c1_i32_656
  let v719 : BitVec 32 := Scalar.addi c0_i32_657 v718
  v719.toNat
def k0_dev18 (d0 : Dev nD) : Nat :=
  let c0_i32_718 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c12_i32_46 : BitVec 32 := 12#32
  let c14_i32_43 : BitVec 32 := 14#32
  let v59 : BitVec 1 := Scalar.cmpi .eq v2 c14_i32_43
  let c10_i32_44 : BitVec 32 := 10#32
  let c13_i32_41 : BitVec 32 := 13#32
  let v57 : BitVec 1 := Scalar.cmpi .eq v2 c13_i32_41
  let c14_i32_42 : BitVec 32 := 14#32
  let c12_i32_39 : BitVec 32 := 12#32
  let v55 : BitVec 1 := Scalar.cmpi .eq v2 c12_i32_39
  let c8_i32_40 : BitVec 32 := 8#32
  let c11_i32_37 : BitVec 32 := 11#32
  let v53 : BitVec 1 := Scalar.cmpi .eq v2 c11_i32_37
  let c15_i32_38 : BitVec 32 := 15#32
  let c10_i32_35 : BitVec 32 := 10#32
  let v51 : BitVec 1 := Scalar.cmpi .eq v2 c10_i32_35
  let c6_i32_36 : BitVec 32 := 6#32
  let c9_i32_33 : BitVec 32 := 9#32
  let v49 : BitVec 1 := Scalar.cmpi .eq v2 c9_i32_33
  let c13_i32_34 : BitVec 32 := 13#32
  let c8_i32_31 : BitVec 32 := 8#32
  let v47 : BitVec 1 := Scalar.cmpi .eq v2 c8_i32_31
  let c4_i32_32 : BitVec 32 := 4#32
  let c7_i32_29 : BitVec 32 := 7#32
  let v45 : BitVec 1 := Scalar.cmpi .eq v2 c7_i32_29
  let c11_i32_30 : BitVec 32 := 11#32
  let c6_i32_27 : BitVec 32 := 6#32
  let v43 : BitVec 1 := Scalar.cmpi .eq v2 c6_i32_27
  let c2_i32_28 : BitVec 32 := 2#32
  let c5_i32_25 : BitVec 32 := 5#32
  let v41 : BitVec 1 := Scalar.cmpi .eq v2 c5_i32_25
  let c9_i32_26 : BitVec 32 := 9#32
  let c4_i32_23 : BitVec 32 := 4#32
  let v39 : BitVec 1 := Scalar.cmpi .eq v2 c4_i32_23
  let c0_i32_24 : BitVec 32 := 0#32
  let c3_i32_21 : BitVec 32 := 3#32
  let v37 : BitVec 1 := Scalar.cmpi .eq v2 c3_i32_21
  let c7_i32_22 : BitVec 32 := 7#32
  let c2_i32_19 : BitVec 32 := 2#32
  let v35 : BitVec 1 := Scalar.cmpi .eq v2 c2_i32_19
  let c3_i32_20 : BitVec 32 := 3#32
  let c1_i32_16 : BitVec 32 := 1#32
  let v33 : BitVec 1 := Scalar.cmpi .eq v2 c1_i32_16
  let c5_i32_17 : BitVec 32 := 5#32
  let c1_i32_18 : BitVec 32 := 1#32
  let v34 : BitVec 32 := Scalar.select v33 c5_i32_17 c1_i32_18
  let v36 : BitVec 32 := Scalar.select v35 c3_i32_20 v34
  let v38 : BitVec 32 := Scalar.select v37 c7_i32_22 v36
  let v40 : BitVec 32 := Scalar.select v39 c0_i32_24 v38
  let v42 : BitVec 32 := Scalar.select v41 c9_i32_26 v40
  let v44 : BitVec 32 := Scalar.select v43 c2_i32_28 v42
  let v46 : BitVec 32 := Scalar.select v45 c11_i32_30 v44
  let v48 : BitVec 32 := Scalar.select v47 c4_i32_32 v46
  let v50 : BitVec 32 := Scalar.select v49 c13_i32_34 v48
  let v52 : BitVec 32 := Scalar.select v51 c6_i32_36 v50
  let v54 : BitVec 32 := Scalar.select v53 c15_i32_38 v52
  let v56 : BitVec 32 := Scalar.select v55 c8_i32_40 v54
  let v58 : BitVec 32 := Scalar.select v57 c14_i32_42 v56
  let v60 : BitVec 32 := Scalar.select v59 c10_i32_44 v58
  let v62 : BitVec 32 := Scalar.select v61 c12_i32_46 v60
  let c1_i32_717 : BitVec 32 := 1#32
  let v783 : BitVec 32 := Scalar.muli v62 c1_i32_717
  let v784 : BitVec 32 := Scalar.addi c0_i32_718 v783
  v784.toNat
def k0_dev19 (d0 : Dev nD) : Nat :=
  let c0_i32_779 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c11_i32_77 : BitVec 32 := 11#32
  let c14_i32_74 : BitVec 32 := 14#32
  let v89 : BitVec 1 := Scalar.cmpi .eq v2 c14_i32_74
  let c13_i32_75 : BitVec 32 := 13#32
  let c13_i32_72 : BitVec 32 := 13#32
  let v87 : BitVec 1 := Scalar.cmpi .eq v2 c13_i32_72
  let c9_i32_73 : BitVec 32 := 9#32
  let c12_i32_70 : BitVec 32 := 12#32
  let v85 : BitVec 1 := Scalar.cmpi .eq v2 c12_i32_70
  let c15_i32_71 : BitVec 32 := 15#32
  let c11_i32_68 : BitVec 32 := 11#32
  let v83 : BitVec 1 := Scalar.cmpi .eq v2 c11_i32_68
  let c7_i32_69 : BitVec 32 := 7#32
  let c10_i32_66 : BitVec 32 := 10#32
  let v81 : BitVec 1 := Scalar.cmpi .eq v2 c10_i32_66
  let c14_i32_67 : BitVec 32 := 14#32
  let c9_i32_64 : BitVec 32 := 9#32
  let v79 : BitVec 1 := Scalar.cmpi .eq v2 c9_i32_64
  let c5_i32_65 : BitVec 32 := 5#32
  let c8_i32_62 : BitVec 32 := 8#32
  let v77 : BitVec 1 := Scalar.cmpi .eq v2 c8_i32_62
  let c12_i32_63 : BitVec 32 := 12#32
  let c7_i32_60 : BitVec 32 := 7#32
  let v75 : BitVec 1 := Scalar.cmpi .eq v2 c7_i32_60
  let c3_i32_61 : BitVec 32 := 3#32
  let c6_i32_58 : BitVec 32 := 6#32
  let v73 : BitVec 1 := Scalar.cmpi .eq v2 c6_i32_58
  let c10_i32_59 : BitVec 32 := 10#32
  let c5_i32_56 : BitVec 32 := 5#32
  let v71 : BitVec 1 := Scalar.cmpi .eq v2 c5_i32_56
  let c1_i32_57 : BitVec 32 := 1#32
  let c4_i32_54 : BitVec 32 := 4#32
  let v69 : BitVec 1 := Scalar.cmpi .eq v2 c4_i32_54
  let c8_i32_55 : BitVec 32 := 8#32
  let c3_i32_52 : BitVec 32 := 3#32
  let v67 : BitVec 1 := Scalar.cmpi .eq v2 c3_i32_52
  let c2_i32_53 : BitVec 32 := 2#32
  let c2_i32_50 : BitVec 32 := 2#32
  let v65 : BitVec 1 := Scalar.cmpi .eq v2 c2_i32_50
  let c6_i32_51 : BitVec 32 := 6#32
  let c1_i32_47 : BitVec 32 := 1#32
  let v63 : BitVec 1 := Scalar.cmpi .eq v2 c1_i32_47
  let c0_i32_48 : BitVec 32 := 0#32
  let c4_i32_49 : BitVec 32 := 4#32
  let v64 : BitVec 32 := Scalar.select v63 c0_i32_48 c4_i32_49
  let v66 : BitVec 32 := Scalar.select v65 c6_i32_51 v64
  let v68 : BitVec 32 := Scalar.select v67 c2_i32_53 v66
  let v70 : BitVec 32 := Scalar.select v69 c8_i32_55 v68
  let v72 : BitVec 32 := Scalar.select v71 c1_i32_57 v70
  let v74 : BitVec 32 := Scalar.select v73 c10_i32_59 v72
  let v76 : BitVec 32 := Scalar.select v75 c3_i32_61 v74
  let v78 : BitVec 32 := Scalar.select v77 c12_i32_63 v76
  let v80 : BitVec 32 := Scalar.select v79 c5_i32_65 v78
  let v82 : BitVec 32 := Scalar.select v81 c14_i32_67 v80
  let v84 : BitVec 32 := Scalar.select v83 c7_i32_69 v82
  let v86 : BitVec 32 := Scalar.select v85 c15_i32_71 v84
  let v88 : BitVec 32 := Scalar.select v87 c9_i32_73 v86
  let v90 : BitVec 32 := Scalar.select v89 c13_i32_75 v88
  let v92 : BitVec 32 := Scalar.select v91 c11_i32_77 v90
  let c1_i32_778 : BitVec 32 := 1#32
  let v848 : BitVec 32 := Scalar.muli v92 c1_i32_778
  let v849 : BitVec 32 := Scalar.addi c0_i32_779 v848
  v849.toNat
def k0_dev20 (d0 : Dev nD) : Nat :=
  let c0_i32_841 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c12_i32_46 : BitVec 32 := 12#32
  let c14_i32_43 : BitVec 32 := 14#32
  let v59 : BitVec 1 := Scalar.cmpi .eq v2 c14_i32_43
  let c10_i32_44 : BitVec 32 := 10#32
  let c13_i32_41 : BitVec 32 := 13#32
  let v57 : BitVec 1 := Scalar.cmpi .eq v2 c13_i32_41
  let c14_i32_42 : BitVec 32 := 14#32
  let c12_i32_39 : BitVec 32 := 12#32
  let v55 : BitVec 1 := Scalar.cmpi .eq v2 c12_i32_39
  let c8_i32_40 : BitVec 32 := 8#32
  let c11_i32_37 : BitVec 32 := 11#32
  let v53 : BitVec 1 := Scalar.cmpi .eq v2 c11_i32_37
  let c15_i32_38 : BitVec 32 := 15#32
  let c10_i32_35 : BitVec 32 := 10#32
  let v51 : BitVec 1 := Scalar.cmpi .eq v2 c10_i32_35
  let c6_i32_36 : BitVec 32 := 6#32
  let c9_i32_33 : BitVec 32 := 9#32
  let v49 : BitVec 1 := Scalar.cmpi .eq v2 c9_i32_33
  let c13_i32_34 : BitVec 32 := 13#32
  let c8_i32_31 : BitVec 32 := 8#32
  let v47 : BitVec 1 := Scalar.cmpi .eq v2 c8_i32_31
  let c4_i32_32 : BitVec 32 := 4#32
  let c7_i32_29 : BitVec 32 := 7#32
  let v45 : BitVec 1 := Scalar.cmpi .eq v2 c7_i32_29
  let c11_i32_30 : BitVec 32 := 11#32
  let c6_i32_27 : BitVec 32 := 6#32
  let v43 : BitVec 1 := Scalar.cmpi .eq v2 c6_i32_27
  let c2_i32_28 : BitVec 32 := 2#32
  let c5_i32_25 : BitVec 32 := 5#32
  let v41 : BitVec 1 := Scalar.cmpi .eq v2 c5_i32_25
  let c9_i32_26 : BitVec 32 := 9#32
  let c4_i32_23 : BitVec 32 := 4#32
  let v39 : BitVec 1 := Scalar.cmpi .eq v2 c4_i32_23
  let c0_i32_24 : BitVec 32 := 0#32
  let c3_i32_21 : BitVec 32 := 3#32
  let v37 : BitVec 1 := Scalar.cmpi .eq v2 c3_i32_21
  let c7_i32_22 : BitVec 32 := 7#32
  let c2_i32_19 : BitVec 32 := 2#32
  let v35 : BitVec 1 := Scalar.cmpi .eq v2 c2_i32_19
  let c3_i32_20 : BitVec 32 := 3#32
  let c1_i32_16 : BitVec 32 := 1#32
  let v33 : BitVec 1 := Scalar.cmpi .eq v2 c1_i32_16
  let c5_i32_17 : BitVec 32 := 5#32
  let c1_i32_18 : BitVec 32 := 1#32
  let v34 : BitVec 32 := Scalar.select v33 c5_i32_17 c1_i32_18
  let v36 : BitVec 32 := Scalar.select v35 c3_i32_20 v34
  let v38 : BitVec 32 := Scalar.select v37 c7_i32_22 v36
  let v40 : BitVec 32 := Scalar.select v39 c0_i32_24 v38
  let v42 : BitVec 32 := Scalar.select v41 c9_i32_26 v40
  let v44 : BitVec 32 := Scalar.select v43 c2_i32_28 v42
  let v46 : BitVec 32 := Scalar.select v45 c11_i32_30 v44
  let v48 : BitVec 32 := Scalar.select v47 c4_i32_32 v46
  let v50 : BitVec 32 := Scalar.select v49 c13_i32_34 v48
  let v52 : BitVec 32 := Scalar.select v51 c6_i32_36 v50
  let v54 : BitVec 32 := Scalar.select v53 c15_i32_38 v52
  let v56 : BitVec 32 := Scalar.select v55 c8_i32_40 v54
  let v58 : BitVec 32 := Scalar.select v57 c14_i32_42 v56
  let v60 : BitVec 32 := Scalar.select v59 c10_i32_44 v58
  let v62 : BitVec 32 := Scalar.select v61 c12_i32_46 v60
  let c1_i32_840 : BitVec 32 := 1#32
  let v913 : BitVec 32 := Scalar.muli v62 c1_i32_840
  let v914 : BitVec 32 := Scalar.addi c0_i32_841 v913
  v914.toNat
def k0_dev21 (d0 : Dev nD) : Nat :=
  let c0_i32_903 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c11_i32_77 : BitVec 32 := 11#32
  let c14_i32_74 : BitVec 32 := 14#32
  let v89 : BitVec 1 := Scalar.cmpi .eq v2 c14_i32_74
  let c13_i32_75 : BitVec 32 := 13#32
  let c13_i32_72 : BitVec 32 := 13#32
  let v87 : BitVec 1 := Scalar.cmpi .eq v2 c13_i32_72
  let c9_i32_73 : BitVec 32 := 9#32
  let c12_i32_70 : BitVec 32 := 12#32
  let v85 : BitVec 1 := Scalar.cmpi .eq v2 c12_i32_70
  let c15_i32_71 : BitVec 32 := 15#32
  let c11_i32_68 : BitVec 32 := 11#32
  let v83 : BitVec 1 := Scalar.cmpi .eq v2 c11_i32_68
  let c7_i32_69 : BitVec 32 := 7#32
  let c10_i32_66 : BitVec 32 := 10#32
  let v81 : BitVec 1 := Scalar.cmpi .eq v2 c10_i32_66
  let c14_i32_67 : BitVec 32 := 14#32
  let c9_i32_64 : BitVec 32 := 9#32
  let v79 : BitVec 1 := Scalar.cmpi .eq v2 c9_i32_64
  let c5_i32_65 : BitVec 32 := 5#32
  let c8_i32_62 : BitVec 32 := 8#32
  let v77 : BitVec 1 := Scalar.cmpi .eq v2 c8_i32_62
  let c12_i32_63 : BitVec 32 := 12#32
  let c7_i32_60 : BitVec 32 := 7#32
  let v75 : BitVec 1 := Scalar.cmpi .eq v2 c7_i32_60
  let c3_i32_61 : BitVec 32 := 3#32
  let c6_i32_58 : BitVec 32 := 6#32
  let v73 : BitVec 1 := Scalar.cmpi .eq v2 c6_i32_58
  let c10_i32_59 : BitVec 32 := 10#32
  let c5_i32_56 : BitVec 32 := 5#32
  let v71 : BitVec 1 := Scalar.cmpi .eq v2 c5_i32_56
  let c1_i32_57 : BitVec 32 := 1#32
  let c4_i32_54 : BitVec 32 := 4#32
  let v69 : BitVec 1 := Scalar.cmpi .eq v2 c4_i32_54
  let c8_i32_55 : BitVec 32 := 8#32
  let c3_i32_52 : BitVec 32 := 3#32
  let v67 : BitVec 1 := Scalar.cmpi .eq v2 c3_i32_52
  let c2_i32_53 : BitVec 32 := 2#32
  let c2_i32_50 : BitVec 32 := 2#32
  let v65 : BitVec 1 := Scalar.cmpi .eq v2 c2_i32_50
  let c6_i32_51 : BitVec 32 := 6#32
  let c1_i32_47 : BitVec 32 := 1#32
  let v63 : BitVec 1 := Scalar.cmpi .eq v2 c1_i32_47
  let c0_i32_48 : BitVec 32 := 0#32
  let c4_i32_49 : BitVec 32 := 4#32
  let v64 : BitVec 32 := Scalar.select v63 c0_i32_48 c4_i32_49
  let v66 : BitVec 32 := Scalar.select v65 c6_i32_51 v64
  let v68 : BitVec 32 := Scalar.select v67 c2_i32_53 v66
  let v70 : BitVec 32 := Scalar.select v69 c8_i32_55 v68
  let v72 : BitVec 32 := Scalar.select v71 c1_i32_57 v70
  let v74 : BitVec 32 := Scalar.select v73 c10_i32_59 v72
  let v76 : BitVec 32 := Scalar.select v75 c3_i32_61 v74
  let v78 : BitVec 32 := Scalar.select v77 c12_i32_63 v76
  let v80 : BitVec 32 := Scalar.select v79 c5_i32_65 v78
  let v82 : BitVec 32 := Scalar.select v81 c14_i32_67 v80
  let v84 : BitVec 32 := Scalar.select v83 c7_i32_69 v82
  let v86 : BitVec 32 := Scalar.select v85 c15_i32_71 v84
  let v88 : BitVec 32 := Scalar.select v87 c9_i32_73 v86
  let v90 : BitVec 32 := Scalar.select v89 c13_i32_75 v88
  let v92 : BitVec 32 := Scalar.select v91 c11_i32_77 v90
  let c1_i32_902 : BitVec 32 := 1#32
  let v978 : BitVec 32 := Scalar.muli v92 c1_i32_902
  let v979 : BitVec 32 := Scalar.addi c0_i32_903 v978
  v979.toNat
def k0_dev22 (d0 : Dev nD) : Nat :=
  let c0_i32_965 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c12_i32_46 : BitVec 32 := 12#32
  let c14_i32_43 : BitVec 32 := 14#32
  let v59 : BitVec 1 := Scalar.cmpi .eq v2 c14_i32_43
  let c10_i32_44 : BitVec 32 := 10#32
  let c13_i32_41 : BitVec 32 := 13#32
  let v57 : BitVec 1 := Scalar.cmpi .eq v2 c13_i32_41
  let c14_i32_42 : BitVec 32 := 14#32
  let c12_i32_39 : BitVec 32 := 12#32
  let v55 : BitVec 1 := Scalar.cmpi .eq v2 c12_i32_39
  let c8_i32_40 : BitVec 32 := 8#32
  let c11_i32_37 : BitVec 32 := 11#32
  let v53 : BitVec 1 := Scalar.cmpi .eq v2 c11_i32_37
  let c15_i32_38 : BitVec 32 := 15#32
  let c10_i32_35 : BitVec 32 := 10#32
  let v51 : BitVec 1 := Scalar.cmpi .eq v2 c10_i32_35
  let c6_i32_36 : BitVec 32 := 6#32
  let c9_i32_33 : BitVec 32 := 9#32
  let v49 : BitVec 1 := Scalar.cmpi .eq v2 c9_i32_33
  let c13_i32_34 : BitVec 32 := 13#32
  let c8_i32_31 : BitVec 32 := 8#32
  let v47 : BitVec 1 := Scalar.cmpi .eq v2 c8_i32_31
  let c4_i32_32 : BitVec 32 := 4#32
  let c7_i32_29 : BitVec 32 := 7#32
  let v45 : BitVec 1 := Scalar.cmpi .eq v2 c7_i32_29
  let c11_i32_30 : BitVec 32 := 11#32
  let c6_i32_27 : BitVec 32 := 6#32
  let v43 : BitVec 1 := Scalar.cmpi .eq v2 c6_i32_27
  let c2_i32_28 : BitVec 32 := 2#32
  let c5_i32_25 : BitVec 32 := 5#32
  let v41 : BitVec 1 := Scalar.cmpi .eq v2 c5_i32_25
  let c9_i32_26 : BitVec 32 := 9#32
  let c4_i32_23 : BitVec 32 := 4#32
  let v39 : BitVec 1 := Scalar.cmpi .eq v2 c4_i32_23
  let c0_i32_24 : BitVec 32 := 0#32
  let c3_i32_21 : BitVec 32 := 3#32
  let v37 : BitVec 1 := Scalar.cmpi .eq v2 c3_i32_21
  let c7_i32_22 : BitVec 32 := 7#32
  let c2_i32_19 : BitVec 32 := 2#32
  let v35 : BitVec 1 := Scalar.cmpi .eq v2 c2_i32_19
  let c3_i32_20 : BitVec 32 := 3#32
  let c1_i32_16 : BitVec 32 := 1#32
  let v33 : BitVec 1 := Scalar.cmpi .eq v2 c1_i32_16
  let c5_i32_17 : BitVec 32 := 5#32
  let c1_i32_18 : BitVec 32 := 1#32
  let v34 : BitVec 32 := Scalar.select v33 c5_i32_17 c1_i32_18
  let v36 : BitVec 32 := Scalar.select v35 c3_i32_20 v34
  let v38 : BitVec 32 := Scalar.select v37 c7_i32_22 v36
  let v40 : BitVec 32 := Scalar.select v39 c0_i32_24 v38
  let v42 : BitVec 32 := Scalar.select v41 c9_i32_26 v40
  let v44 : BitVec 32 := Scalar.select v43 c2_i32_28 v42
  let v46 : BitVec 32 := Scalar.select v45 c11_i32_30 v44
  let v48 : BitVec 32 := Scalar.select v47 c4_i32_32 v46
  let v50 : BitVec 32 := Scalar.select v49 c13_i32_34 v48
  let v52 : BitVec 32 := Scalar.select v51 c6_i32_36 v50
  let v54 : BitVec 32 := Scalar.select v53 c15_i32_38 v52
  let v56 : BitVec 32 := Scalar.select v55 c8_i32_40 v54
  let v58 : BitVec 32 := Scalar.select v57 c14_i32_42 v56
  let v60 : BitVec 32 := Scalar.select v59 c10_i32_44 v58
  let v62 : BitVec 32 := Scalar.select v61 c12_i32_46 v60
  let c1_i32_964 : BitVec 32 := 1#32
  let v1043 : BitVec 32 := Scalar.muli v62 c1_i32_964
  let v1044 : BitVec 32 := Scalar.addi c0_i32_965 v1043
  v1044.toNat
def k0_dev23 (d0 : Dev nD) : Nat :=
  let c0_i32_1027 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c11_i32_77 : BitVec 32 := 11#32
  let c14_i32_74 : BitVec 32 := 14#32
  let v89 : BitVec 1 := Scalar.cmpi .eq v2 c14_i32_74
  let c13_i32_75 : BitVec 32 := 13#32
  let c13_i32_72 : BitVec 32 := 13#32
  let v87 : BitVec 1 := Scalar.cmpi .eq v2 c13_i32_72
  let c9_i32_73 : BitVec 32 := 9#32
  let c12_i32_70 : BitVec 32 := 12#32
  let v85 : BitVec 1 := Scalar.cmpi .eq v2 c12_i32_70
  let c15_i32_71 : BitVec 32 := 15#32
  let c11_i32_68 : BitVec 32 := 11#32
  let v83 : BitVec 1 := Scalar.cmpi .eq v2 c11_i32_68
  let c7_i32_69 : BitVec 32 := 7#32
  let c10_i32_66 : BitVec 32 := 10#32
  let v81 : BitVec 1 := Scalar.cmpi .eq v2 c10_i32_66
  let c14_i32_67 : BitVec 32 := 14#32
  let c9_i32_64 : BitVec 32 := 9#32
  let v79 : BitVec 1 := Scalar.cmpi .eq v2 c9_i32_64
  let c5_i32_65 : BitVec 32 := 5#32
  let c8_i32_62 : BitVec 32 := 8#32
  let v77 : BitVec 1 := Scalar.cmpi .eq v2 c8_i32_62
  let c12_i32_63 : BitVec 32 := 12#32
  let c7_i32_60 : BitVec 32 := 7#32
  let v75 : BitVec 1 := Scalar.cmpi .eq v2 c7_i32_60
  let c3_i32_61 : BitVec 32 := 3#32
  let c6_i32_58 : BitVec 32 := 6#32
  let v73 : BitVec 1 := Scalar.cmpi .eq v2 c6_i32_58
  let c10_i32_59 : BitVec 32 := 10#32
  let c5_i32_56 : BitVec 32 := 5#32
  let v71 : BitVec 1 := Scalar.cmpi .eq v2 c5_i32_56
  let c1_i32_57 : BitVec 32 := 1#32
  let c4_i32_54 : BitVec 32 := 4#32
  let v69 : BitVec 1 := Scalar.cmpi .eq v2 c4_i32_54
  let c8_i32_55 : BitVec 32 := 8#32
  let c3_i32_52 : BitVec 32 := 3#32
  let v67 : BitVec 1 := Scalar.cmpi .eq v2 c3_i32_52
  let c2_i32_53 : BitVec 32 := 2#32
  let c2_i32_50 : BitVec 32 := 2#32
  let v65 : BitVec 1 := Scalar.cmpi .eq v2 c2_i32_50
  let c6_i32_51 : BitVec 32 := 6#32
  let c1_i32_47 : BitVec 32 := 1#32
  let v63 : BitVec 1 := Scalar.cmpi .eq v2 c1_i32_47
  let c0_i32_48 : BitVec 32 := 0#32
  let c4_i32_49 : BitVec 32 := 4#32
  let v64 : BitVec 32 := Scalar.select v63 c0_i32_48 c4_i32_49
  let v66 : BitVec 32 := Scalar.select v65 c6_i32_51 v64
  let v68 : BitVec 32 := Scalar.select v67 c2_i32_53 v66
  let v70 : BitVec 32 := Scalar.select v69 c8_i32_55 v68
  let v72 : BitVec 32 := Scalar.select v71 c1_i32_57 v70
  let v74 : BitVec 32 := Scalar.select v73 c10_i32_59 v72
  let v76 : BitVec 32 := Scalar.select v75 c3_i32_61 v74
  let v78 : BitVec 32 := Scalar.select v77 c12_i32_63 v76
  let v80 : BitVec 32 := Scalar.select v79 c5_i32_65 v78
  let v82 : BitVec 32 := Scalar.select v81 c14_i32_67 v80
  let v84 : BitVec 32 := Scalar.select v83 c7_i32_69 v82
  let v86 : BitVec 32 := Scalar.select v85 c15_i32_71 v84
  let v88 : BitVec 32 := Scalar.select v87 c9_i32_73 v86
  let v90 : BitVec 32 := Scalar.select v89 c13_i32_75 v88
  let v92 : BitVec 32 := Scalar.select v91 c11_i32_77 v90
  let c1_i32_1026 : BitVec 32 := 1#32
  let v1108 : BitVec 32 := Scalar.muli v92 c1_i32_1026
  let v1109 : BitVec 32 := Scalar.addi c0_i32_1027 v1108
  v1109.toNat
def k0_dev24 (d0 : Dev nD) : Nat :=
  let c0_i32_1089 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c12_i32_46 : BitVec 32 := 12#32
  let c14_i32_43 : BitVec 32 := 14#32
  let v59 : BitVec 1 := Scalar.cmpi .eq v2 c14_i32_43
  let c10_i32_44 : BitVec 32 := 10#32
  let c13_i32_41 : BitVec 32 := 13#32
  let v57 : BitVec 1 := Scalar.cmpi .eq v2 c13_i32_41
  let c14_i32_42 : BitVec 32 := 14#32
  let c12_i32_39 : BitVec 32 := 12#32
  let v55 : BitVec 1 := Scalar.cmpi .eq v2 c12_i32_39
  let c8_i32_40 : BitVec 32 := 8#32
  let c11_i32_37 : BitVec 32 := 11#32
  let v53 : BitVec 1 := Scalar.cmpi .eq v2 c11_i32_37
  let c15_i32_38 : BitVec 32 := 15#32
  let c10_i32_35 : BitVec 32 := 10#32
  let v51 : BitVec 1 := Scalar.cmpi .eq v2 c10_i32_35
  let c6_i32_36 : BitVec 32 := 6#32
  let c9_i32_33 : BitVec 32 := 9#32
  let v49 : BitVec 1 := Scalar.cmpi .eq v2 c9_i32_33
  let c13_i32_34 : BitVec 32 := 13#32
  let c8_i32_31 : BitVec 32 := 8#32
  let v47 : BitVec 1 := Scalar.cmpi .eq v2 c8_i32_31
  let c4_i32_32 : BitVec 32 := 4#32
  let c7_i32_29 : BitVec 32 := 7#32
  let v45 : BitVec 1 := Scalar.cmpi .eq v2 c7_i32_29
  let c11_i32_30 : BitVec 32 := 11#32
  let c6_i32_27 : BitVec 32 := 6#32
  let v43 : BitVec 1 := Scalar.cmpi .eq v2 c6_i32_27
  let c2_i32_28 : BitVec 32 := 2#32
  let c5_i32_25 : BitVec 32 := 5#32
  let v41 : BitVec 1 := Scalar.cmpi .eq v2 c5_i32_25
  let c9_i32_26 : BitVec 32 := 9#32
  let c4_i32_23 : BitVec 32 := 4#32
  let v39 : BitVec 1 := Scalar.cmpi .eq v2 c4_i32_23
  let c0_i32_24 : BitVec 32 := 0#32
  let c3_i32_21 : BitVec 32 := 3#32
  let v37 : BitVec 1 := Scalar.cmpi .eq v2 c3_i32_21
  let c7_i32_22 : BitVec 32 := 7#32
  let c2_i32_19 : BitVec 32 := 2#32
  let v35 : BitVec 1 := Scalar.cmpi .eq v2 c2_i32_19
  let c3_i32_20 : BitVec 32 := 3#32
  let c1_i32_16 : BitVec 32 := 1#32
  let v33 : BitVec 1 := Scalar.cmpi .eq v2 c1_i32_16
  let c5_i32_17 : BitVec 32 := 5#32
  let c1_i32_18 : BitVec 32 := 1#32
  let v34 : BitVec 32 := Scalar.select v33 c5_i32_17 c1_i32_18
  let v36 : BitVec 32 := Scalar.select v35 c3_i32_20 v34
  let v38 : BitVec 32 := Scalar.select v37 c7_i32_22 v36
  let v40 : BitVec 32 := Scalar.select v39 c0_i32_24 v38
  let v42 : BitVec 32 := Scalar.select v41 c9_i32_26 v40
  let v44 : BitVec 32 := Scalar.select v43 c2_i32_28 v42
  let v46 : BitVec 32 := Scalar.select v45 c11_i32_30 v44
  let v48 : BitVec 32 := Scalar.select v47 c4_i32_32 v46
  let v50 : BitVec 32 := Scalar.select v49 c13_i32_34 v48
  let v52 : BitVec 32 := Scalar.select v51 c6_i32_36 v50
  let v54 : BitVec 32 := Scalar.select v53 c15_i32_38 v52
  let v56 : BitVec 32 := Scalar.select v55 c8_i32_40 v54
  let v58 : BitVec 32 := Scalar.select v57 c14_i32_42 v56
  let v60 : BitVec 32 := Scalar.select v59 c10_i32_44 v58
  let v62 : BitVec 32 := Scalar.select v61 c12_i32_46 v60
  let c1_i32_1088 : BitVec 32 := 1#32
  let v1173 : BitVec 32 := Scalar.muli v62 c1_i32_1088
  let v1174 : BitVec 32 := Scalar.addi c0_i32_1089 v1173
  v1174.toNat
def k0_dev25 (d0 : Dev nD) : Nat :=
  let c0_i32_1151 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c11_i32_77 : BitVec 32 := 11#32
  let c14_i32_74 : BitVec 32 := 14#32
  let v89 : BitVec 1 := Scalar.cmpi .eq v2 c14_i32_74
  let c13_i32_75 : BitVec 32 := 13#32
  let c13_i32_72 : BitVec 32 := 13#32
  let v87 : BitVec 1 := Scalar.cmpi .eq v2 c13_i32_72
  let c9_i32_73 : BitVec 32 := 9#32
  let c12_i32_70 : BitVec 32 := 12#32
  let v85 : BitVec 1 := Scalar.cmpi .eq v2 c12_i32_70
  let c15_i32_71 : BitVec 32 := 15#32
  let c11_i32_68 : BitVec 32 := 11#32
  let v83 : BitVec 1 := Scalar.cmpi .eq v2 c11_i32_68
  let c7_i32_69 : BitVec 32 := 7#32
  let c10_i32_66 : BitVec 32 := 10#32
  let v81 : BitVec 1 := Scalar.cmpi .eq v2 c10_i32_66
  let c14_i32_67 : BitVec 32 := 14#32
  let c9_i32_64 : BitVec 32 := 9#32
  let v79 : BitVec 1 := Scalar.cmpi .eq v2 c9_i32_64
  let c5_i32_65 : BitVec 32 := 5#32
  let c8_i32_62 : BitVec 32 := 8#32
  let v77 : BitVec 1 := Scalar.cmpi .eq v2 c8_i32_62
  let c12_i32_63 : BitVec 32 := 12#32
  let c7_i32_60 : BitVec 32 := 7#32
  let v75 : BitVec 1 := Scalar.cmpi .eq v2 c7_i32_60
  let c3_i32_61 : BitVec 32 := 3#32
  let c6_i32_58 : BitVec 32 := 6#32
  let v73 : BitVec 1 := Scalar.cmpi .eq v2 c6_i32_58
  let c10_i32_59 : BitVec 32 := 10#32
  let c5_i32_56 : BitVec 32 := 5#32
  let v71 : BitVec 1 := Scalar.cmpi .eq v2 c5_i32_56
  let c1_i32_57 : BitVec 32 := 1#32
  let c4_i32_54 : BitVec 32 := 4#32
  let v69 : BitVec 1 := Scalar.cmpi .eq v2 c4_i32_54
  let c8_i32_55 : BitVec 32 := 8#32
  let c3_i32_52 : BitVec 32 := 3#32
  let v67 : BitVec 1 := Scalar.cmpi .eq v2 c3_i32_52
  let c2_i32_53 : BitVec 32 := 2#32
  let c2_i32_50 : BitVec 32 := 2#32
  let v65 : BitVec 1 := Scalar.cmpi .eq v2 c2_i32_50
  let c6_i32_51 : BitVec 32 := 6#32
  let c1_i32_47 : BitVec 32 := 1#32
  let v63 : BitVec 1 := Scalar.cmpi .eq v2 c1_i32_47
  let c0_i32_48 : BitVec 32 := 0#32
  let c4_i32_49 : BitVec 32 := 4#32
  let v64 : BitVec 32 := Scalar.select v63 c0_i32_48 c4_i32_49
  let v66 : BitVec 32 := Scalar.select v65 c6_i32_51 v64
  let v68 : BitVec 32 := Scalar.select v67 c2_i32_53 v66
  let v70 : BitVec 32 := Scalar.select v69 c8_i32_55 v68
  let v72 : BitVec 32 := Scalar.select v71 c1_i32_57 v70
  let v74 : BitVec 32 := Scalar.select v73 c10_i32_59 v72
  let v76 : BitVec 32 := Scalar.select v75 c3_i32_61 v74
  let v78 : BitVec 32 := Scalar.select v77 c12_i32_63 v76
  let v80 : BitVec 32 := Scalar.select v79 c5_i32_65 v78
  let v82 : BitVec 32 := Scalar.select v81 c14_i32_67 v80
  let v84 : BitVec 32 := Scalar.select v83 c7_i32_69 v82
  let v86 : BitVec 32 := Scalar.select v85 c15_i32_71 v84
  let v88 : BitVec 32 := Scalar.select v87 c9_i32_73 v86
  let v90 : BitVec 32 := Scalar.select v89 c13_i32_75 v88
  let v92 : BitVec 32 := Scalar.select v91 c11_i32_77 v90
  let c1_i32_1150 : BitVec 32 := 1#32
  let v1238 : BitVec 32 := Scalar.muli v92 c1_i32_1150
  let v1239 : BitVec 32 := Scalar.addi c0_i32_1151 v1238
  v1239.toNat
def k0_dev26 (d0 : Dev nD) : Nat :=
  let c0_i32_1213 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c12_i32_46 : BitVec 32 := 12#32
  let c14_i32_43 : BitVec 32 := 14#32
  let v59 : BitVec 1 := Scalar.cmpi .eq v2 c14_i32_43
  let c10_i32_44 : BitVec 32 := 10#32
  let c13_i32_41 : BitVec 32 := 13#32
  let v57 : BitVec 1 := Scalar.cmpi .eq v2 c13_i32_41
  let c14_i32_42 : BitVec 32 := 14#32
  let c12_i32_39 : BitVec 32 := 12#32
  let v55 : BitVec 1 := Scalar.cmpi .eq v2 c12_i32_39
  let c8_i32_40 : BitVec 32 := 8#32
  let c11_i32_37 : BitVec 32 := 11#32
  let v53 : BitVec 1 := Scalar.cmpi .eq v2 c11_i32_37
  let c15_i32_38 : BitVec 32 := 15#32
  let c10_i32_35 : BitVec 32 := 10#32
  let v51 : BitVec 1 := Scalar.cmpi .eq v2 c10_i32_35
  let c6_i32_36 : BitVec 32 := 6#32
  let c9_i32_33 : BitVec 32 := 9#32
  let v49 : BitVec 1 := Scalar.cmpi .eq v2 c9_i32_33
  let c13_i32_34 : BitVec 32 := 13#32
  let c8_i32_31 : BitVec 32 := 8#32
  let v47 : BitVec 1 := Scalar.cmpi .eq v2 c8_i32_31
  let c4_i32_32 : BitVec 32 := 4#32
  let c7_i32_29 : BitVec 32 := 7#32
  let v45 : BitVec 1 := Scalar.cmpi .eq v2 c7_i32_29
  let c11_i32_30 : BitVec 32 := 11#32
  let c6_i32_27 : BitVec 32 := 6#32
  let v43 : BitVec 1 := Scalar.cmpi .eq v2 c6_i32_27
  let c2_i32_28 : BitVec 32 := 2#32
  let c5_i32_25 : BitVec 32 := 5#32
  let v41 : BitVec 1 := Scalar.cmpi .eq v2 c5_i32_25
  let c9_i32_26 : BitVec 32 := 9#32
  let c4_i32_23 : BitVec 32 := 4#32
  let v39 : BitVec 1 := Scalar.cmpi .eq v2 c4_i32_23
  let c0_i32_24 : BitVec 32 := 0#32
  let c3_i32_21 : BitVec 32 := 3#32
  let v37 : BitVec 1 := Scalar.cmpi .eq v2 c3_i32_21
  let c7_i32_22 : BitVec 32 := 7#32
  let c2_i32_19 : BitVec 32 := 2#32
  let v35 : BitVec 1 := Scalar.cmpi .eq v2 c2_i32_19
  let c3_i32_20 : BitVec 32 := 3#32
  let c1_i32_16 : BitVec 32 := 1#32
  let v33 : BitVec 1 := Scalar.cmpi .eq v2 c1_i32_16
  let c5_i32_17 : BitVec 32 := 5#32
  let c1_i32_18 : BitVec 32 := 1#32
  let v34 : BitVec 32 := Scalar.select v33 c5_i32_17 c1_i32_18
  let v36 : BitVec 32 := Scalar.select v35 c3_i32_20 v34
  let v38 : BitVec 32 := Scalar.select v37 c7_i32_22 v36
  let v40 : BitVec 32 := Scalar.select v39 c0_i32_24 v38
  let v42 : BitVec 32 := Scalar.select v41 c9_i32_26 v40
  let v44 : BitVec 32 := Scalar.select v43 c2_i32_28 v42
  let v46 : BitVec 32 := Scalar.select v45 c11_i32_30 v44
  let v48 : BitVec 32 := Scalar.select v47 c4_i32_32 v46
  let v50 : BitVec 32 := Scalar.select v49 c13_i32_34 v48
  let v52 : BitVec 32 := Scalar.select v51 c6_i32_36 v50
  let v54 : BitVec 32 := Scalar.select v53 c15_i32_38 v52
  let v56 : BitVec 32 := Scalar.select v55 c8_i32_40 v54
  let v58 : BitVec 32 := Scalar.select v57 c14_i32_42 v56
  let v60 : BitVec 32 := Scalar.select v59 c10_i32_44 v58
  let v62 : BitVec 32 := Scalar.select v61 c12_i32_46 v60
  let c1_i32_1212 : BitVec 32 := 1#32
  let v1303 : BitVec 32 := Scalar.muli v62 c1_i32_1212
  let v1304 : BitVec 32 := Scalar.addi c0_i32_1213 v1303
  v1304.toNat
def k0_dev27 (d0 : Dev nD) : Nat :=
  let c0_i32_1274 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c11_i32_77 : BitVec 32 := 11#32
  let c14_i32_74 : BitVec 32 := 14#32
  let v89 : BitVec 1 := Scalar.cmpi .eq v2 c14_i32_74
  let c13_i32_75 : BitVec 32 := 13#32
  let c13_i32_72 : BitVec 32 := 13#32
  let v87 : BitVec 1 := Scalar.cmpi .eq v2 c13_i32_72
  let c9_i32_73 : BitVec 32 := 9#32
  let c12_i32_70 : BitVec 32 := 12#32
  let v85 : BitVec 1 := Scalar.cmpi .eq v2 c12_i32_70
  let c15_i32_71 : BitVec 32 := 15#32
  let c11_i32_68 : BitVec 32 := 11#32
  let v83 : BitVec 1 := Scalar.cmpi .eq v2 c11_i32_68
  let c7_i32_69 : BitVec 32 := 7#32
  let c10_i32_66 : BitVec 32 := 10#32
  let v81 : BitVec 1 := Scalar.cmpi .eq v2 c10_i32_66
  let c14_i32_67 : BitVec 32 := 14#32
  let c9_i32_64 : BitVec 32 := 9#32
  let v79 : BitVec 1 := Scalar.cmpi .eq v2 c9_i32_64
  let c5_i32_65 : BitVec 32 := 5#32
  let c8_i32_62 : BitVec 32 := 8#32
  let v77 : BitVec 1 := Scalar.cmpi .eq v2 c8_i32_62
  let c12_i32_63 : BitVec 32 := 12#32
  let c7_i32_60 : BitVec 32 := 7#32
  let v75 : BitVec 1 := Scalar.cmpi .eq v2 c7_i32_60
  let c3_i32_61 : BitVec 32 := 3#32
  let c6_i32_58 : BitVec 32 := 6#32
  let v73 : BitVec 1 := Scalar.cmpi .eq v2 c6_i32_58
  let c10_i32_59 : BitVec 32 := 10#32
  let c5_i32_56 : BitVec 32 := 5#32
  let v71 : BitVec 1 := Scalar.cmpi .eq v2 c5_i32_56
  let c1_i32_57 : BitVec 32 := 1#32
  let c4_i32_54 : BitVec 32 := 4#32
  let v69 : BitVec 1 := Scalar.cmpi .eq v2 c4_i32_54
  let c8_i32_55 : BitVec 32 := 8#32
  let c3_i32_52 : BitVec 32 := 3#32
  let v67 : BitVec 1 := Scalar.cmpi .eq v2 c3_i32_52
  let c2_i32_53 : BitVec 32 := 2#32
  let c2_i32_50 : BitVec 32 := 2#32
  let v65 : BitVec 1 := Scalar.cmpi .eq v2 c2_i32_50
  let c6_i32_51 : BitVec 32 := 6#32
  let c1_i32_47 : BitVec 32 := 1#32
  let v63 : BitVec 1 := Scalar.cmpi .eq v2 c1_i32_47
  let c0_i32_48 : BitVec 32 := 0#32
  let c4_i32_49 : BitVec 32 := 4#32
  let v64 : BitVec 32 := Scalar.select v63 c0_i32_48 c4_i32_49
  let v66 : BitVec 32 := Scalar.select v65 c6_i32_51 v64
  let v68 : BitVec 32 := Scalar.select v67 c2_i32_53 v66
  let v70 : BitVec 32 := Scalar.select v69 c8_i32_55 v68
  let v72 : BitVec 32 := Scalar.select v71 c1_i32_57 v70
  let v74 : BitVec 32 := Scalar.select v73 c10_i32_59 v72
  let v76 : BitVec 32 := Scalar.select v75 c3_i32_61 v74
  let v78 : BitVec 32 := Scalar.select v77 c12_i32_63 v76
  let v80 : BitVec 32 := Scalar.select v79 c5_i32_65 v78
  let v82 : BitVec 32 := Scalar.select v81 c14_i32_67 v80
  let v84 : BitVec 32 := Scalar.select v83 c7_i32_69 v82
  let v86 : BitVec 32 := Scalar.select v85 c15_i32_71 v84
  let v88 : BitVec 32 := Scalar.select v87 c9_i32_73 v86
  let v90 : BitVec 32 := Scalar.select v89 c13_i32_75 v88
  let v92 : BitVec 32 := Scalar.select v91 c11_i32_77 v90
  let c1_i32_1273 : BitVec 32 := 1#32
  let v1368 : BitVec 32 := Scalar.muli v92 c1_i32_1273
  let v1369 : BitVec 32 := Scalar.addi c0_i32_1274 v1368
  v1369.toNat
def k0_dev28 (d0 : Dev nD) : Nat :=
  let c0_i32_1336 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c12_i32_46 : BitVec 32 := 12#32
  let c14_i32_43 : BitVec 32 := 14#32
  let v59 : BitVec 1 := Scalar.cmpi .eq v2 c14_i32_43
  let c10_i32_44 : BitVec 32 := 10#32
  let c13_i32_41 : BitVec 32 := 13#32
  let v57 : BitVec 1 := Scalar.cmpi .eq v2 c13_i32_41
  let c14_i32_42 : BitVec 32 := 14#32
  let c12_i32_39 : BitVec 32 := 12#32
  let v55 : BitVec 1 := Scalar.cmpi .eq v2 c12_i32_39
  let c8_i32_40 : BitVec 32 := 8#32
  let c11_i32_37 : BitVec 32 := 11#32
  let v53 : BitVec 1 := Scalar.cmpi .eq v2 c11_i32_37
  let c15_i32_38 : BitVec 32 := 15#32
  let c10_i32_35 : BitVec 32 := 10#32
  let v51 : BitVec 1 := Scalar.cmpi .eq v2 c10_i32_35
  let c6_i32_36 : BitVec 32 := 6#32
  let c9_i32_33 : BitVec 32 := 9#32
  let v49 : BitVec 1 := Scalar.cmpi .eq v2 c9_i32_33
  let c13_i32_34 : BitVec 32 := 13#32
  let c8_i32_31 : BitVec 32 := 8#32
  let v47 : BitVec 1 := Scalar.cmpi .eq v2 c8_i32_31
  let c4_i32_32 : BitVec 32 := 4#32
  let c7_i32_29 : BitVec 32 := 7#32
  let v45 : BitVec 1 := Scalar.cmpi .eq v2 c7_i32_29
  let c11_i32_30 : BitVec 32 := 11#32
  let c6_i32_27 : BitVec 32 := 6#32
  let v43 : BitVec 1 := Scalar.cmpi .eq v2 c6_i32_27
  let c2_i32_28 : BitVec 32 := 2#32
  let c5_i32_25 : BitVec 32 := 5#32
  let v41 : BitVec 1 := Scalar.cmpi .eq v2 c5_i32_25
  let c9_i32_26 : BitVec 32 := 9#32
  let c4_i32_23 : BitVec 32 := 4#32
  let v39 : BitVec 1 := Scalar.cmpi .eq v2 c4_i32_23
  let c0_i32_24 : BitVec 32 := 0#32
  let c3_i32_21 : BitVec 32 := 3#32
  let v37 : BitVec 1 := Scalar.cmpi .eq v2 c3_i32_21
  let c7_i32_22 : BitVec 32 := 7#32
  let c2_i32_19 : BitVec 32 := 2#32
  let v35 : BitVec 1 := Scalar.cmpi .eq v2 c2_i32_19
  let c3_i32_20 : BitVec 32 := 3#32
  let c1_i32_16 : BitVec 32 := 1#32
  let v33 : BitVec 1 := Scalar.cmpi .eq v2 c1_i32_16
  let c5_i32_17 : BitVec 32 := 5#32
  let c1_i32_18 : BitVec 32 := 1#32
  let v34 : BitVec 32 := Scalar.select v33 c5_i32_17 c1_i32_18
  let v36 : BitVec 32 := Scalar.select v35 c3_i32_20 v34
  let v38 : BitVec 32 := Scalar.select v37 c7_i32_22 v36
  let v40 : BitVec 32 := Scalar.select v39 c0_i32_24 v38
  let v42 : BitVec 32 := Scalar.select v41 c9_i32_26 v40
  let v44 : BitVec 32 := Scalar.select v43 c2_i32_28 v42
  let v46 : BitVec 32 := Scalar.select v45 c11_i32_30 v44
  let v48 : BitVec 32 := Scalar.select v47 c4_i32_32 v46
  let v50 : BitVec 32 := Scalar.select v49 c13_i32_34 v48
  let v52 : BitVec 32 := Scalar.select v51 c6_i32_36 v50
  let v54 : BitVec 32 := Scalar.select v53 c15_i32_38 v52
  let v56 : BitVec 32 := Scalar.select v55 c8_i32_40 v54
  let v58 : BitVec 32 := Scalar.select v57 c14_i32_42 v56
  let v60 : BitVec 32 := Scalar.select v59 c10_i32_44 v58
  let v62 : BitVec 32 := Scalar.select v61 c12_i32_46 v60
  let c1_i32_1335 : BitVec 32 := 1#32
  let v1433 : BitVec 32 := Scalar.muli v62 c1_i32_1335
  let v1434 : BitVec 32 := Scalar.addi c0_i32_1336 v1433
  v1434.toNat
def k0_dev29 (d0 : Dev nD) : Nat :=
  let c0_i32_1398 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c11_i32_77 : BitVec 32 := 11#32
  let c14_i32_74 : BitVec 32 := 14#32
  let v89 : BitVec 1 := Scalar.cmpi .eq v2 c14_i32_74
  let c13_i32_75 : BitVec 32 := 13#32
  let c13_i32_72 : BitVec 32 := 13#32
  let v87 : BitVec 1 := Scalar.cmpi .eq v2 c13_i32_72
  let c9_i32_73 : BitVec 32 := 9#32
  let c12_i32_70 : BitVec 32 := 12#32
  let v85 : BitVec 1 := Scalar.cmpi .eq v2 c12_i32_70
  let c15_i32_71 : BitVec 32 := 15#32
  let c11_i32_68 : BitVec 32 := 11#32
  let v83 : BitVec 1 := Scalar.cmpi .eq v2 c11_i32_68
  let c7_i32_69 : BitVec 32 := 7#32
  let c10_i32_66 : BitVec 32 := 10#32
  let v81 : BitVec 1 := Scalar.cmpi .eq v2 c10_i32_66
  let c14_i32_67 : BitVec 32 := 14#32
  let c9_i32_64 : BitVec 32 := 9#32
  let v79 : BitVec 1 := Scalar.cmpi .eq v2 c9_i32_64
  let c5_i32_65 : BitVec 32 := 5#32
  let c8_i32_62 : BitVec 32 := 8#32
  let v77 : BitVec 1 := Scalar.cmpi .eq v2 c8_i32_62
  let c12_i32_63 : BitVec 32 := 12#32
  let c7_i32_60 : BitVec 32 := 7#32
  let v75 : BitVec 1 := Scalar.cmpi .eq v2 c7_i32_60
  let c3_i32_61 : BitVec 32 := 3#32
  let c6_i32_58 : BitVec 32 := 6#32
  let v73 : BitVec 1 := Scalar.cmpi .eq v2 c6_i32_58
  let c10_i32_59 : BitVec 32 := 10#32
  let c5_i32_56 : BitVec 32 := 5#32
  let v71 : BitVec 1 := Scalar.cmpi .eq v2 c5_i32_56
  let c1_i32_57 : BitVec 32 := 1#32
  let c4_i32_54 : BitVec 32 := 4#32
  let v69 : BitVec 1 := Scalar.cmpi .eq v2 c4_i32_54
  let c8_i32_55 : BitVec 32 := 8#32
  let c3_i32_52 : BitVec 32 := 3#32
  let v67 : BitVec 1 := Scalar.cmpi .eq v2 c3_i32_52
  let c2_i32_53 : BitVec 32 := 2#32
  let c2_i32_50 : BitVec 32 := 2#32
  let v65 : BitVec 1 := Scalar.cmpi .eq v2 c2_i32_50
  let c6_i32_51 : BitVec 32 := 6#32
  let c1_i32_47 : BitVec 32 := 1#32
  let v63 : BitVec 1 := Scalar.cmpi .eq v2 c1_i32_47
  let c0_i32_48 : BitVec 32 := 0#32
  let c4_i32_49 : BitVec 32 := 4#32
  let v64 : BitVec 32 := Scalar.select v63 c0_i32_48 c4_i32_49
  let v66 : BitVec 32 := Scalar.select v65 c6_i32_51 v64
  let v68 : BitVec 32 := Scalar.select v67 c2_i32_53 v66
  let v70 : BitVec 32 := Scalar.select v69 c8_i32_55 v68
  let v72 : BitVec 32 := Scalar.select v71 c1_i32_57 v70
  let v74 : BitVec 32 := Scalar.select v73 c10_i32_59 v72
  let v76 : BitVec 32 := Scalar.select v75 c3_i32_61 v74
  let v78 : BitVec 32 := Scalar.select v77 c12_i32_63 v76
  let v80 : BitVec 32 := Scalar.select v79 c5_i32_65 v78
  let v82 : BitVec 32 := Scalar.select v81 c14_i32_67 v80
  let v84 : BitVec 32 := Scalar.select v83 c7_i32_69 v82
  let v86 : BitVec 32 := Scalar.select v85 c15_i32_71 v84
  let v88 : BitVec 32 := Scalar.select v87 c9_i32_73 v86
  let v90 : BitVec 32 := Scalar.select v89 c13_i32_75 v88
  let v92 : BitVec 32 := Scalar.select v91 c11_i32_77 v90
  let c1_i32_1397 : BitVec 32 := 1#32
  let v1498 : BitVec 32 := Scalar.muli v92 c1_i32_1397
  let v1499 : BitVec 32 := Scalar.addi c0_i32_1398 v1498
  v1499.toNat
def k0_dev30 (d0 : Dev nD) : Nat :=
  let c0_i32_1460 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c12_i32_46 : BitVec 32 := 12#32
  let c14_i32_43 : BitVec 32 := 14#32
  let v59 : BitVec 1 := Scalar.cmpi .eq v2 c14_i32_43
  let c10_i32_44 : BitVec 32 := 10#32
  let c13_i32_41 : BitVec 32 := 13#32
  let v57 : BitVec 1 := Scalar.cmpi .eq v2 c13_i32_41
  let c14_i32_42 : BitVec 32 := 14#32
  let c12_i32_39 : BitVec 32 := 12#32
  let v55 : BitVec 1 := Scalar.cmpi .eq v2 c12_i32_39
  let c8_i32_40 : BitVec 32 := 8#32
  let c11_i32_37 : BitVec 32 := 11#32
  let v53 : BitVec 1 := Scalar.cmpi .eq v2 c11_i32_37
  let c15_i32_38 : BitVec 32 := 15#32
  let c10_i32_35 : BitVec 32 := 10#32
  let v51 : BitVec 1 := Scalar.cmpi .eq v2 c10_i32_35
  let c6_i32_36 : BitVec 32 := 6#32
  let c9_i32_33 : BitVec 32 := 9#32
  let v49 : BitVec 1 := Scalar.cmpi .eq v2 c9_i32_33
  let c13_i32_34 : BitVec 32 := 13#32
  let c8_i32_31 : BitVec 32 := 8#32
  let v47 : BitVec 1 := Scalar.cmpi .eq v2 c8_i32_31
  let c4_i32_32 : BitVec 32 := 4#32
  let c7_i32_29 : BitVec 32 := 7#32
  let v45 : BitVec 1 := Scalar.cmpi .eq v2 c7_i32_29
  let c11_i32_30 : BitVec 32 := 11#32
  let c6_i32_27 : BitVec 32 := 6#32
  let v43 : BitVec 1 := Scalar.cmpi .eq v2 c6_i32_27
  let c2_i32_28 : BitVec 32 := 2#32
  let c5_i32_25 : BitVec 32 := 5#32
  let v41 : BitVec 1 := Scalar.cmpi .eq v2 c5_i32_25
  let c9_i32_26 : BitVec 32 := 9#32
  let c4_i32_23 : BitVec 32 := 4#32
  let v39 : BitVec 1 := Scalar.cmpi .eq v2 c4_i32_23
  let c0_i32_24 : BitVec 32 := 0#32
  let c3_i32_21 : BitVec 32 := 3#32
  let v37 : BitVec 1 := Scalar.cmpi .eq v2 c3_i32_21
  let c7_i32_22 : BitVec 32 := 7#32
  let c2_i32_19 : BitVec 32 := 2#32
  let v35 : BitVec 1 := Scalar.cmpi .eq v2 c2_i32_19
  let c3_i32_20 : BitVec 32 := 3#32
  let c1_i32_16 : BitVec 32 := 1#32
  let v33 : BitVec 1 := Scalar.cmpi .eq v2 c1_i32_16
  let c5_i32_17 : BitVec 32 := 5#32
  let c1_i32_18 : BitVec 32 := 1#32
  let v34 : BitVec 32 := Scalar.select v33 c5_i32_17 c1_i32_18
  let v36 : BitVec 32 := Scalar.select v35 c3_i32_20 v34
  let v38 : BitVec 32 := Scalar.select v37 c7_i32_22 v36
  let v40 : BitVec 32 := Scalar.select v39 c0_i32_24 v38
  let v42 : BitVec 32 := Scalar.select v41 c9_i32_26 v40
  let v44 : BitVec 32 := Scalar.select v43 c2_i32_28 v42
  let v46 : BitVec 32 := Scalar.select v45 c11_i32_30 v44
  let v48 : BitVec 32 := Scalar.select v47 c4_i32_32 v46
  let v50 : BitVec 32 := Scalar.select v49 c13_i32_34 v48
  let v52 : BitVec 32 := Scalar.select v51 c6_i32_36 v50
  let v54 : BitVec 32 := Scalar.select v53 c15_i32_38 v52
  let v56 : BitVec 32 := Scalar.select v55 c8_i32_40 v54
  let v58 : BitVec 32 := Scalar.select v57 c14_i32_42 v56
  let v60 : BitVec 32 := Scalar.select v59 c10_i32_44 v58
  let v62 : BitVec 32 := Scalar.select v61 c12_i32_46 v60
  let c1_i32_1459 : BitVec 32 := 1#32
  let v1563 : BitVec 32 := Scalar.muli v62 c1_i32_1459
  let v1564 : BitVec 32 := Scalar.addi c0_i32_1460 v1563
  v1564.toNat
def k0_dev31 (d0 : Dev nD) : Nat :=
  let c0_i32_1522 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c11_i32_77 : BitVec 32 := 11#32
  let c14_i32_74 : BitVec 32 := 14#32
  let v89 : BitVec 1 := Scalar.cmpi .eq v2 c14_i32_74
  let c13_i32_75 : BitVec 32 := 13#32
  let c13_i32_72 : BitVec 32 := 13#32
  let v87 : BitVec 1 := Scalar.cmpi .eq v2 c13_i32_72
  let c9_i32_73 : BitVec 32 := 9#32
  let c12_i32_70 : BitVec 32 := 12#32
  let v85 : BitVec 1 := Scalar.cmpi .eq v2 c12_i32_70
  let c15_i32_71 : BitVec 32 := 15#32
  let c11_i32_68 : BitVec 32 := 11#32
  let v83 : BitVec 1 := Scalar.cmpi .eq v2 c11_i32_68
  let c7_i32_69 : BitVec 32 := 7#32
  let c10_i32_66 : BitVec 32 := 10#32
  let v81 : BitVec 1 := Scalar.cmpi .eq v2 c10_i32_66
  let c14_i32_67 : BitVec 32 := 14#32
  let c9_i32_64 : BitVec 32 := 9#32
  let v79 : BitVec 1 := Scalar.cmpi .eq v2 c9_i32_64
  let c5_i32_65 : BitVec 32 := 5#32
  let c8_i32_62 : BitVec 32 := 8#32
  let v77 : BitVec 1 := Scalar.cmpi .eq v2 c8_i32_62
  let c12_i32_63 : BitVec 32 := 12#32
  let c7_i32_60 : BitVec 32 := 7#32
  let v75 : BitVec 1 := Scalar.cmpi .eq v2 c7_i32_60
  let c3_i32_61 : BitVec 32 := 3#32
  let c6_i32_58 : BitVec 32 := 6#32
  let v73 : BitVec 1 := Scalar.cmpi .eq v2 c6_i32_58
  let c10_i32_59 : BitVec 32 := 10#32
  let c5_i32_56 : BitVec 32 := 5#32
  let v71 : BitVec 1 := Scalar.cmpi .eq v2 c5_i32_56
  let c1_i32_57 : BitVec 32 := 1#32
  let c4_i32_54 : BitVec 32 := 4#32
  let v69 : BitVec 1 := Scalar.cmpi .eq v2 c4_i32_54
  let c8_i32_55 : BitVec 32 := 8#32
  let c3_i32_52 : BitVec 32 := 3#32
  let v67 : BitVec 1 := Scalar.cmpi .eq v2 c3_i32_52
  let c2_i32_53 : BitVec 32 := 2#32
  let c2_i32_50 : BitVec 32 := 2#32
  let v65 : BitVec 1 := Scalar.cmpi .eq v2 c2_i32_50
  let c6_i32_51 : BitVec 32 := 6#32
  let c1_i32_47 : BitVec 32 := 1#32
  let v63 : BitVec 1 := Scalar.cmpi .eq v2 c1_i32_47
  let c0_i32_48 : BitVec 32 := 0#32
  let c4_i32_49 : BitVec 32 := 4#32
  let v64 : BitVec 32 := Scalar.select v63 c0_i32_48 c4_i32_49
  let v66 : BitVec 32 := Scalar.select v65 c6_i32_51 v64
  let v68 : BitVec 32 := Scalar.select v67 c2_i32_53 v66
  let v70 : BitVec 32 := Scalar.select v69 c8_i32_55 v68
  let v72 : BitVec 32 := Scalar.select v71 c1_i32_57 v70
  let v74 : BitVec 32 := Scalar.select v73 c10_i32_59 v72
  let v76 : BitVec 32 := Scalar.select v75 c3_i32_61 v74
  let v78 : BitVec 32 := Scalar.select v77 c12_i32_63 v76
  let v80 : BitVec 32 := Scalar.select v79 c5_i32_65 v78
  let v82 : BitVec 32 := Scalar.select v81 c14_i32_67 v80
  let v84 : BitVec 32 := Scalar.select v83 c7_i32_69 v82
  let v86 : BitVec 32 := Scalar.select v85 c15_i32_71 v84
  let v88 : BitVec 32 := Scalar.select v87 c9_i32_73 v86
  let v90 : BitVec 32 := Scalar.select v89 c13_i32_75 v88
  let v92 : BitVec 32 := Scalar.select v91 c11_i32_77 v90
  let c1_i32_1521 : BitVec 32 := 1#32
  let v1628 : BitVec 32 := Scalar.muli v92 c1_i32_1521
  let v1629 : BitVec 32 := Scalar.addi c0_i32_1522 v1628
  v1629.toNat
def k0_dev32 (d0 : Dev nD) : Nat :=
  let c0_i32_1584 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c12_i32_46 : BitVec 32 := 12#32
  let c14_i32_43 : BitVec 32 := 14#32
  let v59 : BitVec 1 := Scalar.cmpi .eq v2 c14_i32_43
  let c10_i32_44 : BitVec 32 := 10#32
  let c13_i32_41 : BitVec 32 := 13#32
  let v57 : BitVec 1 := Scalar.cmpi .eq v2 c13_i32_41
  let c14_i32_42 : BitVec 32 := 14#32
  let c12_i32_39 : BitVec 32 := 12#32
  let v55 : BitVec 1 := Scalar.cmpi .eq v2 c12_i32_39
  let c8_i32_40 : BitVec 32 := 8#32
  let c11_i32_37 : BitVec 32 := 11#32
  let v53 : BitVec 1 := Scalar.cmpi .eq v2 c11_i32_37
  let c15_i32_38 : BitVec 32 := 15#32
  let c10_i32_35 : BitVec 32 := 10#32
  let v51 : BitVec 1 := Scalar.cmpi .eq v2 c10_i32_35
  let c6_i32_36 : BitVec 32 := 6#32
  let c9_i32_33 : BitVec 32 := 9#32
  let v49 : BitVec 1 := Scalar.cmpi .eq v2 c9_i32_33
  let c13_i32_34 : BitVec 32 := 13#32
  let c8_i32_31 : BitVec 32 := 8#32
  let v47 : BitVec 1 := Scalar.cmpi .eq v2 c8_i32_31
  let c4_i32_32 : BitVec 32 := 4#32
  let c7_i32_29 : BitVec 32 := 7#32
  let v45 : BitVec 1 := Scalar.cmpi .eq v2 c7_i32_29
  let c11_i32_30 : BitVec 32 := 11#32
  let c6_i32_27 : BitVec 32 := 6#32
  let v43 : BitVec 1 := Scalar.cmpi .eq v2 c6_i32_27
  let c2_i32_28 : BitVec 32 := 2#32
  let c5_i32_25 : BitVec 32 := 5#32
  let v41 : BitVec 1 := Scalar.cmpi .eq v2 c5_i32_25
  let c9_i32_26 : BitVec 32 := 9#32
  let c4_i32_23 : BitVec 32 := 4#32
  let v39 : BitVec 1 := Scalar.cmpi .eq v2 c4_i32_23
  let c0_i32_24 : BitVec 32 := 0#32
  let c3_i32_21 : BitVec 32 := 3#32
  let v37 : BitVec 1 := Scalar.cmpi .eq v2 c3_i32_21
  let c7_i32_22 : BitVec 32 := 7#32
  let c2_i32_19 : BitVec 32 := 2#32
  let v35 : BitVec 1 := Scalar.cmpi .eq v2 c2_i32_19
  let c3_i32_20 : BitVec 32 := 3#32
  let c1_i32_16 : BitVec 32 := 1#32
  let v33 : BitVec 1 := Scalar.cmpi .eq v2 c1_i32_16
  let c5_i32_17 : BitVec 32 := 5#32
  let c1_i32_18 : BitVec 32 := 1#32
  let v34 : BitVec 32 := Scalar.select v33 c5_i32_17 c1_i32_18
  let v36 : BitVec 32 := Scalar.select v35 c3_i32_20 v34
  let v38 : BitVec 32 := Scalar.select v37 c7_i32_22 v36
  let v40 : BitVec 32 := Scalar.select v39 c0_i32_24 v38
  let v42 : BitVec 32 := Scalar.select v41 c9_i32_26 v40
  let v44 : BitVec 32 := Scalar.select v43 c2_i32_28 v42
  let v46 : BitVec 32 := Scalar.select v45 c11_i32_30 v44
  let v48 : BitVec 32 := Scalar.select v47 c4_i32_32 v46
  let v50 : BitVec 32 := Scalar.select v49 c13_i32_34 v48
  let v52 : BitVec 32 := Scalar.select v51 c6_i32_36 v50
  let v54 : BitVec 32 := Scalar.select v53 c15_i32_38 v52
  let v56 : BitVec 32 := Scalar.select v55 c8_i32_40 v54
  let v58 : BitVec 32 := Scalar.select v57 c14_i32_42 v56
  let v60 : BitVec 32 := Scalar.select v59 c10_i32_44 v58
  let v62 : BitVec 32 := Scalar.select v61 c12_i32_46 v60
  let c1_i32_1583 : BitVec 32 := 1#32
  let v1693 : BitVec 32 := Scalar.muli v62 c1_i32_1583
  let v1694 : BitVec 32 := Scalar.addi c0_i32_1584 v1693
  v1694.toNat
def k0_dev33 (d0 : Dev nD) : Nat :=
  let c0_i32_1646 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c11_i32_77 : BitVec 32 := 11#32
  let c14_i32_74 : BitVec 32 := 14#32
  let v89 : BitVec 1 := Scalar.cmpi .eq v2 c14_i32_74
  let c13_i32_75 : BitVec 32 := 13#32
  let c13_i32_72 : BitVec 32 := 13#32
  let v87 : BitVec 1 := Scalar.cmpi .eq v2 c13_i32_72
  let c9_i32_73 : BitVec 32 := 9#32
  let c12_i32_70 : BitVec 32 := 12#32
  let v85 : BitVec 1 := Scalar.cmpi .eq v2 c12_i32_70
  let c15_i32_71 : BitVec 32 := 15#32
  let c11_i32_68 : BitVec 32 := 11#32
  let v83 : BitVec 1 := Scalar.cmpi .eq v2 c11_i32_68
  let c7_i32_69 : BitVec 32 := 7#32
  let c10_i32_66 : BitVec 32 := 10#32
  let v81 : BitVec 1 := Scalar.cmpi .eq v2 c10_i32_66
  let c14_i32_67 : BitVec 32 := 14#32
  let c9_i32_64 : BitVec 32 := 9#32
  let v79 : BitVec 1 := Scalar.cmpi .eq v2 c9_i32_64
  let c5_i32_65 : BitVec 32 := 5#32
  let c8_i32_62 : BitVec 32 := 8#32
  let v77 : BitVec 1 := Scalar.cmpi .eq v2 c8_i32_62
  let c12_i32_63 : BitVec 32 := 12#32
  let c7_i32_60 : BitVec 32 := 7#32
  let v75 : BitVec 1 := Scalar.cmpi .eq v2 c7_i32_60
  let c3_i32_61 : BitVec 32 := 3#32
  let c6_i32_58 : BitVec 32 := 6#32
  let v73 : BitVec 1 := Scalar.cmpi .eq v2 c6_i32_58
  let c10_i32_59 : BitVec 32 := 10#32
  let c5_i32_56 : BitVec 32 := 5#32
  let v71 : BitVec 1 := Scalar.cmpi .eq v2 c5_i32_56
  let c1_i32_57 : BitVec 32 := 1#32
  let c4_i32_54 : BitVec 32 := 4#32
  let v69 : BitVec 1 := Scalar.cmpi .eq v2 c4_i32_54
  let c8_i32_55 : BitVec 32 := 8#32
  let c3_i32_52 : BitVec 32 := 3#32
  let v67 : BitVec 1 := Scalar.cmpi .eq v2 c3_i32_52
  let c2_i32_53 : BitVec 32 := 2#32
  let c2_i32_50 : BitVec 32 := 2#32
  let v65 : BitVec 1 := Scalar.cmpi .eq v2 c2_i32_50
  let c6_i32_51 : BitVec 32 := 6#32
  let c1_i32_47 : BitVec 32 := 1#32
  let v63 : BitVec 1 := Scalar.cmpi .eq v2 c1_i32_47
  let c0_i32_48 : BitVec 32 := 0#32
  let c4_i32_49 : BitVec 32 := 4#32
  let v64 : BitVec 32 := Scalar.select v63 c0_i32_48 c4_i32_49
  let v66 : BitVec 32 := Scalar.select v65 c6_i32_51 v64
  let v68 : BitVec 32 := Scalar.select v67 c2_i32_53 v66
  let v70 : BitVec 32 := Scalar.select v69 c8_i32_55 v68
  let v72 : BitVec 32 := Scalar.select v71 c1_i32_57 v70
  let v74 : BitVec 32 := Scalar.select v73 c10_i32_59 v72
  let v76 : BitVec 32 := Scalar.select v75 c3_i32_61 v74
  let v78 : BitVec 32 := Scalar.select v77 c12_i32_63 v76
  let v80 : BitVec 32 := Scalar.select v79 c5_i32_65 v78
  let v82 : BitVec 32 := Scalar.select v81 c14_i32_67 v80
  let v84 : BitVec 32 := Scalar.select v83 c7_i32_69 v82
  let v86 : BitVec 32 := Scalar.select v85 c15_i32_71 v84
  let v88 : BitVec 32 := Scalar.select v87 c9_i32_73 v86
  let v90 : BitVec 32 := Scalar.select v89 c13_i32_75 v88
  let v92 : BitVec 32 := Scalar.select v91 c11_i32_77 v90
  let c1_i32_1645 : BitVec 32 := 1#32
  let v1758 : BitVec 32 := Scalar.muli v92 c1_i32_1645
  let v1759 : BitVec 32 := Scalar.addi c0_i32_1646 v1758
  v1759.toNat
def k0_dev34 (d0 : Dev nD) : Nat :=
  let c0_i32_1708 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c12_i32_46 : BitVec 32 := 12#32
  let c14_i32_43 : BitVec 32 := 14#32
  let v59 : BitVec 1 := Scalar.cmpi .eq v2 c14_i32_43
  let c10_i32_44 : BitVec 32 := 10#32
  let c13_i32_41 : BitVec 32 := 13#32
  let v57 : BitVec 1 := Scalar.cmpi .eq v2 c13_i32_41
  let c14_i32_42 : BitVec 32 := 14#32
  let c12_i32_39 : BitVec 32 := 12#32
  let v55 : BitVec 1 := Scalar.cmpi .eq v2 c12_i32_39
  let c8_i32_40 : BitVec 32 := 8#32
  let c11_i32_37 : BitVec 32 := 11#32
  let v53 : BitVec 1 := Scalar.cmpi .eq v2 c11_i32_37
  let c15_i32_38 : BitVec 32 := 15#32
  let c10_i32_35 : BitVec 32 := 10#32
  let v51 : BitVec 1 := Scalar.cmpi .eq v2 c10_i32_35
  let c6_i32_36 : BitVec 32 := 6#32
  let c9_i32_33 : BitVec 32 := 9#32
  let v49 : BitVec 1 := Scalar.cmpi .eq v2 c9_i32_33
  let c13_i32_34 : BitVec 32 := 13#32
  let c8_i32_31 : BitVec 32 := 8#32
  let v47 : BitVec 1 := Scalar.cmpi .eq v2 c8_i32_31
  let c4_i32_32 : BitVec 32 := 4#32
  let c7_i32_29 : BitVec 32 := 7#32
  let v45 : BitVec 1 := Scalar.cmpi .eq v2 c7_i32_29
  let c11_i32_30 : BitVec 32 := 11#32
  let c6_i32_27 : BitVec 32 := 6#32
  let v43 : BitVec 1 := Scalar.cmpi .eq v2 c6_i32_27
  let c2_i32_28 : BitVec 32 := 2#32
  let c5_i32_25 : BitVec 32 := 5#32
  let v41 : BitVec 1 := Scalar.cmpi .eq v2 c5_i32_25
  let c9_i32_26 : BitVec 32 := 9#32
  let c4_i32_23 : BitVec 32 := 4#32
  let v39 : BitVec 1 := Scalar.cmpi .eq v2 c4_i32_23
  let c0_i32_24 : BitVec 32 := 0#32
  let c3_i32_21 : BitVec 32 := 3#32
  let v37 : BitVec 1 := Scalar.cmpi .eq v2 c3_i32_21
  let c7_i32_22 : BitVec 32 := 7#32
  let c2_i32_19 : BitVec 32 := 2#32
  let v35 : BitVec 1 := Scalar.cmpi .eq v2 c2_i32_19
  let c3_i32_20 : BitVec 32 := 3#32
  let c1_i32_16 : BitVec 32 := 1#32
  let v33 : BitVec 1 := Scalar.cmpi .eq v2 c1_i32_16
  let c5_i32_17 : BitVec 32 := 5#32
  let c1_i32_18 : BitVec 32 := 1#32
  let v34 : BitVec 32 := Scalar.select v33 c5_i32_17 c1_i32_18
  let v36 : BitVec 32 := Scalar.select v35 c3_i32_20 v34
  let v38 : BitVec 32 := Scalar.select v37 c7_i32_22 v36
  let v40 : BitVec 32 := Scalar.select v39 c0_i32_24 v38
  let v42 : BitVec 32 := Scalar.select v41 c9_i32_26 v40
  let v44 : BitVec 32 := Scalar.select v43 c2_i32_28 v42
  let v46 : BitVec 32 := Scalar.select v45 c11_i32_30 v44
  let v48 : BitVec 32 := Scalar.select v47 c4_i32_32 v46
  let v50 : BitVec 32 := Scalar.select v49 c13_i32_34 v48
  let v52 : BitVec 32 := Scalar.select v51 c6_i32_36 v50
  let v54 : BitVec 32 := Scalar.select v53 c15_i32_38 v52
  let v56 : BitVec 32 := Scalar.select v55 c8_i32_40 v54
  let v58 : BitVec 32 := Scalar.select v57 c14_i32_42 v56
  let v60 : BitVec 32 := Scalar.select v59 c10_i32_44 v58
  let v62 : BitVec 32 := Scalar.select v61 c12_i32_46 v60
  let c1_i32_1707 : BitVec 32 := 1#32
  let v1823 : BitVec 32 := Scalar.muli v62 c1_i32_1707
  let v1824 : BitVec 32 := Scalar.addi c0_i32_1708 v1823
  v1824.toNat
def k0_dev35 (d0 : Dev nD) : Nat :=
  let c0_i32_1769 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c11_i32_77 : BitVec 32 := 11#32
  let c14_i32_74 : BitVec 32 := 14#32
  let v89 : BitVec 1 := Scalar.cmpi .eq v2 c14_i32_74
  let c13_i32_75 : BitVec 32 := 13#32
  let c13_i32_72 : BitVec 32 := 13#32
  let v87 : BitVec 1 := Scalar.cmpi .eq v2 c13_i32_72
  let c9_i32_73 : BitVec 32 := 9#32
  let c12_i32_70 : BitVec 32 := 12#32
  let v85 : BitVec 1 := Scalar.cmpi .eq v2 c12_i32_70
  let c15_i32_71 : BitVec 32 := 15#32
  let c11_i32_68 : BitVec 32 := 11#32
  let v83 : BitVec 1 := Scalar.cmpi .eq v2 c11_i32_68
  let c7_i32_69 : BitVec 32 := 7#32
  let c10_i32_66 : BitVec 32 := 10#32
  let v81 : BitVec 1 := Scalar.cmpi .eq v2 c10_i32_66
  let c14_i32_67 : BitVec 32 := 14#32
  let c9_i32_64 : BitVec 32 := 9#32
  let v79 : BitVec 1 := Scalar.cmpi .eq v2 c9_i32_64
  let c5_i32_65 : BitVec 32 := 5#32
  let c8_i32_62 : BitVec 32 := 8#32
  let v77 : BitVec 1 := Scalar.cmpi .eq v2 c8_i32_62
  let c12_i32_63 : BitVec 32 := 12#32
  let c7_i32_60 : BitVec 32 := 7#32
  let v75 : BitVec 1 := Scalar.cmpi .eq v2 c7_i32_60
  let c3_i32_61 : BitVec 32 := 3#32
  let c6_i32_58 : BitVec 32 := 6#32
  let v73 : BitVec 1 := Scalar.cmpi .eq v2 c6_i32_58
  let c10_i32_59 : BitVec 32 := 10#32
  let c5_i32_56 : BitVec 32 := 5#32
  let v71 : BitVec 1 := Scalar.cmpi .eq v2 c5_i32_56
  let c1_i32_57 : BitVec 32 := 1#32
  let c4_i32_54 : BitVec 32 := 4#32
  let v69 : BitVec 1 := Scalar.cmpi .eq v2 c4_i32_54
  let c8_i32_55 : BitVec 32 := 8#32
  let c3_i32_52 : BitVec 32 := 3#32
  let v67 : BitVec 1 := Scalar.cmpi .eq v2 c3_i32_52
  let c2_i32_53 : BitVec 32 := 2#32
  let c2_i32_50 : BitVec 32 := 2#32
  let v65 : BitVec 1 := Scalar.cmpi .eq v2 c2_i32_50
  let c6_i32_51 : BitVec 32 := 6#32
  let c1_i32_47 : BitVec 32 := 1#32
  let v63 : BitVec 1 := Scalar.cmpi .eq v2 c1_i32_47
  let c0_i32_48 : BitVec 32 := 0#32
  let c4_i32_49 : BitVec 32 := 4#32
  let v64 : BitVec 32 := Scalar.select v63 c0_i32_48 c4_i32_49
  let v66 : BitVec 32 := Scalar.select v65 c6_i32_51 v64
  let v68 : BitVec 32 := Scalar.select v67 c2_i32_53 v66
  let v70 : BitVec 32 := Scalar.select v69 c8_i32_55 v68
  let v72 : BitVec 32 := Scalar.select v71 c1_i32_57 v70
  let v74 : BitVec 32 := Scalar.select v73 c10_i32_59 v72
  let v76 : BitVec 32 := Scalar.select v75 c3_i32_61 v74
  let v78 : BitVec 32 := Scalar.select v77 c12_i32_63 v76
  let v80 : BitVec 32 := Scalar.select v79 c5_i32_65 v78
  let v82 : BitVec 32 := Scalar.select v81 c14_i32_67 v80
  let v84 : BitVec 32 := Scalar.select v83 c7_i32_69 v82
  let v86 : BitVec 32 := Scalar.select v85 c15_i32_71 v84
  let v88 : BitVec 32 := Scalar.select v87 c9_i32_73 v86
  let v90 : BitVec 32 := Scalar.select v89 c13_i32_75 v88
  let v92 : BitVec 32 := Scalar.select v91 c11_i32_77 v90
  let c1_i32_1768 : BitVec 32 := 1#32
  let v1888 : BitVec 32 := Scalar.muli v92 c1_i32_1768
  let v1889 : BitVec 32 := Scalar.addi c0_i32_1769 v1888
  v1889.toNat
def k0_dev36 (d0 : Dev nD) : Nat :=
  let c0_i32_1831 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c12_i32_46 : BitVec 32 := 12#32
  let c14_i32_43 : BitVec 32 := 14#32
  let v59 : BitVec 1 := Scalar.cmpi .eq v2 c14_i32_43
  let c10_i32_44 : BitVec 32 := 10#32
  let c13_i32_41 : BitVec 32 := 13#32
  let v57 : BitVec 1 := Scalar.cmpi .eq v2 c13_i32_41
  let c14_i32_42 : BitVec 32 := 14#32
  let c12_i32_39 : BitVec 32 := 12#32
  let v55 : BitVec 1 := Scalar.cmpi .eq v2 c12_i32_39
  let c8_i32_40 : BitVec 32 := 8#32
  let c11_i32_37 : BitVec 32 := 11#32
  let v53 : BitVec 1 := Scalar.cmpi .eq v2 c11_i32_37
  let c15_i32_38 : BitVec 32 := 15#32
  let c10_i32_35 : BitVec 32 := 10#32
  let v51 : BitVec 1 := Scalar.cmpi .eq v2 c10_i32_35
  let c6_i32_36 : BitVec 32 := 6#32
  let c9_i32_33 : BitVec 32 := 9#32
  let v49 : BitVec 1 := Scalar.cmpi .eq v2 c9_i32_33
  let c13_i32_34 : BitVec 32 := 13#32
  let c8_i32_31 : BitVec 32 := 8#32
  let v47 : BitVec 1 := Scalar.cmpi .eq v2 c8_i32_31
  let c4_i32_32 : BitVec 32 := 4#32
  let c7_i32_29 : BitVec 32 := 7#32
  let v45 : BitVec 1 := Scalar.cmpi .eq v2 c7_i32_29
  let c11_i32_30 : BitVec 32 := 11#32
  let c6_i32_27 : BitVec 32 := 6#32
  let v43 : BitVec 1 := Scalar.cmpi .eq v2 c6_i32_27
  let c2_i32_28 : BitVec 32 := 2#32
  let c5_i32_25 : BitVec 32 := 5#32
  let v41 : BitVec 1 := Scalar.cmpi .eq v2 c5_i32_25
  let c9_i32_26 : BitVec 32 := 9#32
  let c4_i32_23 : BitVec 32 := 4#32
  let v39 : BitVec 1 := Scalar.cmpi .eq v2 c4_i32_23
  let c0_i32_24 : BitVec 32 := 0#32
  let c3_i32_21 : BitVec 32 := 3#32
  let v37 : BitVec 1 := Scalar.cmpi .eq v2 c3_i32_21
  let c7_i32_22 : BitVec 32 := 7#32
  let c2_i32_19 : BitVec 32 := 2#32
  let v35 : BitVec 1 := Scalar.cmpi .eq v2 c2_i32_19
  let c3_i32_20 : BitVec 32 := 3#32
  let c1_i32_16 : BitVec 32 := 1#32
  let v33 : BitVec 1 := Scalar.cmpi .eq v2 c1_i32_16
  let c5_i32_17 : BitVec 32 := 5#32
  let c1_i32_18 : BitVec 32 := 1#32
  let v34 : BitVec 32 := Scalar.select v33 c5_i32_17 c1_i32_18
  let v36 : BitVec 32 := Scalar.select v35 c3_i32_20 v34
  let v38 : BitVec 32 := Scalar.select v37 c7_i32_22 v36
  let v40 : BitVec 32 := Scalar.select v39 c0_i32_24 v38
  let v42 : BitVec 32 := Scalar.select v41 c9_i32_26 v40
  let v44 : BitVec 32 := Scalar.select v43 c2_i32_28 v42
  let v46 : BitVec 32 := Scalar.select v45 c11_i32_30 v44
  let v48 : BitVec 32 := Scalar.select v47 c4_i32_32 v46
  let v50 : BitVec 32 := Scalar.select v49 c13_i32_34 v48
  let v52 : BitVec 32 := Scalar.select v51 c6_i32_36 v50
  let v54 : BitVec 32 := Scalar.select v53 c15_i32_38 v52
  let v56 : BitVec 32 := Scalar.select v55 c8_i32_40 v54
  let v58 : BitVec 32 := Scalar.select v57 c14_i32_42 v56
  let v60 : BitVec 32 := Scalar.select v59 c10_i32_44 v58
  let v62 : BitVec 32 := Scalar.select v61 c12_i32_46 v60
  let c1_i32_1830 : BitVec 32 := 1#32
  let v1953 : BitVec 32 := Scalar.muli v62 c1_i32_1830
  let v1954 : BitVec 32 := Scalar.addi c0_i32_1831 v1953
  v1954.toNat
def k0_dev37 (d0 : Dev nD) : Nat :=
  let c0_i32_1893 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c11_i32_77 : BitVec 32 := 11#32
  let c14_i32_74 : BitVec 32 := 14#32
  let v89 : BitVec 1 := Scalar.cmpi .eq v2 c14_i32_74
  let c13_i32_75 : BitVec 32 := 13#32
  let c13_i32_72 : BitVec 32 := 13#32
  let v87 : BitVec 1 := Scalar.cmpi .eq v2 c13_i32_72
  let c9_i32_73 : BitVec 32 := 9#32
  let c12_i32_70 : BitVec 32 := 12#32
  let v85 : BitVec 1 := Scalar.cmpi .eq v2 c12_i32_70
  let c15_i32_71 : BitVec 32 := 15#32
  let c11_i32_68 : BitVec 32 := 11#32
  let v83 : BitVec 1 := Scalar.cmpi .eq v2 c11_i32_68
  let c7_i32_69 : BitVec 32 := 7#32
  let c10_i32_66 : BitVec 32 := 10#32
  let v81 : BitVec 1 := Scalar.cmpi .eq v2 c10_i32_66
  let c14_i32_67 : BitVec 32 := 14#32
  let c9_i32_64 : BitVec 32 := 9#32
  let v79 : BitVec 1 := Scalar.cmpi .eq v2 c9_i32_64
  let c5_i32_65 : BitVec 32 := 5#32
  let c8_i32_62 : BitVec 32 := 8#32
  let v77 : BitVec 1 := Scalar.cmpi .eq v2 c8_i32_62
  let c12_i32_63 : BitVec 32 := 12#32
  let c7_i32_60 : BitVec 32 := 7#32
  let v75 : BitVec 1 := Scalar.cmpi .eq v2 c7_i32_60
  let c3_i32_61 : BitVec 32 := 3#32
  let c6_i32_58 : BitVec 32 := 6#32
  let v73 : BitVec 1 := Scalar.cmpi .eq v2 c6_i32_58
  let c10_i32_59 : BitVec 32 := 10#32
  let c5_i32_56 : BitVec 32 := 5#32
  let v71 : BitVec 1 := Scalar.cmpi .eq v2 c5_i32_56
  let c1_i32_57 : BitVec 32 := 1#32
  let c4_i32_54 : BitVec 32 := 4#32
  let v69 : BitVec 1 := Scalar.cmpi .eq v2 c4_i32_54
  let c8_i32_55 : BitVec 32 := 8#32
  let c3_i32_52 : BitVec 32 := 3#32
  let v67 : BitVec 1 := Scalar.cmpi .eq v2 c3_i32_52
  let c2_i32_53 : BitVec 32 := 2#32
  let c2_i32_50 : BitVec 32 := 2#32
  let v65 : BitVec 1 := Scalar.cmpi .eq v2 c2_i32_50
  let c6_i32_51 : BitVec 32 := 6#32
  let c1_i32_47 : BitVec 32 := 1#32
  let v63 : BitVec 1 := Scalar.cmpi .eq v2 c1_i32_47
  let c0_i32_48 : BitVec 32 := 0#32
  let c4_i32_49 : BitVec 32 := 4#32
  let v64 : BitVec 32 := Scalar.select v63 c0_i32_48 c4_i32_49
  let v66 : BitVec 32 := Scalar.select v65 c6_i32_51 v64
  let v68 : BitVec 32 := Scalar.select v67 c2_i32_53 v66
  let v70 : BitVec 32 := Scalar.select v69 c8_i32_55 v68
  let v72 : BitVec 32 := Scalar.select v71 c1_i32_57 v70
  let v74 : BitVec 32 := Scalar.select v73 c10_i32_59 v72
  let v76 : BitVec 32 := Scalar.select v75 c3_i32_61 v74
  let v78 : BitVec 32 := Scalar.select v77 c12_i32_63 v76
  let v80 : BitVec 32 := Scalar.select v79 c5_i32_65 v78
  let v82 : BitVec 32 := Scalar.select v81 c14_i32_67 v80
  let v84 : BitVec 32 := Scalar.select v83 c7_i32_69 v82
  let v86 : BitVec 32 := Scalar.select v85 c15_i32_71 v84
  let v88 : BitVec 32 := Scalar.select v87 c9_i32_73 v86
  let v90 : BitVec 32 := Scalar.select v89 c13_i32_75 v88
  let v92 : BitVec 32 := Scalar.select v91 c11_i32_77 v90
  let c1_i32_1892 : BitVec 32 := 1#32
  let v2018 : BitVec 32 := Scalar.muli v92 c1_i32_1892
  let v2019 : BitVec 32 := Scalar.addi c0_i32_1893 v2018
  v2019.toNat
def k0_dev38 (d0 : Dev nD) : Nat :=
  let c0_i32_1955 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c12_i32_46 : BitVec 32 := 12#32
  let c14_i32_43 : BitVec 32 := 14#32
  let v59 : BitVec 1 := Scalar.cmpi .eq v2 c14_i32_43
  let c10_i32_44 : BitVec 32 := 10#32
  let c13_i32_41 : BitVec 32 := 13#32
  let v57 : BitVec 1 := Scalar.cmpi .eq v2 c13_i32_41
  let c14_i32_42 : BitVec 32 := 14#32
  let c12_i32_39 : BitVec 32 := 12#32
  let v55 : BitVec 1 := Scalar.cmpi .eq v2 c12_i32_39
  let c8_i32_40 : BitVec 32 := 8#32
  let c11_i32_37 : BitVec 32 := 11#32
  let v53 : BitVec 1 := Scalar.cmpi .eq v2 c11_i32_37
  let c15_i32_38 : BitVec 32 := 15#32
  let c10_i32_35 : BitVec 32 := 10#32
  let v51 : BitVec 1 := Scalar.cmpi .eq v2 c10_i32_35
  let c6_i32_36 : BitVec 32 := 6#32
  let c9_i32_33 : BitVec 32 := 9#32
  let v49 : BitVec 1 := Scalar.cmpi .eq v2 c9_i32_33
  let c13_i32_34 : BitVec 32 := 13#32
  let c8_i32_31 : BitVec 32 := 8#32
  let v47 : BitVec 1 := Scalar.cmpi .eq v2 c8_i32_31
  let c4_i32_32 : BitVec 32 := 4#32
  let c7_i32_29 : BitVec 32 := 7#32
  let v45 : BitVec 1 := Scalar.cmpi .eq v2 c7_i32_29
  let c11_i32_30 : BitVec 32 := 11#32
  let c6_i32_27 : BitVec 32 := 6#32
  let v43 : BitVec 1 := Scalar.cmpi .eq v2 c6_i32_27
  let c2_i32_28 : BitVec 32 := 2#32
  let c5_i32_25 : BitVec 32 := 5#32
  let v41 : BitVec 1 := Scalar.cmpi .eq v2 c5_i32_25
  let c9_i32_26 : BitVec 32 := 9#32
  let c4_i32_23 : BitVec 32 := 4#32
  let v39 : BitVec 1 := Scalar.cmpi .eq v2 c4_i32_23
  let c0_i32_24 : BitVec 32 := 0#32
  let c3_i32_21 : BitVec 32 := 3#32
  let v37 : BitVec 1 := Scalar.cmpi .eq v2 c3_i32_21
  let c7_i32_22 : BitVec 32 := 7#32
  let c2_i32_19 : BitVec 32 := 2#32
  let v35 : BitVec 1 := Scalar.cmpi .eq v2 c2_i32_19
  let c3_i32_20 : BitVec 32 := 3#32
  let c1_i32_16 : BitVec 32 := 1#32
  let v33 : BitVec 1 := Scalar.cmpi .eq v2 c1_i32_16
  let c5_i32_17 : BitVec 32 := 5#32
  let c1_i32_18 : BitVec 32 := 1#32
  let v34 : BitVec 32 := Scalar.select v33 c5_i32_17 c1_i32_18
  let v36 : BitVec 32 := Scalar.select v35 c3_i32_20 v34
  let v38 : BitVec 32 := Scalar.select v37 c7_i32_22 v36
  let v40 : BitVec 32 := Scalar.select v39 c0_i32_24 v38
  let v42 : BitVec 32 := Scalar.select v41 c9_i32_26 v40
  let v44 : BitVec 32 := Scalar.select v43 c2_i32_28 v42
  let v46 : BitVec 32 := Scalar.select v45 c11_i32_30 v44
  let v48 : BitVec 32 := Scalar.select v47 c4_i32_32 v46
  let v50 : BitVec 32 := Scalar.select v49 c13_i32_34 v48
  let v52 : BitVec 32 := Scalar.select v51 c6_i32_36 v50
  let v54 : BitVec 32 := Scalar.select v53 c15_i32_38 v52
  let v56 : BitVec 32 := Scalar.select v55 c8_i32_40 v54
  let v58 : BitVec 32 := Scalar.select v57 c14_i32_42 v56
  let v60 : BitVec 32 := Scalar.select v59 c10_i32_44 v58
  let v62 : BitVec 32 := Scalar.select v61 c12_i32_46 v60
  let c1_i32_1954 : BitVec 32 := 1#32
  let v2083 : BitVec 32 := Scalar.muli v62 c1_i32_1954
  let v2084 : BitVec 32 := Scalar.addi c0_i32_1955 v2083
  v2084.toNat
def k0_dev39 (d0 : Dev nD) : Nat :=
  let c0_i32_2017 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c11_i32_77 : BitVec 32 := 11#32
  let c14_i32_74 : BitVec 32 := 14#32
  let v89 : BitVec 1 := Scalar.cmpi .eq v2 c14_i32_74
  let c13_i32_75 : BitVec 32 := 13#32
  let c13_i32_72 : BitVec 32 := 13#32
  let v87 : BitVec 1 := Scalar.cmpi .eq v2 c13_i32_72
  let c9_i32_73 : BitVec 32 := 9#32
  let c12_i32_70 : BitVec 32 := 12#32
  let v85 : BitVec 1 := Scalar.cmpi .eq v2 c12_i32_70
  let c15_i32_71 : BitVec 32 := 15#32
  let c11_i32_68 : BitVec 32 := 11#32
  let v83 : BitVec 1 := Scalar.cmpi .eq v2 c11_i32_68
  let c7_i32_69 : BitVec 32 := 7#32
  let c10_i32_66 : BitVec 32 := 10#32
  let v81 : BitVec 1 := Scalar.cmpi .eq v2 c10_i32_66
  let c14_i32_67 : BitVec 32 := 14#32
  let c9_i32_64 : BitVec 32 := 9#32
  let v79 : BitVec 1 := Scalar.cmpi .eq v2 c9_i32_64
  let c5_i32_65 : BitVec 32 := 5#32
  let c8_i32_62 : BitVec 32 := 8#32
  let v77 : BitVec 1 := Scalar.cmpi .eq v2 c8_i32_62
  let c12_i32_63 : BitVec 32 := 12#32
  let c7_i32_60 : BitVec 32 := 7#32
  let v75 : BitVec 1 := Scalar.cmpi .eq v2 c7_i32_60
  let c3_i32_61 : BitVec 32 := 3#32
  let c6_i32_58 : BitVec 32 := 6#32
  let v73 : BitVec 1 := Scalar.cmpi .eq v2 c6_i32_58
  let c10_i32_59 : BitVec 32 := 10#32
  let c5_i32_56 : BitVec 32 := 5#32
  let v71 : BitVec 1 := Scalar.cmpi .eq v2 c5_i32_56
  let c1_i32_57 : BitVec 32 := 1#32
  let c4_i32_54 : BitVec 32 := 4#32
  let v69 : BitVec 1 := Scalar.cmpi .eq v2 c4_i32_54
  let c8_i32_55 : BitVec 32 := 8#32
  let c3_i32_52 : BitVec 32 := 3#32
  let v67 : BitVec 1 := Scalar.cmpi .eq v2 c3_i32_52
  let c2_i32_53 : BitVec 32 := 2#32
  let c2_i32_50 : BitVec 32 := 2#32
  let v65 : BitVec 1 := Scalar.cmpi .eq v2 c2_i32_50
  let c6_i32_51 : BitVec 32 := 6#32
  let c1_i32_47 : BitVec 32 := 1#32
  let v63 : BitVec 1 := Scalar.cmpi .eq v2 c1_i32_47
  let c0_i32_48 : BitVec 32 := 0#32
  let c4_i32_49 : BitVec 32 := 4#32
  let v64 : BitVec 32 := Scalar.select v63 c0_i32_48 c4_i32_49
  let v66 : BitVec 32 := Scalar.select v65 c6_i32_51 v64
  let v68 : BitVec 32 := Scalar.select v67 c2_i32_53 v66
  let v70 : BitVec 32 := Scalar.select v69 c8_i32_55 v68
  let v72 : BitVec 32 := Scalar.select v71 c1_i32_57 v70
  let v74 : BitVec 32 := Scalar.select v73 c10_i32_59 v72
  let v76 : BitVec 32 := Scalar.select v75 c3_i32_61 v74
  let v78 : BitVec 32 := Scalar.select v77 c12_i32_63 v76
  let v80 : BitVec 32 := Scalar.select v79 c5_i32_65 v78
  let v82 : BitVec 32 := Scalar.select v81 c14_i32_67 v80
  let v84 : BitVec 32 := Scalar.select v83 c7_i32_69 v82
  let v86 : BitVec 32 := Scalar.select v85 c15_i32_71 v84
  let v88 : BitVec 32 := Scalar.select v87 c9_i32_73 v86
  let v90 : BitVec 32 := Scalar.select v89 c13_i32_75 v88
  let v92 : BitVec 32 := Scalar.select v91 c11_i32_77 v90
  let c1_i32_2016 : BitVec 32 := 1#32
  let v2148 : BitVec 32 := Scalar.muli v92 c1_i32_2016
  let v2149 : BitVec 32 := Scalar.addi c0_i32_2017 v2148
  v2149.toNat
def k0_dev40 (d0 : Dev nD) : Nat :=
  let c0_i32_2079 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c12_i32_46 : BitVec 32 := 12#32
  let c14_i32_43 : BitVec 32 := 14#32
  let v59 : BitVec 1 := Scalar.cmpi .eq v2 c14_i32_43
  let c10_i32_44 : BitVec 32 := 10#32
  let c13_i32_41 : BitVec 32 := 13#32
  let v57 : BitVec 1 := Scalar.cmpi .eq v2 c13_i32_41
  let c14_i32_42 : BitVec 32 := 14#32
  let c12_i32_39 : BitVec 32 := 12#32
  let v55 : BitVec 1 := Scalar.cmpi .eq v2 c12_i32_39
  let c8_i32_40 : BitVec 32 := 8#32
  let c11_i32_37 : BitVec 32 := 11#32
  let v53 : BitVec 1 := Scalar.cmpi .eq v2 c11_i32_37
  let c15_i32_38 : BitVec 32 := 15#32
  let c10_i32_35 : BitVec 32 := 10#32
  let v51 : BitVec 1 := Scalar.cmpi .eq v2 c10_i32_35
  let c6_i32_36 : BitVec 32 := 6#32
  let c9_i32_33 : BitVec 32 := 9#32
  let v49 : BitVec 1 := Scalar.cmpi .eq v2 c9_i32_33
  let c13_i32_34 : BitVec 32 := 13#32
  let c8_i32_31 : BitVec 32 := 8#32
  let v47 : BitVec 1 := Scalar.cmpi .eq v2 c8_i32_31
  let c4_i32_32 : BitVec 32 := 4#32
  let c7_i32_29 : BitVec 32 := 7#32
  let v45 : BitVec 1 := Scalar.cmpi .eq v2 c7_i32_29
  let c11_i32_30 : BitVec 32 := 11#32
  let c6_i32_27 : BitVec 32 := 6#32
  let v43 : BitVec 1 := Scalar.cmpi .eq v2 c6_i32_27
  let c2_i32_28 : BitVec 32 := 2#32
  let c5_i32_25 : BitVec 32 := 5#32
  let v41 : BitVec 1 := Scalar.cmpi .eq v2 c5_i32_25
  let c9_i32_26 : BitVec 32 := 9#32
  let c4_i32_23 : BitVec 32 := 4#32
  let v39 : BitVec 1 := Scalar.cmpi .eq v2 c4_i32_23
  let c0_i32_24 : BitVec 32 := 0#32
  let c3_i32_21 : BitVec 32 := 3#32
  let v37 : BitVec 1 := Scalar.cmpi .eq v2 c3_i32_21
  let c7_i32_22 : BitVec 32 := 7#32
  let c2_i32_19 : BitVec 32 := 2#32
  let v35 : BitVec 1 := Scalar.cmpi .eq v2 c2_i32_19
  let c3_i32_20 : BitVec 32 := 3#32
  let c1_i32_16 : BitVec 32 := 1#32
  let v33 : BitVec 1 := Scalar.cmpi .eq v2 c1_i32_16
  let c5_i32_17 : BitVec 32 := 5#32
  let c1_i32_18 : BitVec 32 := 1#32
  let v34 : BitVec 32 := Scalar.select v33 c5_i32_17 c1_i32_18
  let v36 : BitVec 32 := Scalar.select v35 c3_i32_20 v34
  let v38 : BitVec 32 := Scalar.select v37 c7_i32_22 v36
  let v40 : BitVec 32 := Scalar.select v39 c0_i32_24 v38
  let v42 : BitVec 32 := Scalar.select v41 c9_i32_26 v40
  let v44 : BitVec 32 := Scalar.select v43 c2_i32_28 v42
  let v46 : BitVec 32 := Scalar.select v45 c11_i32_30 v44
  let v48 : BitVec 32 := Scalar.select v47 c4_i32_32 v46
  let v50 : BitVec 32 := Scalar.select v49 c13_i32_34 v48
  let v52 : BitVec 32 := Scalar.select v51 c6_i32_36 v50
  let v54 : BitVec 32 := Scalar.select v53 c15_i32_38 v52
  let v56 : BitVec 32 := Scalar.select v55 c8_i32_40 v54
  let v58 : BitVec 32 := Scalar.select v57 c14_i32_42 v56
  let v60 : BitVec 32 := Scalar.select v59 c10_i32_44 v58
  let v62 : BitVec 32 := Scalar.select v61 c12_i32_46 v60
  let c1_i32_2078 : BitVec 32 := 1#32
  let v2213 : BitVec 32 := Scalar.muli v62 c1_i32_2078
  let v2214 : BitVec 32 := Scalar.addi c0_i32_2079 v2213
  v2214.toNat
def k0_dev41 (d0 : Dev nD) : Nat :=
  let c0_i32_2141 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c11_i32_77 : BitVec 32 := 11#32
  let c14_i32_74 : BitVec 32 := 14#32
  let v89 : BitVec 1 := Scalar.cmpi .eq v2 c14_i32_74
  let c13_i32_75 : BitVec 32 := 13#32
  let c13_i32_72 : BitVec 32 := 13#32
  let v87 : BitVec 1 := Scalar.cmpi .eq v2 c13_i32_72
  let c9_i32_73 : BitVec 32 := 9#32
  let c12_i32_70 : BitVec 32 := 12#32
  let v85 : BitVec 1 := Scalar.cmpi .eq v2 c12_i32_70
  let c15_i32_71 : BitVec 32 := 15#32
  let c11_i32_68 : BitVec 32 := 11#32
  let v83 : BitVec 1 := Scalar.cmpi .eq v2 c11_i32_68
  let c7_i32_69 : BitVec 32 := 7#32
  let c10_i32_66 : BitVec 32 := 10#32
  let v81 : BitVec 1 := Scalar.cmpi .eq v2 c10_i32_66
  let c14_i32_67 : BitVec 32 := 14#32
  let c9_i32_64 : BitVec 32 := 9#32
  let v79 : BitVec 1 := Scalar.cmpi .eq v2 c9_i32_64
  let c5_i32_65 : BitVec 32 := 5#32
  let c8_i32_62 : BitVec 32 := 8#32
  let v77 : BitVec 1 := Scalar.cmpi .eq v2 c8_i32_62
  let c12_i32_63 : BitVec 32 := 12#32
  let c7_i32_60 : BitVec 32 := 7#32
  let v75 : BitVec 1 := Scalar.cmpi .eq v2 c7_i32_60
  let c3_i32_61 : BitVec 32 := 3#32
  let c6_i32_58 : BitVec 32 := 6#32
  let v73 : BitVec 1 := Scalar.cmpi .eq v2 c6_i32_58
  let c10_i32_59 : BitVec 32 := 10#32
  let c5_i32_56 : BitVec 32 := 5#32
  let v71 : BitVec 1 := Scalar.cmpi .eq v2 c5_i32_56
  let c1_i32_57 : BitVec 32 := 1#32
  let c4_i32_54 : BitVec 32 := 4#32
  let v69 : BitVec 1 := Scalar.cmpi .eq v2 c4_i32_54
  let c8_i32_55 : BitVec 32 := 8#32
  let c3_i32_52 : BitVec 32 := 3#32
  let v67 : BitVec 1 := Scalar.cmpi .eq v2 c3_i32_52
  let c2_i32_53 : BitVec 32 := 2#32
  let c2_i32_50 : BitVec 32 := 2#32
  let v65 : BitVec 1 := Scalar.cmpi .eq v2 c2_i32_50
  let c6_i32_51 : BitVec 32 := 6#32
  let c1_i32_47 : BitVec 32 := 1#32
  let v63 : BitVec 1 := Scalar.cmpi .eq v2 c1_i32_47
  let c0_i32_48 : BitVec 32 := 0#32
  let c4_i32_49 : BitVec 32 := 4#32
  let v64 : BitVec 32 := Scalar.select v63 c0_i32_48 c4_i32_49
  let v66 : BitVec 32 := Scalar.select v65 c6_i32_51 v64
  let v68 : BitVec 32 := Scalar.select v67 c2_i32_53 v66
  let v70 : BitVec 32 := Scalar.select v69 c8_i32_55 v68
  let v72 : BitVec 32 := Scalar.select v71 c1_i32_57 v70
  let v74 : BitVec 32 := Scalar.select v73 c10_i32_59 v72
  let v76 : BitVec 32 := Scalar.select v75 c3_i32_61 v74
  let v78 : BitVec 32 := Scalar.select v77 c12_i32_63 v76
  let v80 : BitVec 32 := Scalar.select v79 c5_i32_65 v78
  let v82 : BitVec 32 := Scalar.select v81 c14_i32_67 v80
  let v84 : BitVec 32 := Scalar.select v83 c7_i32_69 v82
  let v86 : BitVec 32 := Scalar.select v85 c15_i32_71 v84
  let v88 : BitVec 32 := Scalar.select v87 c9_i32_73 v86
  let v90 : BitVec 32 := Scalar.select v89 c13_i32_75 v88
  let v92 : BitVec 32 := Scalar.select v91 c11_i32_77 v90
  let c1_i32_2140 : BitVec 32 := 1#32
  let v2278 : BitVec 32 := Scalar.muli v92 c1_i32_2140
  let v2279 : BitVec 32 := Scalar.addi c0_i32_2141 v2278
  v2279.toNat
def k0_dev42 (d0 : Dev nD) : Nat :=
  let c0_i32_2203 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c12_i32_46 : BitVec 32 := 12#32
  let c14_i32_43 : BitVec 32 := 14#32
  let v59 : BitVec 1 := Scalar.cmpi .eq v2 c14_i32_43
  let c10_i32_44 : BitVec 32 := 10#32
  let c13_i32_41 : BitVec 32 := 13#32
  let v57 : BitVec 1 := Scalar.cmpi .eq v2 c13_i32_41
  let c14_i32_42 : BitVec 32 := 14#32
  let c12_i32_39 : BitVec 32 := 12#32
  let v55 : BitVec 1 := Scalar.cmpi .eq v2 c12_i32_39
  let c8_i32_40 : BitVec 32 := 8#32
  let c11_i32_37 : BitVec 32 := 11#32
  let v53 : BitVec 1 := Scalar.cmpi .eq v2 c11_i32_37
  let c15_i32_38 : BitVec 32 := 15#32
  let c10_i32_35 : BitVec 32 := 10#32
  let v51 : BitVec 1 := Scalar.cmpi .eq v2 c10_i32_35
  let c6_i32_36 : BitVec 32 := 6#32
  let c9_i32_33 : BitVec 32 := 9#32
  let v49 : BitVec 1 := Scalar.cmpi .eq v2 c9_i32_33
  let c13_i32_34 : BitVec 32 := 13#32
  let c8_i32_31 : BitVec 32 := 8#32
  let v47 : BitVec 1 := Scalar.cmpi .eq v2 c8_i32_31
  let c4_i32_32 : BitVec 32 := 4#32
  let c7_i32_29 : BitVec 32 := 7#32
  let v45 : BitVec 1 := Scalar.cmpi .eq v2 c7_i32_29
  let c11_i32_30 : BitVec 32 := 11#32
  let c6_i32_27 : BitVec 32 := 6#32
  let v43 : BitVec 1 := Scalar.cmpi .eq v2 c6_i32_27
  let c2_i32_28 : BitVec 32 := 2#32
  let c5_i32_25 : BitVec 32 := 5#32
  let v41 : BitVec 1 := Scalar.cmpi .eq v2 c5_i32_25
  let c9_i32_26 : BitVec 32 := 9#32
  let c4_i32_23 : BitVec 32 := 4#32
  let v39 : BitVec 1 := Scalar.cmpi .eq v2 c4_i32_23
  let c0_i32_24 : BitVec 32 := 0#32
  let c3_i32_21 : BitVec 32 := 3#32
  let v37 : BitVec 1 := Scalar.cmpi .eq v2 c3_i32_21
  let c7_i32_22 : BitVec 32 := 7#32
  let c2_i32_19 : BitVec 32 := 2#32
  let v35 : BitVec 1 := Scalar.cmpi .eq v2 c2_i32_19
  let c3_i32_20 : BitVec 32 := 3#32
  let c1_i32_16 : BitVec 32 := 1#32
  let v33 : BitVec 1 := Scalar.cmpi .eq v2 c1_i32_16
  let c5_i32_17 : BitVec 32 := 5#32
  let c1_i32_18 : BitVec 32 := 1#32
  let v34 : BitVec 32 := Scalar.select v33 c5_i32_17 c1_i32_18
  let v36 : BitVec 32 := Scalar.select v35 c3_i32_20 v34
  let v38 : BitVec 32 := Scalar.select v37 c7_i32_22 v36
  let v40 : BitVec 32 := Scalar.select v39 c0_i32_24 v38
  let v42 : BitVec 32 := Scalar.select v41 c9_i32_26 v40
  let v44 : BitVec 32 := Scalar.select v43 c2_i32_28 v42
  let v46 : BitVec 32 := Scalar.select v45 c11_i32_30 v44
  let v48 : BitVec 32 := Scalar.select v47 c4_i32_32 v46
  let v50 : BitVec 32 := Scalar.select v49 c13_i32_34 v48
  let v52 : BitVec 32 := Scalar.select v51 c6_i32_36 v50
  let v54 : BitVec 32 := Scalar.select v53 c15_i32_38 v52
  let v56 : BitVec 32 := Scalar.select v55 c8_i32_40 v54
  let v58 : BitVec 32 := Scalar.select v57 c14_i32_42 v56
  let v60 : BitVec 32 := Scalar.select v59 c10_i32_44 v58
  let v62 : BitVec 32 := Scalar.select v61 c12_i32_46 v60
  let c1_i32_2202 : BitVec 32 := 1#32
  let v2343 : BitVec 32 := Scalar.muli v62 c1_i32_2202
  let v2344 : BitVec 32 := Scalar.addi c0_i32_2203 v2343
  v2344.toNat
def k0_dev43 (d0 : Dev nD) : Nat :=
  let c0_i32_2264 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c11_i32_77 : BitVec 32 := 11#32
  let c14_i32_74 : BitVec 32 := 14#32
  let v89 : BitVec 1 := Scalar.cmpi .eq v2 c14_i32_74
  let c13_i32_75 : BitVec 32 := 13#32
  let c13_i32_72 : BitVec 32 := 13#32
  let v87 : BitVec 1 := Scalar.cmpi .eq v2 c13_i32_72
  let c9_i32_73 : BitVec 32 := 9#32
  let c12_i32_70 : BitVec 32 := 12#32
  let v85 : BitVec 1 := Scalar.cmpi .eq v2 c12_i32_70
  let c15_i32_71 : BitVec 32 := 15#32
  let c11_i32_68 : BitVec 32 := 11#32
  let v83 : BitVec 1 := Scalar.cmpi .eq v2 c11_i32_68
  let c7_i32_69 : BitVec 32 := 7#32
  let c10_i32_66 : BitVec 32 := 10#32
  let v81 : BitVec 1 := Scalar.cmpi .eq v2 c10_i32_66
  let c14_i32_67 : BitVec 32 := 14#32
  let c9_i32_64 : BitVec 32 := 9#32
  let v79 : BitVec 1 := Scalar.cmpi .eq v2 c9_i32_64
  let c5_i32_65 : BitVec 32 := 5#32
  let c8_i32_62 : BitVec 32 := 8#32
  let v77 : BitVec 1 := Scalar.cmpi .eq v2 c8_i32_62
  let c12_i32_63 : BitVec 32 := 12#32
  let c7_i32_60 : BitVec 32 := 7#32
  let v75 : BitVec 1 := Scalar.cmpi .eq v2 c7_i32_60
  let c3_i32_61 : BitVec 32 := 3#32
  let c6_i32_58 : BitVec 32 := 6#32
  let v73 : BitVec 1 := Scalar.cmpi .eq v2 c6_i32_58
  let c10_i32_59 : BitVec 32 := 10#32
  let c5_i32_56 : BitVec 32 := 5#32
  let v71 : BitVec 1 := Scalar.cmpi .eq v2 c5_i32_56
  let c1_i32_57 : BitVec 32 := 1#32
  let c4_i32_54 : BitVec 32 := 4#32
  let v69 : BitVec 1 := Scalar.cmpi .eq v2 c4_i32_54
  let c8_i32_55 : BitVec 32 := 8#32
  let c3_i32_52 : BitVec 32 := 3#32
  let v67 : BitVec 1 := Scalar.cmpi .eq v2 c3_i32_52
  let c2_i32_53 : BitVec 32 := 2#32
  let c2_i32_50 : BitVec 32 := 2#32
  let v65 : BitVec 1 := Scalar.cmpi .eq v2 c2_i32_50
  let c6_i32_51 : BitVec 32 := 6#32
  let c1_i32_47 : BitVec 32 := 1#32
  let v63 : BitVec 1 := Scalar.cmpi .eq v2 c1_i32_47
  let c0_i32_48 : BitVec 32 := 0#32
  let c4_i32_49 : BitVec 32 := 4#32
  let v64 : BitVec 32 := Scalar.select v63 c0_i32_48 c4_i32_49
  let v66 : BitVec 32 := Scalar.select v65 c6_i32_51 v64
  let v68 : BitVec 32 := Scalar.select v67 c2_i32_53 v66
  let v70 : BitVec 32 := Scalar.select v69 c8_i32_55 v68
  let v72 : BitVec 32 := Scalar.select v71 c1_i32_57 v70
  let v74 : BitVec 32 := Scalar.select v73 c10_i32_59 v72
  let v76 : BitVec 32 := Scalar.select v75 c3_i32_61 v74
  let v78 : BitVec 32 := Scalar.select v77 c12_i32_63 v76
  let v80 : BitVec 32 := Scalar.select v79 c5_i32_65 v78
  let v82 : BitVec 32 := Scalar.select v81 c14_i32_67 v80
  let v84 : BitVec 32 := Scalar.select v83 c7_i32_69 v82
  let v86 : BitVec 32 := Scalar.select v85 c15_i32_71 v84
  let v88 : BitVec 32 := Scalar.select v87 c9_i32_73 v86
  let v90 : BitVec 32 := Scalar.select v89 c13_i32_75 v88
  let v92 : BitVec 32 := Scalar.select v91 c11_i32_77 v90
  let c1_i32_2263 : BitVec 32 := 1#32
  let v2408 : BitVec 32 := Scalar.muli v92 c1_i32_2263
  let v2409 : BitVec 32 := Scalar.addi c0_i32_2264 v2408
  v2409.toNat
def k0_dev44 (d0 : Dev nD) : Nat :=
  let c0_i32_2326 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c12_i32_46 : BitVec 32 := 12#32
  let c14_i32_43 : BitVec 32 := 14#32
  let v59 : BitVec 1 := Scalar.cmpi .eq v2 c14_i32_43
  let c10_i32_44 : BitVec 32 := 10#32
  let c13_i32_41 : BitVec 32 := 13#32
  let v57 : BitVec 1 := Scalar.cmpi .eq v2 c13_i32_41
  let c14_i32_42 : BitVec 32 := 14#32
  let c12_i32_39 : BitVec 32 := 12#32
  let v55 : BitVec 1 := Scalar.cmpi .eq v2 c12_i32_39
  let c8_i32_40 : BitVec 32 := 8#32
  let c11_i32_37 : BitVec 32 := 11#32
  let v53 : BitVec 1 := Scalar.cmpi .eq v2 c11_i32_37
  let c15_i32_38 : BitVec 32 := 15#32
  let c10_i32_35 : BitVec 32 := 10#32
  let v51 : BitVec 1 := Scalar.cmpi .eq v2 c10_i32_35
  let c6_i32_36 : BitVec 32 := 6#32
  let c9_i32_33 : BitVec 32 := 9#32
  let v49 : BitVec 1 := Scalar.cmpi .eq v2 c9_i32_33
  let c13_i32_34 : BitVec 32 := 13#32
  let c8_i32_31 : BitVec 32 := 8#32
  let v47 : BitVec 1 := Scalar.cmpi .eq v2 c8_i32_31
  let c4_i32_32 : BitVec 32 := 4#32
  let c7_i32_29 : BitVec 32 := 7#32
  let v45 : BitVec 1 := Scalar.cmpi .eq v2 c7_i32_29
  let c11_i32_30 : BitVec 32 := 11#32
  let c6_i32_27 : BitVec 32 := 6#32
  let v43 : BitVec 1 := Scalar.cmpi .eq v2 c6_i32_27
  let c2_i32_28 : BitVec 32 := 2#32
  let c5_i32_25 : BitVec 32 := 5#32
  let v41 : BitVec 1 := Scalar.cmpi .eq v2 c5_i32_25
  let c9_i32_26 : BitVec 32 := 9#32
  let c4_i32_23 : BitVec 32 := 4#32
  let v39 : BitVec 1 := Scalar.cmpi .eq v2 c4_i32_23
  let c0_i32_24 : BitVec 32 := 0#32
  let c3_i32_21 : BitVec 32 := 3#32
  let v37 : BitVec 1 := Scalar.cmpi .eq v2 c3_i32_21
  let c7_i32_22 : BitVec 32 := 7#32
  let c2_i32_19 : BitVec 32 := 2#32
  let v35 : BitVec 1 := Scalar.cmpi .eq v2 c2_i32_19
  let c3_i32_20 : BitVec 32 := 3#32
  let c1_i32_16 : BitVec 32 := 1#32
  let v33 : BitVec 1 := Scalar.cmpi .eq v2 c1_i32_16
  let c5_i32_17 : BitVec 32 := 5#32
  let c1_i32_18 : BitVec 32 := 1#32
  let v34 : BitVec 32 := Scalar.select v33 c5_i32_17 c1_i32_18
  let v36 : BitVec 32 := Scalar.select v35 c3_i32_20 v34
  let v38 : BitVec 32 := Scalar.select v37 c7_i32_22 v36
  let v40 : BitVec 32 := Scalar.select v39 c0_i32_24 v38
  let v42 : BitVec 32 := Scalar.select v41 c9_i32_26 v40
  let v44 : BitVec 32 := Scalar.select v43 c2_i32_28 v42
  let v46 : BitVec 32 := Scalar.select v45 c11_i32_30 v44
  let v48 : BitVec 32 := Scalar.select v47 c4_i32_32 v46
  let v50 : BitVec 32 := Scalar.select v49 c13_i32_34 v48
  let v52 : BitVec 32 := Scalar.select v51 c6_i32_36 v50
  let v54 : BitVec 32 := Scalar.select v53 c15_i32_38 v52
  let v56 : BitVec 32 := Scalar.select v55 c8_i32_40 v54
  let v58 : BitVec 32 := Scalar.select v57 c14_i32_42 v56
  let v60 : BitVec 32 := Scalar.select v59 c10_i32_44 v58
  let v62 : BitVec 32 := Scalar.select v61 c12_i32_46 v60
  let c1_i32_2325 : BitVec 32 := 1#32
  let v2473 : BitVec 32 := Scalar.muli v62 c1_i32_2325
  let v2474 : BitVec 32 := Scalar.addi c0_i32_2326 v2473
  v2474.toNat
def k0_dev45 (d0 : Dev nD) : Nat :=
  let c0_i32_2388 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c11_i32_77 : BitVec 32 := 11#32
  let c14_i32_74 : BitVec 32 := 14#32
  let v89 : BitVec 1 := Scalar.cmpi .eq v2 c14_i32_74
  let c13_i32_75 : BitVec 32 := 13#32
  let c13_i32_72 : BitVec 32 := 13#32
  let v87 : BitVec 1 := Scalar.cmpi .eq v2 c13_i32_72
  let c9_i32_73 : BitVec 32 := 9#32
  let c12_i32_70 : BitVec 32 := 12#32
  let v85 : BitVec 1 := Scalar.cmpi .eq v2 c12_i32_70
  let c15_i32_71 : BitVec 32 := 15#32
  let c11_i32_68 : BitVec 32 := 11#32
  let v83 : BitVec 1 := Scalar.cmpi .eq v2 c11_i32_68
  let c7_i32_69 : BitVec 32 := 7#32
  let c10_i32_66 : BitVec 32 := 10#32
  let v81 : BitVec 1 := Scalar.cmpi .eq v2 c10_i32_66
  let c14_i32_67 : BitVec 32 := 14#32
  let c9_i32_64 : BitVec 32 := 9#32
  let v79 : BitVec 1 := Scalar.cmpi .eq v2 c9_i32_64
  let c5_i32_65 : BitVec 32 := 5#32
  let c8_i32_62 : BitVec 32 := 8#32
  let v77 : BitVec 1 := Scalar.cmpi .eq v2 c8_i32_62
  let c12_i32_63 : BitVec 32 := 12#32
  let c7_i32_60 : BitVec 32 := 7#32
  let v75 : BitVec 1 := Scalar.cmpi .eq v2 c7_i32_60
  let c3_i32_61 : BitVec 32 := 3#32
  let c6_i32_58 : BitVec 32 := 6#32
  let v73 : BitVec 1 := Scalar.cmpi .eq v2 c6_i32_58
  let c10_i32_59 : BitVec 32 := 10#32
  let c5_i32_56 : BitVec 32 := 5#32
  let v71 : BitVec 1 := Scalar.cmpi .eq v2 c5_i32_56
  let c1_i32_57 : BitVec 32 := 1#32
  let c4_i32_54 : BitVec 32 := 4#32
  let v69 : BitVec 1 := Scalar.cmpi .eq v2 c4_i32_54
  let c8_i32_55 : BitVec 32 := 8#32
  let c3_i32_52 : BitVec 32 := 3#32
  let v67 : BitVec 1 := Scalar.cmpi .eq v2 c3_i32_52
  let c2_i32_53 : BitVec 32 := 2#32
  let c2_i32_50 : BitVec 32 := 2#32
  let v65 : BitVec 1 := Scalar.cmpi .eq v2 c2_i32_50
  let c6_i32_51 : BitVec 32 := 6#32
  let c1_i32_47 : BitVec 32 := 1#32
  let v63 : BitVec 1 := Scalar.cmpi .eq v2 c1_i32_47
  let c0_i32_48 : BitVec 32 := 0#32
  let c4_i32_49 : BitVec 32 := 4#32
  let v64 : BitVec 32 := Scalar.select v63 c0_i32_48 c4_i32_49
  let v66 : BitVec 32 := Scalar.select v65 c6_i32_51 v64
  let v68 : BitVec 32 := Scalar.select v67 c2_i32_53 v66
  let v70 : BitVec 32 := Scalar.select v69 c8_i32_55 v68
  let v72 : BitVec 32 := Scalar.select v71 c1_i32_57 v70
  let v74 : BitVec 32 := Scalar.select v73 c10_i32_59 v72
  let v76 : BitVec 32 := Scalar.select v75 c3_i32_61 v74
  let v78 : BitVec 32 := Scalar.select v77 c12_i32_63 v76
  let v80 : BitVec 32 := Scalar.select v79 c5_i32_65 v78
  let v82 : BitVec 32 := Scalar.select v81 c14_i32_67 v80
  let v84 : BitVec 32 := Scalar.select v83 c7_i32_69 v82
  let v86 : BitVec 32 := Scalar.select v85 c15_i32_71 v84
  let v88 : BitVec 32 := Scalar.select v87 c9_i32_73 v86
  let v90 : BitVec 32 := Scalar.select v89 c13_i32_75 v88
  let v92 : BitVec 32 := Scalar.select v91 c11_i32_77 v90
  let c1_i32_2387 : BitVec 32 := 1#32
  let v2538 : BitVec 32 := Scalar.muli v92 c1_i32_2387
  let v2539 : BitVec 32 := Scalar.addi c0_i32_2388 v2538
  v2539.toNat
def k0_dev46 (d0 : Dev nD) : Nat :=
  let c0_i32_2450 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c12_i32_46 : BitVec 32 := 12#32
  let c14_i32_43 : BitVec 32 := 14#32
  let v59 : BitVec 1 := Scalar.cmpi .eq v2 c14_i32_43
  let c10_i32_44 : BitVec 32 := 10#32
  let c13_i32_41 : BitVec 32 := 13#32
  let v57 : BitVec 1 := Scalar.cmpi .eq v2 c13_i32_41
  let c14_i32_42 : BitVec 32 := 14#32
  let c12_i32_39 : BitVec 32 := 12#32
  let v55 : BitVec 1 := Scalar.cmpi .eq v2 c12_i32_39
  let c8_i32_40 : BitVec 32 := 8#32
  let c11_i32_37 : BitVec 32 := 11#32
  let v53 : BitVec 1 := Scalar.cmpi .eq v2 c11_i32_37
  let c15_i32_38 : BitVec 32 := 15#32
  let c10_i32_35 : BitVec 32 := 10#32
  let v51 : BitVec 1 := Scalar.cmpi .eq v2 c10_i32_35
  let c6_i32_36 : BitVec 32 := 6#32
  let c9_i32_33 : BitVec 32 := 9#32
  let v49 : BitVec 1 := Scalar.cmpi .eq v2 c9_i32_33
  let c13_i32_34 : BitVec 32 := 13#32
  let c8_i32_31 : BitVec 32 := 8#32
  let v47 : BitVec 1 := Scalar.cmpi .eq v2 c8_i32_31
  let c4_i32_32 : BitVec 32 := 4#32
  let c7_i32_29 : BitVec 32 := 7#32
  let v45 : BitVec 1 := Scalar.cmpi .eq v2 c7_i32_29
  let c11_i32_30 : BitVec 32 := 11#32
  let c6_i32_27 : BitVec 32 := 6#32
  let v43 : BitVec 1 := Scalar.cmpi .eq v2 c6_i32_27
  let c2_i32_28 : BitVec 32 := 2#32
  let c5_i32_25 : BitVec 32 := 5#32
  let v41 : BitVec 1 := Scalar.cmpi .eq v2 c5_i32_25
  let c9_i32_26 : BitVec 32 := 9#32
  let c4_i32_23 : BitVec 32 := 4#32
  let v39 : BitVec 1 := Scalar.cmpi .eq v2 c4_i32_23
  let c0_i32_24 : BitVec 32 := 0#32
  let c3_i32_21 : BitVec 32 := 3#32
  let v37 : BitVec 1 := Scalar.cmpi .eq v2 c3_i32_21
  let c7_i32_22 : BitVec 32 := 7#32
  let c2_i32_19 : BitVec 32 := 2#32
  let v35 : BitVec 1 := Scalar.cmpi .eq v2 c2_i32_19
  let c3_i32_20 : BitVec 32 := 3#32
  let c1_i32_16 : BitVec 32 := 1#32
  let v33 : BitVec 1 := Scalar.cmpi .eq v2 c1_i32_16
  let c5_i32_17 : BitVec 32 := 5#32
  let c1_i32_18 : BitVec 32 := 1#32
  let v34 : BitVec 32 := Scalar.select v33 c5_i32_17 c1_i32_18
  let v36 : BitVec 32 := Scalar.select v35 c3_i32_20 v34
  let v38 : BitVec 32 := Scalar.select v37 c7_i32_22 v36
  let v40 : BitVec 32 := Scalar.select v39 c0_i32_24 v38
  let v42 : BitVec 32 := Scalar.select v41 c9_i32_26 v40
  let v44 : BitVec 32 := Scalar.select v43 c2_i32_28 v42
  let v46 : BitVec 32 := Scalar.select v45 c11_i32_30 v44
  let v48 : BitVec 32 := Scalar.select v47 c4_i32_32 v46
  let v50 : BitVec 32 := Scalar.select v49 c13_i32_34 v48
  let v52 : BitVec 32 := Scalar.select v51 c6_i32_36 v50
  let v54 : BitVec 32 := Scalar.select v53 c15_i32_38 v52
  let v56 : BitVec 32 := Scalar.select v55 c8_i32_40 v54
  let v58 : BitVec 32 := Scalar.select v57 c14_i32_42 v56
  let v60 : BitVec 32 := Scalar.select v59 c10_i32_44 v58
  let v62 : BitVec 32 := Scalar.select v61 c12_i32_46 v60
  let c1_i32_2449 : BitVec 32 := 1#32
  let v2603 : BitVec 32 := Scalar.muli v62 c1_i32_2449
  let v2604 : BitVec 32 := Scalar.addi c0_i32_2450 v2603
  v2604.toNat
def k0_dev47 (d0 : Dev nD) : Nat :=
  let c0_i32_2512 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c11_i32_77 : BitVec 32 := 11#32
  let c14_i32_74 : BitVec 32 := 14#32
  let v89 : BitVec 1 := Scalar.cmpi .eq v2 c14_i32_74
  let c13_i32_75 : BitVec 32 := 13#32
  let c13_i32_72 : BitVec 32 := 13#32
  let v87 : BitVec 1 := Scalar.cmpi .eq v2 c13_i32_72
  let c9_i32_73 : BitVec 32 := 9#32
  let c12_i32_70 : BitVec 32 := 12#32
  let v85 : BitVec 1 := Scalar.cmpi .eq v2 c12_i32_70
  let c15_i32_71 : BitVec 32 := 15#32
  let c11_i32_68 : BitVec 32 := 11#32
  let v83 : BitVec 1 := Scalar.cmpi .eq v2 c11_i32_68
  let c7_i32_69 : BitVec 32 := 7#32
  let c10_i32_66 : BitVec 32 := 10#32
  let v81 : BitVec 1 := Scalar.cmpi .eq v2 c10_i32_66
  let c14_i32_67 : BitVec 32 := 14#32
  let c9_i32_64 : BitVec 32 := 9#32
  let v79 : BitVec 1 := Scalar.cmpi .eq v2 c9_i32_64
  let c5_i32_65 : BitVec 32 := 5#32
  let c8_i32_62 : BitVec 32 := 8#32
  let v77 : BitVec 1 := Scalar.cmpi .eq v2 c8_i32_62
  let c12_i32_63 : BitVec 32 := 12#32
  let c7_i32_60 : BitVec 32 := 7#32
  let v75 : BitVec 1 := Scalar.cmpi .eq v2 c7_i32_60
  let c3_i32_61 : BitVec 32 := 3#32
  let c6_i32_58 : BitVec 32 := 6#32
  let v73 : BitVec 1 := Scalar.cmpi .eq v2 c6_i32_58
  let c10_i32_59 : BitVec 32 := 10#32
  let c5_i32_56 : BitVec 32 := 5#32
  let v71 : BitVec 1 := Scalar.cmpi .eq v2 c5_i32_56
  let c1_i32_57 : BitVec 32 := 1#32
  let c4_i32_54 : BitVec 32 := 4#32
  let v69 : BitVec 1 := Scalar.cmpi .eq v2 c4_i32_54
  let c8_i32_55 : BitVec 32 := 8#32
  let c3_i32_52 : BitVec 32 := 3#32
  let v67 : BitVec 1 := Scalar.cmpi .eq v2 c3_i32_52
  let c2_i32_53 : BitVec 32 := 2#32
  let c2_i32_50 : BitVec 32 := 2#32
  let v65 : BitVec 1 := Scalar.cmpi .eq v2 c2_i32_50
  let c6_i32_51 : BitVec 32 := 6#32
  let c1_i32_47 : BitVec 32 := 1#32
  let v63 : BitVec 1 := Scalar.cmpi .eq v2 c1_i32_47
  let c0_i32_48 : BitVec 32 := 0#32
  let c4_i32_49 : BitVec 32 := 4#32
  let v64 : BitVec 32 := Scalar.select v63 c0_i32_48 c4_i32_49
  let v66 : BitVec 32 := Scalar.select v65 c6_i32_51 v64
  let v68 : BitVec 32 := Scalar.select v67 c2_i32_53 v66
  let v70 : BitVec 32 := Scalar.select v69 c8_i32_55 v68
  let v72 : BitVec 32 := Scalar.select v71 c1_i32_57 v70
  let v74 : BitVec 32 := Scalar.select v73 c10_i32_59 v72
  let v76 : BitVec 32 := Scalar.select v75 c3_i32_61 v74
  let v78 : BitVec 32 := Scalar.select v77 c12_i32_63 v76
  let v80 : BitVec 32 := Scalar.select v79 c5_i32_65 v78
  let v82 : BitVec 32 := Scalar.select v81 c14_i32_67 v80
  let v84 : BitVec 32 := Scalar.select v83 c7_i32_69 v82
  let v86 : BitVec 32 := Scalar.select v85 c15_i32_71 v84
  let v88 : BitVec 32 := Scalar.select v87 c9_i32_73 v86
  let v90 : BitVec 32 := Scalar.select v89 c13_i32_75 v88
  let v92 : BitVec 32 := Scalar.select v91 c11_i32_77 v90
  let c1_i32_2511 : BitVec 32 := 1#32
  let v2668 : BitVec 32 := Scalar.muli v92 c1_i32_2511
  let v2669 : BitVec 32 := Scalar.addi c0_i32_2512 v2668
  v2669.toNat
def k0_dev48 (d0 : Dev nD) : Nat :=
  let c0_i32_2574 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c12_i32_46 : BitVec 32 := 12#32
  let c14_i32_43 : BitVec 32 := 14#32
  let v59 : BitVec 1 := Scalar.cmpi .eq v2 c14_i32_43
  let c10_i32_44 : BitVec 32 := 10#32
  let c13_i32_41 : BitVec 32 := 13#32
  let v57 : BitVec 1 := Scalar.cmpi .eq v2 c13_i32_41
  let c14_i32_42 : BitVec 32 := 14#32
  let c12_i32_39 : BitVec 32 := 12#32
  let v55 : BitVec 1 := Scalar.cmpi .eq v2 c12_i32_39
  let c8_i32_40 : BitVec 32 := 8#32
  let c11_i32_37 : BitVec 32 := 11#32
  let v53 : BitVec 1 := Scalar.cmpi .eq v2 c11_i32_37
  let c15_i32_38 : BitVec 32 := 15#32
  let c10_i32_35 : BitVec 32 := 10#32
  let v51 : BitVec 1 := Scalar.cmpi .eq v2 c10_i32_35
  let c6_i32_36 : BitVec 32 := 6#32
  let c9_i32_33 : BitVec 32 := 9#32
  let v49 : BitVec 1 := Scalar.cmpi .eq v2 c9_i32_33
  let c13_i32_34 : BitVec 32 := 13#32
  let c8_i32_31 : BitVec 32 := 8#32
  let v47 : BitVec 1 := Scalar.cmpi .eq v2 c8_i32_31
  let c4_i32_32 : BitVec 32 := 4#32
  let c7_i32_29 : BitVec 32 := 7#32
  let v45 : BitVec 1 := Scalar.cmpi .eq v2 c7_i32_29
  let c11_i32_30 : BitVec 32 := 11#32
  let c6_i32_27 : BitVec 32 := 6#32
  let v43 : BitVec 1 := Scalar.cmpi .eq v2 c6_i32_27
  let c2_i32_28 : BitVec 32 := 2#32
  let c5_i32_25 : BitVec 32 := 5#32
  let v41 : BitVec 1 := Scalar.cmpi .eq v2 c5_i32_25
  let c9_i32_26 : BitVec 32 := 9#32
  let c4_i32_23 : BitVec 32 := 4#32
  let v39 : BitVec 1 := Scalar.cmpi .eq v2 c4_i32_23
  let c0_i32_24 : BitVec 32 := 0#32
  let c3_i32_21 : BitVec 32 := 3#32
  let v37 : BitVec 1 := Scalar.cmpi .eq v2 c3_i32_21
  let c7_i32_22 : BitVec 32 := 7#32
  let c2_i32_19 : BitVec 32 := 2#32
  let v35 : BitVec 1 := Scalar.cmpi .eq v2 c2_i32_19
  let c3_i32_20 : BitVec 32 := 3#32
  let c1_i32_16 : BitVec 32 := 1#32
  let v33 : BitVec 1 := Scalar.cmpi .eq v2 c1_i32_16
  let c5_i32_17 : BitVec 32 := 5#32
  let c1_i32_18 : BitVec 32 := 1#32
  let v34 : BitVec 32 := Scalar.select v33 c5_i32_17 c1_i32_18
  let v36 : BitVec 32 := Scalar.select v35 c3_i32_20 v34
  let v38 : BitVec 32 := Scalar.select v37 c7_i32_22 v36
  let v40 : BitVec 32 := Scalar.select v39 c0_i32_24 v38
  let v42 : BitVec 32 := Scalar.select v41 c9_i32_26 v40
  let v44 : BitVec 32 := Scalar.select v43 c2_i32_28 v42
  let v46 : BitVec 32 := Scalar.select v45 c11_i32_30 v44
  let v48 : BitVec 32 := Scalar.select v47 c4_i32_32 v46
  let v50 : BitVec 32 := Scalar.select v49 c13_i32_34 v48
  let v52 : BitVec 32 := Scalar.select v51 c6_i32_36 v50
  let v54 : BitVec 32 := Scalar.select v53 c15_i32_38 v52
  let v56 : BitVec 32 := Scalar.select v55 c8_i32_40 v54
  let v58 : BitVec 32 := Scalar.select v57 c14_i32_42 v56
  let v60 : BitVec 32 := Scalar.select v59 c10_i32_44 v58
  let v62 : BitVec 32 := Scalar.select v61 c12_i32_46 v60
  let c1_i32_2573 : BitVec 32 := 1#32
  let v2733 : BitVec 32 := Scalar.muli v62 c1_i32_2573
  let v2734 : BitVec 32 := Scalar.addi c0_i32_2574 v2733
  v2734.toNat
def k0_dev49 (d0 : Dev nD) : Nat :=
  let c0_i32_2636 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c11_i32_77 : BitVec 32 := 11#32
  let c14_i32_74 : BitVec 32 := 14#32
  let v89 : BitVec 1 := Scalar.cmpi .eq v2 c14_i32_74
  let c13_i32_75 : BitVec 32 := 13#32
  let c13_i32_72 : BitVec 32 := 13#32
  let v87 : BitVec 1 := Scalar.cmpi .eq v2 c13_i32_72
  let c9_i32_73 : BitVec 32 := 9#32
  let c12_i32_70 : BitVec 32 := 12#32
  let v85 : BitVec 1 := Scalar.cmpi .eq v2 c12_i32_70
  let c15_i32_71 : BitVec 32 := 15#32
  let c11_i32_68 : BitVec 32 := 11#32
  let v83 : BitVec 1 := Scalar.cmpi .eq v2 c11_i32_68
  let c7_i32_69 : BitVec 32 := 7#32
  let c10_i32_66 : BitVec 32 := 10#32
  let v81 : BitVec 1 := Scalar.cmpi .eq v2 c10_i32_66
  let c14_i32_67 : BitVec 32 := 14#32
  let c9_i32_64 : BitVec 32 := 9#32
  let v79 : BitVec 1 := Scalar.cmpi .eq v2 c9_i32_64
  let c5_i32_65 : BitVec 32 := 5#32
  let c8_i32_62 : BitVec 32 := 8#32
  let v77 : BitVec 1 := Scalar.cmpi .eq v2 c8_i32_62
  let c12_i32_63 : BitVec 32 := 12#32
  let c7_i32_60 : BitVec 32 := 7#32
  let v75 : BitVec 1 := Scalar.cmpi .eq v2 c7_i32_60
  let c3_i32_61 : BitVec 32 := 3#32
  let c6_i32_58 : BitVec 32 := 6#32
  let v73 : BitVec 1 := Scalar.cmpi .eq v2 c6_i32_58
  let c10_i32_59 : BitVec 32 := 10#32
  let c5_i32_56 : BitVec 32 := 5#32
  let v71 : BitVec 1 := Scalar.cmpi .eq v2 c5_i32_56
  let c1_i32_57 : BitVec 32 := 1#32
  let c4_i32_54 : BitVec 32 := 4#32
  let v69 : BitVec 1 := Scalar.cmpi .eq v2 c4_i32_54
  let c8_i32_55 : BitVec 32 := 8#32
  let c3_i32_52 : BitVec 32 := 3#32
  let v67 : BitVec 1 := Scalar.cmpi .eq v2 c3_i32_52
  let c2_i32_53 : BitVec 32 := 2#32
  let c2_i32_50 : BitVec 32 := 2#32
  let v65 : BitVec 1 := Scalar.cmpi .eq v2 c2_i32_50
  let c6_i32_51 : BitVec 32 := 6#32
  let c1_i32_47 : BitVec 32 := 1#32
  let v63 : BitVec 1 := Scalar.cmpi .eq v2 c1_i32_47
  let c0_i32_48 : BitVec 32 := 0#32
  let c4_i32_49 : BitVec 32 := 4#32
  let v64 : BitVec 32 := Scalar.select v63 c0_i32_48 c4_i32_49
  let v66 : BitVec 32 := Scalar.select v65 c6_i32_51 v64
  let v68 : BitVec 32 := Scalar.select v67 c2_i32_53 v66
  let v70 : BitVec 32 := Scalar.select v69 c8_i32_55 v68
  let v72 : BitVec 32 := Scalar.select v71 c1_i32_57 v70
  let v74 : BitVec 32 := Scalar.select v73 c10_i32_59 v72
  let v76 : BitVec 32 := Scalar.select v75 c3_i32_61 v74
  let v78 : BitVec 32 := Scalar.select v77 c12_i32_63 v76
  let v80 : BitVec 32 := Scalar.select v79 c5_i32_65 v78
  let v82 : BitVec 32 := Scalar.select v81 c14_i32_67 v80
  let v84 : BitVec 32 := Scalar.select v83 c7_i32_69 v82
  let v86 : BitVec 32 := Scalar.select v85 c15_i32_71 v84
  let v88 : BitVec 32 := Scalar.select v87 c9_i32_73 v86
  let v90 : BitVec 32 := Scalar.select v89 c13_i32_75 v88
  let v92 : BitVec 32 := Scalar.select v91 c11_i32_77 v90
  let c1_i32_2635 : BitVec 32 := 1#32
  let v2798 : BitVec 32 := Scalar.muli v92 c1_i32_2635
  let v2799 : BitVec 32 := Scalar.addi c0_i32_2636 v2798
  v2799.toNat
def k0_dev50 (d0 : Dev nD) : Nat :=
  let c0_i32_2698 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c12_i32_46 : BitVec 32 := 12#32
  let c14_i32_43 : BitVec 32 := 14#32
  let v59 : BitVec 1 := Scalar.cmpi .eq v2 c14_i32_43
  let c10_i32_44 : BitVec 32 := 10#32
  let c13_i32_41 : BitVec 32 := 13#32
  let v57 : BitVec 1 := Scalar.cmpi .eq v2 c13_i32_41
  let c14_i32_42 : BitVec 32 := 14#32
  let c12_i32_39 : BitVec 32 := 12#32
  let v55 : BitVec 1 := Scalar.cmpi .eq v2 c12_i32_39
  let c8_i32_40 : BitVec 32 := 8#32
  let c11_i32_37 : BitVec 32 := 11#32
  let v53 : BitVec 1 := Scalar.cmpi .eq v2 c11_i32_37
  let c15_i32_38 : BitVec 32 := 15#32
  let c10_i32_35 : BitVec 32 := 10#32
  let v51 : BitVec 1 := Scalar.cmpi .eq v2 c10_i32_35
  let c6_i32_36 : BitVec 32 := 6#32
  let c9_i32_33 : BitVec 32 := 9#32
  let v49 : BitVec 1 := Scalar.cmpi .eq v2 c9_i32_33
  let c13_i32_34 : BitVec 32 := 13#32
  let c8_i32_31 : BitVec 32 := 8#32
  let v47 : BitVec 1 := Scalar.cmpi .eq v2 c8_i32_31
  let c4_i32_32 : BitVec 32 := 4#32
  let c7_i32_29 : BitVec 32 := 7#32
  let v45 : BitVec 1 := Scalar.cmpi .eq v2 c7_i32_29
  let c11_i32_30 : BitVec 32 := 11#32
  let c6_i32_27 : BitVec 32 := 6#32
  let v43 : BitVec 1 := Scalar.cmpi .eq v2 c6_i32_27
  let c2_i32_28 : BitVec 32 := 2#32
  let c5_i32_25 : BitVec 32 := 5#32
  let v41 : BitVec 1 := Scalar.cmpi .eq v2 c5_i32_25
  let c9_i32_26 : BitVec 32 := 9#32
  let c4_i32_23 : BitVec 32 := 4#32
  let v39 : BitVec 1 := Scalar.cmpi .eq v2 c4_i32_23
  let c0_i32_24 : BitVec 32 := 0#32
  let c3_i32_21 : BitVec 32 := 3#32
  let v37 : BitVec 1 := Scalar.cmpi .eq v2 c3_i32_21
  let c7_i32_22 : BitVec 32 := 7#32
  let c2_i32_19 : BitVec 32 := 2#32
  let v35 : BitVec 1 := Scalar.cmpi .eq v2 c2_i32_19
  let c3_i32_20 : BitVec 32 := 3#32
  let c1_i32_16 : BitVec 32 := 1#32
  let v33 : BitVec 1 := Scalar.cmpi .eq v2 c1_i32_16
  let c5_i32_17 : BitVec 32 := 5#32
  let c1_i32_18 : BitVec 32 := 1#32
  let v34 : BitVec 32 := Scalar.select v33 c5_i32_17 c1_i32_18
  let v36 : BitVec 32 := Scalar.select v35 c3_i32_20 v34
  let v38 : BitVec 32 := Scalar.select v37 c7_i32_22 v36
  let v40 : BitVec 32 := Scalar.select v39 c0_i32_24 v38
  let v42 : BitVec 32 := Scalar.select v41 c9_i32_26 v40
  let v44 : BitVec 32 := Scalar.select v43 c2_i32_28 v42
  let v46 : BitVec 32 := Scalar.select v45 c11_i32_30 v44
  let v48 : BitVec 32 := Scalar.select v47 c4_i32_32 v46
  let v50 : BitVec 32 := Scalar.select v49 c13_i32_34 v48
  let v52 : BitVec 32 := Scalar.select v51 c6_i32_36 v50
  let v54 : BitVec 32 := Scalar.select v53 c15_i32_38 v52
  let v56 : BitVec 32 := Scalar.select v55 c8_i32_40 v54
  let v58 : BitVec 32 := Scalar.select v57 c14_i32_42 v56
  let v60 : BitVec 32 := Scalar.select v59 c10_i32_44 v58
  let v62 : BitVec 32 := Scalar.select v61 c12_i32_46 v60
  let c1_i32_2697 : BitVec 32 := 1#32
  let v2863 : BitVec 32 := Scalar.muli v62 c1_i32_2697
  let v2864 : BitVec 32 := Scalar.addi c0_i32_2698 v2863
  v2864.toNat
def k0_dev51 (d0 : Dev nD) : Nat :=
  let c0_i32_2759 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c11_i32_77 : BitVec 32 := 11#32
  let c14_i32_74 : BitVec 32 := 14#32
  let v89 : BitVec 1 := Scalar.cmpi .eq v2 c14_i32_74
  let c13_i32_75 : BitVec 32 := 13#32
  let c13_i32_72 : BitVec 32 := 13#32
  let v87 : BitVec 1 := Scalar.cmpi .eq v2 c13_i32_72
  let c9_i32_73 : BitVec 32 := 9#32
  let c12_i32_70 : BitVec 32 := 12#32
  let v85 : BitVec 1 := Scalar.cmpi .eq v2 c12_i32_70
  let c15_i32_71 : BitVec 32 := 15#32
  let c11_i32_68 : BitVec 32 := 11#32
  let v83 : BitVec 1 := Scalar.cmpi .eq v2 c11_i32_68
  let c7_i32_69 : BitVec 32 := 7#32
  let c10_i32_66 : BitVec 32 := 10#32
  let v81 : BitVec 1 := Scalar.cmpi .eq v2 c10_i32_66
  let c14_i32_67 : BitVec 32 := 14#32
  let c9_i32_64 : BitVec 32 := 9#32
  let v79 : BitVec 1 := Scalar.cmpi .eq v2 c9_i32_64
  let c5_i32_65 : BitVec 32 := 5#32
  let c8_i32_62 : BitVec 32 := 8#32
  let v77 : BitVec 1 := Scalar.cmpi .eq v2 c8_i32_62
  let c12_i32_63 : BitVec 32 := 12#32
  let c7_i32_60 : BitVec 32 := 7#32
  let v75 : BitVec 1 := Scalar.cmpi .eq v2 c7_i32_60
  let c3_i32_61 : BitVec 32 := 3#32
  let c6_i32_58 : BitVec 32 := 6#32
  let v73 : BitVec 1 := Scalar.cmpi .eq v2 c6_i32_58
  let c10_i32_59 : BitVec 32 := 10#32
  let c5_i32_56 : BitVec 32 := 5#32
  let v71 : BitVec 1 := Scalar.cmpi .eq v2 c5_i32_56
  let c1_i32_57 : BitVec 32 := 1#32
  let c4_i32_54 : BitVec 32 := 4#32
  let v69 : BitVec 1 := Scalar.cmpi .eq v2 c4_i32_54
  let c8_i32_55 : BitVec 32 := 8#32
  let c3_i32_52 : BitVec 32 := 3#32
  let v67 : BitVec 1 := Scalar.cmpi .eq v2 c3_i32_52
  let c2_i32_53 : BitVec 32 := 2#32
  let c2_i32_50 : BitVec 32 := 2#32
  let v65 : BitVec 1 := Scalar.cmpi .eq v2 c2_i32_50
  let c6_i32_51 : BitVec 32 := 6#32
  let c1_i32_47 : BitVec 32 := 1#32
  let v63 : BitVec 1 := Scalar.cmpi .eq v2 c1_i32_47
  let c0_i32_48 : BitVec 32 := 0#32
  let c4_i32_49 : BitVec 32 := 4#32
  let v64 : BitVec 32 := Scalar.select v63 c0_i32_48 c4_i32_49
  let v66 : BitVec 32 := Scalar.select v65 c6_i32_51 v64
  let v68 : BitVec 32 := Scalar.select v67 c2_i32_53 v66
  let v70 : BitVec 32 := Scalar.select v69 c8_i32_55 v68
  let v72 : BitVec 32 := Scalar.select v71 c1_i32_57 v70
  let v74 : BitVec 32 := Scalar.select v73 c10_i32_59 v72
  let v76 : BitVec 32 := Scalar.select v75 c3_i32_61 v74
  let v78 : BitVec 32 := Scalar.select v77 c12_i32_63 v76
  let v80 : BitVec 32 := Scalar.select v79 c5_i32_65 v78
  let v82 : BitVec 32 := Scalar.select v81 c14_i32_67 v80
  let v84 : BitVec 32 := Scalar.select v83 c7_i32_69 v82
  let v86 : BitVec 32 := Scalar.select v85 c15_i32_71 v84
  let v88 : BitVec 32 := Scalar.select v87 c9_i32_73 v86
  let v90 : BitVec 32 := Scalar.select v89 c13_i32_75 v88
  let v92 : BitVec 32 := Scalar.select v91 c11_i32_77 v90
  let c1_i32_2758 : BitVec 32 := 1#32
  let v2928 : BitVec 32 := Scalar.muli v92 c1_i32_2758
  let v2929 : BitVec 32 := Scalar.addi c0_i32_2759 v2928
  v2929.toNat
def k0_dev52 (d0 : Dev nD) : Nat :=
  let c0_i32_2821 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c12_i32_46 : BitVec 32 := 12#32
  let c14_i32_43 : BitVec 32 := 14#32
  let v59 : BitVec 1 := Scalar.cmpi .eq v2 c14_i32_43
  let c10_i32_44 : BitVec 32 := 10#32
  let c13_i32_41 : BitVec 32 := 13#32
  let v57 : BitVec 1 := Scalar.cmpi .eq v2 c13_i32_41
  let c14_i32_42 : BitVec 32 := 14#32
  let c12_i32_39 : BitVec 32 := 12#32
  let v55 : BitVec 1 := Scalar.cmpi .eq v2 c12_i32_39
  let c8_i32_40 : BitVec 32 := 8#32
  let c11_i32_37 : BitVec 32 := 11#32
  let v53 : BitVec 1 := Scalar.cmpi .eq v2 c11_i32_37
  let c15_i32_38 : BitVec 32 := 15#32
  let c10_i32_35 : BitVec 32 := 10#32
  let v51 : BitVec 1 := Scalar.cmpi .eq v2 c10_i32_35
  let c6_i32_36 : BitVec 32 := 6#32
  let c9_i32_33 : BitVec 32 := 9#32
  let v49 : BitVec 1 := Scalar.cmpi .eq v2 c9_i32_33
  let c13_i32_34 : BitVec 32 := 13#32
  let c8_i32_31 : BitVec 32 := 8#32
  let v47 : BitVec 1 := Scalar.cmpi .eq v2 c8_i32_31
  let c4_i32_32 : BitVec 32 := 4#32
  let c7_i32_29 : BitVec 32 := 7#32
  let v45 : BitVec 1 := Scalar.cmpi .eq v2 c7_i32_29
  let c11_i32_30 : BitVec 32 := 11#32
  let c6_i32_27 : BitVec 32 := 6#32
  let v43 : BitVec 1 := Scalar.cmpi .eq v2 c6_i32_27
  let c2_i32_28 : BitVec 32 := 2#32
  let c5_i32_25 : BitVec 32 := 5#32
  let v41 : BitVec 1 := Scalar.cmpi .eq v2 c5_i32_25
  let c9_i32_26 : BitVec 32 := 9#32
  let c4_i32_23 : BitVec 32 := 4#32
  let v39 : BitVec 1 := Scalar.cmpi .eq v2 c4_i32_23
  let c0_i32_24 : BitVec 32 := 0#32
  let c3_i32_21 : BitVec 32 := 3#32
  let v37 : BitVec 1 := Scalar.cmpi .eq v2 c3_i32_21
  let c7_i32_22 : BitVec 32 := 7#32
  let c2_i32_19 : BitVec 32 := 2#32
  let v35 : BitVec 1 := Scalar.cmpi .eq v2 c2_i32_19
  let c3_i32_20 : BitVec 32 := 3#32
  let c1_i32_16 : BitVec 32 := 1#32
  let v33 : BitVec 1 := Scalar.cmpi .eq v2 c1_i32_16
  let c5_i32_17 : BitVec 32 := 5#32
  let c1_i32_18 : BitVec 32 := 1#32
  let v34 : BitVec 32 := Scalar.select v33 c5_i32_17 c1_i32_18
  let v36 : BitVec 32 := Scalar.select v35 c3_i32_20 v34
  let v38 : BitVec 32 := Scalar.select v37 c7_i32_22 v36
  let v40 : BitVec 32 := Scalar.select v39 c0_i32_24 v38
  let v42 : BitVec 32 := Scalar.select v41 c9_i32_26 v40
  let v44 : BitVec 32 := Scalar.select v43 c2_i32_28 v42
  let v46 : BitVec 32 := Scalar.select v45 c11_i32_30 v44
  let v48 : BitVec 32 := Scalar.select v47 c4_i32_32 v46
  let v50 : BitVec 32 := Scalar.select v49 c13_i32_34 v48
  let v52 : BitVec 32 := Scalar.select v51 c6_i32_36 v50
  let v54 : BitVec 32 := Scalar.select v53 c15_i32_38 v52
  let v56 : BitVec 32 := Scalar.select v55 c8_i32_40 v54
  let v58 : BitVec 32 := Scalar.select v57 c14_i32_42 v56
  let v60 : BitVec 32 := Scalar.select v59 c10_i32_44 v58
  let v62 : BitVec 32 := Scalar.select v61 c12_i32_46 v60
  let c1_i32_2820 : BitVec 32 := 1#32
  let v2993 : BitVec 32 := Scalar.muli v62 c1_i32_2820
  let v2994 : BitVec 32 := Scalar.addi c0_i32_2821 v2993
  v2994.toNat
def k0_dev53 (d0 : Dev nD) : Nat :=
  let c0_i32_2883 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c11_i32_77 : BitVec 32 := 11#32
  let c14_i32_74 : BitVec 32 := 14#32
  let v89 : BitVec 1 := Scalar.cmpi .eq v2 c14_i32_74
  let c13_i32_75 : BitVec 32 := 13#32
  let c13_i32_72 : BitVec 32 := 13#32
  let v87 : BitVec 1 := Scalar.cmpi .eq v2 c13_i32_72
  let c9_i32_73 : BitVec 32 := 9#32
  let c12_i32_70 : BitVec 32 := 12#32
  let v85 : BitVec 1 := Scalar.cmpi .eq v2 c12_i32_70
  let c15_i32_71 : BitVec 32 := 15#32
  let c11_i32_68 : BitVec 32 := 11#32
  let v83 : BitVec 1 := Scalar.cmpi .eq v2 c11_i32_68
  let c7_i32_69 : BitVec 32 := 7#32
  let c10_i32_66 : BitVec 32 := 10#32
  let v81 : BitVec 1 := Scalar.cmpi .eq v2 c10_i32_66
  let c14_i32_67 : BitVec 32 := 14#32
  let c9_i32_64 : BitVec 32 := 9#32
  let v79 : BitVec 1 := Scalar.cmpi .eq v2 c9_i32_64
  let c5_i32_65 : BitVec 32 := 5#32
  let c8_i32_62 : BitVec 32 := 8#32
  let v77 : BitVec 1 := Scalar.cmpi .eq v2 c8_i32_62
  let c12_i32_63 : BitVec 32 := 12#32
  let c7_i32_60 : BitVec 32 := 7#32
  let v75 : BitVec 1 := Scalar.cmpi .eq v2 c7_i32_60
  let c3_i32_61 : BitVec 32 := 3#32
  let c6_i32_58 : BitVec 32 := 6#32
  let v73 : BitVec 1 := Scalar.cmpi .eq v2 c6_i32_58
  let c10_i32_59 : BitVec 32 := 10#32
  let c5_i32_56 : BitVec 32 := 5#32
  let v71 : BitVec 1 := Scalar.cmpi .eq v2 c5_i32_56
  let c1_i32_57 : BitVec 32 := 1#32
  let c4_i32_54 : BitVec 32 := 4#32
  let v69 : BitVec 1 := Scalar.cmpi .eq v2 c4_i32_54
  let c8_i32_55 : BitVec 32 := 8#32
  let c3_i32_52 : BitVec 32 := 3#32
  let v67 : BitVec 1 := Scalar.cmpi .eq v2 c3_i32_52
  let c2_i32_53 : BitVec 32 := 2#32
  let c2_i32_50 : BitVec 32 := 2#32
  let v65 : BitVec 1 := Scalar.cmpi .eq v2 c2_i32_50
  let c6_i32_51 : BitVec 32 := 6#32
  let c1_i32_47 : BitVec 32 := 1#32
  let v63 : BitVec 1 := Scalar.cmpi .eq v2 c1_i32_47
  let c0_i32_48 : BitVec 32 := 0#32
  let c4_i32_49 : BitVec 32 := 4#32
  let v64 : BitVec 32 := Scalar.select v63 c0_i32_48 c4_i32_49
  let v66 : BitVec 32 := Scalar.select v65 c6_i32_51 v64
  let v68 : BitVec 32 := Scalar.select v67 c2_i32_53 v66
  let v70 : BitVec 32 := Scalar.select v69 c8_i32_55 v68
  let v72 : BitVec 32 := Scalar.select v71 c1_i32_57 v70
  let v74 : BitVec 32 := Scalar.select v73 c10_i32_59 v72
  let v76 : BitVec 32 := Scalar.select v75 c3_i32_61 v74
  let v78 : BitVec 32 := Scalar.select v77 c12_i32_63 v76
  let v80 : BitVec 32 := Scalar.select v79 c5_i32_65 v78
  let v82 : BitVec 32 := Scalar.select v81 c14_i32_67 v80
  let v84 : BitVec 32 := Scalar.select v83 c7_i32_69 v82
  let v86 : BitVec 32 := Scalar.select v85 c15_i32_71 v84
  let v88 : BitVec 32 := Scalar.select v87 c9_i32_73 v86
  let v90 : BitVec 32 := Scalar.select v89 c13_i32_75 v88
  let v92 : BitVec 32 := Scalar.select v91 c11_i32_77 v90
  let c1_i32_2882 : BitVec 32 := 1#32
  let v3058 : BitVec 32 := Scalar.muli v92 c1_i32_2882
  let v3059 : BitVec 32 := Scalar.addi c0_i32_2883 v3058
  v3059.toNat
def k0_dev54 (d0 : Dev nD) : Nat :=
  let c0_i32_2945 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c12_i32_46 : BitVec 32 := 12#32
  let c14_i32_43 : BitVec 32 := 14#32
  let v59 : BitVec 1 := Scalar.cmpi .eq v2 c14_i32_43
  let c10_i32_44 : BitVec 32 := 10#32
  let c13_i32_41 : BitVec 32 := 13#32
  let v57 : BitVec 1 := Scalar.cmpi .eq v2 c13_i32_41
  let c14_i32_42 : BitVec 32 := 14#32
  let c12_i32_39 : BitVec 32 := 12#32
  let v55 : BitVec 1 := Scalar.cmpi .eq v2 c12_i32_39
  let c8_i32_40 : BitVec 32 := 8#32
  let c11_i32_37 : BitVec 32 := 11#32
  let v53 : BitVec 1 := Scalar.cmpi .eq v2 c11_i32_37
  let c15_i32_38 : BitVec 32 := 15#32
  let c10_i32_35 : BitVec 32 := 10#32
  let v51 : BitVec 1 := Scalar.cmpi .eq v2 c10_i32_35
  let c6_i32_36 : BitVec 32 := 6#32
  let c9_i32_33 : BitVec 32 := 9#32
  let v49 : BitVec 1 := Scalar.cmpi .eq v2 c9_i32_33
  let c13_i32_34 : BitVec 32 := 13#32
  let c8_i32_31 : BitVec 32 := 8#32
  let v47 : BitVec 1 := Scalar.cmpi .eq v2 c8_i32_31
  let c4_i32_32 : BitVec 32 := 4#32
  let c7_i32_29 : BitVec 32 := 7#32
  let v45 : BitVec 1 := Scalar.cmpi .eq v2 c7_i32_29
  let c11_i32_30 : BitVec 32 := 11#32
  let c6_i32_27 : BitVec 32 := 6#32
  let v43 : BitVec 1 := Scalar.cmpi .eq v2 c6_i32_27
  let c2_i32_28 : BitVec 32 := 2#32
  let c5_i32_25 : BitVec 32 := 5#32
  let v41 : BitVec 1 := Scalar.cmpi .eq v2 c5_i32_25
  let c9_i32_26 : BitVec 32 := 9#32
  let c4_i32_23 : BitVec 32 := 4#32
  let v39 : BitVec 1 := Scalar.cmpi .eq v2 c4_i32_23
  let c0_i32_24 : BitVec 32 := 0#32
  let c3_i32_21 : BitVec 32 := 3#32
  let v37 : BitVec 1 := Scalar.cmpi .eq v2 c3_i32_21
  let c7_i32_22 : BitVec 32 := 7#32
  let c2_i32_19 : BitVec 32 := 2#32
  let v35 : BitVec 1 := Scalar.cmpi .eq v2 c2_i32_19
  let c3_i32_20 : BitVec 32 := 3#32
  let c1_i32_16 : BitVec 32 := 1#32
  let v33 : BitVec 1 := Scalar.cmpi .eq v2 c1_i32_16
  let c5_i32_17 : BitVec 32 := 5#32
  let c1_i32_18 : BitVec 32 := 1#32
  let v34 : BitVec 32 := Scalar.select v33 c5_i32_17 c1_i32_18
  let v36 : BitVec 32 := Scalar.select v35 c3_i32_20 v34
  let v38 : BitVec 32 := Scalar.select v37 c7_i32_22 v36
  let v40 : BitVec 32 := Scalar.select v39 c0_i32_24 v38
  let v42 : BitVec 32 := Scalar.select v41 c9_i32_26 v40
  let v44 : BitVec 32 := Scalar.select v43 c2_i32_28 v42
  let v46 : BitVec 32 := Scalar.select v45 c11_i32_30 v44
  let v48 : BitVec 32 := Scalar.select v47 c4_i32_32 v46
  let v50 : BitVec 32 := Scalar.select v49 c13_i32_34 v48
  let v52 : BitVec 32 := Scalar.select v51 c6_i32_36 v50
  let v54 : BitVec 32 := Scalar.select v53 c15_i32_38 v52
  let v56 : BitVec 32 := Scalar.select v55 c8_i32_40 v54
  let v58 : BitVec 32 := Scalar.select v57 c14_i32_42 v56
  let v60 : BitVec 32 := Scalar.select v59 c10_i32_44 v58
  let v62 : BitVec 32 := Scalar.select v61 c12_i32_46 v60
  let c1_i32_2944 : BitVec 32 := 1#32
  let v3123 : BitVec 32 := Scalar.muli v62 c1_i32_2944
  let v3124 : BitVec 32 := Scalar.addi c0_i32_2945 v3123
  v3124.toNat
def k0_dev55 (d0 : Dev nD) : Nat :=
  let c0_i32_3007 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c11_i32_77 : BitVec 32 := 11#32
  let c14_i32_74 : BitVec 32 := 14#32
  let v89 : BitVec 1 := Scalar.cmpi .eq v2 c14_i32_74
  let c13_i32_75 : BitVec 32 := 13#32
  let c13_i32_72 : BitVec 32 := 13#32
  let v87 : BitVec 1 := Scalar.cmpi .eq v2 c13_i32_72
  let c9_i32_73 : BitVec 32 := 9#32
  let c12_i32_70 : BitVec 32 := 12#32
  let v85 : BitVec 1 := Scalar.cmpi .eq v2 c12_i32_70
  let c15_i32_71 : BitVec 32 := 15#32
  let c11_i32_68 : BitVec 32 := 11#32
  let v83 : BitVec 1 := Scalar.cmpi .eq v2 c11_i32_68
  let c7_i32_69 : BitVec 32 := 7#32
  let c10_i32_66 : BitVec 32 := 10#32
  let v81 : BitVec 1 := Scalar.cmpi .eq v2 c10_i32_66
  let c14_i32_67 : BitVec 32 := 14#32
  let c9_i32_64 : BitVec 32 := 9#32
  let v79 : BitVec 1 := Scalar.cmpi .eq v2 c9_i32_64
  let c5_i32_65 : BitVec 32 := 5#32
  let c8_i32_62 : BitVec 32 := 8#32
  let v77 : BitVec 1 := Scalar.cmpi .eq v2 c8_i32_62
  let c12_i32_63 : BitVec 32 := 12#32
  let c7_i32_60 : BitVec 32 := 7#32
  let v75 : BitVec 1 := Scalar.cmpi .eq v2 c7_i32_60
  let c3_i32_61 : BitVec 32 := 3#32
  let c6_i32_58 : BitVec 32 := 6#32
  let v73 : BitVec 1 := Scalar.cmpi .eq v2 c6_i32_58
  let c10_i32_59 : BitVec 32 := 10#32
  let c5_i32_56 : BitVec 32 := 5#32
  let v71 : BitVec 1 := Scalar.cmpi .eq v2 c5_i32_56
  let c1_i32_57 : BitVec 32 := 1#32
  let c4_i32_54 : BitVec 32 := 4#32
  let v69 : BitVec 1 := Scalar.cmpi .eq v2 c4_i32_54
  let c8_i32_55 : BitVec 32 := 8#32
  let c3_i32_52 : BitVec 32 := 3#32
  let v67 : BitVec 1 := Scalar.cmpi .eq v2 c3_i32_52
  let c2_i32_53 : BitVec 32 := 2#32
  let c2_i32_50 : BitVec 32 := 2#32
  let v65 : BitVec 1 := Scalar.cmpi .eq v2 c2_i32_50
  let c6_i32_51 : BitVec 32 := 6#32
  let c1_i32_47 : BitVec 32 := 1#32
  let v63 : BitVec 1 := Scalar.cmpi .eq v2 c1_i32_47
  let c0_i32_48 : BitVec 32 := 0#32
  let c4_i32_49 : BitVec 32 := 4#32
  let v64 : BitVec 32 := Scalar.select v63 c0_i32_48 c4_i32_49
  let v66 : BitVec 32 := Scalar.select v65 c6_i32_51 v64
  let v68 : BitVec 32 := Scalar.select v67 c2_i32_53 v66
  let v70 : BitVec 32 := Scalar.select v69 c8_i32_55 v68
  let v72 : BitVec 32 := Scalar.select v71 c1_i32_57 v70
  let v74 : BitVec 32 := Scalar.select v73 c10_i32_59 v72
  let v76 : BitVec 32 := Scalar.select v75 c3_i32_61 v74
  let v78 : BitVec 32 := Scalar.select v77 c12_i32_63 v76
  let v80 : BitVec 32 := Scalar.select v79 c5_i32_65 v78
  let v82 : BitVec 32 := Scalar.select v81 c14_i32_67 v80
  let v84 : BitVec 32 := Scalar.select v83 c7_i32_69 v82
  let v86 : BitVec 32 := Scalar.select v85 c15_i32_71 v84
  let v88 : BitVec 32 := Scalar.select v87 c9_i32_73 v86
  let v90 : BitVec 32 := Scalar.select v89 c13_i32_75 v88
  let v92 : BitVec 32 := Scalar.select v91 c11_i32_77 v90
  let c1_i32_3006 : BitVec 32 := 1#32
  let v3188 : BitVec 32 := Scalar.muli v92 c1_i32_3006
  let v3189 : BitVec 32 := Scalar.addi c0_i32_3007 v3188
  v3189.toNat
def k0_dev56 (d0 : Dev nD) : Nat :=
  let c0_i32_3069 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c12_i32_46 : BitVec 32 := 12#32
  let c14_i32_43 : BitVec 32 := 14#32
  let v59 : BitVec 1 := Scalar.cmpi .eq v2 c14_i32_43
  let c10_i32_44 : BitVec 32 := 10#32
  let c13_i32_41 : BitVec 32 := 13#32
  let v57 : BitVec 1 := Scalar.cmpi .eq v2 c13_i32_41
  let c14_i32_42 : BitVec 32 := 14#32
  let c12_i32_39 : BitVec 32 := 12#32
  let v55 : BitVec 1 := Scalar.cmpi .eq v2 c12_i32_39
  let c8_i32_40 : BitVec 32 := 8#32
  let c11_i32_37 : BitVec 32 := 11#32
  let v53 : BitVec 1 := Scalar.cmpi .eq v2 c11_i32_37
  let c15_i32_38 : BitVec 32 := 15#32
  let c10_i32_35 : BitVec 32 := 10#32
  let v51 : BitVec 1 := Scalar.cmpi .eq v2 c10_i32_35
  let c6_i32_36 : BitVec 32 := 6#32
  let c9_i32_33 : BitVec 32 := 9#32
  let v49 : BitVec 1 := Scalar.cmpi .eq v2 c9_i32_33
  let c13_i32_34 : BitVec 32 := 13#32
  let c8_i32_31 : BitVec 32 := 8#32
  let v47 : BitVec 1 := Scalar.cmpi .eq v2 c8_i32_31
  let c4_i32_32 : BitVec 32 := 4#32
  let c7_i32_29 : BitVec 32 := 7#32
  let v45 : BitVec 1 := Scalar.cmpi .eq v2 c7_i32_29
  let c11_i32_30 : BitVec 32 := 11#32
  let c6_i32_27 : BitVec 32 := 6#32
  let v43 : BitVec 1 := Scalar.cmpi .eq v2 c6_i32_27
  let c2_i32_28 : BitVec 32 := 2#32
  let c5_i32_25 : BitVec 32 := 5#32
  let v41 : BitVec 1 := Scalar.cmpi .eq v2 c5_i32_25
  let c9_i32_26 : BitVec 32 := 9#32
  let c4_i32_23 : BitVec 32 := 4#32
  let v39 : BitVec 1 := Scalar.cmpi .eq v2 c4_i32_23
  let c0_i32_24 : BitVec 32 := 0#32
  let c3_i32_21 : BitVec 32 := 3#32
  let v37 : BitVec 1 := Scalar.cmpi .eq v2 c3_i32_21
  let c7_i32_22 : BitVec 32 := 7#32
  let c2_i32_19 : BitVec 32 := 2#32
  let v35 : BitVec 1 := Scalar.cmpi .eq v2 c2_i32_19
  let c3_i32_20 : BitVec 32 := 3#32
  let c1_i32_16 : BitVec 32 := 1#32
  let v33 : BitVec 1 := Scalar.cmpi .eq v2 c1_i32_16
  let c5_i32_17 : BitVec 32 := 5#32
  let c1_i32_18 : BitVec 32 := 1#32
  let v34 : BitVec 32 := Scalar.select v33 c5_i32_17 c1_i32_18
  let v36 : BitVec 32 := Scalar.select v35 c3_i32_20 v34
  let v38 : BitVec 32 := Scalar.select v37 c7_i32_22 v36
  let v40 : BitVec 32 := Scalar.select v39 c0_i32_24 v38
  let v42 : BitVec 32 := Scalar.select v41 c9_i32_26 v40
  let v44 : BitVec 32 := Scalar.select v43 c2_i32_28 v42
  let v46 : BitVec 32 := Scalar.select v45 c11_i32_30 v44
  let v48 : BitVec 32 := Scalar.select v47 c4_i32_32 v46
  let v50 : BitVec 32 := Scalar.select v49 c13_i32_34 v48
  let v52 : BitVec 32 := Scalar.select v51 c6_i32_36 v50
  let v54 : BitVec 32 := Scalar.select v53 c15_i32_38 v52
  let v56 : BitVec 32 := Scalar.select v55 c8_i32_40 v54
  let v58 : BitVec 32 := Scalar.select v57 c14_i32_42 v56
  let v60 : BitVec 32 := Scalar.select v59 c10_i32_44 v58
  let v62 : BitVec 32 := Scalar.select v61 c12_i32_46 v60
  let c1_i32_3068 : BitVec 32 := 1#32
  let v3253 : BitVec 32 := Scalar.muli v62 c1_i32_3068
  let v3254 : BitVec 32 := Scalar.addi c0_i32_3069 v3253
  v3254.toNat
def k0_dev57 (d0 : Dev nD) : Nat :=
  let c0_i32_3131 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c11_i32_77 : BitVec 32 := 11#32
  let c14_i32_74 : BitVec 32 := 14#32
  let v89 : BitVec 1 := Scalar.cmpi .eq v2 c14_i32_74
  let c13_i32_75 : BitVec 32 := 13#32
  let c13_i32_72 : BitVec 32 := 13#32
  let v87 : BitVec 1 := Scalar.cmpi .eq v2 c13_i32_72
  let c9_i32_73 : BitVec 32 := 9#32
  let c12_i32_70 : BitVec 32 := 12#32
  let v85 : BitVec 1 := Scalar.cmpi .eq v2 c12_i32_70
  let c15_i32_71 : BitVec 32 := 15#32
  let c11_i32_68 : BitVec 32 := 11#32
  let v83 : BitVec 1 := Scalar.cmpi .eq v2 c11_i32_68
  let c7_i32_69 : BitVec 32 := 7#32
  let c10_i32_66 : BitVec 32 := 10#32
  let v81 : BitVec 1 := Scalar.cmpi .eq v2 c10_i32_66
  let c14_i32_67 : BitVec 32 := 14#32
  let c9_i32_64 : BitVec 32 := 9#32
  let v79 : BitVec 1 := Scalar.cmpi .eq v2 c9_i32_64
  let c5_i32_65 : BitVec 32 := 5#32
  let c8_i32_62 : BitVec 32 := 8#32
  let v77 : BitVec 1 := Scalar.cmpi .eq v2 c8_i32_62
  let c12_i32_63 : BitVec 32 := 12#32
  let c7_i32_60 : BitVec 32 := 7#32
  let v75 : BitVec 1 := Scalar.cmpi .eq v2 c7_i32_60
  let c3_i32_61 : BitVec 32 := 3#32
  let c6_i32_58 : BitVec 32 := 6#32
  let v73 : BitVec 1 := Scalar.cmpi .eq v2 c6_i32_58
  let c10_i32_59 : BitVec 32 := 10#32
  let c5_i32_56 : BitVec 32 := 5#32
  let v71 : BitVec 1 := Scalar.cmpi .eq v2 c5_i32_56
  let c1_i32_57 : BitVec 32 := 1#32
  let c4_i32_54 : BitVec 32 := 4#32
  let v69 : BitVec 1 := Scalar.cmpi .eq v2 c4_i32_54
  let c8_i32_55 : BitVec 32 := 8#32
  let c3_i32_52 : BitVec 32 := 3#32
  let v67 : BitVec 1 := Scalar.cmpi .eq v2 c3_i32_52
  let c2_i32_53 : BitVec 32 := 2#32
  let c2_i32_50 : BitVec 32 := 2#32
  let v65 : BitVec 1 := Scalar.cmpi .eq v2 c2_i32_50
  let c6_i32_51 : BitVec 32 := 6#32
  let c1_i32_47 : BitVec 32 := 1#32
  let v63 : BitVec 1 := Scalar.cmpi .eq v2 c1_i32_47
  let c0_i32_48 : BitVec 32 := 0#32
  let c4_i32_49 : BitVec 32 := 4#32
  let v64 : BitVec 32 := Scalar.select v63 c0_i32_48 c4_i32_49
  let v66 : BitVec 32 := Scalar.select v65 c6_i32_51 v64
  let v68 : BitVec 32 := Scalar.select v67 c2_i32_53 v66
  let v70 : BitVec 32 := Scalar.select v69 c8_i32_55 v68
  let v72 : BitVec 32 := Scalar.select v71 c1_i32_57 v70
  let v74 : BitVec 32 := Scalar.select v73 c10_i32_59 v72
  let v76 : BitVec 32 := Scalar.select v75 c3_i32_61 v74
  let v78 : BitVec 32 := Scalar.select v77 c12_i32_63 v76
  let v80 : BitVec 32 := Scalar.select v79 c5_i32_65 v78
  let v82 : BitVec 32 := Scalar.select v81 c14_i32_67 v80
  let v84 : BitVec 32 := Scalar.select v83 c7_i32_69 v82
  let v86 : BitVec 32 := Scalar.select v85 c15_i32_71 v84
  let v88 : BitVec 32 := Scalar.select v87 c9_i32_73 v86
  let v90 : BitVec 32 := Scalar.select v89 c13_i32_75 v88
  let v92 : BitVec 32 := Scalar.select v91 c11_i32_77 v90
  let c1_i32_3130 : BitVec 32 := 1#32
  let v3318 : BitVec 32 := Scalar.muli v92 c1_i32_3130
  let v3319 : BitVec 32 := Scalar.addi c0_i32_3131 v3318
  v3319.toNat
def k0_dev58 (d0 : Dev nD) : Nat :=
  let c0_i32_3193 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c12_i32_46 : BitVec 32 := 12#32
  let c14_i32_43 : BitVec 32 := 14#32
  let v59 : BitVec 1 := Scalar.cmpi .eq v2 c14_i32_43
  let c10_i32_44 : BitVec 32 := 10#32
  let c13_i32_41 : BitVec 32 := 13#32
  let v57 : BitVec 1 := Scalar.cmpi .eq v2 c13_i32_41
  let c14_i32_42 : BitVec 32 := 14#32
  let c12_i32_39 : BitVec 32 := 12#32
  let v55 : BitVec 1 := Scalar.cmpi .eq v2 c12_i32_39
  let c8_i32_40 : BitVec 32 := 8#32
  let c11_i32_37 : BitVec 32 := 11#32
  let v53 : BitVec 1 := Scalar.cmpi .eq v2 c11_i32_37
  let c15_i32_38 : BitVec 32 := 15#32
  let c10_i32_35 : BitVec 32 := 10#32
  let v51 : BitVec 1 := Scalar.cmpi .eq v2 c10_i32_35
  let c6_i32_36 : BitVec 32 := 6#32
  let c9_i32_33 : BitVec 32 := 9#32
  let v49 : BitVec 1 := Scalar.cmpi .eq v2 c9_i32_33
  let c13_i32_34 : BitVec 32 := 13#32
  let c8_i32_31 : BitVec 32 := 8#32
  let v47 : BitVec 1 := Scalar.cmpi .eq v2 c8_i32_31
  let c4_i32_32 : BitVec 32 := 4#32
  let c7_i32_29 : BitVec 32 := 7#32
  let v45 : BitVec 1 := Scalar.cmpi .eq v2 c7_i32_29
  let c11_i32_30 : BitVec 32 := 11#32
  let c6_i32_27 : BitVec 32 := 6#32
  let v43 : BitVec 1 := Scalar.cmpi .eq v2 c6_i32_27
  let c2_i32_28 : BitVec 32 := 2#32
  let c5_i32_25 : BitVec 32 := 5#32
  let v41 : BitVec 1 := Scalar.cmpi .eq v2 c5_i32_25
  let c9_i32_26 : BitVec 32 := 9#32
  let c4_i32_23 : BitVec 32 := 4#32
  let v39 : BitVec 1 := Scalar.cmpi .eq v2 c4_i32_23
  let c0_i32_24 : BitVec 32 := 0#32
  let c3_i32_21 : BitVec 32 := 3#32
  let v37 : BitVec 1 := Scalar.cmpi .eq v2 c3_i32_21
  let c7_i32_22 : BitVec 32 := 7#32
  let c2_i32_19 : BitVec 32 := 2#32
  let v35 : BitVec 1 := Scalar.cmpi .eq v2 c2_i32_19
  let c3_i32_20 : BitVec 32 := 3#32
  let c1_i32_16 : BitVec 32 := 1#32
  let v33 : BitVec 1 := Scalar.cmpi .eq v2 c1_i32_16
  let c5_i32_17 : BitVec 32 := 5#32
  let c1_i32_18 : BitVec 32 := 1#32
  let v34 : BitVec 32 := Scalar.select v33 c5_i32_17 c1_i32_18
  let v36 : BitVec 32 := Scalar.select v35 c3_i32_20 v34
  let v38 : BitVec 32 := Scalar.select v37 c7_i32_22 v36
  let v40 : BitVec 32 := Scalar.select v39 c0_i32_24 v38
  let v42 : BitVec 32 := Scalar.select v41 c9_i32_26 v40
  let v44 : BitVec 32 := Scalar.select v43 c2_i32_28 v42
  let v46 : BitVec 32 := Scalar.select v45 c11_i32_30 v44
  let v48 : BitVec 32 := Scalar.select v47 c4_i32_32 v46
  let v50 : BitVec 32 := Scalar.select v49 c13_i32_34 v48
  let v52 : BitVec 32 := Scalar.select v51 c6_i32_36 v50
  let v54 : BitVec 32 := Scalar.select v53 c15_i32_38 v52
  let v56 : BitVec 32 := Scalar.select v55 c8_i32_40 v54
  let v58 : BitVec 32 := Scalar.select v57 c14_i32_42 v56
  let v60 : BitVec 32 := Scalar.select v59 c10_i32_44 v58
  let v62 : BitVec 32 := Scalar.select v61 c12_i32_46 v60
  let c1_i32_3192 : BitVec 32 := 1#32
  let v3383 : BitVec 32 := Scalar.muli v62 c1_i32_3192
  let v3384 : BitVec 32 := Scalar.addi c0_i32_3193 v3383
  v3384.toNat
def k0_dev59 (d0 : Dev nD) : Nat :=
  let c0_i32_3254 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c11_i32_77 : BitVec 32 := 11#32
  let c14_i32_74 : BitVec 32 := 14#32
  let v89 : BitVec 1 := Scalar.cmpi .eq v2 c14_i32_74
  let c13_i32_75 : BitVec 32 := 13#32
  let c13_i32_72 : BitVec 32 := 13#32
  let v87 : BitVec 1 := Scalar.cmpi .eq v2 c13_i32_72
  let c9_i32_73 : BitVec 32 := 9#32
  let c12_i32_70 : BitVec 32 := 12#32
  let v85 : BitVec 1 := Scalar.cmpi .eq v2 c12_i32_70
  let c15_i32_71 : BitVec 32 := 15#32
  let c11_i32_68 : BitVec 32 := 11#32
  let v83 : BitVec 1 := Scalar.cmpi .eq v2 c11_i32_68
  let c7_i32_69 : BitVec 32 := 7#32
  let c10_i32_66 : BitVec 32 := 10#32
  let v81 : BitVec 1 := Scalar.cmpi .eq v2 c10_i32_66
  let c14_i32_67 : BitVec 32 := 14#32
  let c9_i32_64 : BitVec 32 := 9#32
  let v79 : BitVec 1 := Scalar.cmpi .eq v2 c9_i32_64
  let c5_i32_65 : BitVec 32 := 5#32
  let c8_i32_62 : BitVec 32 := 8#32
  let v77 : BitVec 1 := Scalar.cmpi .eq v2 c8_i32_62
  let c12_i32_63 : BitVec 32 := 12#32
  let c7_i32_60 : BitVec 32 := 7#32
  let v75 : BitVec 1 := Scalar.cmpi .eq v2 c7_i32_60
  let c3_i32_61 : BitVec 32 := 3#32
  let c6_i32_58 : BitVec 32 := 6#32
  let v73 : BitVec 1 := Scalar.cmpi .eq v2 c6_i32_58
  let c10_i32_59 : BitVec 32 := 10#32
  let c5_i32_56 : BitVec 32 := 5#32
  let v71 : BitVec 1 := Scalar.cmpi .eq v2 c5_i32_56
  let c1_i32_57 : BitVec 32 := 1#32
  let c4_i32_54 : BitVec 32 := 4#32
  let v69 : BitVec 1 := Scalar.cmpi .eq v2 c4_i32_54
  let c8_i32_55 : BitVec 32 := 8#32
  let c3_i32_52 : BitVec 32 := 3#32
  let v67 : BitVec 1 := Scalar.cmpi .eq v2 c3_i32_52
  let c2_i32_53 : BitVec 32 := 2#32
  let c2_i32_50 : BitVec 32 := 2#32
  let v65 : BitVec 1 := Scalar.cmpi .eq v2 c2_i32_50
  let c6_i32_51 : BitVec 32 := 6#32
  let c1_i32_47 : BitVec 32 := 1#32
  let v63 : BitVec 1 := Scalar.cmpi .eq v2 c1_i32_47
  let c0_i32_48 : BitVec 32 := 0#32
  let c4_i32_49 : BitVec 32 := 4#32
  let v64 : BitVec 32 := Scalar.select v63 c0_i32_48 c4_i32_49
  let v66 : BitVec 32 := Scalar.select v65 c6_i32_51 v64
  let v68 : BitVec 32 := Scalar.select v67 c2_i32_53 v66
  let v70 : BitVec 32 := Scalar.select v69 c8_i32_55 v68
  let v72 : BitVec 32 := Scalar.select v71 c1_i32_57 v70
  let v74 : BitVec 32 := Scalar.select v73 c10_i32_59 v72
  let v76 : BitVec 32 := Scalar.select v75 c3_i32_61 v74
  let v78 : BitVec 32 := Scalar.select v77 c12_i32_63 v76
  let v80 : BitVec 32 := Scalar.select v79 c5_i32_65 v78
  let v82 : BitVec 32 := Scalar.select v81 c14_i32_67 v80
  let v84 : BitVec 32 := Scalar.select v83 c7_i32_69 v82
  let v86 : BitVec 32 := Scalar.select v85 c15_i32_71 v84
  let v88 : BitVec 32 := Scalar.select v87 c9_i32_73 v86
  let v90 : BitVec 32 := Scalar.select v89 c13_i32_75 v88
  let v92 : BitVec 32 := Scalar.select v91 c11_i32_77 v90
  let c1_i32_3253 : BitVec 32 := 1#32
  let v3448 : BitVec 32 := Scalar.muli v92 c1_i32_3253
  let v3449 : BitVec 32 := Scalar.addi c0_i32_3254 v3448
  v3449.toNat
def k0_dev60 (d0 : Dev nD) : Nat :=
  let c0_i32_3359 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c11_i32_77 : BitVec 32 := 11#32
  let c14_i32_74 : BitVec 32 := 14#32
  let v89 : BitVec 1 := Scalar.cmpi .eq v2 c14_i32_74
  let c13_i32_75 : BitVec 32 := 13#32
  let c13_i32_72 : BitVec 32 := 13#32
  let v87 : BitVec 1 := Scalar.cmpi .eq v2 c13_i32_72
  let c9_i32_73 : BitVec 32 := 9#32
  let c12_i32_70 : BitVec 32 := 12#32
  let v85 : BitVec 1 := Scalar.cmpi .eq v2 c12_i32_70
  let c15_i32_71 : BitVec 32 := 15#32
  let c11_i32_68 : BitVec 32 := 11#32
  let v83 : BitVec 1 := Scalar.cmpi .eq v2 c11_i32_68
  let c7_i32_69 : BitVec 32 := 7#32
  let c10_i32_66 : BitVec 32 := 10#32
  let v81 : BitVec 1 := Scalar.cmpi .eq v2 c10_i32_66
  let c14_i32_67 : BitVec 32 := 14#32
  let c9_i32_64 : BitVec 32 := 9#32
  let v79 : BitVec 1 := Scalar.cmpi .eq v2 c9_i32_64
  let c5_i32_65 : BitVec 32 := 5#32
  let c8_i32_62 : BitVec 32 := 8#32
  let v77 : BitVec 1 := Scalar.cmpi .eq v2 c8_i32_62
  let c12_i32_63 : BitVec 32 := 12#32
  let c7_i32_60 : BitVec 32 := 7#32
  let v75 : BitVec 1 := Scalar.cmpi .eq v2 c7_i32_60
  let c3_i32_61 : BitVec 32 := 3#32
  let c6_i32_58 : BitVec 32 := 6#32
  let v73 : BitVec 1 := Scalar.cmpi .eq v2 c6_i32_58
  let c10_i32_59 : BitVec 32 := 10#32
  let c5_i32_56 : BitVec 32 := 5#32
  let v71 : BitVec 1 := Scalar.cmpi .eq v2 c5_i32_56
  let c1_i32_57 : BitVec 32 := 1#32
  let c4_i32_54 : BitVec 32 := 4#32
  let v69 : BitVec 1 := Scalar.cmpi .eq v2 c4_i32_54
  let c8_i32_55 : BitVec 32 := 8#32
  let c3_i32_52 : BitVec 32 := 3#32
  let v67 : BitVec 1 := Scalar.cmpi .eq v2 c3_i32_52
  let c2_i32_53 : BitVec 32 := 2#32
  let c2_i32_50 : BitVec 32 := 2#32
  let v65 : BitVec 1 := Scalar.cmpi .eq v2 c2_i32_50
  let c6_i32_51 : BitVec 32 := 6#32
  let c1_i32_47 : BitVec 32 := 1#32
  let v63 : BitVec 1 := Scalar.cmpi .eq v2 c1_i32_47
  let c0_i32_48 : BitVec 32 := 0#32
  let c4_i32_49 : BitVec 32 := 4#32
  let v64 : BitVec 32 := Scalar.select v63 c0_i32_48 c4_i32_49
  let v66 : BitVec 32 := Scalar.select v65 c6_i32_51 v64
  let v68 : BitVec 32 := Scalar.select v67 c2_i32_53 v66
  let v70 : BitVec 32 := Scalar.select v69 c8_i32_55 v68
  let v72 : BitVec 32 := Scalar.select v71 c1_i32_57 v70
  let v74 : BitVec 32 := Scalar.select v73 c10_i32_59 v72
  let v76 : BitVec 32 := Scalar.select v75 c3_i32_61 v74
  let v78 : BitVec 32 := Scalar.select v77 c12_i32_63 v76
  let v80 : BitVec 32 := Scalar.select v79 c5_i32_65 v78
  let v82 : BitVec 32 := Scalar.select v81 c14_i32_67 v80
  let v84 : BitVec 32 := Scalar.select v83 c7_i32_69 v82
  let v86 : BitVec 32 := Scalar.select v85 c15_i32_71 v84
  let v88 : BitVec 32 := Scalar.select v87 c9_i32_73 v86
  let v90 : BitVec 32 := Scalar.select v89 c13_i32_75 v88
  let v92 : BitVec 32 := Scalar.select v91 c11_i32_77 v90
  let c1_i32_3358 : BitVec 32 := 1#32
  let v3557 : BitVec 32 := Scalar.muli v92 c1_i32_3358
  let v3558 : BitVec 32 := Scalar.addi c0_i32_3359 v3557
  v3558.toNat
def k0_dev61 (d0 : Dev nD) : Nat :=
  let c0_i32_3464 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c11_i32_77 : BitVec 32 := 11#32
  let c14_i32_74 : BitVec 32 := 14#32
  let v89 : BitVec 1 := Scalar.cmpi .eq v2 c14_i32_74
  let c13_i32_75 : BitVec 32 := 13#32
  let c13_i32_72 : BitVec 32 := 13#32
  let v87 : BitVec 1 := Scalar.cmpi .eq v2 c13_i32_72
  let c9_i32_73 : BitVec 32 := 9#32
  let c12_i32_70 : BitVec 32 := 12#32
  let v85 : BitVec 1 := Scalar.cmpi .eq v2 c12_i32_70
  let c15_i32_71 : BitVec 32 := 15#32
  let c11_i32_68 : BitVec 32 := 11#32
  let v83 : BitVec 1 := Scalar.cmpi .eq v2 c11_i32_68
  let c7_i32_69 : BitVec 32 := 7#32
  let c10_i32_66 : BitVec 32 := 10#32
  let v81 : BitVec 1 := Scalar.cmpi .eq v2 c10_i32_66
  let c14_i32_67 : BitVec 32 := 14#32
  let c9_i32_64 : BitVec 32 := 9#32
  let v79 : BitVec 1 := Scalar.cmpi .eq v2 c9_i32_64
  let c5_i32_65 : BitVec 32 := 5#32
  let c8_i32_62 : BitVec 32 := 8#32
  let v77 : BitVec 1 := Scalar.cmpi .eq v2 c8_i32_62
  let c12_i32_63 : BitVec 32 := 12#32
  let c7_i32_60 : BitVec 32 := 7#32
  let v75 : BitVec 1 := Scalar.cmpi .eq v2 c7_i32_60
  let c3_i32_61 : BitVec 32 := 3#32
  let c6_i32_58 : BitVec 32 := 6#32
  let v73 : BitVec 1 := Scalar.cmpi .eq v2 c6_i32_58
  let c10_i32_59 : BitVec 32 := 10#32
  let c5_i32_56 : BitVec 32 := 5#32
  let v71 : BitVec 1 := Scalar.cmpi .eq v2 c5_i32_56
  let c1_i32_57 : BitVec 32 := 1#32
  let c4_i32_54 : BitVec 32 := 4#32
  let v69 : BitVec 1 := Scalar.cmpi .eq v2 c4_i32_54
  let c8_i32_55 : BitVec 32 := 8#32
  let c3_i32_52 : BitVec 32 := 3#32
  let v67 : BitVec 1 := Scalar.cmpi .eq v2 c3_i32_52
  let c2_i32_53 : BitVec 32 := 2#32
  let c2_i32_50 : BitVec 32 := 2#32
  let v65 : BitVec 1 := Scalar.cmpi .eq v2 c2_i32_50
  let c6_i32_51 : BitVec 32 := 6#32
  let c1_i32_47 : BitVec 32 := 1#32
  let v63 : BitVec 1 := Scalar.cmpi .eq v2 c1_i32_47
  let c0_i32_48 : BitVec 32 := 0#32
  let c4_i32_49 : BitVec 32 := 4#32
  let v64 : BitVec 32 := Scalar.select v63 c0_i32_48 c4_i32_49
  let v66 : BitVec 32 := Scalar.select v65 c6_i32_51 v64
  let v68 : BitVec 32 := Scalar.select v67 c2_i32_53 v66
  let v70 : BitVec 32 := Scalar.select v69 c8_i32_55 v68
  let v72 : BitVec 32 := Scalar.select v71 c1_i32_57 v70
  let v74 : BitVec 32 := Scalar.select v73 c10_i32_59 v72
  let v76 : BitVec 32 := Scalar.select v75 c3_i32_61 v74
  let v78 : BitVec 32 := Scalar.select v77 c12_i32_63 v76
  let v80 : BitVec 32 := Scalar.select v79 c5_i32_65 v78
  let v82 : BitVec 32 := Scalar.select v81 c14_i32_67 v80
  let v84 : BitVec 32 := Scalar.select v83 c7_i32_69 v82
  let v86 : BitVec 32 := Scalar.select v85 c15_i32_71 v84
  let v88 : BitVec 32 := Scalar.select v87 c9_i32_73 v86
  let v90 : BitVec 32 := Scalar.select v89 c13_i32_75 v88
  let v92 : BitVec 32 := Scalar.select v91 c11_i32_77 v90
  let c1_i32_3463 : BitVec 32 := 1#32
  let v3666 : BitVec 32 := Scalar.muli v92 c1_i32_3463
  let v3667 : BitVec 32 := Scalar.addi c0_i32_3464 v3666
  v3667.toNat
def k0_dev62 (d0 : Dev nD) : Nat :=
  let c0_i32_3569 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c11_i32_77 : BitVec 32 := 11#32
  let c14_i32_74 : BitVec 32 := 14#32
  let v89 : BitVec 1 := Scalar.cmpi .eq v2 c14_i32_74
  let c13_i32_75 : BitVec 32 := 13#32
  let c13_i32_72 : BitVec 32 := 13#32
  let v87 : BitVec 1 := Scalar.cmpi .eq v2 c13_i32_72
  let c9_i32_73 : BitVec 32 := 9#32
  let c12_i32_70 : BitVec 32 := 12#32
  let v85 : BitVec 1 := Scalar.cmpi .eq v2 c12_i32_70
  let c15_i32_71 : BitVec 32 := 15#32
  let c11_i32_68 : BitVec 32 := 11#32
  let v83 : BitVec 1 := Scalar.cmpi .eq v2 c11_i32_68
  let c7_i32_69 : BitVec 32 := 7#32
  let c10_i32_66 : BitVec 32 := 10#32
  let v81 : BitVec 1 := Scalar.cmpi .eq v2 c10_i32_66
  let c14_i32_67 : BitVec 32 := 14#32
  let c9_i32_64 : BitVec 32 := 9#32
  let v79 : BitVec 1 := Scalar.cmpi .eq v2 c9_i32_64
  let c5_i32_65 : BitVec 32 := 5#32
  let c8_i32_62 : BitVec 32 := 8#32
  let v77 : BitVec 1 := Scalar.cmpi .eq v2 c8_i32_62
  let c12_i32_63 : BitVec 32 := 12#32
  let c7_i32_60 : BitVec 32 := 7#32
  let v75 : BitVec 1 := Scalar.cmpi .eq v2 c7_i32_60
  let c3_i32_61 : BitVec 32 := 3#32
  let c6_i32_58 : BitVec 32 := 6#32
  let v73 : BitVec 1 := Scalar.cmpi .eq v2 c6_i32_58
  let c10_i32_59 : BitVec 32 := 10#32
  let c5_i32_56 : BitVec 32 := 5#32
  let v71 : BitVec 1 := Scalar.cmpi .eq v2 c5_i32_56
  let c1_i32_57 : BitVec 32 := 1#32
  let c4_i32_54 : BitVec 32 := 4#32
  let v69 : BitVec 1 := Scalar.cmpi .eq v2 c4_i32_54
  let c8_i32_55 : BitVec 32 := 8#32
  let c3_i32_52 : BitVec 32 := 3#32
  let v67 : BitVec 1 := Scalar.cmpi .eq v2 c3_i32_52
  let c2_i32_53 : BitVec 32 := 2#32
  let c2_i32_50 : BitVec 32 := 2#32
  let v65 : BitVec 1 := Scalar.cmpi .eq v2 c2_i32_50
  let c6_i32_51 : BitVec 32 := 6#32
  let c1_i32_47 : BitVec 32 := 1#32
  let v63 : BitVec 1 := Scalar.cmpi .eq v2 c1_i32_47
  let c0_i32_48 : BitVec 32 := 0#32
  let c4_i32_49 : BitVec 32 := 4#32
  let v64 : BitVec 32 := Scalar.select v63 c0_i32_48 c4_i32_49
  let v66 : BitVec 32 := Scalar.select v65 c6_i32_51 v64
  let v68 : BitVec 32 := Scalar.select v67 c2_i32_53 v66
  let v70 : BitVec 32 := Scalar.select v69 c8_i32_55 v68
  let v72 : BitVec 32 := Scalar.select v71 c1_i32_57 v70
  let v74 : BitVec 32 := Scalar.select v73 c10_i32_59 v72
  let v76 : BitVec 32 := Scalar.select v75 c3_i32_61 v74
  let v78 : BitVec 32 := Scalar.select v77 c12_i32_63 v76
  let v80 : BitVec 32 := Scalar.select v79 c5_i32_65 v78
  let v82 : BitVec 32 := Scalar.select v81 c14_i32_67 v80
  let v84 : BitVec 32 := Scalar.select v83 c7_i32_69 v82
  let v86 : BitVec 32 := Scalar.select v85 c15_i32_71 v84
  let v88 : BitVec 32 := Scalar.select v87 c9_i32_73 v86
  let v90 : BitVec 32 := Scalar.select v89 c13_i32_75 v88
  let v92 : BitVec 32 := Scalar.select v91 c11_i32_77 v90
  let c1_i32_3568 : BitVec 32 := 1#32
  let v3775 : BitVec 32 := Scalar.muli v92 c1_i32_3568
  let v3776 : BitVec 32 := Scalar.addi c0_i32_3569 v3775
  v3776.toNat
def k0_dev63 (d0 : Dev nD) : Nat :=
  let c0_i32_3673 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c11_i32_77 : BitVec 32 := 11#32
  let c14_i32_74 : BitVec 32 := 14#32
  let v89 : BitVec 1 := Scalar.cmpi .eq v2 c14_i32_74
  let c13_i32_75 : BitVec 32 := 13#32
  let c13_i32_72 : BitVec 32 := 13#32
  let v87 : BitVec 1 := Scalar.cmpi .eq v2 c13_i32_72
  let c9_i32_73 : BitVec 32 := 9#32
  let c12_i32_70 : BitVec 32 := 12#32
  let v85 : BitVec 1 := Scalar.cmpi .eq v2 c12_i32_70
  let c15_i32_71 : BitVec 32 := 15#32
  let c11_i32_68 : BitVec 32 := 11#32
  let v83 : BitVec 1 := Scalar.cmpi .eq v2 c11_i32_68
  let c7_i32_69 : BitVec 32 := 7#32
  let c10_i32_66 : BitVec 32 := 10#32
  let v81 : BitVec 1 := Scalar.cmpi .eq v2 c10_i32_66
  let c14_i32_67 : BitVec 32 := 14#32
  let c9_i32_64 : BitVec 32 := 9#32
  let v79 : BitVec 1 := Scalar.cmpi .eq v2 c9_i32_64
  let c5_i32_65 : BitVec 32 := 5#32
  let c8_i32_62 : BitVec 32 := 8#32
  let v77 : BitVec 1 := Scalar.cmpi .eq v2 c8_i32_62
  let c12_i32_63 : BitVec 32 := 12#32
  let c7_i32_60 : BitVec 32 := 7#32
  let v75 : BitVec 1 := Scalar.cmpi .eq v2 c7_i32_60
  let c3_i32_61 : BitVec 32 := 3#32
  let c6_i32_58 : BitVec 32 := 6#32
  let v73 : BitVec 1 := Scalar.cmpi .eq v2 c6_i32_58
  let c10_i32_59 : BitVec 32 := 10#32
  let c5_i32_56 : BitVec 32 := 5#32
  let v71 : BitVec 1 := Scalar.cmpi .eq v2 c5_i32_56
  let c1_i32_57 : BitVec 32 := 1#32
  let c4_i32_54 : BitVec 32 := 4#32
  let v69 : BitVec 1 := Scalar.cmpi .eq v2 c4_i32_54
  let c8_i32_55 : BitVec 32 := 8#32
  let c3_i32_52 : BitVec 32 := 3#32
  let v67 : BitVec 1 := Scalar.cmpi .eq v2 c3_i32_52
  let c2_i32_53 : BitVec 32 := 2#32
  let c2_i32_50 : BitVec 32 := 2#32
  let v65 : BitVec 1 := Scalar.cmpi .eq v2 c2_i32_50
  let c6_i32_51 : BitVec 32 := 6#32
  let c1_i32_47 : BitVec 32 := 1#32
  let v63 : BitVec 1 := Scalar.cmpi .eq v2 c1_i32_47
  let c0_i32_48 : BitVec 32 := 0#32
  let c4_i32_49 : BitVec 32 := 4#32
  let v64 : BitVec 32 := Scalar.select v63 c0_i32_48 c4_i32_49
  let v66 : BitVec 32 := Scalar.select v65 c6_i32_51 v64
  let v68 : BitVec 32 := Scalar.select v67 c2_i32_53 v66
  let v70 : BitVec 32 := Scalar.select v69 c8_i32_55 v68
  let v72 : BitVec 32 := Scalar.select v71 c1_i32_57 v70
  let v74 : BitVec 32 := Scalar.select v73 c10_i32_59 v72
  let v76 : BitVec 32 := Scalar.select v75 c3_i32_61 v74
  let v78 : BitVec 32 := Scalar.select v77 c12_i32_63 v76
  let v80 : BitVec 32 := Scalar.select v79 c5_i32_65 v78
  let v82 : BitVec 32 := Scalar.select v81 c14_i32_67 v80
  let v84 : BitVec 32 := Scalar.select v83 c7_i32_69 v82
  let v86 : BitVec 32 := Scalar.select v85 c15_i32_71 v84
  let v88 : BitVec 32 := Scalar.select v87 c9_i32_73 v86
  let v90 : BitVec 32 := Scalar.select v89 c13_i32_75 v88
  let v92 : BitVec 32 := Scalar.select v91 c11_i32_77 v90
  let c1_i32_3672 : BitVec 32 := 1#32
  let v3885 : BitVec 32 := Scalar.muli v92 c1_i32_3672
  let v3886 : BitVec 32 := Scalar.addi c0_i32_3673 v3885
  v3886.toNat
def k0_dev64 (d0 : Dev nD) : Nat :=
  let c0_i32_3690 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c12_i32_46 : BitVec 32 := 12#32
  let c14_i32_43 : BitVec 32 := 14#32
  let v59 : BitVec 1 := Scalar.cmpi .eq v2 c14_i32_43
  let c10_i32_44 : BitVec 32 := 10#32
  let c13_i32_41 : BitVec 32 := 13#32
  let v57 : BitVec 1 := Scalar.cmpi .eq v2 c13_i32_41
  let c14_i32_42 : BitVec 32 := 14#32
  let c12_i32_39 : BitVec 32 := 12#32
  let v55 : BitVec 1 := Scalar.cmpi .eq v2 c12_i32_39
  let c8_i32_40 : BitVec 32 := 8#32
  let c11_i32_37 : BitVec 32 := 11#32
  let v53 : BitVec 1 := Scalar.cmpi .eq v2 c11_i32_37
  let c15_i32_38 : BitVec 32 := 15#32
  let c10_i32_35 : BitVec 32 := 10#32
  let v51 : BitVec 1 := Scalar.cmpi .eq v2 c10_i32_35
  let c6_i32_36 : BitVec 32 := 6#32
  let c9_i32_33 : BitVec 32 := 9#32
  let v49 : BitVec 1 := Scalar.cmpi .eq v2 c9_i32_33
  let c13_i32_34 : BitVec 32 := 13#32
  let c8_i32_31 : BitVec 32 := 8#32
  let v47 : BitVec 1 := Scalar.cmpi .eq v2 c8_i32_31
  let c4_i32_32 : BitVec 32 := 4#32
  let c7_i32_29 : BitVec 32 := 7#32
  let v45 : BitVec 1 := Scalar.cmpi .eq v2 c7_i32_29
  let c11_i32_30 : BitVec 32 := 11#32
  let c6_i32_27 : BitVec 32 := 6#32
  let v43 : BitVec 1 := Scalar.cmpi .eq v2 c6_i32_27
  let c2_i32_28 : BitVec 32 := 2#32
  let c5_i32_25 : BitVec 32 := 5#32
  let v41 : BitVec 1 := Scalar.cmpi .eq v2 c5_i32_25
  let c9_i32_26 : BitVec 32 := 9#32
  let c4_i32_23 : BitVec 32 := 4#32
  let v39 : BitVec 1 := Scalar.cmpi .eq v2 c4_i32_23
  let c0_i32_24 : BitVec 32 := 0#32
  let c3_i32_21 : BitVec 32 := 3#32
  let v37 : BitVec 1 := Scalar.cmpi .eq v2 c3_i32_21
  let c7_i32_22 : BitVec 32 := 7#32
  let c2_i32_19 : BitVec 32 := 2#32
  let v35 : BitVec 1 := Scalar.cmpi .eq v2 c2_i32_19
  let c3_i32_20 : BitVec 32 := 3#32
  let c1_i32_16 : BitVec 32 := 1#32
  let v33 : BitVec 1 := Scalar.cmpi .eq v2 c1_i32_16
  let c5_i32_17 : BitVec 32 := 5#32
  let c1_i32_18 : BitVec 32 := 1#32
  let v34 : BitVec 32 := Scalar.select v33 c5_i32_17 c1_i32_18
  let v36 : BitVec 32 := Scalar.select v35 c3_i32_20 v34
  let v38 : BitVec 32 := Scalar.select v37 c7_i32_22 v36
  let v40 : BitVec 32 := Scalar.select v39 c0_i32_24 v38
  let v42 : BitVec 32 := Scalar.select v41 c9_i32_26 v40
  let v44 : BitVec 32 := Scalar.select v43 c2_i32_28 v42
  let v46 : BitVec 32 := Scalar.select v45 c11_i32_30 v44
  let v48 : BitVec 32 := Scalar.select v47 c4_i32_32 v46
  let v50 : BitVec 32 := Scalar.select v49 c13_i32_34 v48
  let v52 : BitVec 32 := Scalar.select v51 c6_i32_36 v50
  let v54 : BitVec 32 := Scalar.select v53 c15_i32_38 v52
  let v56 : BitVec 32 := Scalar.select v55 c8_i32_40 v54
  let v58 : BitVec 32 := Scalar.select v57 c14_i32_42 v56
  let v60 : BitVec 32 := Scalar.select v59 c10_i32_44 v58
  let v62 : BitVec 32 := Scalar.select v61 c12_i32_46 v60
  let c1_i32_3689 : BitVec 32 := 1#32
  let v3906 : BitVec 32 := Scalar.muli v62 c1_i32_3689
  let v3907 : BitVec 32 := Scalar.addi c0_i32_3690 v3906
  v3907.toNat
def k0_dev65 (d0 : Dev nD) : Nat :=
  let c0_i32_3750 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c11_i32_77 : BitVec 32 := 11#32
  let c14_i32_74 : BitVec 32 := 14#32
  let v89 : BitVec 1 := Scalar.cmpi .eq v2 c14_i32_74
  let c13_i32_75 : BitVec 32 := 13#32
  let c13_i32_72 : BitVec 32 := 13#32
  let v87 : BitVec 1 := Scalar.cmpi .eq v2 c13_i32_72
  let c9_i32_73 : BitVec 32 := 9#32
  let c12_i32_70 : BitVec 32 := 12#32
  let v85 : BitVec 1 := Scalar.cmpi .eq v2 c12_i32_70
  let c15_i32_71 : BitVec 32 := 15#32
  let c11_i32_68 : BitVec 32 := 11#32
  let v83 : BitVec 1 := Scalar.cmpi .eq v2 c11_i32_68
  let c7_i32_69 : BitVec 32 := 7#32
  let c10_i32_66 : BitVec 32 := 10#32
  let v81 : BitVec 1 := Scalar.cmpi .eq v2 c10_i32_66
  let c14_i32_67 : BitVec 32 := 14#32
  let c9_i32_64 : BitVec 32 := 9#32
  let v79 : BitVec 1 := Scalar.cmpi .eq v2 c9_i32_64
  let c5_i32_65 : BitVec 32 := 5#32
  let c8_i32_62 : BitVec 32 := 8#32
  let v77 : BitVec 1 := Scalar.cmpi .eq v2 c8_i32_62
  let c12_i32_63 : BitVec 32 := 12#32
  let c7_i32_60 : BitVec 32 := 7#32
  let v75 : BitVec 1 := Scalar.cmpi .eq v2 c7_i32_60
  let c3_i32_61 : BitVec 32 := 3#32
  let c6_i32_58 : BitVec 32 := 6#32
  let v73 : BitVec 1 := Scalar.cmpi .eq v2 c6_i32_58
  let c10_i32_59 : BitVec 32 := 10#32
  let c5_i32_56 : BitVec 32 := 5#32
  let v71 : BitVec 1 := Scalar.cmpi .eq v2 c5_i32_56
  let c1_i32_57 : BitVec 32 := 1#32
  let c4_i32_54 : BitVec 32 := 4#32
  let v69 : BitVec 1 := Scalar.cmpi .eq v2 c4_i32_54
  let c8_i32_55 : BitVec 32 := 8#32
  let c3_i32_52 : BitVec 32 := 3#32
  let v67 : BitVec 1 := Scalar.cmpi .eq v2 c3_i32_52
  let c2_i32_53 : BitVec 32 := 2#32
  let c2_i32_50 : BitVec 32 := 2#32
  let v65 : BitVec 1 := Scalar.cmpi .eq v2 c2_i32_50
  let c6_i32_51 : BitVec 32 := 6#32
  let c1_i32_47 : BitVec 32 := 1#32
  let v63 : BitVec 1 := Scalar.cmpi .eq v2 c1_i32_47
  let c0_i32_48 : BitVec 32 := 0#32
  let c4_i32_49 : BitVec 32 := 4#32
  let v64 : BitVec 32 := Scalar.select v63 c0_i32_48 c4_i32_49
  let v66 : BitVec 32 := Scalar.select v65 c6_i32_51 v64
  let v68 : BitVec 32 := Scalar.select v67 c2_i32_53 v66
  let v70 : BitVec 32 := Scalar.select v69 c8_i32_55 v68
  let v72 : BitVec 32 := Scalar.select v71 c1_i32_57 v70
  let v74 : BitVec 32 := Scalar.select v73 c10_i32_59 v72
  let v76 : BitVec 32 := Scalar.select v75 c3_i32_61 v74
  let v78 : BitVec 32 := Scalar.select v77 c12_i32_63 v76
  let v80 : BitVec 32 := Scalar.select v79 c5_i32_65 v78
  let v82 : BitVec 32 := Scalar.select v81 c14_i32_67 v80
  let v84 : BitVec 32 := Scalar.select v83 c7_i32_69 v82
  let v86 : BitVec 32 := Scalar.select v85 c15_i32_71 v84
  let v88 : BitVec 32 := Scalar.select v87 c9_i32_73 v86
  let v90 : BitVec 32 := Scalar.select v89 c13_i32_75 v88
  let v92 : BitVec 32 := Scalar.select v91 c11_i32_77 v90
  let c1_i32_3749 : BitVec 32 := 1#32
  let v3971 : BitVec 32 := Scalar.muli v92 c1_i32_3749
  let v3972 : BitVec 32 := Scalar.addi c0_i32_3750 v3971
  v3972.toNat
def k0_dev66 (d0 : Dev nD) : Nat :=
  let c0_i32_3767 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c12_i32_46 : BitVec 32 := 12#32
  let c14_i32_43 : BitVec 32 := 14#32
  let v59 : BitVec 1 := Scalar.cmpi .eq v2 c14_i32_43
  let c10_i32_44 : BitVec 32 := 10#32
  let c13_i32_41 : BitVec 32 := 13#32
  let v57 : BitVec 1 := Scalar.cmpi .eq v2 c13_i32_41
  let c14_i32_42 : BitVec 32 := 14#32
  let c12_i32_39 : BitVec 32 := 12#32
  let v55 : BitVec 1 := Scalar.cmpi .eq v2 c12_i32_39
  let c8_i32_40 : BitVec 32 := 8#32
  let c11_i32_37 : BitVec 32 := 11#32
  let v53 : BitVec 1 := Scalar.cmpi .eq v2 c11_i32_37
  let c15_i32_38 : BitVec 32 := 15#32
  let c10_i32_35 : BitVec 32 := 10#32
  let v51 : BitVec 1 := Scalar.cmpi .eq v2 c10_i32_35
  let c6_i32_36 : BitVec 32 := 6#32
  let c9_i32_33 : BitVec 32 := 9#32
  let v49 : BitVec 1 := Scalar.cmpi .eq v2 c9_i32_33
  let c13_i32_34 : BitVec 32 := 13#32
  let c8_i32_31 : BitVec 32 := 8#32
  let v47 : BitVec 1 := Scalar.cmpi .eq v2 c8_i32_31
  let c4_i32_32 : BitVec 32 := 4#32
  let c7_i32_29 : BitVec 32 := 7#32
  let v45 : BitVec 1 := Scalar.cmpi .eq v2 c7_i32_29
  let c11_i32_30 : BitVec 32 := 11#32
  let c6_i32_27 : BitVec 32 := 6#32
  let v43 : BitVec 1 := Scalar.cmpi .eq v2 c6_i32_27
  let c2_i32_28 : BitVec 32 := 2#32
  let c5_i32_25 : BitVec 32 := 5#32
  let v41 : BitVec 1 := Scalar.cmpi .eq v2 c5_i32_25
  let c9_i32_26 : BitVec 32 := 9#32
  let c4_i32_23 : BitVec 32 := 4#32
  let v39 : BitVec 1 := Scalar.cmpi .eq v2 c4_i32_23
  let c0_i32_24 : BitVec 32 := 0#32
  let c3_i32_21 : BitVec 32 := 3#32
  let v37 : BitVec 1 := Scalar.cmpi .eq v2 c3_i32_21
  let c7_i32_22 : BitVec 32 := 7#32
  let c2_i32_19 : BitVec 32 := 2#32
  let v35 : BitVec 1 := Scalar.cmpi .eq v2 c2_i32_19
  let c3_i32_20 : BitVec 32 := 3#32
  let c1_i32_16 : BitVec 32 := 1#32
  let v33 : BitVec 1 := Scalar.cmpi .eq v2 c1_i32_16
  let c5_i32_17 : BitVec 32 := 5#32
  let c1_i32_18 : BitVec 32 := 1#32
  let v34 : BitVec 32 := Scalar.select v33 c5_i32_17 c1_i32_18
  let v36 : BitVec 32 := Scalar.select v35 c3_i32_20 v34
  let v38 : BitVec 32 := Scalar.select v37 c7_i32_22 v36
  let v40 : BitVec 32 := Scalar.select v39 c0_i32_24 v38
  let v42 : BitVec 32 := Scalar.select v41 c9_i32_26 v40
  let v44 : BitVec 32 := Scalar.select v43 c2_i32_28 v42
  let v46 : BitVec 32 := Scalar.select v45 c11_i32_30 v44
  let v48 : BitVec 32 := Scalar.select v47 c4_i32_32 v46
  let v50 : BitVec 32 := Scalar.select v49 c13_i32_34 v48
  let v52 : BitVec 32 := Scalar.select v51 c6_i32_36 v50
  let v54 : BitVec 32 := Scalar.select v53 c15_i32_38 v52
  let v56 : BitVec 32 := Scalar.select v55 c8_i32_40 v54
  let v58 : BitVec 32 := Scalar.select v57 c14_i32_42 v56
  let v60 : BitVec 32 := Scalar.select v59 c10_i32_44 v58
  let v62 : BitVec 32 := Scalar.select v61 c12_i32_46 v60
  let c1_i32_3766 : BitVec 32 := 1#32
  let v3992 : BitVec 32 := Scalar.muli v62 c1_i32_3766
  let v3993 : BitVec 32 := Scalar.addi c0_i32_3767 v3992
  v3993.toNat
def k0_dev67 (d0 : Dev nD) : Nat :=
  let c0_i32_3827 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c11_i32_77 : BitVec 32 := 11#32
  let c14_i32_74 : BitVec 32 := 14#32
  let v89 : BitVec 1 := Scalar.cmpi .eq v2 c14_i32_74
  let c13_i32_75 : BitVec 32 := 13#32
  let c13_i32_72 : BitVec 32 := 13#32
  let v87 : BitVec 1 := Scalar.cmpi .eq v2 c13_i32_72
  let c9_i32_73 : BitVec 32 := 9#32
  let c12_i32_70 : BitVec 32 := 12#32
  let v85 : BitVec 1 := Scalar.cmpi .eq v2 c12_i32_70
  let c15_i32_71 : BitVec 32 := 15#32
  let c11_i32_68 : BitVec 32 := 11#32
  let v83 : BitVec 1 := Scalar.cmpi .eq v2 c11_i32_68
  let c7_i32_69 : BitVec 32 := 7#32
  let c10_i32_66 : BitVec 32 := 10#32
  let v81 : BitVec 1 := Scalar.cmpi .eq v2 c10_i32_66
  let c14_i32_67 : BitVec 32 := 14#32
  let c9_i32_64 : BitVec 32 := 9#32
  let v79 : BitVec 1 := Scalar.cmpi .eq v2 c9_i32_64
  let c5_i32_65 : BitVec 32 := 5#32
  let c8_i32_62 : BitVec 32 := 8#32
  let v77 : BitVec 1 := Scalar.cmpi .eq v2 c8_i32_62
  let c12_i32_63 : BitVec 32 := 12#32
  let c7_i32_60 : BitVec 32 := 7#32
  let v75 : BitVec 1 := Scalar.cmpi .eq v2 c7_i32_60
  let c3_i32_61 : BitVec 32 := 3#32
  let c6_i32_58 : BitVec 32 := 6#32
  let v73 : BitVec 1 := Scalar.cmpi .eq v2 c6_i32_58
  let c10_i32_59 : BitVec 32 := 10#32
  let c5_i32_56 : BitVec 32 := 5#32
  let v71 : BitVec 1 := Scalar.cmpi .eq v2 c5_i32_56
  let c1_i32_57 : BitVec 32 := 1#32
  let c4_i32_54 : BitVec 32 := 4#32
  let v69 : BitVec 1 := Scalar.cmpi .eq v2 c4_i32_54
  let c8_i32_55 : BitVec 32 := 8#32
  let c3_i32_52 : BitVec 32 := 3#32
  let v67 : BitVec 1 := Scalar.cmpi .eq v2 c3_i32_52
  let c2_i32_53 : BitVec 32 := 2#32
  let c2_i32_50 : BitVec 32 := 2#32
  let v65 : BitVec 1 := Scalar.cmpi .eq v2 c2_i32_50
  let c6_i32_51 : BitVec 32 := 6#32
  let c1_i32_47 : BitVec 32 := 1#32
  let v63 : BitVec 1 := Scalar.cmpi .eq v2 c1_i32_47
  let c0_i32_48 : BitVec 32 := 0#32
  let c4_i32_49 : BitVec 32 := 4#32
  let v64 : BitVec 32 := Scalar.select v63 c0_i32_48 c4_i32_49
  let v66 : BitVec 32 := Scalar.select v65 c6_i32_51 v64
  let v68 : BitVec 32 := Scalar.select v67 c2_i32_53 v66
  let v70 : BitVec 32 := Scalar.select v69 c8_i32_55 v68
  let v72 : BitVec 32 := Scalar.select v71 c1_i32_57 v70
  let v74 : BitVec 32 := Scalar.select v73 c10_i32_59 v72
  let v76 : BitVec 32 := Scalar.select v75 c3_i32_61 v74
  let v78 : BitVec 32 := Scalar.select v77 c12_i32_63 v76
  let v80 : BitVec 32 := Scalar.select v79 c5_i32_65 v78
  let v82 : BitVec 32 := Scalar.select v81 c14_i32_67 v80
  let v84 : BitVec 32 := Scalar.select v83 c7_i32_69 v82
  let v86 : BitVec 32 := Scalar.select v85 c15_i32_71 v84
  let v88 : BitVec 32 := Scalar.select v87 c9_i32_73 v86
  let v90 : BitVec 32 := Scalar.select v89 c13_i32_75 v88
  let v92 : BitVec 32 := Scalar.select v91 c11_i32_77 v90
  let c1_i32_3826 : BitVec 32 := 1#32
  let v4057 : BitVec 32 := Scalar.muli v92 c1_i32_3826
  let v4058 : BitVec 32 := Scalar.addi c0_i32_3827 v4057
  v4058.toNat
def k0_dev68 (d0 : Dev nD) : Nat :=
  let c0_i32_3844 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c12_i32_46 : BitVec 32 := 12#32
  let c14_i32_43 : BitVec 32 := 14#32
  let v59 : BitVec 1 := Scalar.cmpi .eq v2 c14_i32_43
  let c10_i32_44 : BitVec 32 := 10#32
  let c13_i32_41 : BitVec 32 := 13#32
  let v57 : BitVec 1 := Scalar.cmpi .eq v2 c13_i32_41
  let c14_i32_42 : BitVec 32 := 14#32
  let c12_i32_39 : BitVec 32 := 12#32
  let v55 : BitVec 1 := Scalar.cmpi .eq v2 c12_i32_39
  let c8_i32_40 : BitVec 32 := 8#32
  let c11_i32_37 : BitVec 32 := 11#32
  let v53 : BitVec 1 := Scalar.cmpi .eq v2 c11_i32_37
  let c15_i32_38 : BitVec 32 := 15#32
  let c10_i32_35 : BitVec 32 := 10#32
  let v51 : BitVec 1 := Scalar.cmpi .eq v2 c10_i32_35
  let c6_i32_36 : BitVec 32 := 6#32
  let c9_i32_33 : BitVec 32 := 9#32
  let v49 : BitVec 1 := Scalar.cmpi .eq v2 c9_i32_33
  let c13_i32_34 : BitVec 32 := 13#32
  let c8_i32_31 : BitVec 32 := 8#32
  let v47 : BitVec 1 := Scalar.cmpi .eq v2 c8_i32_31
  let c4_i32_32 : BitVec 32 := 4#32
  let c7_i32_29 : BitVec 32 := 7#32
  let v45 : BitVec 1 := Scalar.cmpi .eq v2 c7_i32_29
  let c11_i32_30 : BitVec 32 := 11#32
  let c6_i32_27 : BitVec 32 := 6#32
  let v43 : BitVec 1 := Scalar.cmpi .eq v2 c6_i32_27
  let c2_i32_28 : BitVec 32 := 2#32
  let c5_i32_25 : BitVec 32 := 5#32
  let v41 : BitVec 1 := Scalar.cmpi .eq v2 c5_i32_25
  let c9_i32_26 : BitVec 32 := 9#32
  let c4_i32_23 : BitVec 32 := 4#32
  let v39 : BitVec 1 := Scalar.cmpi .eq v2 c4_i32_23
  let c0_i32_24 : BitVec 32 := 0#32
  let c3_i32_21 : BitVec 32 := 3#32
  let v37 : BitVec 1 := Scalar.cmpi .eq v2 c3_i32_21
  let c7_i32_22 : BitVec 32 := 7#32
  let c2_i32_19 : BitVec 32 := 2#32
  let v35 : BitVec 1 := Scalar.cmpi .eq v2 c2_i32_19
  let c3_i32_20 : BitVec 32 := 3#32
  let c1_i32_16 : BitVec 32 := 1#32
  let v33 : BitVec 1 := Scalar.cmpi .eq v2 c1_i32_16
  let c5_i32_17 : BitVec 32 := 5#32
  let c1_i32_18 : BitVec 32 := 1#32
  let v34 : BitVec 32 := Scalar.select v33 c5_i32_17 c1_i32_18
  let v36 : BitVec 32 := Scalar.select v35 c3_i32_20 v34
  let v38 : BitVec 32 := Scalar.select v37 c7_i32_22 v36
  let v40 : BitVec 32 := Scalar.select v39 c0_i32_24 v38
  let v42 : BitVec 32 := Scalar.select v41 c9_i32_26 v40
  let v44 : BitVec 32 := Scalar.select v43 c2_i32_28 v42
  let v46 : BitVec 32 := Scalar.select v45 c11_i32_30 v44
  let v48 : BitVec 32 := Scalar.select v47 c4_i32_32 v46
  let v50 : BitVec 32 := Scalar.select v49 c13_i32_34 v48
  let v52 : BitVec 32 := Scalar.select v51 c6_i32_36 v50
  let v54 : BitVec 32 := Scalar.select v53 c15_i32_38 v52
  let v56 : BitVec 32 := Scalar.select v55 c8_i32_40 v54
  let v58 : BitVec 32 := Scalar.select v57 c14_i32_42 v56
  let v60 : BitVec 32 := Scalar.select v59 c10_i32_44 v58
  let v62 : BitVec 32 := Scalar.select v61 c12_i32_46 v60
  let c1_i32_3843 : BitVec 32 := 1#32
  let v4078 : BitVec 32 := Scalar.muli v62 c1_i32_3843
  let v4079 : BitVec 32 := Scalar.addi c0_i32_3844 v4078
  v4079.toNat
def k0_dev69 (d0 : Dev nD) : Nat :=
  let c0_i32_3904 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c11_i32_77 : BitVec 32 := 11#32
  let c14_i32_74 : BitVec 32 := 14#32
  let v89 : BitVec 1 := Scalar.cmpi .eq v2 c14_i32_74
  let c13_i32_75 : BitVec 32 := 13#32
  let c13_i32_72 : BitVec 32 := 13#32
  let v87 : BitVec 1 := Scalar.cmpi .eq v2 c13_i32_72
  let c9_i32_73 : BitVec 32 := 9#32
  let c12_i32_70 : BitVec 32 := 12#32
  let v85 : BitVec 1 := Scalar.cmpi .eq v2 c12_i32_70
  let c15_i32_71 : BitVec 32 := 15#32
  let c11_i32_68 : BitVec 32 := 11#32
  let v83 : BitVec 1 := Scalar.cmpi .eq v2 c11_i32_68
  let c7_i32_69 : BitVec 32 := 7#32
  let c10_i32_66 : BitVec 32 := 10#32
  let v81 : BitVec 1 := Scalar.cmpi .eq v2 c10_i32_66
  let c14_i32_67 : BitVec 32 := 14#32
  let c9_i32_64 : BitVec 32 := 9#32
  let v79 : BitVec 1 := Scalar.cmpi .eq v2 c9_i32_64
  let c5_i32_65 : BitVec 32 := 5#32
  let c8_i32_62 : BitVec 32 := 8#32
  let v77 : BitVec 1 := Scalar.cmpi .eq v2 c8_i32_62
  let c12_i32_63 : BitVec 32 := 12#32
  let c7_i32_60 : BitVec 32 := 7#32
  let v75 : BitVec 1 := Scalar.cmpi .eq v2 c7_i32_60
  let c3_i32_61 : BitVec 32 := 3#32
  let c6_i32_58 : BitVec 32 := 6#32
  let v73 : BitVec 1 := Scalar.cmpi .eq v2 c6_i32_58
  let c10_i32_59 : BitVec 32 := 10#32
  let c5_i32_56 : BitVec 32 := 5#32
  let v71 : BitVec 1 := Scalar.cmpi .eq v2 c5_i32_56
  let c1_i32_57 : BitVec 32 := 1#32
  let c4_i32_54 : BitVec 32 := 4#32
  let v69 : BitVec 1 := Scalar.cmpi .eq v2 c4_i32_54
  let c8_i32_55 : BitVec 32 := 8#32
  let c3_i32_52 : BitVec 32 := 3#32
  let v67 : BitVec 1 := Scalar.cmpi .eq v2 c3_i32_52
  let c2_i32_53 : BitVec 32 := 2#32
  let c2_i32_50 : BitVec 32 := 2#32
  let v65 : BitVec 1 := Scalar.cmpi .eq v2 c2_i32_50
  let c6_i32_51 : BitVec 32 := 6#32
  let c1_i32_47 : BitVec 32 := 1#32
  let v63 : BitVec 1 := Scalar.cmpi .eq v2 c1_i32_47
  let c0_i32_48 : BitVec 32 := 0#32
  let c4_i32_49 : BitVec 32 := 4#32
  let v64 : BitVec 32 := Scalar.select v63 c0_i32_48 c4_i32_49
  let v66 : BitVec 32 := Scalar.select v65 c6_i32_51 v64
  let v68 : BitVec 32 := Scalar.select v67 c2_i32_53 v66
  let v70 : BitVec 32 := Scalar.select v69 c8_i32_55 v68
  let v72 : BitVec 32 := Scalar.select v71 c1_i32_57 v70
  let v74 : BitVec 32 := Scalar.select v73 c10_i32_59 v72
  let v76 : BitVec 32 := Scalar.select v75 c3_i32_61 v74
  let v78 : BitVec 32 := Scalar.select v77 c12_i32_63 v76
  let v80 : BitVec 32 := Scalar.select v79 c5_i32_65 v78
  let v82 : BitVec 32 := Scalar.select v81 c14_i32_67 v80
  let v84 : BitVec 32 := Scalar.select v83 c7_i32_69 v82
  let v86 : BitVec 32 := Scalar.select v85 c15_i32_71 v84
  let v88 : BitVec 32 := Scalar.select v87 c9_i32_73 v86
  let v90 : BitVec 32 := Scalar.select v89 c13_i32_75 v88
  let v92 : BitVec 32 := Scalar.select v91 c11_i32_77 v90
  let c1_i32_3903 : BitVec 32 := 1#32
  let v4143 : BitVec 32 := Scalar.muli v92 c1_i32_3903
  let v4144 : BitVec 32 := Scalar.addi c0_i32_3904 v4143
  v4144.toNat
def k0_dev70 (d0 : Dev nD) : Nat :=
  let c0_i32_3921 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c12_i32_46 : BitVec 32 := 12#32
  let c14_i32_43 : BitVec 32 := 14#32
  let v59 : BitVec 1 := Scalar.cmpi .eq v2 c14_i32_43
  let c10_i32_44 : BitVec 32 := 10#32
  let c13_i32_41 : BitVec 32 := 13#32
  let v57 : BitVec 1 := Scalar.cmpi .eq v2 c13_i32_41
  let c14_i32_42 : BitVec 32 := 14#32
  let c12_i32_39 : BitVec 32 := 12#32
  let v55 : BitVec 1 := Scalar.cmpi .eq v2 c12_i32_39
  let c8_i32_40 : BitVec 32 := 8#32
  let c11_i32_37 : BitVec 32 := 11#32
  let v53 : BitVec 1 := Scalar.cmpi .eq v2 c11_i32_37
  let c15_i32_38 : BitVec 32 := 15#32
  let c10_i32_35 : BitVec 32 := 10#32
  let v51 : BitVec 1 := Scalar.cmpi .eq v2 c10_i32_35
  let c6_i32_36 : BitVec 32 := 6#32
  let c9_i32_33 : BitVec 32 := 9#32
  let v49 : BitVec 1 := Scalar.cmpi .eq v2 c9_i32_33
  let c13_i32_34 : BitVec 32 := 13#32
  let c8_i32_31 : BitVec 32 := 8#32
  let v47 : BitVec 1 := Scalar.cmpi .eq v2 c8_i32_31
  let c4_i32_32 : BitVec 32 := 4#32
  let c7_i32_29 : BitVec 32 := 7#32
  let v45 : BitVec 1 := Scalar.cmpi .eq v2 c7_i32_29
  let c11_i32_30 : BitVec 32 := 11#32
  let c6_i32_27 : BitVec 32 := 6#32
  let v43 : BitVec 1 := Scalar.cmpi .eq v2 c6_i32_27
  let c2_i32_28 : BitVec 32 := 2#32
  let c5_i32_25 : BitVec 32 := 5#32
  let v41 : BitVec 1 := Scalar.cmpi .eq v2 c5_i32_25
  let c9_i32_26 : BitVec 32 := 9#32
  let c4_i32_23 : BitVec 32 := 4#32
  let v39 : BitVec 1 := Scalar.cmpi .eq v2 c4_i32_23
  let c0_i32_24 : BitVec 32 := 0#32
  let c3_i32_21 : BitVec 32 := 3#32
  let v37 : BitVec 1 := Scalar.cmpi .eq v2 c3_i32_21
  let c7_i32_22 : BitVec 32 := 7#32
  let c2_i32_19 : BitVec 32 := 2#32
  let v35 : BitVec 1 := Scalar.cmpi .eq v2 c2_i32_19
  let c3_i32_20 : BitVec 32 := 3#32
  let c1_i32_16 : BitVec 32 := 1#32
  let v33 : BitVec 1 := Scalar.cmpi .eq v2 c1_i32_16
  let c5_i32_17 : BitVec 32 := 5#32
  let c1_i32_18 : BitVec 32 := 1#32
  let v34 : BitVec 32 := Scalar.select v33 c5_i32_17 c1_i32_18
  let v36 : BitVec 32 := Scalar.select v35 c3_i32_20 v34
  let v38 : BitVec 32 := Scalar.select v37 c7_i32_22 v36
  let v40 : BitVec 32 := Scalar.select v39 c0_i32_24 v38
  let v42 : BitVec 32 := Scalar.select v41 c9_i32_26 v40
  let v44 : BitVec 32 := Scalar.select v43 c2_i32_28 v42
  let v46 : BitVec 32 := Scalar.select v45 c11_i32_30 v44
  let v48 : BitVec 32 := Scalar.select v47 c4_i32_32 v46
  let v50 : BitVec 32 := Scalar.select v49 c13_i32_34 v48
  let v52 : BitVec 32 := Scalar.select v51 c6_i32_36 v50
  let v54 : BitVec 32 := Scalar.select v53 c15_i32_38 v52
  let v56 : BitVec 32 := Scalar.select v55 c8_i32_40 v54
  let v58 : BitVec 32 := Scalar.select v57 c14_i32_42 v56
  let v60 : BitVec 32 := Scalar.select v59 c10_i32_44 v58
  let v62 : BitVec 32 := Scalar.select v61 c12_i32_46 v60
  let c1_i32_3920 : BitVec 32 := 1#32
  let v4164 : BitVec 32 := Scalar.muli v62 c1_i32_3920
  let v4165 : BitVec 32 := Scalar.addi c0_i32_3921 v4164
  v4165.toNat
def k0_dev71 (d0 : Dev nD) : Nat :=
  let c0_i32_3969 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c11_i32_77 : BitVec 32 := 11#32
  let c14_i32_74 : BitVec 32 := 14#32
  let v89 : BitVec 1 := Scalar.cmpi .eq v2 c14_i32_74
  let c13_i32_75 : BitVec 32 := 13#32
  let c13_i32_72 : BitVec 32 := 13#32
  let v87 : BitVec 1 := Scalar.cmpi .eq v2 c13_i32_72
  let c9_i32_73 : BitVec 32 := 9#32
  let c12_i32_70 : BitVec 32 := 12#32
  let v85 : BitVec 1 := Scalar.cmpi .eq v2 c12_i32_70
  let c15_i32_71 : BitVec 32 := 15#32
  let c11_i32_68 : BitVec 32 := 11#32
  let v83 : BitVec 1 := Scalar.cmpi .eq v2 c11_i32_68
  let c7_i32_69 : BitVec 32 := 7#32
  let c10_i32_66 : BitVec 32 := 10#32
  let v81 : BitVec 1 := Scalar.cmpi .eq v2 c10_i32_66
  let c14_i32_67 : BitVec 32 := 14#32
  let c9_i32_64 : BitVec 32 := 9#32
  let v79 : BitVec 1 := Scalar.cmpi .eq v2 c9_i32_64
  let c5_i32_65 : BitVec 32 := 5#32
  let c8_i32_62 : BitVec 32 := 8#32
  let v77 : BitVec 1 := Scalar.cmpi .eq v2 c8_i32_62
  let c12_i32_63 : BitVec 32 := 12#32
  let c7_i32_60 : BitVec 32 := 7#32
  let v75 : BitVec 1 := Scalar.cmpi .eq v2 c7_i32_60
  let c3_i32_61 : BitVec 32 := 3#32
  let c6_i32_58 : BitVec 32 := 6#32
  let v73 : BitVec 1 := Scalar.cmpi .eq v2 c6_i32_58
  let c10_i32_59 : BitVec 32 := 10#32
  let c5_i32_56 : BitVec 32 := 5#32
  let v71 : BitVec 1 := Scalar.cmpi .eq v2 c5_i32_56
  let c1_i32_57 : BitVec 32 := 1#32
  let c4_i32_54 : BitVec 32 := 4#32
  let v69 : BitVec 1 := Scalar.cmpi .eq v2 c4_i32_54
  let c8_i32_55 : BitVec 32 := 8#32
  let c3_i32_52 : BitVec 32 := 3#32
  let v67 : BitVec 1 := Scalar.cmpi .eq v2 c3_i32_52
  let c2_i32_53 : BitVec 32 := 2#32
  let c2_i32_50 : BitVec 32 := 2#32
  let v65 : BitVec 1 := Scalar.cmpi .eq v2 c2_i32_50
  let c6_i32_51 : BitVec 32 := 6#32
  let c1_i32_47 : BitVec 32 := 1#32
  let v63 : BitVec 1 := Scalar.cmpi .eq v2 c1_i32_47
  let c0_i32_48 : BitVec 32 := 0#32
  let c4_i32_49 : BitVec 32 := 4#32
  let v64 : BitVec 32 := Scalar.select v63 c0_i32_48 c4_i32_49
  let v66 : BitVec 32 := Scalar.select v65 c6_i32_51 v64
  let v68 : BitVec 32 := Scalar.select v67 c2_i32_53 v66
  let v70 : BitVec 32 := Scalar.select v69 c8_i32_55 v68
  let v72 : BitVec 32 := Scalar.select v71 c1_i32_57 v70
  let v74 : BitVec 32 := Scalar.select v73 c10_i32_59 v72
  let v76 : BitVec 32 := Scalar.select v75 c3_i32_61 v74
  let v78 : BitVec 32 := Scalar.select v77 c12_i32_63 v76
  let v80 : BitVec 32 := Scalar.select v79 c5_i32_65 v78
  let v82 : BitVec 32 := Scalar.select v81 c14_i32_67 v80
  let v84 : BitVec 32 := Scalar.select v83 c7_i32_69 v82
  let v86 : BitVec 32 := Scalar.select v85 c15_i32_71 v84
  let v88 : BitVec 32 := Scalar.select v87 c9_i32_73 v86
  let v90 : BitVec 32 := Scalar.select v89 c13_i32_75 v88
  let v92 : BitVec 32 := Scalar.select v91 c11_i32_77 v90
  let c1_i32_3968 : BitVec 32 := 1#32
  let v4219 : BitVec 32 := Scalar.muli v92 c1_i32_3968
  let v4220 : BitVec 32 := Scalar.addi c0_i32_3969 v4219
  v4220.toNat
def k0_dev72 (d0 : Dev nD) : Nat :=
  let c0_i32_4017 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c12_i32_46 : BitVec 32 := 12#32
  let c14_i32_43 : BitVec 32 := 14#32
  let v59 : BitVec 1 := Scalar.cmpi .eq v2 c14_i32_43
  let c10_i32_44 : BitVec 32 := 10#32
  let c13_i32_41 : BitVec 32 := 13#32
  let v57 : BitVec 1 := Scalar.cmpi .eq v2 c13_i32_41
  let c14_i32_42 : BitVec 32 := 14#32
  let c12_i32_39 : BitVec 32 := 12#32
  let v55 : BitVec 1 := Scalar.cmpi .eq v2 c12_i32_39
  let c8_i32_40 : BitVec 32 := 8#32
  let c11_i32_37 : BitVec 32 := 11#32
  let v53 : BitVec 1 := Scalar.cmpi .eq v2 c11_i32_37
  let c15_i32_38 : BitVec 32 := 15#32
  let c10_i32_35 : BitVec 32 := 10#32
  let v51 : BitVec 1 := Scalar.cmpi .eq v2 c10_i32_35
  let c6_i32_36 : BitVec 32 := 6#32
  let c9_i32_33 : BitVec 32 := 9#32
  let v49 : BitVec 1 := Scalar.cmpi .eq v2 c9_i32_33
  let c13_i32_34 : BitVec 32 := 13#32
  let c8_i32_31 : BitVec 32 := 8#32
  let v47 : BitVec 1 := Scalar.cmpi .eq v2 c8_i32_31
  let c4_i32_32 : BitVec 32 := 4#32
  let c7_i32_29 : BitVec 32 := 7#32
  let v45 : BitVec 1 := Scalar.cmpi .eq v2 c7_i32_29
  let c11_i32_30 : BitVec 32 := 11#32
  let c6_i32_27 : BitVec 32 := 6#32
  let v43 : BitVec 1 := Scalar.cmpi .eq v2 c6_i32_27
  let c2_i32_28 : BitVec 32 := 2#32
  let c5_i32_25 : BitVec 32 := 5#32
  let v41 : BitVec 1 := Scalar.cmpi .eq v2 c5_i32_25
  let c9_i32_26 : BitVec 32 := 9#32
  let c4_i32_23 : BitVec 32 := 4#32
  let v39 : BitVec 1 := Scalar.cmpi .eq v2 c4_i32_23
  let c0_i32_24 : BitVec 32 := 0#32
  let c3_i32_21 : BitVec 32 := 3#32
  let v37 : BitVec 1 := Scalar.cmpi .eq v2 c3_i32_21
  let c7_i32_22 : BitVec 32 := 7#32
  let c2_i32_19 : BitVec 32 := 2#32
  let v35 : BitVec 1 := Scalar.cmpi .eq v2 c2_i32_19
  let c3_i32_20 : BitVec 32 := 3#32
  let c1_i32_16 : BitVec 32 := 1#32
  let v33 : BitVec 1 := Scalar.cmpi .eq v2 c1_i32_16
  let c5_i32_17 : BitVec 32 := 5#32
  let c1_i32_18 : BitVec 32 := 1#32
  let v34 : BitVec 32 := Scalar.select v33 c5_i32_17 c1_i32_18
  let v36 : BitVec 32 := Scalar.select v35 c3_i32_20 v34
  let v38 : BitVec 32 := Scalar.select v37 c7_i32_22 v36
  let v40 : BitVec 32 := Scalar.select v39 c0_i32_24 v38
  let v42 : BitVec 32 := Scalar.select v41 c9_i32_26 v40
  let v44 : BitVec 32 := Scalar.select v43 c2_i32_28 v42
  let v46 : BitVec 32 := Scalar.select v45 c11_i32_30 v44
  let v48 : BitVec 32 := Scalar.select v47 c4_i32_32 v46
  let v50 : BitVec 32 := Scalar.select v49 c13_i32_34 v48
  let v52 : BitVec 32 := Scalar.select v51 c6_i32_36 v50
  let v54 : BitVec 32 := Scalar.select v53 c15_i32_38 v52
  let v56 : BitVec 32 := Scalar.select v55 c8_i32_40 v54
  let v58 : BitVec 32 := Scalar.select v57 c14_i32_42 v56
  let v60 : BitVec 32 := Scalar.select v59 c10_i32_44 v58
  let v62 : BitVec 32 := Scalar.select v61 c12_i32_46 v60
  let c1_i32_4016 : BitVec 32 := 1#32
  let v4274 : BitVec 32 := Scalar.muli v62 c1_i32_4016
  let v4275 : BitVec 32 := Scalar.addi c0_i32_4017 v4274
  v4275.toNat
def k0_dev73 (d0 : Dev nD) : Nat :=
  let c0_i32_4065 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c11_i32_77 : BitVec 32 := 11#32
  let c14_i32_74 : BitVec 32 := 14#32
  let v89 : BitVec 1 := Scalar.cmpi .eq v2 c14_i32_74
  let c13_i32_75 : BitVec 32 := 13#32
  let c13_i32_72 : BitVec 32 := 13#32
  let v87 : BitVec 1 := Scalar.cmpi .eq v2 c13_i32_72
  let c9_i32_73 : BitVec 32 := 9#32
  let c12_i32_70 : BitVec 32 := 12#32
  let v85 : BitVec 1 := Scalar.cmpi .eq v2 c12_i32_70
  let c15_i32_71 : BitVec 32 := 15#32
  let c11_i32_68 : BitVec 32 := 11#32
  let v83 : BitVec 1 := Scalar.cmpi .eq v2 c11_i32_68
  let c7_i32_69 : BitVec 32 := 7#32
  let c10_i32_66 : BitVec 32 := 10#32
  let v81 : BitVec 1 := Scalar.cmpi .eq v2 c10_i32_66
  let c14_i32_67 : BitVec 32 := 14#32
  let c9_i32_64 : BitVec 32 := 9#32
  let v79 : BitVec 1 := Scalar.cmpi .eq v2 c9_i32_64
  let c5_i32_65 : BitVec 32 := 5#32
  let c8_i32_62 : BitVec 32 := 8#32
  let v77 : BitVec 1 := Scalar.cmpi .eq v2 c8_i32_62
  let c12_i32_63 : BitVec 32 := 12#32
  let c7_i32_60 : BitVec 32 := 7#32
  let v75 : BitVec 1 := Scalar.cmpi .eq v2 c7_i32_60
  let c3_i32_61 : BitVec 32 := 3#32
  let c6_i32_58 : BitVec 32 := 6#32
  let v73 : BitVec 1 := Scalar.cmpi .eq v2 c6_i32_58
  let c10_i32_59 : BitVec 32 := 10#32
  let c5_i32_56 : BitVec 32 := 5#32
  let v71 : BitVec 1 := Scalar.cmpi .eq v2 c5_i32_56
  let c1_i32_57 : BitVec 32 := 1#32
  let c4_i32_54 : BitVec 32 := 4#32
  let v69 : BitVec 1 := Scalar.cmpi .eq v2 c4_i32_54
  let c8_i32_55 : BitVec 32 := 8#32
  let c3_i32_52 : BitVec 32 := 3#32
  let v67 : BitVec 1 := Scalar.cmpi .eq v2 c3_i32_52
  let c2_i32_53 : BitVec 32 := 2#32
  let c2_i32_50 : BitVec 32 := 2#32
  let v65 : BitVec 1 := Scalar.cmpi .eq v2 c2_i32_50
  let c6_i32_51 : BitVec 32 := 6#32
  let c1_i32_47 : BitVec 32 := 1#32
  let v63 : BitVec 1 := Scalar.cmpi .eq v2 c1_i32_47
  let c0_i32_48 : BitVec 32 := 0#32
  let c4_i32_49 : BitVec 32 := 4#32
  let v64 : BitVec 32 := Scalar.select v63 c0_i32_48 c4_i32_49
  let v66 : BitVec 32 := Scalar.select v65 c6_i32_51 v64
  let v68 : BitVec 32 := Scalar.select v67 c2_i32_53 v66
  let v70 : BitVec 32 := Scalar.select v69 c8_i32_55 v68
  let v72 : BitVec 32 := Scalar.select v71 c1_i32_57 v70
  let v74 : BitVec 32 := Scalar.select v73 c10_i32_59 v72
  let v76 : BitVec 32 := Scalar.select v75 c3_i32_61 v74
  let v78 : BitVec 32 := Scalar.select v77 c12_i32_63 v76
  let v80 : BitVec 32 := Scalar.select v79 c5_i32_65 v78
  let v82 : BitVec 32 := Scalar.select v81 c14_i32_67 v80
  let v84 : BitVec 32 := Scalar.select v83 c7_i32_69 v82
  let v86 : BitVec 32 := Scalar.select v85 c15_i32_71 v84
  let v88 : BitVec 32 := Scalar.select v87 c9_i32_73 v86
  let v90 : BitVec 32 := Scalar.select v89 c13_i32_75 v88
  let v92 : BitVec 32 := Scalar.select v91 c11_i32_77 v90
  let c1_i32_4064 : BitVec 32 := 1#32
  let v4329 : BitVec 32 := Scalar.muli v92 c1_i32_4064
  let v4330 : BitVec 32 := Scalar.addi c0_i32_4065 v4329
  v4330.toNat
def k0_dev74 (d0 : Dev nD) : Nat :=
  let c0_i32_4113 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c12_i32_46 : BitVec 32 := 12#32
  let c14_i32_43 : BitVec 32 := 14#32
  let v59 : BitVec 1 := Scalar.cmpi .eq v2 c14_i32_43
  let c10_i32_44 : BitVec 32 := 10#32
  let c13_i32_41 : BitVec 32 := 13#32
  let v57 : BitVec 1 := Scalar.cmpi .eq v2 c13_i32_41
  let c14_i32_42 : BitVec 32 := 14#32
  let c12_i32_39 : BitVec 32 := 12#32
  let v55 : BitVec 1 := Scalar.cmpi .eq v2 c12_i32_39
  let c8_i32_40 : BitVec 32 := 8#32
  let c11_i32_37 : BitVec 32 := 11#32
  let v53 : BitVec 1 := Scalar.cmpi .eq v2 c11_i32_37
  let c15_i32_38 : BitVec 32 := 15#32
  let c10_i32_35 : BitVec 32 := 10#32
  let v51 : BitVec 1 := Scalar.cmpi .eq v2 c10_i32_35
  let c6_i32_36 : BitVec 32 := 6#32
  let c9_i32_33 : BitVec 32 := 9#32
  let v49 : BitVec 1 := Scalar.cmpi .eq v2 c9_i32_33
  let c13_i32_34 : BitVec 32 := 13#32
  let c8_i32_31 : BitVec 32 := 8#32
  let v47 : BitVec 1 := Scalar.cmpi .eq v2 c8_i32_31
  let c4_i32_32 : BitVec 32 := 4#32
  let c7_i32_29 : BitVec 32 := 7#32
  let v45 : BitVec 1 := Scalar.cmpi .eq v2 c7_i32_29
  let c11_i32_30 : BitVec 32 := 11#32
  let c6_i32_27 : BitVec 32 := 6#32
  let v43 : BitVec 1 := Scalar.cmpi .eq v2 c6_i32_27
  let c2_i32_28 : BitVec 32 := 2#32
  let c5_i32_25 : BitVec 32 := 5#32
  let v41 : BitVec 1 := Scalar.cmpi .eq v2 c5_i32_25
  let c9_i32_26 : BitVec 32 := 9#32
  let c4_i32_23 : BitVec 32 := 4#32
  let v39 : BitVec 1 := Scalar.cmpi .eq v2 c4_i32_23
  let c0_i32_24 : BitVec 32 := 0#32
  let c3_i32_21 : BitVec 32 := 3#32
  let v37 : BitVec 1 := Scalar.cmpi .eq v2 c3_i32_21
  let c7_i32_22 : BitVec 32 := 7#32
  let c2_i32_19 : BitVec 32 := 2#32
  let v35 : BitVec 1 := Scalar.cmpi .eq v2 c2_i32_19
  let c3_i32_20 : BitVec 32 := 3#32
  let c1_i32_16 : BitVec 32 := 1#32
  let v33 : BitVec 1 := Scalar.cmpi .eq v2 c1_i32_16
  let c5_i32_17 : BitVec 32 := 5#32
  let c1_i32_18 : BitVec 32 := 1#32
  let v34 : BitVec 32 := Scalar.select v33 c5_i32_17 c1_i32_18
  let v36 : BitVec 32 := Scalar.select v35 c3_i32_20 v34
  let v38 : BitVec 32 := Scalar.select v37 c7_i32_22 v36
  let v40 : BitVec 32 := Scalar.select v39 c0_i32_24 v38
  let v42 : BitVec 32 := Scalar.select v41 c9_i32_26 v40
  let v44 : BitVec 32 := Scalar.select v43 c2_i32_28 v42
  let v46 : BitVec 32 := Scalar.select v45 c11_i32_30 v44
  let v48 : BitVec 32 := Scalar.select v47 c4_i32_32 v46
  let v50 : BitVec 32 := Scalar.select v49 c13_i32_34 v48
  let v52 : BitVec 32 := Scalar.select v51 c6_i32_36 v50
  let v54 : BitVec 32 := Scalar.select v53 c15_i32_38 v52
  let v56 : BitVec 32 := Scalar.select v55 c8_i32_40 v54
  let v58 : BitVec 32 := Scalar.select v57 c14_i32_42 v56
  let v60 : BitVec 32 := Scalar.select v59 c10_i32_44 v58
  let v62 : BitVec 32 := Scalar.select v61 c12_i32_46 v60
  let c1_i32_4112 : BitVec 32 := 1#32
  let v4384 : BitVec 32 := Scalar.muli v62 c1_i32_4112
  let v4385 : BitVec 32 := Scalar.addi c0_i32_4113 v4384
  v4385.toNat
def k0_dev75 (d0 : Dev nD) : Nat :=
  let c0_i32_4161 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c11_i32_77 : BitVec 32 := 11#32
  let c14_i32_74 : BitVec 32 := 14#32
  let v89 : BitVec 1 := Scalar.cmpi .eq v2 c14_i32_74
  let c13_i32_75 : BitVec 32 := 13#32
  let c13_i32_72 : BitVec 32 := 13#32
  let v87 : BitVec 1 := Scalar.cmpi .eq v2 c13_i32_72
  let c9_i32_73 : BitVec 32 := 9#32
  let c12_i32_70 : BitVec 32 := 12#32
  let v85 : BitVec 1 := Scalar.cmpi .eq v2 c12_i32_70
  let c15_i32_71 : BitVec 32 := 15#32
  let c11_i32_68 : BitVec 32 := 11#32
  let v83 : BitVec 1 := Scalar.cmpi .eq v2 c11_i32_68
  let c7_i32_69 : BitVec 32 := 7#32
  let c10_i32_66 : BitVec 32 := 10#32
  let v81 : BitVec 1 := Scalar.cmpi .eq v2 c10_i32_66
  let c14_i32_67 : BitVec 32 := 14#32
  let c9_i32_64 : BitVec 32 := 9#32
  let v79 : BitVec 1 := Scalar.cmpi .eq v2 c9_i32_64
  let c5_i32_65 : BitVec 32 := 5#32
  let c8_i32_62 : BitVec 32 := 8#32
  let v77 : BitVec 1 := Scalar.cmpi .eq v2 c8_i32_62
  let c12_i32_63 : BitVec 32 := 12#32
  let c7_i32_60 : BitVec 32 := 7#32
  let v75 : BitVec 1 := Scalar.cmpi .eq v2 c7_i32_60
  let c3_i32_61 : BitVec 32 := 3#32
  let c6_i32_58 : BitVec 32 := 6#32
  let v73 : BitVec 1 := Scalar.cmpi .eq v2 c6_i32_58
  let c10_i32_59 : BitVec 32 := 10#32
  let c5_i32_56 : BitVec 32 := 5#32
  let v71 : BitVec 1 := Scalar.cmpi .eq v2 c5_i32_56
  let c1_i32_57 : BitVec 32 := 1#32
  let c4_i32_54 : BitVec 32 := 4#32
  let v69 : BitVec 1 := Scalar.cmpi .eq v2 c4_i32_54
  let c8_i32_55 : BitVec 32 := 8#32
  let c3_i32_52 : BitVec 32 := 3#32
  let v67 : BitVec 1 := Scalar.cmpi .eq v2 c3_i32_52
  let c2_i32_53 : BitVec 32 := 2#32
  let c2_i32_50 : BitVec 32 := 2#32
  let v65 : BitVec 1 := Scalar.cmpi .eq v2 c2_i32_50
  let c6_i32_51 : BitVec 32 := 6#32
  let c1_i32_47 : BitVec 32 := 1#32
  let v63 : BitVec 1 := Scalar.cmpi .eq v2 c1_i32_47
  let c0_i32_48 : BitVec 32 := 0#32
  let c4_i32_49 : BitVec 32 := 4#32
  let v64 : BitVec 32 := Scalar.select v63 c0_i32_48 c4_i32_49
  let v66 : BitVec 32 := Scalar.select v65 c6_i32_51 v64
  let v68 : BitVec 32 := Scalar.select v67 c2_i32_53 v66
  let v70 : BitVec 32 := Scalar.select v69 c8_i32_55 v68
  let v72 : BitVec 32 := Scalar.select v71 c1_i32_57 v70
  let v74 : BitVec 32 := Scalar.select v73 c10_i32_59 v72
  let v76 : BitVec 32 := Scalar.select v75 c3_i32_61 v74
  let v78 : BitVec 32 := Scalar.select v77 c12_i32_63 v76
  let v80 : BitVec 32 := Scalar.select v79 c5_i32_65 v78
  let v82 : BitVec 32 := Scalar.select v81 c14_i32_67 v80
  let v84 : BitVec 32 := Scalar.select v83 c7_i32_69 v82
  let v86 : BitVec 32 := Scalar.select v85 c15_i32_71 v84
  let v88 : BitVec 32 := Scalar.select v87 c9_i32_73 v86
  let v90 : BitVec 32 := Scalar.select v89 c13_i32_75 v88
  let v92 : BitVec 32 := Scalar.select v91 c11_i32_77 v90
  let c1_i32_4160 : BitVec 32 := 1#32
  let v4439 : BitVec 32 := Scalar.muli v92 c1_i32_4160
  let v4440 : BitVec 32 := Scalar.addi c0_i32_4161 v4439
  v4440.toNat
def k0_dev76 (d0 : Dev nD) : Nat :=
  let c0_i32_4209 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c12_i32_46 : BitVec 32 := 12#32
  let c14_i32_43 : BitVec 32 := 14#32
  let v59 : BitVec 1 := Scalar.cmpi .eq v2 c14_i32_43
  let c10_i32_44 : BitVec 32 := 10#32
  let c13_i32_41 : BitVec 32 := 13#32
  let v57 : BitVec 1 := Scalar.cmpi .eq v2 c13_i32_41
  let c14_i32_42 : BitVec 32 := 14#32
  let c12_i32_39 : BitVec 32 := 12#32
  let v55 : BitVec 1 := Scalar.cmpi .eq v2 c12_i32_39
  let c8_i32_40 : BitVec 32 := 8#32
  let c11_i32_37 : BitVec 32 := 11#32
  let v53 : BitVec 1 := Scalar.cmpi .eq v2 c11_i32_37
  let c15_i32_38 : BitVec 32 := 15#32
  let c10_i32_35 : BitVec 32 := 10#32
  let v51 : BitVec 1 := Scalar.cmpi .eq v2 c10_i32_35
  let c6_i32_36 : BitVec 32 := 6#32
  let c9_i32_33 : BitVec 32 := 9#32
  let v49 : BitVec 1 := Scalar.cmpi .eq v2 c9_i32_33
  let c13_i32_34 : BitVec 32 := 13#32
  let c8_i32_31 : BitVec 32 := 8#32
  let v47 : BitVec 1 := Scalar.cmpi .eq v2 c8_i32_31
  let c4_i32_32 : BitVec 32 := 4#32
  let c7_i32_29 : BitVec 32 := 7#32
  let v45 : BitVec 1 := Scalar.cmpi .eq v2 c7_i32_29
  let c11_i32_30 : BitVec 32 := 11#32
  let c6_i32_27 : BitVec 32 := 6#32
  let v43 : BitVec 1 := Scalar.cmpi .eq v2 c6_i32_27
  let c2_i32_28 : BitVec 32 := 2#32
  let c5_i32_25 : BitVec 32 := 5#32
  let v41 : BitVec 1 := Scalar.cmpi .eq v2 c5_i32_25
  let c9_i32_26 : BitVec 32 := 9#32
  let c4_i32_23 : BitVec 32 := 4#32
  let v39 : BitVec 1 := Scalar.cmpi .eq v2 c4_i32_23
  let c0_i32_24 : BitVec 32 := 0#32
  let c3_i32_21 : BitVec 32 := 3#32
  let v37 : BitVec 1 := Scalar.cmpi .eq v2 c3_i32_21
  let c7_i32_22 : BitVec 32 := 7#32
  let c2_i32_19 : BitVec 32 := 2#32
  let v35 : BitVec 1 := Scalar.cmpi .eq v2 c2_i32_19
  let c3_i32_20 : BitVec 32 := 3#32
  let c1_i32_16 : BitVec 32 := 1#32
  let v33 : BitVec 1 := Scalar.cmpi .eq v2 c1_i32_16
  let c5_i32_17 : BitVec 32 := 5#32
  let c1_i32_18 : BitVec 32 := 1#32
  let v34 : BitVec 32 := Scalar.select v33 c5_i32_17 c1_i32_18
  let v36 : BitVec 32 := Scalar.select v35 c3_i32_20 v34
  let v38 : BitVec 32 := Scalar.select v37 c7_i32_22 v36
  let v40 : BitVec 32 := Scalar.select v39 c0_i32_24 v38
  let v42 : BitVec 32 := Scalar.select v41 c9_i32_26 v40
  let v44 : BitVec 32 := Scalar.select v43 c2_i32_28 v42
  let v46 : BitVec 32 := Scalar.select v45 c11_i32_30 v44
  let v48 : BitVec 32 := Scalar.select v47 c4_i32_32 v46
  let v50 : BitVec 32 := Scalar.select v49 c13_i32_34 v48
  let v52 : BitVec 32 := Scalar.select v51 c6_i32_36 v50
  let v54 : BitVec 32 := Scalar.select v53 c15_i32_38 v52
  let v56 : BitVec 32 := Scalar.select v55 c8_i32_40 v54
  let v58 : BitVec 32 := Scalar.select v57 c14_i32_42 v56
  let v60 : BitVec 32 := Scalar.select v59 c10_i32_44 v58
  let v62 : BitVec 32 := Scalar.select v61 c12_i32_46 v60
  let c1_i32_4208 : BitVec 32 := 1#32
  let v4494 : BitVec 32 := Scalar.muli v62 c1_i32_4208
  let v4495 : BitVec 32 := Scalar.addi c0_i32_4209 v4494
  v4495.toNat
def k0_dev77 (d0 : Dev nD) : Nat :=
  let c0_i32_4257 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c11_i32_77 : BitVec 32 := 11#32
  let c14_i32_74 : BitVec 32 := 14#32
  let v89 : BitVec 1 := Scalar.cmpi .eq v2 c14_i32_74
  let c13_i32_75 : BitVec 32 := 13#32
  let c13_i32_72 : BitVec 32 := 13#32
  let v87 : BitVec 1 := Scalar.cmpi .eq v2 c13_i32_72
  let c9_i32_73 : BitVec 32 := 9#32
  let c12_i32_70 : BitVec 32 := 12#32
  let v85 : BitVec 1 := Scalar.cmpi .eq v2 c12_i32_70
  let c15_i32_71 : BitVec 32 := 15#32
  let c11_i32_68 : BitVec 32 := 11#32
  let v83 : BitVec 1 := Scalar.cmpi .eq v2 c11_i32_68
  let c7_i32_69 : BitVec 32 := 7#32
  let c10_i32_66 : BitVec 32 := 10#32
  let v81 : BitVec 1 := Scalar.cmpi .eq v2 c10_i32_66
  let c14_i32_67 : BitVec 32 := 14#32
  let c9_i32_64 : BitVec 32 := 9#32
  let v79 : BitVec 1 := Scalar.cmpi .eq v2 c9_i32_64
  let c5_i32_65 : BitVec 32 := 5#32
  let c8_i32_62 : BitVec 32 := 8#32
  let v77 : BitVec 1 := Scalar.cmpi .eq v2 c8_i32_62
  let c12_i32_63 : BitVec 32 := 12#32
  let c7_i32_60 : BitVec 32 := 7#32
  let v75 : BitVec 1 := Scalar.cmpi .eq v2 c7_i32_60
  let c3_i32_61 : BitVec 32 := 3#32
  let c6_i32_58 : BitVec 32 := 6#32
  let v73 : BitVec 1 := Scalar.cmpi .eq v2 c6_i32_58
  let c10_i32_59 : BitVec 32 := 10#32
  let c5_i32_56 : BitVec 32 := 5#32
  let v71 : BitVec 1 := Scalar.cmpi .eq v2 c5_i32_56
  let c1_i32_57 : BitVec 32 := 1#32
  let c4_i32_54 : BitVec 32 := 4#32
  let v69 : BitVec 1 := Scalar.cmpi .eq v2 c4_i32_54
  let c8_i32_55 : BitVec 32 := 8#32
  let c3_i32_52 : BitVec 32 := 3#32
  let v67 : BitVec 1 := Scalar.cmpi .eq v2 c3_i32_52
  let c2_i32_53 : BitVec 32 := 2#32
  let c2_i32_50 : BitVec 32 := 2#32
  let v65 : BitVec 1 := Scalar.cmpi .eq v2 c2_i32_50
  let c6_i32_51 : BitVec 32 := 6#32
  let c1_i32_47 : BitVec 32 := 1#32
  let v63 : BitVec 1 := Scalar.cmpi .eq v2 c1_i32_47
  let c0_i32_48 : BitVec 32 := 0#32
  let c4_i32_49 : BitVec 32 := 4#32
  let v64 : BitVec 32 := Scalar.select v63 c0_i32_48 c4_i32_49
  let v66 : BitVec 32 := Scalar.select v65 c6_i32_51 v64
  let v68 : BitVec 32 := Scalar.select v67 c2_i32_53 v66
  let v70 : BitVec 32 := Scalar.select v69 c8_i32_55 v68
  let v72 : BitVec 32 := Scalar.select v71 c1_i32_57 v70
  let v74 : BitVec 32 := Scalar.select v73 c10_i32_59 v72
  let v76 : BitVec 32 := Scalar.select v75 c3_i32_61 v74
  let v78 : BitVec 32 := Scalar.select v77 c12_i32_63 v76
  let v80 : BitVec 32 := Scalar.select v79 c5_i32_65 v78
  let v82 : BitVec 32 := Scalar.select v81 c14_i32_67 v80
  let v84 : BitVec 32 := Scalar.select v83 c7_i32_69 v82
  let v86 : BitVec 32 := Scalar.select v85 c15_i32_71 v84
  let v88 : BitVec 32 := Scalar.select v87 c9_i32_73 v86
  let v90 : BitVec 32 := Scalar.select v89 c13_i32_75 v88
  let v92 : BitVec 32 := Scalar.select v91 c11_i32_77 v90
  let c1_i32_4256 : BitVec 32 := 1#32
  let v4549 : BitVec 32 := Scalar.muli v92 c1_i32_4256
  let v4550 : BitVec 32 := Scalar.addi c0_i32_4257 v4549
  v4550.toNat
def k0_dev78 (d0 : Dev nD) : Nat :=
  let c0_i32_4305 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c12_i32_46 : BitVec 32 := 12#32
  let c14_i32_43 : BitVec 32 := 14#32
  let v59 : BitVec 1 := Scalar.cmpi .eq v2 c14_i32_43
  let c10_i32_44 : BitVec 32 := 10#32
  let c13_i32_41 : BitVec 32 := 13#32
  let v57 : BitVec 1 := Scalar.cmpi .eq v2 c13_i32_41
  let c14_i32_42 : BitVec 32 := 14#32
  let c12_i32_39 : BitVec 32 := 12#32
  let v55 : BitVec 1 := Scalar.cmpi .eq v2 c12_i32_39
  let c8_i32_40 : BitVec 32 := 8#32
  let c11_i32_37 : BitVec 32 := 11#32
  let v53 : BitVec 1 := Scalar.cmpi .eq v2 c11_i32_37
  let c15_i32_38 : BitVec 32 := 15#32
  let c10_i32_35 : BitVec 32 := 10#32
  let v51 : BitVec 1 := Scalar.cmpi .eq v2 c10_i32_35
  let c6_i32_36 : BitVec 32 := 6#32
  let c9_i32_33 : BitVec 32 := 9#32
  let v49 : BitVec 1 := Scalar.cmpi .eq v2 c9_i32_33
  let c13_i32_34 : BitVec 32 := 13#32
  let c8_i32_31 : BitVec 32 := 8#32
  let v47 : BitVec 1 := Scalar.cmpi .eq v2 c8_i32_31
  let c4_i32_32 : BitVec 32 := 4#32
  let c7_i32_29 : BitVec 32 := 7#32
  let v45 : BitVec 1 := Scalar.cmpi .eq v2 c7_i32_29
  let c11_i32_30 : BitVec 32 := 11#32
  let c6_i32_27 : BitVec 32 := 6#32
  let v43 : BitVec 1 := Scalar.cmpi .eq v2 c6_i32_27
  let c2_i32_28 : BitVec 32 := 2#32
  let c5_i32_25 : BitVec 32 := 5#32
  let v41 : BitVec 1 := Scalar.cmpi .eq v2 c5_i32_25
  let c9_i32_26 : BitVec 32 := 9#32
  let c4_i32_23 : BitVec 32 := 4#32
  let v39 : BitVec 1 := Scalar.cmpi .eq v2 c4_i32_23
  let c0_i32_24 : BitVec 32 := 0#32
  let c3_i32_21 : BitVec 32 := 3#32
  let v37 : BitVec 1 := Scalar.cmpi .eq v2 c3_i32_21
  let c7_i32_22 : BitVec 32 := 7#32
  let c2_i32_19 : BitVec 32 := 2#32
  let v35 : BitVec 1 := Scalar.cmpi .eq v2 c2_i32_19
  let c3_i32_20 : BitVec 32 := 3#32
  let c1_i32_16 : BitVec 32 := 1#32
  let v33 : BitVec 1 := Scalar.cmpi .eq v2 c1_i32_16
  let c5_i32_17 : BitVec 32 := 5#32
  let c1_i32_18 : BitVec 32 := 1#32
  let v34 : BitVec 32 := Scalar.select v33 c5_i32_17 c1_i32_18
  let v36 : BitVec 32 := Scalar.select v35 c3_i32_20 v34
  let v38 : BitVec 32 := Scalar.select v37 c7_i32_22 v36
  let v40 : BitVec 32 := Scalar.select v39 c0_i32_24 v38
  let v42 : BitVec 32 := Scalar.select v41 c9_i32_26 v40
  let v44 : BitVec 32 := Scalar.select v43 c2_i32_28 v42
  let v46 : BitVec 32 := Scalar.select v45 c11_i32_30 v44
  let v48 : BitVec 32 := Scalar.select v47 c4_i32_32 v46
  let v50 : BitVec 32 := Scalar.select v49 c13_i32_34 v48
  let v52 : BitVec 32 := Scalar.select v51 c6_i32_36 v50
  let v54 : BitVec 32 := Scalar.select v53 c15_i32_38 v52
  let v56 : BitVec 32 := Scalar.select v55 c8_i32_40 v54
  let v58 : BitVec 32 := Scalar.select v57 c14_i32_42 v56
  let v60 : BitVec 32 := Scalar.select v59 c10_i32_44 v58
  let v62 : BitVec 32 := Scalar.select v61 c12_i32_46 v60
  let c1_i32_4304 : BitVec 32 := 1#32
  let v4604 : BitVec 32 := Scalar.muli v62 c1_i32_4304
  let v4605 : BitVec 32 := Scalar.addi c0_i32_4305 v4604
  v4605.toNat
def k0_dev79 (d0 : Dev nD) : Nat :=
  let c0_i32_4353 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c11_i32_77 : BitVec 32 := 11#32
  let c14_i32_74 : BitVec 32 := 14#32
  let v89 : BitVec 1 := Scalar.cmpi .eq v2 c14_i32_74
  let c13_i32_75 : BitVec 32 := 13#32
  let c13_i32_72 : BitVec 32 := 13#32
  let v87 : BitVec 1 := Scalar.cmpi .eq v2 c13_i32_72
  let c9_i32_73 : BitVec 32 := 9#32
  let c12_i32_70 : BitVec 32 := 12#32
  let v85 : BitVec 1 := Scalar.cmpi .eq v2 c12_i32_70
  let c15_i32_71 : BitVec 32 := 15#32
  let c11_i32_68 : BitVec 32 := 11#32
  let v83 : BitVec 1 := Scalar.cmpi .eq v2 c11_i32_68
  let c7_i32_69 : BitVec 32 := 7#32
  let c10_i32_66 : BitVec 32 := 10#32
  let v81 : BitVec 1 := Scalar.cmpi .eq v2 c10_i32_66
  let c14_i32_67 : BitVec 32 := 14#32
  let c9_i32_64 : BitVec 32 := 9#32
  let v79 : BitVec 1 := Scalar.cmpi .eq v2 c9_i32_64
  let c5_i32_65 : BitVec 32 := 5#32
  let c8_i32_62 : BitVec 32 := 8#32
  let v77 : BitVec 1 := Scalar.cmpi .eq v2 c8_i32_62
  let c12_i32_63 : BitVec 32 := 12#32
  let c7_i32_60 : BitVec 32 := 7#32
  let v75 : BitVec 1 := Scalar.cmpi .eq v2 c7_i32_60
  let c3_i32_61 : BitVec 32 := 3#32
  let c6_i32_58 : BitVec 32 := 6#32
  let v73 : BitVec 1 := Scalar.cmpi .eq v2 c6_i32_58
  let c10_i32_59 : BitVec 32 := 10#32
  let c5_i32_56 : BitVec 32 := 5#32
  let v71 : BitVec 1 := Scalar.cmpi .eq v2 c5_i32_56
  let c1_i32_57 : BitVec 32 := 1#32
  let c4_i32_54 : BitVec 32 := 4#32
  let v69 : BitVec 1 := Scalar.cmpi .eq v2 c4_i32_54
  let c8_i32_55 : BitVec 32 := 8#32
  let c3_i32_52 : BitVec 32 := 3#32
  let v67 : BitVec 1 := Scalar.cmpi .eq v2 c3_i32_52
  let c2_i32_53 : BitVec 32 := 2#32
  let c2_i32_50 : BitVec 32 := 2#32
  let v65 : BitVec 1 := Scalar.cmpi .eq v2 c2_i32_50
  let c6_i32_51 : BitVec 32 := 6#32
  let c1_i32_47 : BitVec 32 := 1#32
  let v63 : BitVec 1 := Scalar.cmpi .eq v2 c1_i32_47
  let c0_i32_48 : BitVec 32 := 0#32
  let c4_i32_49 : BitVec 32 := 4#32
  let v64 : BitVec 32 := Scalar.select v63 c0_i32_48 c4_i32_49
  let v66 : BitVec 32 := Scalar.select v65 c6_i32_51 v64
  let v68 : BitVec 32 := Scalar.select v67 c2_i32_53 v66
  let v70 : BitVec 32 := Scalar.select v69 c8_i32_55 v68
  let v72 : BitVec 32 := Scalar.select v71 c1_i32_57 v70
  let v74 : BitVec 32 := Scalar.select v73 c10_i32_59 v72
  let v76 : BitVec 32 := Scalar.select v75 c3_i32_61 v74
  let v78 : BitVec 32 := Scalar.select v77 c12_i32_63 v76
  let v80 : BitVec 32 := Scalar.select v79 c5_i32_65 v78
  let v82 : BitVec 32 := Scalar.select v81 c14_i32_67 v80
  let v84 : BitVec 32 := Scalar.select v83 c7_i32_69 v82
  let v86 : BitVec 32 := Scalar.select v85 c15_i32_71 v84
  let v88 : BitVec 32 := Scalar.select v87 c9_i32_73 v86
  let v90 : BitVec 32 := Scalar.select v89 c13_i32_75 v88
  let v92 : BitVec 32 := Scalar.select v91 c11_i32_77 v90
  let c1_i32_4352 : BitVec 32 := 1#32
  let v4659 : BitVec 32 := Scalar.muli v92 c1_i32_4352
  let v4660 : BitVec 32 := Scalar.addi c0_i32_4353 v4659
  v4660.toNat
def k0_dev80 (d0 : Dev nD) : Nat :=
  let c0_i32_4401 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c12_i32_46 : BitVec 32 := 12#32
  let c14_i32_43 : BitVec 32 := 14#32
  let v59 : BitVec 1 := Scalar.cmpi .eq v2 c14_i32_43
  let c10_i32_44 : BitVec 32 := 10#32
  let c13_i32_41 : BitVec 32 := 13#32
  let v57 : BitVec 1 := Scalar.cmpi .eq v2 c13_i32_41
  let c14_i32_42 : BitVec 32 := 14#32
  let c12_i32_39 : BitVec 32 := 12#32
  let v55 : BitVec 1 := Scalar.cmpi .eq v2 c12_i32_39
  let c8_i32_40 : BitVec 32 := 8#32
  let c11_i32_37 : BitVec 32 := 11#32
  let v53 : BitVec 1 := Scalar.cmpi .eq v2 c11_i32_37
  let c15_i32_38 : BitVec 32 := 15#32
  let c10_i32_35 : BitVec 32 := 10#32
  let v51 : BitVec 1 := Scalar.cmpi .eq v2 c10_i32_35
  let c6_i32_36 : BitVec 32 := 6#32
  let c9_i32_33 : BitVec 32 := 9#32
  let v49 : BitVec 1 := Scalar.cmpi .eq v2 c9_i32_33
  let c13_i32_34 : BitVec 32 := 13#32
  let c8_i32_31 : BitVec 32 := 8#32
  let v47 : BitVec 1 := Scalar.cmpi .eq v2 c8_i32_31
  let c4_i32_32 : BitVec 32 := 4#32
  let c7_i32_29 : BitVec 32 := 7#32
  let v45 : BitVec 1 := Scalar.cmpi .eq v2 c7_i32_29
  let c11_i32_30 : BitVec 32 := 11#32
  let c6_i32_27 : BitVec 32 := 6#32
  let v43 : BitVec 1 := Scalar.cmpi .eq v2 c6_i32_27
  let c2_i32_28 : BitVec 32 := 2#32
  let c5_i32_25 : BitVec 32 := 5#32
  let v41 : BitVec 1 := Scalar.cmpi .eq v2 c5_i32_25
  let c9_i32_26 : BitVec 32 := 9#32
  let c4_i32_23 : BitVec 32 := 4#32
  let v39 : BitVec 1 := Scalar.cmpi .eq v2 c4_i32_23
  let c0_i32_24 : BitVec 32 := 0#32
  let c3_i32_21 : BitVec 32 := 3#32
  let v37 : BitVec 1 := Scalar.cmpi .eq v2 c3_i32_21
  let c7_i32_22 : BitVec 32 := 7#32
  let c2_i32_19 : BitVec 32 := 2#32
  let v35 : BitVec 1 := Scalar.cmpi .eq v2 c2_i32_19
  let c3_i32_20 : BitVec 32 := 3#32
  let c1_i32_16 : BitVec 32 := 1#32
  let v33 : BitVec 1 := Scalar.cmpi .eq v2 c1_i32_16
  let c5_i32_17 : BitVec 32 := 5#32
  let c1_i32_18 : BitVec 32 := 1#32
  let v34 : BitVec 32 := Scalar.select v33 c5_i32_17 c1_i32_18
  let v36 : BitVec 32 := Scalar.select v35 c3_i32_20 v34
  let v38 : BitVec 32 := Scalar.select v37 c7_i32_22 v36
  let v40 : BitVec 32 := Scalar.select v39 c0_i32_24 v38
  let v42 : BitVec 32 := Scalar.select v41 c9_i32_26 v40
  let v44 : BitVec 32 := Scalar.select v43 c2_i32_28 v42
  let v46 : BitVec 32 := Scalar.select v45 c11_i32_30 v44
  let v48 : BitVec 32 := Scalar.select v47 c4_i32_32 v46
  let v50 : BitVec 32 := Scalar.select v49 c13_i32_34 v48
  let v52 : BitVec 32 := Scalar.select v51 c6_i32_36 v50
  let v54 : BitVec 32 := Scalar.select v53 c15_i32_38 v52
  let v56 : BitVec 32 := Scalar.select v55 c8_i32_40 v54
  let v58 : BitVec 32 := Scalar.select v57 c14_i32_42 v56
  let v60 : BitVec 32 := Scalar.select v59 c10_i32_44 v58
  let v62 : BitVec 32 := Scalar.select v61 c12_i32_46 v60
  let c1_i32_4400 : BitVec 32 := 1#32
  let v4714 : BitVec 32 := Scalar.muli v62 c1_i32_4400
  let v4715 : BitVec 32 := Scalar.addi c0_i32_4401 v4714
  v4715.toNat
def k0_dev81 (d0 : Dev nD) : Nat :=
  let c0_i32_4449 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c11_i32_77 : BitVec 32 := 11#32
  let c14_i32_74 : BitVec 32 := 14#32
  let v89 : BitVec 1 := Scalar.cmpi .eq v2 c14_i32_74
  let c13_i32_75 : BitVec 32 := 13#32
  let c13_i32_72 : BitVec 32 := 13#32
  let v87 : BitVec 1 := Scalar.cmpi .eq v2 c13_i32_72
  let c9_i32_73 : BitVec 32 := 9#32
  let c12_i32_70 : BitVec 32 := 12#32
  let v85 : BitVec 1 := Scalar.cmpi .eq v2 c12_i32_70
  let c15_i32_71 : BitVec 32 := 15#32
  let c11_i32_68 : BitVec 32 := 11#32
  let v83 : BitVec 1 := Scalar.cmpi .eq v2 c11_i32_68
  let c7_i32_69 : BitVec 32 := 7#32
  let c10_i32_66 : BitVec 32 := 10#32
  let v81 : BitVec 1 := Scalar.cmpi .eq v2 c10_i32_66
  let c14_i32_67 : BitVec 32 := 14#32
  let c9_i32_64 : BitVec 32 := 9#32
  let v79 : BitVec 1 := Scalar.cmpi .eq v2 c9_i32_64
  let c5_i32_65 : BitVec 32 := 5#32
  let c8_i32_62 : BitVec 32 := 8#32
  let v77 : BitVec 1 := Scalar.cmpi .eq v2 c8_i32_62
  let c12_i32_63 : BitVec 32 := 12#32
  let c7_i32_60 : BitVec 32 := 7#32
  let v75 : BitVec 1 := Scalar.cmpi .eq v2 c7_i32_60
  let c3_i32_61 : BitVec 32 := 3#32
  let c6_i32_58 : BitVec 32 := 6#32
  let v73 : BitVec 1 := Scalar.cmpi .eq v2 c6_i32_58
  let c10_i32_59 : BitVec 32 := 10#32
  let c5_i32_56 : BitVec 32 := 5#32
  let v71 : BitVec 1 := Scalar.cmpi .eq v2 c5_i32_56
  let c1_i32_57 : BitVec 32 := 1#32
  let c4_i32_54 : BitVec 32 := 4#32
  let v69 : BitVec 1 := Scalar.cmpi .eq v2 c4_i32_54
  let c8_i32_55 : BitVec 32 := 8#32
  let c3_i32_52 : BitVec 32 := 3#32
  let v67 : BitVec 1 := Scalar.cmpi .eq v2 c3_i32_52
  let c2_i32_53 : BitVec 32 := 2#32
  let c2_i32_50 : BitVec 32 := 2#32
  let v65 : BitVec 1 := Scalar.cmpi .eq v2 c2_i32_50
  let c6_i32_51 : BitVec 32 := 6#32
  let c1_i32_47 : BitVec 32 := 1#32
  let v63 : BitVec 1 := Scalar.cmpi .eq v2 c1_i32_47
  let c0_i32_48 : BitVec 32 := 0#32
  let c4_i32_49 : BitVec 32 := 4#32
  let v64 : BitVec 32 := Scalar.select v63 c0_i32_48 c4_i32_49
  let v66 : BitVec 32 := Scalar.select v65 c6_i32_51 v64
  let v68 : BitVec 32 := Scalar.select v67 c2_i32_53 v66
  let v70 : BitVec 32 := Scalar.select v69 c8_i32_55 v68
  let v72 : BitVec 32 := Scalar.select v71 c1_i32_57 v70
  let v74 : BitVec 32 := Scalar.select v73 c10_i32_59 v72
  let v76 : BitVec 32 := Scalar.select v75 c3_i32_61 v74
  let v78 : BitVec 32 := Scalar.select v77 c12_i32_63 v76
  let v80 : BitVec 32 := Scalar.select v79 c5_i32_65 v78
  let v82 : BitVec 32 := Scalar.select v81 c14_i32_67 v80
  let v84 : BitVec 32 := Scalar.select v83 c7_i32_69 v82
  let v86 : BitVec 32 := Scalar.select v85 c15_i32_71 v84
  let v88 : BitVec 32 := Scalar.select v87 c9_i32_73 v86
  let v90 : BitVec 32 := Scalar.select v89 c13_i32_75 v88
  let v92 : BitVec 32 := Scalar.select v91 c11_i32_77 v90
  let c1_i32_4448 : BitVec 32 := 1#32
  let v4769 : BitVec 32 := Scalar.muli v92 c1_i32_4448
  let v4770 : BitVec 32 := Scalar.addi c0_i32_4449 v4769
  v4770.toNat
def k0_dev82 (d0 : Dev nD) : Nat :=
  let c0_i32_4497 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c12_i32_46 : BitVec 32 := 12#32
  let c14_i32_43 : BitVec 32 := 14#32
  let v59 : BitVec 1 := Scalar.cmpi .eq v2 c14_i32_43
  let c10_i32_44 : BitVec 32 := 10#32
  let c13_i32_41 : BitVec 32 := 13#32
  let v57 : BitVec 1 := Scalar.cmpi .eq v2 c13_i32_41
  let c14_i32_42 : BitVec 32 := 14#32
  let c12_i32_39 : BitVec 32 := 12#32
  let v55 : BitVec 1 := Scalar.cmpi .eq v2 c12_i32_39
  let c8_i32_40 : BitVec 32 := 8#32
  let c11_i32_37 : BitVec 32 := 11#32
  let v53 : BitVec 1 := Scalar.cmpi .eq v2 c11_i32_37
  let c15_i32_38 : BitVec 32 := 15#32
  let c10_i32_35 : BitVec 32 := 10#32
  let v51 : BitVec 1 := Scalar.cmpi .eq v2 c10_i32_35
  let c6_i32_36 : BitVec 32 := 6#32
  let c9_i32_33 : BitVec 32 := 9#32
  let v49 : BitVec 1 := Scalar.cmpi .eq v2 c9_i32_33
  let c13_i32_34 : BitVec 32 := 13#32
  let c8_i32_31 : BitVec 32 := 8#32
  let v47 : BitVec 1 := Scalar.cmpi .eq v2 c8_i32_31
  let c4_i32_32 : BitVec 32 := 4#32
  let c7_i32_29 : BitVec 32 := 7#32
  let v45 : BitVec 1 := Scalar.cmpi .eq v2 c7_i32_29
  let c11_i32_30 : BitVec 32 := 11#32
  let c6_i32_27 : BitVec 32 := 6#32
  let v43 : BitVec 1 := Scalar.cmpi .eq v2 c6_i32_27
  let c2_i32_28 : BitVec 32 := 2#32
  let c5_i32_25 : BitVec 32 := 5#32
  let v41 : BitVec 1 := Scalar.cmpi .eq v2 c5_i32_25
  let c9_i32_26 : BitVec 32 := 9#32
  let c4_i32_23 : BitVec 32 := 4#32
  let v39 : BitVec 1 := Scalar.cmpi .eq v2 c4_i32_23
  let c0_i32_24 : BitVec 32 := 0#32
  let c3_i32_21 : BitVec 32 := 3#32
  let v37 : BitVec 1 := Scalar.cmpi .eq v2 c3_i32_21
  let c7_i32_22 : BitVec 32 := 7#32
  let c2_i32_19 : BitVec 32 := 2#32
  let v35 : BitVec 1 := Scalar.cmpi .eq v2 c2_i32_19
  let c3_i32_20 : BitVec 32 := 3#32
  let c1_i32_16 : BitVec 32 := 1#32
  let v33 : BitVec 1 := Scalar.cmpi .eq v2 c1_i32_16
  let c5_i32_17 : BitVec 32 := 5#32
  let c1_i32_18 : BitVec 32 := 1#32
  let v34 : BitVec 32 := Scalar.select v33 c5_i32_17 c1_i32_18
  let v36 : BitVec 32 := Scalar.select v35 c3_i32_20 v34
  let v38 : BitVec 32 := Scalar.select v37 c7_i32_22 v36
  let v40 : BitVec 32 := Scalar.select v39 c0_i32_24 v38
  let v42 : BitVec 32 := Scalar.select v41 c9_i32_26 v40
  let v44 : BitVec 32 := Scalar.select v43 c2_i32_28 v42
  let v46 : BitVec 32 := Scalar.select v45 c11_i32_30 v44
  let v48 : BitVec 32 := Scalar.select v47 c4_i32_32 v46
  let v50 : BitVec 32 := Scalar.select v49 c13_i32_34 v48
  let v52 : BitVec 32 := Scalar.select v51 c6_i32_36 v50
  let v54 : BitVec 32 := Scalar.select v53 c15_i32_38 v52
  let v56 : BitVec 32 := Scalar.select v55 c8_i32_40 v54
  let v58 : BitVec 32 := Scalar.select v57 c14_i32_42 v56
  let v60 : BitVec 32 := Scalar.select v59 c10_i32_44 v58
  let v62 : BitVec 32 := Scalar.select v61 c12_i32_46 v60
  let c1_i32_4496 : BitVec 32 := 1#32
  let v4824 : BitVec 32 := Scalar.muli v62 c1_i32_4496
  let v4825 : BitVec 32 := Scalar.addi c0_i32_4497 v4824
  v4825.toNat
def k0_dev83 (d0 : Dev nD) : Nat :=
  let c0_i32_4545 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c11_i32_77 : BitVec 32 := 11#32
  let c14_i32_74 : BitVec 32 := 14#32
  let v89 : BitVec 1 := Scalar.cmpi .eq v2 c14_i32_74
  let c13_i32_75 : BitVec 32 := 13#32
  let c13_i32_72 : BitVec 32 := 13#32
  let v87 : BitVec 1 := Scalar.cmpi .eq v2 c13_i32_72
  let c9_i32_73 : BitVec 32 := 9#32
  let c12_i32_70 : BitVec 32 := 12#32
  let v85 : BitVec 1 := Scalar.cmpi .eq v2 c12_i32_70
  let c15_i32_71 : BitVec 32 := 15#32
  let c11_i32_68 : BitVec 32 := 11#32
  let v83 : BitVec 1 := Scalar.cmpi .eq v2 c11_i32_68
  let c7_i32_69 : BitVec 32 := 7#32
  let c10_i32_66 : BitVec 32 := 10#32
  let v81 : BitVec 1 := Scalar.cmpi .eq v2 c10_i32_66
  let c14_i32_67 : BitVec 32 := 14#32
  let c9_i32_64 : BitVec 32 := 9#32
  let v79 : BitVec 1 := Scalar.cmpi .eq v2 c9_i32_64
  let c5_i32_65 : BitVec 32 := 5#32
  let c8_i32_62 : BitVec 32 := 8#32
  let v77 : BitVec 1 := Scalar.cmpi .eq v2 c8_i32_62
  let c12_i32_63 : BitVec 32 := 12#32
  let c7_i32_60 : BitVec 32 := 7#32
  let v75 : BitVec 1 := Scalar.cmpi .eq v2 c7_i32_60
  let c3_i32_61 : BitVec 32 := 3#32
  let c6_i32_58 : BitVec 32 := 6#32
  let v73 : BitVec 1 := Scalar.cmpi .eq v2 c6_i32_58
  let c10_i32_59 : BitVec 32 := 10#32
  let c5_i32_56 : BitVec 32 := 5#32
  let v71 : BitVec 1 := Scalar.cmpi .eq v2 c5_i32_56
  let c1_i32_57 : BitVec 32 := 1#32
  let c4_i32_54 : BitVec 32 := 4#32
  let v69 : BitVec 1 := Scalar.cmpi .eq v2 c4_i32_54
  let c8_i32_55 : BitVec 32 := 8#32
  let c3_i32_52 : BitVec 32 := 3#32
  let v67 : BitVec 1 := Scalar.cmpi .eq v2 c3_i32_52
  let c2_i32_53 : BitVec 32 := 2#32
  let c2_i32_50 : BitVec 32 := 2#32
  let v65 : BitVec 1 := Scalar.cmpi .eq v2 c2_i32_50
  let c6_i32_51 : BitVec 32 := 6#32
  let c1_i32_47 : BitVec 32 := 1#32
  let v63 : BitVec 1 := Scalar.cmpi .eq v2 c1_i32_47
  let c0_i32_48 : BitVec 32 := 0#32
  let c4_i32_49 : BitVec 32 := 4#32
  let v64 : BitVec 32 := Scalar.select v63 c0_i32_48 c4_i32_49
  let v66 : BitVec 32 := Scalar.select v65 c6_i32_51 v64
  let v68 : BitVec 32 := Scalar.select v67 c2_i32_53 v66
  let v70 : BitVec 32 := Scalar.select v69 c8_i32_55 v68
  let v72 : BitVec 32 := Scalar.select v71 c1_i32_57 v70
  let v74 : BitVec 32 := Scalar.select v73 c10_i32_59 v72
  let v76 : BitVec 32 := Scalar.select v75 c3_i32_61 v74
  let v78 : BitVec 32 := Scalar.select v77 c12_i32_63 v76
  let v80 : BitVec 32 := Scalar.select v79 c5_i32_65 v78
  let v82 : BitVec 32 := Scalar.select v81 c14_i32_67 v80
  let v84 : BitVec 32 := Scalar.select v83 c7_i32_69 v82
  let v86 : BitVec 32 := Scalar.select v85 c15_i32_71 v84
  let v88 : BitVec 32 := Scalar.select v87 c9_i32_73 v86
  let v90 : BitVec 32 := Scalar.select v89 c13_i32_75 v88
  let v92 : BitVec 32 := Scalar.select v91 c11_i32_77 v90
  let c1_i32_4544 : BitVec 32 := 1#32
  let v4879 : BitVec 32 := Scalar.muli v92 c1_i32_4544
  let v4880 : BitVec 32 := Scalar.addi c0_i32_4545 v4879
  v4880.toNat
def k0_dev84 (d0 : Dev nD) : Nat :=
  let c0_i32_4593 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c12_i32_46 : BitVec 32 := 12#32
  let c14_i32_43 : BitVec 32 := 14#32
  let v59 : BitVec 1 := Scalar.cmpi .eq v2 c14_i32_43
  let c10_i32_44 : BitVec 32 := 10#32
  let c13_i32_41 : BitVec 32 := 13#32
  let v57 : BitVec 1 := Scalar.cmpi .eq v2 c13_i32_41
  let c14_i32_42 : BitVec 32 := 14#32
  let c12_i32_39 : BitVec 32 := 12#32
  let v55 : BitVec 1 := Scalar.cmpi .eq v2 c12_i32_39
  let c8_i32_40 : BitVec 32 := 8#32
  let c11_i32_37 : BitVec 32 := 11#32
  let v53 : BitVec 1 := Scalar.cmpi .eq v2 c11_i32_37
  let c15_i32_38 : BitVec 32 := 15#32
  let c10_i32_35 : BitVec 32 := 10#32
  let v51 : BitVec 1 := Scalar.cmpi .eq v2 c10_i32_35
  let c6_i32_36 : BitVec 32 := 6#32
  let c9_i32_33 : BitVec 32 := 9#32
  let v49 : BitVec 1 := Scalar.cmpi .eq v2 c9_i32_33
  let c13_i32_34 : BitVec 32 := 13#32
  let c8_i32_31 : BitVec 32 := 8#32
  let v47 : BitVec 1 := Scalar.cmpi .eq v2 c8_i32_31
  let c4_i32_32 : BitVec 32 := 4#32
  let c7_i32_29 : BitVec 32 := 7#32
  let v45 : BitVec 1 := Scalar.cmpi .eq v2 c7_i32_29
  let c11_i32_30 : BitVec 32 := 11#32
  let c6_i32_27 : BitVec 32 := 6#32
  let v43 : BitVec 1 := Scalar.cmpi .eq v2 c6_i32_27
  let c2_i32_28 : BitVec 32 := 2#32
  let c5_i32_25 : BitVec 32 := 5#32
  let v41 : BitVec 1 := Scalar.cmpi .eq v2 c5_i32_25
  let c9_i32_26 : BitVec 32 := 9#32
  let c4_i32_23 : BitVec 32 := 4#32
  let v39 : BitVec 1 := Scalar.cmpi .eq v2 c4_i32_23
  let c0_i32_24 : BitVec 32 := 0#32
  let c3_i32_21 : BitVec 32 := 3#32
  let v37 : BitVec 1 := Scalar.cmpi .eq v2 c3_i32_21
  let c7_i32_22 : BitVec 32 := 7#32
  let c2_i32_19 : BitVec 32 := 2#32
  let v35 : BitVec 1 := Scalar.cmpi .eq v2 c2_i32_19
  let c3_i32_20 : BitVec 32 := 3#32
  let c1_i32_16 : BitVec 32 := 1#32
  let v33 : BitVec 1 := Scalar.cmpi .eq v2 c1_i32_16
  let c5_i32_17 : BitVec 32 := 5#32
  let c1_i32_18 : BitVec 32 := 1#32
  let v34 : BitVec 32 := Scalar.select v33 c5_i32_17 c1_i32_18
  let v36 : BitVec 32 := Scalar.select v35 c3_i32_20 v34
  let v38 : BitVec 32 := Scalar.select v37 c7_i32_22 v36
  let v40 : BitVec 32 := Scalar.select v39 c0_i32_24 v38
  let v42 : BitVec 32 := Scalar.select v41 c9_i32_26 v40
  let v44 : BitVec 32 := Scalar.select v43 c2_i32_28 v42
  let v46 : BitVec 32 := Scalar.select v45 c11_i32_30 v44
  let v48 : BitVec 32 := Scalar.select v47 c4_i32_32 v46
  let v50 : BitVec 32 := Scalar.select v49 c13_i32_34 v48
  let v52 : BitVec 32 := Scalar.select v51 c6_i32_36 v50
  let v54 : BitVec 32 := Scalar.select v53 c15_i32_38 v52
  let v56 : BitVec 32 := Scalar.select v55 c8_i32_40 v54
  let v58 : BitVec 32 := Scalar.select v57 c14_i32_42 v56
  let v60 : BitVec 32 := Scalar.select v59 c10_i32_44 v58
  let v62 : BitVec 32 := Scalar.select v61 c12_i32_46 v60
  let c1_i32_4592 : BitVec 32 := 1#32
  let v4934 : BitVec 32 := Scalar.muli v62 c1_i32_4592
  let v4935 : BitVec 32 := Scalar.addi c0_i32_4593 v4934
  v4935.toNat
def k0_dev85 (d0 : Dev nD) : Nat :=
  let c0_i32_4641 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c11_i32_77 : BitVec 32 := 11#32
  let c14_i32_74 : BitVec 32 := 14#32
  let v89 : BitVec 1 := Scalar.cmpi .eq v2 c14_i32_74
  let c13_i32_75 : BitVec 32 := 13#32
  let c13_i32_72 : BitVec 32 := 13#32
  let v87 : BitVec 1 := Scalar.cmpi .eq v2 c13_i32_72
  let c9_i32_73 : BitVec 32 := 9#32
  let c12_i32_70 : BitVec 32 := 12#32
  let v85 : BitVec 1 := Scalar.cmpi .eq v2 c12_i32_70
  let c15_i32_71 : BitVec 32 := 15#32
  let c11_i32_68 : BitVec 32 := 11#32
  let v83 : BitVec 1 := Scalar.cmpi .eq v2 c11_i32_68
  let c7_i32_69 : BitVec 32 := 7#32
  let c10_i32_66 : BitVec 32 := 10#32
  let v81 : BitVec 1 := Scalar.cmpi .eq v2 c10_i32_66
  let c14_i32_67 : BitVec 32 := 14#32
  let c9_i32_64 : BitVec 32 := 9#32
  let v79 : BitVec 1 := Scalar.cmpi .eq v2 c9_i32_64
  let c5_i32_65 : BitVec 32 := 5#32
  let c8_i32_62 : BitVec 32 := 8#32
  let v77 : BitVec 1 := Scalar.cmpi .eq v2 c8_i32_62
  let c12_i32_63 : BitVec 32 := 12#32
  let c7_i32_60 : BitVec 32 := 7#32
  let v75 : BitVec 1 := Scalar.cmpi .eq v2 c7_i32_60
  let c3_i32_61 : BitVec 32 := 3#32
  let c6_i32_58 : BitVec 32 := 6#32
  let v73 : BitVec 1 := Scalar.cmpi .eq v2 c6_i32_58
  let c10_i32_59 : BitVec 32 := 10#32
  let c5_i32_56 : BitVec 32 := 5#32
  let v71 : BitVec 1 := Scalar.cmpi .eq v2 c5_i32_56
  let c1_i32_57 : BitVec 32 := 1#32
  let c4_i32_54 : BitVec 32 := 4#32
  let v69 : BitVec 1 := Scalar.cmpi .eq v2 c4_i32_54
  let c8_i32_55 : BitVec 32 := 8#32
  let c3_i32_52 : BitVec 32 := 3#32
  let v67 : BitVec 1 := Scalar.cmpi .eq v2 c3_i32_52
  let c2_i32_53 : BitVec 32 := 2#32
  let c2_i32_50 : BitVec 32 := 2#32
  let v65 : BitVec 1 := Scalar.cmpi .eq v2 c2_i32_50
  let c6_i32_51 : BitVec 32 := 6#32
  let c1_i32_47 : BitVec 32 := 1#32
  let v63 : BitVec 1 := Scalar.cmpi .eq v2 c1_i32_47
  let c0_i32_48 : BitVec 32 := 0#32
  let c4_i32_49 : BitVec 32 := 4#32
  let v64 : BitVec 32 := Scalar.select v63 c0_i32_48 c4_i32_49
  let v66 : BitVec 32 := Scalar.select v65 c6_i32_51 v64
  let v68 : BitVec 32 := Scalar.select v67 c2_i32_53 v66
  let v70 : BitVec 32 := Scalar.select v69 c8_i32_55 v68
  let v72 : BitVec 32 := Scalar.select v71 c1_i32_57 v70
  let v74 : BitVec 32 := Scalar.select v73 c10_i32_59 v72
  let v76 : BitVec 32 := Scalar.select v75 c3_i32_61 v74
  let v78 : BitVec 32 := Scalar.select v77 c12_i32_63 v76
  let v80 : BitVec 32 := Scalar.select v79 c5_i32_65 v78
  let v82 : BitVec 32 := Scalar.select v81 c14_i32_67 v80
  let v84 : BitVec 32 := Scalar.select v83 c7_i32_69 v82
  let v86 : BitVec 32 := Scalar.select v85 c15_i32_71 v84
  let v88 : BitVec 32 := Scalar.select v87 c9_i32_73 v86
  let v90 : BitVec 32 := Scalar.select v89 c13_i32_75 v88
  let v92 : BitVec 32 := Scalar.select v91 c11_i32_77 v90
  let c1_i32_4640 : BitVec 32 := 1#32
  let v4989 : BitVec 32 := Scalar.muli v92 c1_i32_4640
  let v4990 : BitVec 32 := Scalar.addi c0_i32_4641 v4989
  v4990.toNat
def k0_dev86 (d0 : Dev nD) : Nat :=
  let c0_i32_4689 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c12_i32_46 : BitVec 32 := 12#32
  let c14_i32_43 : BitVec 32 := 14#32
  let v59 : BitVec 1 := Scalar.cmpi .eq v2 c14_i32_43
  let c10_i32_44 : BitVec 32 := 10#32
  let c13_i32_41 : BitVec 32 := 13#32
  let v57 : BitVec 1 := Scalar.cmpi .eq v2 c13_i32_41
  let c14_i32_42 : BitVec 32 := 14#32
  let c12_i32_39 : BitVec 32 := 12#32
  let v55 : BitVec 1 := Scalar.cmpi .eq v2 c12_i32_39
  let c8_i32_40 : BitVec 32 := 8#32
  let c11_i32_37 : BitVec 32 := 11#32
  let v53 : BitVec 1 := Scalar.cmpi .eq v2 c11_i32_37
  let c15_i32_38 : BitVec 32 := 15#32
  let c10_i32_35 : BitVec 32 := 10#32
  let v51 : BitVec 1 := Scalar.cmpi .eq v2 c10_i32_35
  let c6_i32_36 : BitVec 32 := 6#32
  let c9_i32_33 : BitVec 32 := 9#32
  let v49 : BitVec 1 := Scalar.cmpi .eq v2 c9_i32_33
  let c13_i32_34 : BitVec 32 := 13#32
  let c8_i32_31 : BitVec 32 := 8#32
  let v47 : BitVec 1 := Scalar.cmpi .eq v2 c8_i32_31
  let c4_i32_32 : BitVec 32 := 4#32
  let c7_i32_29 : BitVec 32 := 7#32
  let v45 : BitVec 1 := Scalar.cmpi .eq v2 c7_i32_29
  let c11_i32_30 : BitVec 32 := 11#32
  let c6_i32_27 : BitVec 32 := 6#32
  let v43 : BitVec 1 := Scalar.cmpi .eq v2 c6_i32_27
  let c2_i32_28 : BitVec 32 := 2#32
  let c5_i32_25 : BitVec 32 := 5#32
  let v41 : BitVec 1 := Scalar.cmpi .eq v2 c5_i32_25
  let c9_i32_26 : BitVec 32 := 9#32
  let c4_i32_23 : BitVec 32 := 4#32
  let v39 : BitVec 1 := Scalar.cmpi .eq v2 c4_i32_23
  let c0_i32_24 : BitVec 32 := 0#32
  let c3_i32_21 : BitVec 32 := 3#32
  let v37 : BitVec 1 := Scalar.cmpi .eq v2 c3_i32_21
  let c7_i32_22 : BitVec 32 := 7#32
  let c2_i32_19 : BitVec 32 := 2#32
  let v35 : BitVec 1 := Scalar.cmpi .eq v2 c2_i32_19
  let c3_i32_20 : BitVec 32 := 3#32
  let c1_i32_16 : BitVec 32 := 1#32
  let v33 : BitVec 1 := Scalar.cmpi .eq v2 c1_i32_16
  let c5_i32_17 : BitVec 32 := 5#32
  let c1_i32_18 : BitVec 32 := 1#32
  let v34 : BitVec 32 := Scalar.select v33 c5_i32_17 c1_i32_18
  let v36 : BitVec 32 := Scalar.select v35 c3_i32_20 v34
  let v38 : BitVec 32 := Scalar.select v37 c7_i32_22 v36
  let v40 : BitVec 32 := Scalar.select v39 c0_i32_24 v38
  let v42 : BitVec 32 := Scalar.select v41 c9_i32_26 v40
  let v44 : BitVec 32 := Scalar.select v43 c2_i32_28 v42
  let v46 : BitVec 32 := Scalar.select v45 c11_i32_30 v44
  let v48 : BitVec 32 := Scalar.select v47 c4_i32_32 v46
  let v50 : BitVec 32 := Scalar.select v49 c13_i32_34 v48
  let v52 : BitVec 32 := Scalar.select v51 c6_i32_36 v50
  let v54 : BitVec 32 := Scalar.select v53 c15_i32_38 v52
  let v56 : BitVec 32 := Scalar.select v55 c8_i32_40 v54
  let v58 : BitVec 32 := Scalar.select v57 c14_i32_42 v56
  let v60 : BitVec 32 := Scalar.select v59 c10_i32_44 v58
  let v62 : BitVec 32 := Scalar.select v61 c12_i32_46 v60
  let c1_i32_4688 : BitVec 32 := 1#32
  let v5044 : BitVec 32 := Scalar.muli v62 c1_i32_4688
  let v5045 : BitVec 32 := Scalar.addi c0_i32_4689 v5044
  v5045.toNat
def k0_dev87 (d0 : Dev nD) : Nat :=
  let c0_i32_4737 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c11_i32_77 : BitVec 32 := 11#32
  let c14_i32_74 : BitVec 32 := 14#32
  let v89 : BitVec 1 := Scalar.cmpi .eq v2 c14_i32_74
  let c13_i32_75 : BitVec 32 := 13#32
  let c13_i32_72 : BitVec 32 := 13#32
  let v87 : BitVec 1 := Scalar.cmpi .eq v2 c13_i32_72
  let c9_i32_73 : BitVec 32 := 9#32
  let c12_i32_70 : BitVec 32 := 12#32
  let v85 : BitVec 1 := Scalar.cmpi .eq v2 c12_i32_70
  let c15_i32_71 : BitVec 32 := 15#32
  let c11_i32_68 : BitVec 32 := 11#32
  let v83 : BitVec 1 := Scalar.cmpi .eq v2 c11_i32_68
  let c7_i32_69 : BitVec 32 := 7#32
  let c10_i32_66 : BitVec 32 := 10#32
  let v81 : BitVec 1 := Scalar.cmpi .eq v2 c10_i32_66
  let c14_i32_67 : BitVec 32 := 14#32
  let c9_i32_64 : BitVec 32 := 9#32
  let v79 : BitVec 1 := Scalar.cmpi .eq v2 c9_i32_64
  let c5_i32_65 : BitVec 32 := 5#32
  let c8_i32_62 : BitVec 32 := 8#32
  let v77 : BitVec 1 := Scalar.cmpi .eq v2 c8_i32_62
  let c12_i32_63 : BitVec 32 := 12#32
  let c7_i32_60 : BitVec 32 := 7#32
  let v75 : BitVec 1 := Scalar.cmpi .eq v2 c7_i32_60
  let c3_i32_61 : BitVec 32 := 3#32
  let c6_i32_58 : BitVec 32 := 6#32
  let v73 : BitVec 1 := Scalar.cmpi .eq v2 c6_i32_58
  let c10_i32_59 : BitVec 32 := 10#32
  let c5_i32_56 : BitVec 32 := 5#32
  let v71 : BitVec 1 := Scalar.cmpi .eq v2 c5_i32_56
  let c1_i32_57 : BitVec 32 := 1#32
  let c4_i32_54 : BitVec 32 := 4#32
  let v69 : BitVec 1 := Scalar.cmpi .eq v2 c4_i32_54
  let c8_i32_55 : BitVec 32 := 8#32
  let c3_i32_52 : BitVec 32 := 3#32
  let v67 : BitVec 1 := Scalar.cmpi .eq v2 c3_i32_52
  let c2_i32_53 : BitVec 32 := 2#32
  let c2_i32_50 : BitVec 32 := 2#32
  let v65 : BitVec 1 := Scalar.cmpi .eq v2 c2_i32_50
  let c6_i32_51 : BitVec 32 := 6#32
  let c1_i32_47 : BitVec 32 := 1#32
  let v63 : BitVec 1 := Scalar.cmpi .eq v2 c1_i32_47
  let c0_i32_48 : BitVec 32 := 0#32
  let c4_i32_49 : BitVec 32 := 4#32
  let v64 : BitVec 32 := Scalar.select v63 c0_i32_48 c4_i32_49
  let v66 : BitVec 32 := Scalar.select v65 c6_i32_51 v64
  let v68 : BitVec 32 := Scalar.select v67 c2_i32_53 v66
  let v70 : BitVec 32 := Scalar.select v69 c8_i32_55 v68
  let v72 : BitVec 32 := Scalar.select v71 c1_i32_57 v70
  let v74 : BitVec 32 := Scalar.select v73 c10_i32_59 v72
  let v76 : BitVec 32 := Scalar.select v75 c3_i32_61 v74
  let v78 : BitVec 32 := Scalar.select v77 c12_i32_63 v76
  let v80 : BitVec 32 := Scalar.select v79 c5_i32_65 v78
  let v82 : BitVec 32 := Scalar.select v81 c14_i32_67 v80
  let v84 : BitVec 32 := Scalar.select v83 c7_i32_69 v82
  let v86 : BitVec 32 := Scalar.select v85 c15_i32_71 v84
  let v88 : BitVec 32 := Scalar.select v87 c9_i32_73 v86
  let v90 : BitVec 32 := Scalar.select v89 c13_i32_75 v88
  let v92 : BitVec 32 := Scalar.select v91 c11_i32_77 v90
  let c1_i32_4736 : BitVec 32 := 1#32
  let v5099 : BitVec 32 := Scalar.muli v92 c1_i32_4736
  let v5100 : BitVec 32 := Scalar.addi c0_i32_4737 v5099
  v5100.toNat
def k0_dev88 (d0 : Dev nD) : Nat :=
  let c0_i32_4785 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c12_i32_46 : BitVec 32 := 12#32
  let c14_i32_43 : BitVec 32 := 14#32
  let v59 : BitVec 1 := Scalar.cmpi .eq v2 c14_i32_43
  let c10_i32_44 : BitVec 32 := 10#32
  let c13_i32_41 : BitVec 32 := 13#32
  let v57 : BitVec 1 := Scalar.cmpi .eq v2 c13_i32_41
  let c14_i32_42 : BitVec 32 := 14#32
  let c12_i32_39 : BitVec 32 := 12#32
  let v55 : BitVec 1 := Scalar.cmpi .eq v2 c12_i32_39
  let c8_i32_40 : BitVec 32 := 8#32
  let c11_i32_37 : BitVec 32 := 11#32
  let v53 : BitVec 1 := Scalar.cmpi .eq v2 c11_i32_37
  let c15_i32_38 : BitVec 32 := 15#32
  let c10_i32_35 : BitVec 32 := 10#32
  let v51 : BitVec 1 := Scalar.cmpi .eq v2 c10_i32_35
  let c6_i32_36 : BitVec 32 := 6#32
  let c9_i32_33 : BitVec 32 := 9#32
  let v49 : BitVec 1 := Scalar.cmpi .eq v2 c9_i32_33
  let c13_i32_34 : BitVec 32 := 13#32
  let c8_i32_31 : BitVec 32 := 8#32
  let v47 : BitVec 1 := Scalar.cmpi .eq v2 c8_i32_31
  let c4_i32_32 : BitVec 32 := 4#32
  let c7_i32_29 : BitVec 32 := 7#32
  let v45 : BitVec 1 := Scalar.cmpi .eq v2 c7_i32_29
  let c11_i32_30 : BitVec 32 := 11#32
  let c6_i32_27 : BitVec 32 := 6#32
  let v43 : BitVec 1 := Scalar.cmpi .eq v2 c6_i32_27
  let c2_i32_28 : BitVec 32 := 2#32
  let c5_i32_25 : BitVec 32 := 5#32
  let v41 : BitVec 1 := Scalar.cmpi .eq v2 c5_i32_25
  let c9_i32_26 : BitVec 32 := 9#32
  let c4_i32_23 : BitVec 32 := 4#32
  let v39 : BitVec 1 := Scalar.cmpi .eq v2 c4_i32_23
  let c0_i32_24 : BitVec 32 := 0#32
  let c3_i32_21 : BitVec 32 := 3#32
  let v37 : BitVec 1 := Scalar.cmpi .eq v2 c3_i32_21
  let c7_i32_22 : BitVec 32 := 7#32
  let c2_i32_19 : BitVec 32 := 2#32
  let v35 : BitVec 1 := Scalar.cmpi .eq v2 c2_i32_19
  let c3_i32_20 : BitVec 32 := 3#32
  let c1_i32_16 : BitVec 32 := 1#32
  let v33 : BitVec 1 := Scalar.cmpi .eq v2 c1_i32_16
  let c5_i32_17 : BitVec 32 := 5#32
  let c1_i32_18 : BitVec 32 := 1#32
  let v34 : BitVec 32 := Scalar.select v33 c5_i32_17 c1_i32_18
  let v36 : BitVec 32 := Scalar.select v35 c3_i32_20 v34
  let v38 : BitVec 32 := Scalar.select v37 c7_i32_22 v36
  let v40 : BitVec 32 := Scalar.select v39 c0_i32_24 v38
  let v42 : BitVec 32 := Scalar.select v41 c9_i32_26 v40
  let v44 : BitVec 32 := Scalar.select v43 c2_i32_28 v42
  let v46 : BitVec 32 := Scalar.select v45 c11_i32_30 v44
  let v48 : BitVec 32 := Scalar.select v47 c4_i32_32 v46
  let v50 : BitVec 32 := Scalar.select v49 c13_i32_34 v48
  let v52 : BitVec 32 := Scalar.select v51 c6_i32_36 v50
  let v54 : BitVec 32 := Scalar.select v53 c15_i32_38 v52
  let v56 : BitVec 32 := Scalar.select v55 c8_i32_40 v54
  let v58 : BitVec 32 := Scalar.select v57 c14_i32_42 v56
  let v60 : BitVec 32 := Scalar.select v59 c10_i32_44 v58
  let v62 : BitVec 32 := Scalar.select v61 c12_i32_46 v60
  let c1_i32_4784 : BitVec 32 := 1#32
  let v5154 : BitVec 32 := Scalar.muli v62 c1_i32_4784
  let v5155 : BitVec 32 := Scalar.addi c0_i32_4785 v5154
  v5155.toNat
def k0_dev89 (d0 : Dev nD) : Nat :=
  let c0_i32_4833 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c11_i32_77 : BitVec 32 := 11#32
  let c14_i32_74 : BitVec 32 := 14#32
  let v89 : BitVec 1 := Scalar.cmpi .eq v2 c14_i32_74
  let c13_i32_75 : BitVec 32 := 13#32
  let c13_i32_72 : BitVec 32 := 13#32
  let v87 : BitVec 1 := Scalar.cmpi .eq v2 c13_i32_72
  let c9_i32_73 : BitVec 32 := 9#32
  let c12_i32_70 : BitVec 32 := 12#32
  let v85 : BitVec 1 := Scalar.cmpi .eq v2 c12_i32_70
  let c15_i32_71 : BitVec 32 := 15#32
  let c11_i32_68 : BitVec 32 := 11#32
  let v83 : BitVec 1 := Scalar.cmpi .eq v2 c11_i32_68
  let c7_i32_69 : BitVec 32 := 7#32
  let c10_i32_66 : BitVec 32 := 10#32
  let v81 : BitVec 1 := Scalar.cmpi .eq v2 c10_i32_66
  let c14_i32_67 : BitVec 32 := 14#32
  let c9_i32_64 : BitVec 32 := 9#32
  let v79 : BitVec 1 := Scalar.cmpi .eq v2 c9_i32_64
  let c5_i32_65 : BitVec 32 := 5#32
  let c8_i32_62 : BitVec 32 := 8#32
  let v77 : BitVec 1 := Scalar.cmpi .eq v2 c8_i32_62
  let c12_i32_63 : BitVec 32 := 12#32
  let c7_i32_60 : BitVec 32 := 7#32
  let v75 : BitVec 1 := Scalar.cmpi .eq v2 c7_i32_60
  let c3_i32_61 : BitVec 32 := 3#32
  let c6_i32_58 : BitVec 32 := 6#32
  let v73 : BitVec 1 := Scalar.cmpi .eq v2 c6_i32_58
  let c10_i32_59 : BitVec 32 := 10#32
  let c5_i32_56 : BitVec 32 := 5#32
  let v71 : BitVec 1 := Scalar.cmpi .eq v2 c5_i32_56
  let c1_i32_57 : BitVec 32 := 1#32
  let c4_i32_54 : BitVec 32 := 4#32
  let v69 : BitVec 1 := Scalar.cmpi .eq v2 c4_i32_54
  let c8_i32_55 : BitVec 32 := 8#32
  let c3_i32_52 : BitVec 32 := 3#32
  let v67 : BitVec 1 := Scalar.cmpi .eq v2 c3_i32_52
  let c2_i32_53 : BitVec 32 := 2#32
  let c2_i32_50 : BitVec 32 := 2#32
  let v65 : BitVec 1 := Scalar.cmpi .eq v2 c2_i32_50
  let c6_i32_51 : BitVec 32 := 6#32
  let c1_i32_47 : BitVec 32 := 1#32
  let v63 : BitVec 1 := Scalar.cmpi .eq v2 c1_i32_47
  let c0_i32_48 : BitVec 32 := 0#32
  let c4_i32_49 : BitVec 32 := 4#32
  let v64 : BitVec 32 := Scalar.select v63 c0_i32_48 c4_i32_49
  let v66 : BitVec 32 := Scalar.select v65 c6_i32_51 v64
  let v68 : BitVec 32 := Scalar.select v67 c2_i32_53 v66
  let v70 : BitVec 32 := Scalar.select v69 c8_i32_55 v68
  let v72 : BitVec 32 := Scalar.select v71 c1_i32_57 v70
  let v74 : BitVec 32 := Scalar.select v73 c10_i32_59 v72
  let v76 : BitVec 32 := Scalar.select v75 c3_i32_61 v74
  let v78 : BitVec 32 := Scalar.select v77 c12_i32_63 v76
  let v80 : BitVec 32 := Scalar.select v79 c5_i32_65 v78
  let v82 : BitVec 32 := Scalar.select v81 c14_i32_67 v80
  let v84 : BitVec 32 := Scalar.select v83 c7_i32_69 v82
  let v86 : BitVec 32 := Scalar.select v85 c15_i32_71 v84
  let v88 : BitVec 32 := Scalar.select v87 c9_i32_73 v86
  let v90 : BitVec 32 := Scalar.select v89 c13_i32_75 v88
  let v92 : BitVec 32 := Scalar.select v91 c11_i32_77 v90
  let c1_i32_4832 : BitVec 32 := 1#32
  let v5209 : BitVec 32 := Scalar.muli v92 c1_i32_4832
  let v5210 : BitVec 32 := Scalar.addi c0_i32_4833 v5209
  v5210.toNat
def k0_dev90 (d0 : Dev nD) : Nat :=
  let c0_i32_4881 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c12_i32_46 : BitVec 32 := 12#32
  let c14_i32_43 : BitVec 32 := 14#32
  let v59 : BitVec 1 := Scalar.cmpi .eq v2 c14_i32_43
  let c10_i32_44 : BitVec 32 := 10#32
  let c13_i32_41 : BitVec 32 := 13#32
  let v57 : BitVec 1 := Scalar.cmpi .eq v2 c13_i32_41
  let c14_i32_42 : BitVec 32 := 14#32
  let c12_i32_39 : BitVec 32 := 12#32
  let v55 : BitVec 1 := Scalar.cmpi .eq v2 c12_i32_39
  let c8_i32_40 : BitVec 32 := 8#32
  let c11_i32_37 : BitVec 32 := 11#32
  let v53 : BitVec 1 := Scalar.cmpi .eq v2 c11_i32_37
  let c15_i32_38 : BitVec 32 := 15#32
  let c10_i32_35 : BitVec 32 := 10#32
  let v51 : BitVec 1 := Scalar.cmpi .eq v2 c10_i32_35
  let c6_i32_36 : BitVec 32 := 6#32
  let c9_i32_33 : BitVec 32 := 9#32
  let v49 : BitVec 1 := Scalar.cmpi .eq v2 c9_i32_33
  let c13_i32_34 : BitVec 32 := 13#32
  let c8_i32_31 : BitVec 32 := 8#32
  let v47 : BitVec 1 := Scalar.cmpi .eq v2 c8_i32_31
  let c4_i32_32 : BitVec 32 := 4#32
  let c7_i32_29 : BitVec 32 := 7#32
  let v45 : BitVec 1 := Scalar.cmpi .eq v2 c7_i32_29
  let c11_i32_30 : BitVec 32 := 11#32
  let c6_i32_27 : BitVec 32 := 6#32
  let v43 : BitVec 1 := Scalar.cmpi .eq v2 c6_i32_27
  let c2_i32_28 : BitVec 32 := 2#32
  let c5_i32_25 : BitVec 32 := 5#32
  let v41 : BitVec 1 := Scalar.cmpi .eq v2 c5_i32_25
  let c9_i32_26 : BitVec 32 := 9#32
  let c4_i32_23 : BitVec 32 := 4#32
  let v39 : BitVec 1 := Scalar.cmpi .eq v2 c4_i32_23
  let c0_i32_24 : BitVec 32 := 0#32
  let c3_i32_21 : BitVec 32 := 3#32
  let v37 : BitVec 1 := Scalar.cmpi .eq v2 c3_i32_21
  let c7_i32_22 : BitVec 32 := 7#32
  let c2_i32_19 : BitVec 32 := 2#32
  let v35 : BitVec 1 := Scalar.cmpi .eq v2 c2_i32_19
  let c3_i32_20 : BitVec 32 := 3#32
  let c1_i32_16 : BitVec 32 := 1#32
  let v33 : BitVec 1 := Scalar.cmpi .eq v2 c1_i32_16
  let c5_i32_17 : BitVec 32 := 5#32
  let c1_i32_18 : BitVec 32 := 1#32
  let v34 : BitVec 32 := Scalar.select v33 c5_i32_17 c1_i32_18
  let v36 : BitVec 32 := Scalar.select v35 c3_i32_20 v34
  let v38 : BitVec 32 := Scalar.select v37 c7_i32_22 v36
  let v40 : BitVec 32 := Scalar.select v39 c0_i32_24 v38
  let v42 : BitVec 32 := Scalar.select v41 c9_i32_26 v40
  let v44 : BitVec 32 := Scalar.select v43 c2_i32_28 v42
  let v46 : BitVec 32 := Scalar.select v45 c11_i32_30 v44
  let v48 : BitVec 32 := Scalar.select v47 c4_i32_32 v46
  let v50 : BitVec 32 := Scalar.select v49 c13_i32_34 v48
  let v52 : BitVec 32 := Scalar.select v51 c6_i32_36 v50
  let v54 : BitVec 32 := Scalar.select v53 c15_i32_38 v52
  let v56 : BitVec 32 := Scalar.select v55 c8_i32_40 v54
  let v58 : BitVec 32 := Scalar.select v57 c14_i32_42 v56
  let v60 : BitVec 32 := Scalar.select v59 c10_i32_44 v58
  let v62 : BitVec 32 := Scalar.select v61 c12_i32_46 v60
  let c1_i32_4880 : BitVec 32 := 1#32
  let v5264 : BitVec 32 := Scalar.muli v62 c1_i32_4880
  let v5265 : BitVec 32 := Scalar.addi c0_i32_4881 v5264
  v5265.toNat
def k0_dev91 (d0 : Dev nD) : Nat :=
  let c0_i32_4929 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c11_i32_77 : BitVec 32 := 11#32
  let c14_i32_74 : BitVec 32 := 14#32
  let v89 : BitVec 1 := Scalar.cmpi .eq v2 c14_i32_74
  let c13_i32_75 : BitVec 32 := 13#32
  let c13_i32_72 : BitVec 32 := 13#32
  let v87 : BitVec 1 := Scalar.cmpi .eq v2 c13_i32_72
  let c9_i32_73 : BitVec 32 := 9#32
  let c12_i32_70 : BitVec 32 := 12#32
  let v85 : BitVec 1 := Scalar.cmpi .eq v2 c12_i32_70
  let c15_i32_71 : BitVec 32 := 15#32
  let c11_i32_68 : BitVec 32 := 11#32
  let v83 : BitVec 1 := Scalar.cmpi .eq v2 c11_i32_68
  let c7_i32_69 : BitVec 32 := 7#32
  let c10_i32_66 : BitVec 32 := 10#32
  let v81 : BitVec 1 := Scalar.cmpi .eq v2 c10_i32_66
  let c14_i32_67 : BitVec 32 := 14#32
  let c9_i32_64 : BitVec 32 := 9#32
  let v79 : BitVec 1 := Scalar.cmpi .eq v2 c9_i32_64
  let c5_i32_65 : BitVec 32 := 5#32
  let c8_i32_62 : BitVec 32 := 8#32
  let v77 : BitVec 1 := Scalar.cmpi .eq v2 c8_i32_62
  let c12_i32_63 : BitVec 32 := 12#32
  let c7_i32_60 : BitVec 32 := 7#32
  let v75 : BitVec 1 := Scalar.cmpi .eq v2 c7_i32_60
  let c3_i32_61 : BitVec 32 := 3#32
  let c6_i32_58 : BitVec 32 := 6#32
  let v73 : BitVec 1 := Scalar.cmpi .eq v2 c6_i32_58
  let c10_i32_59 : BitVec 32 := 10#32
  let c5_i32_56 : BitVec 32 := 5#32
  let v71 : BitVec 1 := Scalar.cmpi .eq v2 c5_i32_56
  let c1_i32_57 : BitVec 32 := 1#32
  let c4_i32_54 : BitVec 32 := 4#32
  let v69 : BitVec 1 := Scalar.cmpi .eq v2 c4_i32_54
  let c8_i32_55 : BitVec 32 := 8#32
  let c3_i32_52 : BitVec 32 := 3#32
  let v67 : BitVec 1 := Scalar.cmpi .eq v2 c3_i32_52
  let c2_i32_53 : BitVec 32 := 2#32
  let c2_i32_50 : BitVec 32 := 2#32
  let v65 : BitVec 1 := Scalar.cmpi .eq v2 c2_i32_50
  let c6_i32_51 : BitVec 32 := 6#32
  let c1_i32_47 : BitVec 32 := 1#32
  let v63 : BitVec 1 := Scalar.cmpi .eq v2 c1_i32_47
  let c0_i32_48 : BitVec 32 := 0#32
  let c4_i32_49 : BitVec 32 := 4#32
  let v64 : BitVec 32 := Scalar.select v63 c0_i32_48 c4_i32_49
  let v66 : BitVec 32 := Scalar.select v65 c6_i32_51 v64
  let v68 : BitVec 32 := Scalar.select v67 c2_i32_53 v66
  let v70 : BitVec 32 := Scalar.select v69 c8_i32_55 v68
  let v72 : BitVec 32 := Scalar.select v71 c1_i32_57 v70
  let v74 : BitVec 32 := Scalar.select v73 c10_i32_59 v72
  let v76 : BitVec 32 := Scalar.select v75 c3_i32_61 v74
  let v78 : BitVec 32 := Scalar.select v77 c12_i32_63 v76
  let v80 : BitVec 32 := Scalar.select v79 c5_i32_65 v78
  let v82 : BitVec 32 := Scalar.select v81 c14_i32_67 v80
  let v84 : BitVec 32 := Scalar.select v83 c7_i32_69 v82
  let v86 : BitVec 32 := Scalar.select v85 c15_i32_71 v84
  let v88 : BitVec 32 := Scalar.select v87 c9_i32_73 v86
  let v90 : BitVec 32 := Scalar.select v89 c13_i32_75 v88
  let v92 : BitVec 32 := Scalar.select v91 c11_i32_77 v90
  let c1_i32_4928 : BitVec 32 := 1#32
  let v5319 : BitVec 32 := Scalar.muli v92 c1_i32_4928
  let v5320 : BitVec 32 := Scalar.addi c0_i32_4929 v5319
  v5320.toNat
def k0_dev92 (d0 : Dev nD) : Nat :=
  let c0_i32_4977 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c12_i32_46 : BitVec 32 := 12#32
  let c14_i32_43 : BitVec 32 := 14#32
  let v59 : BitVec 1 := Scalar.cmpi .eq v2 c14_i32_43
  let c10_i32_44 : BitVec 32 := 10#32
  let c13_i32_41 : BitVec 32 := 13#32
  let v57 : BitVec 1 := Scalar.cmpi .eq v2 c13_i32_41
  let c14_i32_42 : BitVec 32 := 14#32
  let c12_i32_39 : BitVec 32 := 12#32
  let v55 : BitVec 1 := Scalar.cmpi .eq v2 c12_i32_39
  let c8_i32_40 : BitVec 32 := 8#32
  let c11_i32_37 : BitVec 32 := 11#32
  let v53 : BitVec 1 := Scalar.cmpi .eq v2 c11_i32_37
  let c15_i32_38 : BitVec 32 := 15#32
  let c10_i32_35 : BitVec 32 := 10#32
  let v51 : BitVec 1 := Scalar.cmpi .eq v2 c10_i32_35
  let c6_i32_36 : BitVec 32 := 6#32
  let c9_i32_33 : BitVec 32 := 9#32
  let v49 : BitVec 1 := Scalar.cmpi .eq v2 c9_i32_33
  let c13_i32_34 : BitVec 32 := 13#32
  let c8_i32_31 : BitVec 32 := 8#32
  let v47 : BitVec 1 := Scalar.cmpi .eq v2 c8_i32_31
  let c4_i32_32 : BitVec 32 := 4#32
  let c7_i32_29 : BitVec 32 := 7#32
  let v45 : BitVec 1 := Scalar.cmpi .eq v2 c7_i32_29
  let c11_i32_30 : BitVec 32 := 11#32
  let c6_i32_27 : BitVec 32 := 6#32
  let v43 : BitVec 1 := Scalar.cmpi .eq v2 c6_i32_27
  let c2_i32_28 : BitVec 32 := 2#32
  let c5_i32_25 : BitVec 32 := 5#32
  let v41 : BitVec 1 := Scalar.cmpi .eq v2 c5_i32_25
  let c9_i32_26 : BitVec 32 := 9#32
  let c4_i32_23 : BitVec 32 := 4#32
  let v39 : BitVec 1 := Scalar.cmpi .eq v2 c4_i32_23
  let c0_i32_24 : BitVec 32 := 0#32
  let c3_i32_21 : BitVec 32 := 3#32
  let v37 : BitVec 1 := Scalar.cmpi .eq v2 c3_i32_21
  let c7_i32_22 : BitVec 32 := 7#32
  let c2_i32_19 : BitVec 32 := 2#32
  let v35 : BitVec 1 := Scalar.cmpi .eq v2 c2_i32_19
  let c3_i32_20 : BitVec 32 := 3#32
  let c1_i32_16 : BitVec 32 := 1#32
  let v33 : BitVec 1 := Scalar.cmpi .eq v2 c1_i32_16
  let c5_i32_17 : BitVec 32 := 5#32
  let c1_i32_18 : BitVec 32 := 1#32
  let v34 : BitVec 32 := Scalar.select v33 c5_i32_17 c1_i32_18
  let v36 : BitVec 32 := Scalar.select v35 c3_i32_20 v34
  let v38 : BitVec 32 := Scalar.select v37 c7_i32_22 v36
  let v40 : BitVec 32 := Scalar.select v39 c0_i32_24 v38
  let v42 : BitVec 32 := Scalar.select v41 c9_i32_26 v40
  let v44 : BitVec 32 := Scalar.select v43 c2_i32_28 v42
  let v46 : BitVec 32 := Scalar.select v45 c11_i32_30 v44
  let v48 : BitVec 32 := Scalar.select v47 c4_i32_32 v46
  let v50 : BitVec 32 := Scalar.select v49 c13_i32_34 v48
  let v52 : BitVec 32 := Scalar.select v51 c6_i32_36 v50
  let v54 : BitVec 32 := Scalar.select v53 c15_i32_38 v52
  let v56 : BitVec 32 := Scalar.select v55 c8_i32_40 v54
  let v58 : BitVec 32 := Scalar.select v57 c14_i32_42 v56
  let v60 : BitVec 32 := Scalar.select v59 c10_i32_44 v58
  let v62 : BitVec 32 := Scalar.select v61 c12_i32_46 v60
  let c1_i32_4976 : BitVec 32 := 1#32
  let v5374 : BitVec 32 := Scalar.muli v62 c1_i32_4976
  let v5375 : BitVec 32 := Scalar.addi c0_i32_4977 v5374
  v5375.toNat
def k0_dev93 (d0 : Dev nD) : Nat :=
  let c0_i32_5025 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c11_i32_77 : BitVec 32 := 11#32
  let c14_i32_74 : BitVec 32 := 14#32
  let v89 : BitVec 1 := Scalar.cmpi .eq v2 c14_i32_74
  let c13_i32_75 : BitVec 32 := 13#32
  let c13_i32_72 : BitVec 32 := 13#32
  let v87 : BitVec 1 := Scalar.cmpi .eq v2 c13_i32_72
  let c9_i32_73 : BitVec 32 := 9#32
  let c12_i32_70 : BitVec 32 := 12#32
  let v85 : BitVec 1 := Scalar.cmpi .eq v2 c12_i32_70
  let c15_i32_71 : BitVec 32 := 15#32
  let c11_i32_68 : BitVec 32 := 11#32
  let v83 : BitVec 1 := Scalar.cmpi .eq v2 c11_i32_68
  let c7_i32_69 : BitVec 32 := 7#32
  let c10_i32_66 : BitVec 32 := 10#32
  let v81 : BitVec 1 := Scalar.cmpi .eq v2 c10_i32_66
  let c14_i32_67 : BitVec 32 := 14#32
  let c9_i32_64 : BitVec 32 := 9#32
  let v79 : BitVec 1 := Scalar.cmpi .eq v2 c9_i32_64
  let c5_i32_65 : BitVec 32 := 5#32
  let c8_i32_62 : BitVec 32 := 8#32
  let v77 : BitVec 1 := Scalar.cmpi .eq v2 c8_i32_62
  let c12_i32_63 : BitVec 32 := 12#32
  let c7_i32_60 : BitVec 32 := 7#32
  let v75 : BitVec 1 := Scalar.cmpi .eq v2 c7_i32_60
  let c3_i32_61 : BitVec 32 := 3#32
  let c6_i32_58 : BitVec 32 := 6#32
  let v73 : BitVec 1 := Scalar.cmpi .eq v2 c6_i32_58
  let c10_i32_59 : BitVec 32 := 10#32
  let c5_i32_56 : BitVec 32 := 5#32
  let v71 : BitVec 1 := Scalar.cmpi .eq v2 c5_i32_56
  let c1_i32_57 : BitVec 32 := 1#32
  let c4_i32_54 : BitVec 32 := 4#32
  let v69 : BitVec 1 := Scalar.cmpi .eq v2 c4_i32_54
  let c8_i32_55 : BitVec 32 := 8#32
  let c3_i32_52 : BitVec 32 := 3#32
  let v67 : BitVec 1 := Scalar.cmpi .eq v2 c3_i32_52
  let c2_i32_53 : BitVec 32 := 2#32
  let c2_i32_50 : BitVec 32 := 2#32
  let v65 : BitVec 1 := Scalar.cmpi .eq v2 c2_i32_50
  let c6_i32_51 : BitVec 32 := 6#32
  let c1_i32_47 : BitVec 32 := 1#32
  let v63 : BitVec 1 := Scalar.cmpi .eq v2 c1_i32_47
  let c0_i32_48 : BitVec 32 := 0#32
  let c4_i32_49 : BitVec 32 := 4#32
  let v64 : BitVec 32 := Scalar.select v63 c0_i32_48 c4_i32_49
  let v66 : BitVec 32 := Scalar.select v65 c6_i32_51 v64
  let v68 : BitVec 32 := Scalar.select v67 c2_i32_53 v66
  let v70 : BitVec 32 := Scalar.select v69 c8_i32_55 v68
  let v72 : BitVec 32 := Scalar.select v71 c1_i32_57 v70
  let v74 : BitVec 32 := Scalar.select v73 c10_i32_59 v72
  let v76 : BitVec 32 := Scalar.select v75 c3_i32_61 v74
  let v78 : BitVec 32 := Scalar.select v77 c12_i32_63 v76
  let v80 : BitVec 32 := Scalar.select v79 c5_i32_65 v78
  let v82 : BitVec 32 := Scalar.select v81 c14_i32_67 v80
  let v84 : BitVec 32 := Scalar.select v83 c7_i32_69 v82
  let v86 : BitVec 32 := Scalar.select v85 c15_i32_71 v84
  let v88 : BitVec 32 := Scalar.select v87 c9_i32_73 v86
  let v90 : BitVec 32 := Scalar.select v89 c13_i32_75 v88
  let v92 : BitVec 32 := Scalar.select v91 c11_i32_77 v90
  let c1_i32_5024 : BitVec 32 := 1#32
  let v5429 : BitVec 32 := Scalar.muli v92 c1_i32_5024
  let v5430 : BitVec 32 := Scalar.addi c0_i32_5025 v5429
  v5430.toNat
def k0_dev94 (d0 : Dev nD) : Nat :=
  let c0_i32_5073 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c12_i32_46 : BitVec 32 := 12#32
  let c14_i32_43 : BitVec 32 := 14#32
  let v59 : BitVec 1 := Scalar.cmpi .eq v2 c14_i32_43
  let c10_i32_44 : BitVec 32 := 10#32
  let c13_i32_41 : BitVec 32 := 13#32
  let v57 : BitVec 1 := Scalar.cmpi .eq v2 c13_i32_41
  let c14_i32_42 : BitVec 32 := 14#32
  let c12_i32_39 : BitVec 32 := 12#32
  let v55 : BitVec 1 := Scalar.cmpi .eq v2 c12_i32_39
  let c8_i32_40 : BitVec 32 := 8#32
  let c11_i32_37 : BitVec 32 := 11#32
  let v53 : BitVec 1 := Scalar.cmpi .eq v2 c11_i32_37
  let c15_i32_38 : BitVec 32 := 15#32
  let c10_i32_35 : BitVec 32 := 10#32
  let v51 : BitVec 1 := Scalar.cmpi .eq v2 c10_i32_35
  let c6_i32_36 : BitVec 32 := 6#32
  let c9_i32_33 : BitVec 32 := 9#32
  let v49 : BitVec 1 := Scalar.cmpi .eq v2 c9_i32_33
  let c13_i32_34 : BitVec 32 := 13#32
  let c8_i32_31 : BitVec 32 := 8#32
  let v47 : BitVec 1 := Scalar.cmpi .eq v2 c8_i32_31
  let c4_i32_32 : BitVec 32 := 4#32
  let c7_i32_29 : BitVec 32 := 7#32
  let v45 : BitVec 1 := Scalar.cmpi .eq v2 c7_i32_29
  let c11_i32_30 : BitVec 32 := 11#32
  let c6_i32_27 : BitVec 32 := 6#32
  let v43 : BitVec 1 := Scalar.cmpi .eq v2 c6_i32_27
  let c2_i32_28 : BitVec 32 := 2#32
  let c5_i32_25 : BitVec 32 := 5#32
  let v41 : BitVec 1 := Scalar.cmpi .eq v2 c5_i32_25
  let c9_i32_26 : BitVec 32 := 9#32
  let c4_i32_23 : BitVec 32 := 4#32
  let v39 : BitVec 1 := Scalar.cmpi .eq v2 c4_i32_23
  let c0_i32_24 : BitVec 32 := 0#32
  let c3_i32_21 : BitVec 32 := 3#32
  let v37 : BitVec 1 := Scalar.cmpi .eq v2 c3_i32_21
  let c7_i32_22 : BitVec 32 := 7#32
  let c2_i32_19 : BitVec 32 := 2#32
  let v35 : BitVec 1 := Scalar.cmpi .eq v2 c2_i32_19
  let c3_i32_20 : BitVec 32 := 3#32
  let c1_i32_16 : BitVec 32 := 1#32
  let v33 : BitVec 1 := Scalar.cmpi .eq v2 c1_i32_16
  let c5_i32_17 : BitVec 32 := 5#32
  let c1_i32_18 : BitVec 32 := 1#32
  let v34 : BitVec 32 := Scalar.select v33 c5_i32_17 c1_i32_18
  let v36 : BitVec 32 := Scalar.select v35 c3_i32_20 v34
  let v38 : BitVec 32 := Scalar.select v37 c7_i32_22 v36
  let v40 : BitVec 32 := Scalar.select v39 c0_i32_24 v38
  let v42 : BitVec 32 := Scalar.select v41 c9_i32_26 v40
  let v44 : BitVec 32 := Scalar.select v43 c2_i32_28 v42
  let v46 : BitVec 32 := Scalar.select v45 c11_i32_30 v44
  let v48 : BitVec 32 := Scalar.select v47 c4_i32_32 v46
  let v50 : BitVec 32 := Scalar.select v49 c13_i32_34 v48
  let v52 : BitVec 32 := Scalar.select v51 c6_i32_36 v50
  let v54 : BitVec 32 := Scalar.select v53 c15_i32_38 v52
  let v56 : BitVec 32 := Scalar.select v55 c8_i32_40 v54
  let v58 : BitVec 32 := Scalar.select v57 c14_i32_42 v56
  let v60 : BitVec 32 := Scalar.select v59 c10_i32_44 v58
  let v62 : BitVec 32 := Scalar.select v61 c12_i32_46 v60
  let c1_i32_5072 : BitVec 32 := 1#32
  let v5484 : BitVec 32 := Scalar.muli v62 c1_i32_5072
  let v5485 : BitVec 32 := Scalar.addi c0_i32_5073 v5484
  v5485.toNat
def k0_dev95 (d0 : Dev nD) : Nat :=
  let c0_i32_5121 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c11_i32_77 : BitVec 32 := 11#32
  let c14_i32_74 : BitVec 32 := 14#32
  let v89 : BitVec 1 := Scalar.cmpi .eq v2 c14_i32_74
  let c13_i32_75 : BitVec 32 := 13#32
  let c13_i32_72 : BitVec 32 := 13#32
  let v87 : BitVec 1 := Scalar.cmpi .eq v2 c13_i32_72
  let c9_i32_73 : BitVec 32 := 9#32
  let c12_i32_70 : BitVec 32 := 12#32
  let v85 : BitVec 1 := Scalar.cmpi .eq v2 c12_i32_70
  let c15_i32_71 : BitVec 32 := 15#32
  let c11_i32_68 : BitVec 32 := 11#32
  let v83 : BitVec 1 := Scalar.cmpi .eq v2 c11_i32_68
  let c7_i32_69 : BitVec 32 := 7#32
  let c10_i32_66 : BitVec 32 := 10#32
  let v81 : BitVec 1 := Scalar.cmpi .eq v2 c10_i32_66
  let c14_i32_67 : BitVec 32 := 14#32
  let c9_i32_64 : BitVec 32 := 9#32
  let v79 : BitVec 1 := Scalar.cmpi .eq v2 c9_i32_64
  let c5_i32_65 : BitVec 32 := 5#32
  let c8_i32_62 : BitVec 32 := 8#32
  let v77 : BitVec 1 := Scalar.cmpi .eq v2 c8_i32_62
  let c12_i32_63 : BitVec 32 := 12#32
  let c7_i32_60 : BitVec 32 := 7#32
  let v75 : BitVec 1 := Scalar.cmpi .eq v2 c7_i32_60
  let c3_i32_61 : BitVec 32 := 3#32
  let c6_i32_58 : BitVec 32 := 6#32
  let v73 : BitVec 1 := Scalar.cmpi .eq v2 c6_i32_58
  let c10_i32_59 : BitVec 32 := 10#32
  let c5_i32_56 : BitVec 32 := 5#32
  let v71 : BitVec 1 := Scalar.cmpi .eq v2 c5_i32_56
  let c1_i32_57 : BitVec 32 := 1#32
  let c4_i32_54 : BitVec 32 := 4#32
  let v69 : BitVec 1 := Scalar.cmpi .eq v2 c4_i32_54
  let c8_i32_55 : BitVec 32 := 8#32
  let c3_i32_52 : BitVec 32 := 3#32
  let v67 : BitVec 1 := Scalar.cmpi .eq v2 c3_i32_52
  let c2_i32_53 : BitVec 32 := 2#32
  let c2_i32_50 : BitVec 32 := 2#32
  let v65 : BitVec 1 := Scalar.cmpi .eq v2 c2_i32_50
  let c6_i32_51 : BitVec 32 := 6#32
  let c1_i32_47 : BitVec 32 := 1#32
  let v63 : BitVec 1 := Scalar.cmpi .eq v2 c1_i32_47
  let c0_i32_48 : BitVec 32 := 0#32
  let c4_i32_49 : BitVec 32 := 4#32
  let v64 : BitVec 32 := Scalar.select v63 c0_i32_48 c4_i32_49
  let v66 : BitVec 32 := Scalar.select v65 c6_i32_51 v64
  let v68 : BitVec 32 := Scalar.select v67 c2_i32_53 v66
  let v70 : BitVec 32 := Scalar.select v69 c8_i32_55 v68
  let v72 : BitVec 32 := Scalar.select v71 c1_i32_57 v70
  let v74 : BitVec 32 := Scalar.select v73 c10_i32_59 v72
  let v76 : BitVec 32 := Scalar.select v75 c3_i32_61 v74
  let v78 : BitVec 32 := Scalar.select v77 c12_i32_63 v76
  let v80 : BitVec 32 := Scalar.select v79 c5_i32_65 v78
  let v82 : BitVec 32 := Scalar.select v81 c14_i32_67 v80
  let v84 : BitVec 32 := Scalar.select v83 c7_i32_69 v82
  let v86 : BitVec 32 := Scalar.select v85 c15_i32_71 v84
  let v88 : BitVec 32 := Scalar.select v87 c9_i32_73 v86
  let v90 : BitVec 32 := Scalar.select v89 c13_i32_75 v88
  let v92 : BitVec 32 := Scalar.select v91 c11_i32_77 v90
  let c1_i32_5120 : BitVec 32 := 1#32
  let v5539 : BitVec 32 := Scalar.muli v92 c1_i32_5120
  let v5540 : BitVec 32 := Scalar.addi c0_i32_5121 v5539
  v5540.toNat
def k0_dev96 (d0 : Dev nD) : Nat :=
  let c0_i32_5169 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c12_i32_46 : BitVec 32 := 12#32
  let c14_i32_43 : BitVec 32 := 14#32
  let v59 : BitVec 1 := Scalar.cmpi .eq v2 c14_i32_43
  let c10_i32_44 : BitVec 32 := 10#32
  let c13_i32_41 : BitVec 32 := 13#32
  let v57 : BitVec 1 := Scalar.cmpi .eq v2 c13_i32_41
  let c14_i32_42 : BitVec 32 := 14#32
  let c12_i32_39 : BitVec 32 := 12#32
  let v55 : BitVec 1 := Scalar.cmpi .eq v2 c12_i32_39
  let c8_i32_40 : BitVec 32 := 8#32
  let c11_i32_37 : BitVec 32 := 11#32
  let v53 : BitVec 1 := Scalar.cmpi .eq v2 c11_i32_37
  let c15_i32_38 : BitVec 32 := 15#32
  let c10_i32_35 : BitVec 32 := 10#32
  let v51 : BitVec 1 := Scalar.cmpi .eq v2 c10_i32_35
  let c6_i32_36 : BitVec 32 := 6#32
  let c9_i32_33 : BitVec 32 := 9#32
  let v49 : BitVec 1 := Scalar.cmpi .eq v2 c9_i32_33
  let c13_i32_34 : BitVec 32 := 13#32
  let c8_i32_31 : BitVec 32 := 8#32
  let v47 : BitVec 1 := Scalar.cmpi .eq v2 c8_i32_31
  let c4_i32_32 : BitVec 32 := 4#32
  let c7_i32_29 : BitVec 32 := 7#32
  let v45 : BitVec 1 := Scalar.cmpi .eq v2 c7_i32_29
  let c11_i32_30 : BitVec 32 := 11#32
  let c6_i32_27 : BitVec 32 := 6#32
  let v43 : BitVec 1 := Scalar.cmpi .eq v2 c6_i32_27
  let c2_i32_28 : BitVec 32 := 2#32
  let c5_i32_25 : BitVec 32 := 5#32
  let v41 : BitVec 1 := Scalar.cmpi .eq v2 c5_i32_25
  let c9_i32_26 : BitVec 32 := 9#32
  let c4_i32_23 : BitVec 32 := 4#32
  let v39 : BitVec 1 := Scalar.cmpi .eq v2 c4_i32_23
  let c0_i32_24 : BitVec 32 := 0#32
  let c3_i32_21 : BitVec 32 := 3#32
  let v37 : BitVec 1 := Scalar.cmpi .eq v2 c3_i32_21
  let c7_i32_22 : BitVec 32 := 7#32
  let c2_i32_19 : BitVec 32 := 2#32
  let v35 : BitVec 1 := Scalar.cmpi .eq v2 c2_i32_19
  let c3_i32_20 : BitVec 32 := 3#32
  let c1_i32_16 : BitVec 32 := 1#32
  let v33 : BitVec 1 := Scalar.cmpi .eq v2 c1_i32_16
  let c5_i32_17 : BitVec 32 := 5#32
  let c1_i32_18 : BitVec 32 := 1#32
  let v34 : BitVec 32 := Scalar.select v33 c5_i32_17 c1_i32_18
  let v36 : BitVec 32 := Scalar.select v35 c3_i32_20 v34
  let v38 : BitVec 32 := Scalar.select v37 c7_i32_22 v36
  let v40 : BitVec 32 := Scalar.select v39 c0_i32_24 v38
  let v42 : BitVec 32 := Scalar.select v41 c9_i32_26 v40
  let v44 : BitVec 32 := Scalar.select v43 c2_i32_28 v42
  let v46 : BitVec 32 := Scalar.select v45 c11_i32_30 v44
  let v48 : BitVec 32 := Scalar.select v47 c4_i32_32 v46
  let v50 : BitVec 32 := Scalar.select v49 c13_i32_34 v48
  let v52 : BitVec 32 := Scalar.select v51 c6_i32_36 v50
  let v54 : BitVec 32 := Scalar.select v53 c15_i32_38 v52
  let v56 : BitVec 32 := Scalar.select v55 c8_i32_40 v54
  let v58 : BitVec 32 := Scalar.select v57 c14_i32_42 v56
  let v60 : BitVec 32 := Scalar.select v59 c10_i32_44 v58
  let v62 : BitVec 32 := Scalar.select v61 c12_i32_46 v60
  let c1_i32_5168 : BitVec 32 := 1#32
  let v5594 : BitVec 32 := Scalar.muli v62 c1_i32_5168
  let v5595 : BitVec 32 := Scalar.addi c0_i32_5169 v5594
  v5595.toNat
def k0_dev97 (d0 : Dev nD) : Nat :=
  let c0_i32_5217 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c11_i32_77 : BitVec 32 := 11#32
  let c14_i32_74 : BitVec 32 := 14#32
  let v89 : BitVec 1 := Scalar.cmpi .eq v2 c14_i32_74
  let c13_i32_75 : BitVec 32 := 13#32
  let c13_i32_72 : BitVec 32 := 13#32
  let v87 : BitVec 1 := Scalar.cmpi .eq v2 c13_i32_72
  let c9_i32_73 : BitVec 32 := 9#32
  let c12_i32_70 : BitVec 32 := 12#32
  let v85 : BitVec 1 := Scalar.cmpi .eq v2 c12_i32_70
  let c15_i32_71 : BitVec 32 := 15#32
  let c11_i32_68 : BitVec 32 := 11#32
  let v83 : BitVec 1 := Scalar.cmpi .eq v2 c11_i32_68
  let c7_i32_69 : BitVec 32 := 7#32
  let c10_i32_66 : BitVec 32 := 10#32
  let v81 : BitVec 1 := Scalar.cmpi .eq v2 c10_i32_66
  let c14_i32_67 : BitVec 32 := 14#32
  let c9_i32_64 : BitVec 32 := 9#32
  let v79 : BitVec 1 := Scalar.cmpi .eq v2 c9_i32_64
  let c5_i32_65 : BitVec 32 := 5#32
  let c8_i32_62 : BitVec 32 := 8#32
  let v77 : BitVec 1 := Scalar.cmpi .eq v2 c8_i32_62
  let c12_i32_63 : BitVec 32 := 12#32
  let c7_i32_60 : BitVec 32 := 7#32
  let v75 : BitVec 1 := Scalar.cmpi .eq v2 c7_i32_60
  let c3_i32_61 : BitVec 32 := 3#32
  let c6_i32_58 : BitVec 32 := 6#32
  let v73 : BitVec 1 := Scalar.cmpi .eq v2 c6_i32_58
  let c10_i32_59 : BitVec 32 := 10#32
  let c5_i32_56 : BitVec 32 := 5#32
  let v71 : BitVec 1 := Scalar.cmpi .eq v2 c5_i32_56
  let c1_i32_57 : BitVec 32 := 1#32
  let c4_i32_54 : BitVec 32 := 4#32
  let v69 : BitVec 1 := Scalar.cmpi .eq v2 c4_i32_54
  let c8_i32_55 : BitVec 32 := 8#32
  let c3_i32_52 : BitVec 32 := 3#32
  let v67 : BitVec 1 := Scalar.cmpi .eq v2 c3_i32_52
  let c2_i32_53 : BitVec 32 := 2#32
  let c2_i32_50 : BitVec 32 := 2#32
  let v65 : BitVec 1 := Scalar.cmpi .eq v2 c2_i32_50
  let c6_i32_51 : BitVec 32 := 6#32
  let c1_i32_47 : BitVec 32 := 1#32
  let v63 : BitVec 1 := Scalar.cmpi .eq v2 c1_i32_47
  let c0_i32_48 : BitVec 32 := 0#32
  let c4_i32_49 : BitVec 32 := 4#32
  let v64 : BitVec 32 := Scalar.select v63 c0_i32_48 c4_i32_49
  let v66 : BitVec 32 := Scalar.select v65 c6_i32_51 v64
  let v68 : BitVec 32 := Scalar.select v67 c2_i32_53 v66
  let v70 : BitVec 32 := Scalar.select v69 c8_i32_55 v68
  let v72 : BitVec 32 := Scalar.select v71 c1_i32_57 v70
  let v74 : BitVec 32 := Scalar.select v73 c10_i32_59 v72
  let v76 : BitVec 32 := Scalar.select v75 c3_i32_61 v74
  let v78 : BitVec 32 := Scalar.select v77 c12_i32_63 v76
  let v80 : BitVec 32 := Scalar.select v79 c5_i32_65 v78
  let v82 : BitVec 32 := Scalar.select v81 c14_i32_67 v80
  let v84 : BitVec 32 := Scalar.select v83 c7_i32_69 v82
  let v86 : BitVec 32 := Scalar.select v85 c15_i32_71 v84
  let v88 : BitVec 32 := Scalar.select v87 c9_i32_73 v86
  let v90 : BitVec 32 := Scalar.select v89 c13_i32_75 v88
  let v92 : BitVec 32 := Scalar.select v91 c11_i32_77 v90
  let c1_i32_5216 : BitVec 32 := 1#32
  let v5649 : BitVec 32 := Scalar.muli v92 c1_i32_5216
  let v5650 : BitVec 32 := Scalar.addi c0_i32_5217 v5649
  v5650.toNat
def k0_dev98 (d0 : Dev nD) : Nat :=
  let c0_i32_5265 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c12_i32_46 : BitVec 32 := 12#32
  let c14_i32_43 : BitVec 32 := 14#32
  let v59 : BitVec 1 := Scalar.cmpi .eq v2 c14_i32_43
  let c10_i32_44 : BitVec 32 := 10#32
  let c13_i32_41 : BitVec 32 := 13#32
  let v57 : BitVec 1 := Scalar.cmpi .eq v2 c13_i32_41
  let c14_i32_42 : BitVec 32 := 14#32
  let c12_i32_39 : BitVec 32 := 12#32
  let v55 : BitVec 1 := Scalar.cmpi .eq v2 c12_i32_39
  let c8_i32_40 : BitVec 32 := 8#32
  let c11_i32_37 : BitVec 32 := 11#32
  let v53 : BitVec 1 := Scalar.cmpi .eq v2 c11_i32_37
  let c15_i32_38 : BitVec 32 := 15#32
  let c10_i32_35 : BitVec 32 := 10#32
  let v51 : BitVec 1 := Scalar.cmpi .eq v2 c10_i32_35
  let c6_i32_36 : BitVec 32 := 6#32
  let c9_i32_33 : BitVec 32 := 9#32
  let v49 : BitVec 1 := Scalar.cmpi .eq v2 c9_i32_33
  let c13_i32_34 : BitVec 32 := 13#32
  let c8_i32_31 : BitVec 32 := 8#32
  let v47 : BitVec 1 := Scalar.cmpi .eq v2 c8_i32_31
  let c4_i32_32 : BitVec 32 := 4#32
  let c7_i32_29 : BitVec 32 := 7#32
  let v45 : BitVec 1 := Scalar.cmpi .eq v2 c7_i32_29
  let c11_i32_30 : BitVec 32 := 11#32
  let c6_i32_27 : BitVec 32 := 6#32
  let v43 : BitVec 1 := Scalar.cmpi .eq v2 c6_i32_27
  let c2_i32_28 : BitVec 32 := 2#32
  let c5_i32_25 : BitVec 32 := 5#32
  let v41 : BitVec 1 := Scalar.cmpi .eq v2 c5_i32_25
  let c9_i32_26 : BitVec 32 := 9#32
  let c4_i32_23 : BitVec 32 := 4#32
  let v39 : BitVec 1 := Scalar.cmpi .eq v2 c4_i32_23
  let c0_i32_24 : BitVec 32 := 0#32
  let c3_i32_21 : BitVec 32 := 3#32
  let v37 : BitVec 1 := Scalar.cmpi .eq v2 c3_i32_21
  let c7_i32_22 : BitVec 32 := 7#32
  let c2_i32_19 : BitVec 32 := 2#32
  let v35 : BitVec 1 := Scalar.cmpi .eq v2 c2_i32_19
  let c3_i32_20 : BitVec 32 := 3#32
  let c1_i32_16 : BitVec 32 := 1#32
  let v33 : BitVec 1 := Scalar.cmpi .eq v2 c1_i32_16
  let c5_i32_17 : BitVec 32 := 5#32
  let c1_i32_18 : BitVec 32 := 1#32
  let v34 : BitVec 32 := Scalar.select v33 c5_i32_17 c1_i32_18
  let v36 : BitVec 32 := Scalar.select v35 c3_i32_20 v34
  let v38 : BitVec 32 := Scalar.select v37 c7_i32_22 v36
  let v40 : BitVec 32 := Scalar.select v39 c0_i32_24 v38
  let v42 : BitVec 32 := Scalar.select v41 c9_i32_26 v40
  let v44 : BitVec 32 := Scalar.select v43 c2_i32_28 v42
  let v46 : BitVec 32 := Scalar.select v45 c11_i32_30 v44
  let v48 : BitVec 32 := Scalar.select v47 c4_i32_32 v46
  let v50 : BitVec 32 := Scalar.select v49 c13_i32_34 v48
  let v52 : BitVec 32 := Scalar.select v51 c6_i32_36 v50
  let v54 : BitVec 32 := Scalar.select v53 c15_i32_38 v52
  let v56 : BitVec 32 := Scalar.select v55 c8_i32_40 v54
  let v58 : BitVec 32 := Scalar.select v57 c14_i32_42 v56
  let v60 : BitVec 32 := Scalar.select v59 c10_i32_44 v58
  let v62 : BitVec 32 := Scalar.select v61 c12_i32_46 v60
  let c1_i32_5264 : BitVec 32 := 1#32
  let v5704 : BitVec 32 := Scalar.muli v62 c1_i32_5264
  let v5705 : BitVec 32 := Scalar.addi c0_i32_5265 v5704
  v5705.toNat
def k0_dev99 (d0 : Dev nD) : Nat :=
  let c0_i32_5313 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c11_i32_77 : BitVec 32 := 11#32
  let c14_i32_74 : BitVec 32 := 14#32
  let v89 : BitVec 1 := Scalar.cmpi .eq v2 c14_i32_74
  let c13_i32_75 : BitVec 32 := 13#32
  let c13_i32_72 : BitVec 32 := 13#32
  let v87 : BitVec 1 := Scalar.cmpi .eq v2 c13_i32_72
  let c9_i32_73 : BitVec 32 := 9#32
  let c12_i32_70 : BitVec 32 := 12#32
  let v85 : BitVec 1 := Scalar.cmpi .eq v2 c12_i32_70
  let c15_i32_71 : BitVec 32 := 15#32
  let c11_i32_68 : BitVec 32 := 11#32
  let v83 : BitVec 1 := Scalar.cmpi .eq v2 c11_i32_68
  let c7_i32_69 : BitVec 32 := 7#32
  let c10_i32_66 : BitVec 32 := 10#32
  let v81 : BitVec 1 := Scalar.cmpi .eq v2 c10_i32_66
  let c14_i32_67 : BitVec 32 := 14#32
  let c9_i32_64 : BitVec 32 := 9#32
  let v79 : BitVec 1 := Scalar.cmpi .eq v2 c9_i32_64
  let c5_i32_65 : BitVec 32 := 5#32
  let c8_i32_62 : BitVec 32 := 8#32
  let v77 : BitVec 1 := Scalar.cmpi .eq v2 c8_i32_62
  let c12_i32_63 : BitVec 32 := 12#32
  let c7_i32_60 : BitVec 32 := 7#32
  let v75 : BitVec 1 := Scalar.cmpi .eq v2 c7_i32_60
  let c3_i32_61 : BitVec 32 := 3#32
  let c6_i32_58 : BitVec 32 := 6#32
  let v73 : BitVec 1 := Scalar.cmpi .eq v2 c6_i32_58
  let c10_i32_59 : BitVec 32 := 10#32
  let c5_i32_56 : BitVec 32 := 5#32
  let v71 : BitVec 1 := Scalar.cmpi .eq v2 c5_i32_56
  let c1_i32_57 : BitVec 32 := 1#32
  let c4_i32_54 : BitVec 32 := 4#32
  let v69 : BitVec 1 := Scalar.cmpi .eq v2 c4_i32_54
  let c8_i32_55 : BitVec 32 := 8#32
  let c3_i32_52 : BitVec 32 := 3#32
  let v67 : BitVec 1 := Scalar.cmpi .eq v2 c3_i32_52
  let c2_i32_53 : BitVec 32 := 2#32
  let c2_i32_50 : BitVec 32 := 2#32
  let v65 : BitVec 1 := Scalar.cmpi .eq v2 c2_i32_50
  let c6_i32_51 : BitVec 32 := 6#32
  let c1_i32_47 : BitVec 32 := 1#32
  let v63 : BitVec 1 := Scalar.cmpi .eq v2 c1_i32_47
  let c0_i32_48 : BitVec 32 := 0#32
  let c4_i32_49 : BitVec 32 := 4#32
  let v64 : BitVec 32 := Scalar.select v63 c0_i32_48 c4_i32_49
  let v66 : BitVec 32 := Scalar.select v65 c6_i32_51 v64
  let v68 : BitVec 32 := Scalar.select v67 c2_i32_53 v66
  let v70 : BitVec 32 := Scalar.select v69 c8_i32_55 v68
  let v72 : BitVec 32 := Scalar.select v71 c1_i32_57 v70
  let v74 : BitVec 32 := Scalar.select v73 c10_i32_59 v72
  let v76 : BitVec 32 := Scalar.select v75 c3_i32_61 v74
  let v78 : BitVec 32 := Scalar.select v77 c12_i32_63 v76
  let v80 : BitVec 32 := Scalar.select v79 c5_i32_65 v78
  let v82 : BitVec 32 := Scalar.select v81 c14_i32_67 v80
  let v84 : BitVec 32 := Scalar.select v83 c7_i32_69 v82
  let v86 : BitVec 32 := Scalar.select v85 c15_i32_71 v84
  let v88 : BitVec 32 := Scalar.select v87 c9_i32_73 v86
  let v90 : BitVec 32 := Scalar.select v89 c13_i32_75 v88
  let v92 : BitVec 32 := Scalar.select v91 c11_i32_77 v90
  let c1_i32_5312 : BitVec 32 := 1#32
  let v5759 : BitVec 32 := Scalar.muli v92 c1_i32_5312
  let v5760 : BitVec 32 := Scalar.addi c0_i32_5313 v5759
  v5760.toNat
def k0_dev100 (d0 : Dev nD) : Nat :=
  let c0_i32_5361 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c12_i32_46 : BitVec 32 := 12#32
  let c14_i32_43 : BitVec 32 := 14#32
  let v59 : BitVec 1 := Scalar.cmpi .eq v2 c14_i32_43
  let c10_i32_44 : BitVec 32 := 10#32
  let c13_i32_41 : BitVec 32 := 13#32
  let v57 : BitVec 1 := Scalar.cmpi .eq v2 c13_i32_41
  let c14_i32_42 : BitVec 32 := 14#32
  let c12_i32_39 : BitVec 32 := 12#32
  let v55 : BitVec 1 := Scalar.cmpi .eq v2 c12_i32_39
  let c8_i32_40 : BitVec 32 := 8#32
  let c11_i32_37 : BitVec 32 := 11#32
  let v53 : BitVec 1 := Scalar.cmpi .eq v2 c11_i32_37
  let c15_i32_38 : BitVec 32 := 15#32
  let c10_i32_35 : BitVec 32 := 10#32
  let v51 : BitVec 1 := Scalar.cmpi .eq v2 c10_i32_35
  let c6_i32_36 : BitVec 32 := 6#32
  let c9_i32_33 : BitVec 32 := 9#32
  let v49 : BitVec 1 := Scalar.cmpi .eq v2 c9_i32_33
  let c13_i32_34 : BitVec 32 := 13#32
  let c8_i32_31 : BitVec 32 := 8#32
  let v47 : BitVec 1 := Scalar.cmpi .eq v2 c8_i32_31
  let c4_i32_32 : BitVec 32 := 4#32
  let c7_i32_29 : BitVec 32 := 7#32
  let v45 : BitVec 1 := Scalar.cmpi .eq v2 c7_i32_29
  let c11_i32_30 : BitVec 32 := 11#32
  let c6_i32_27 : BitVec 32 := 6#32
  let v43 : BitVec 1 := Scalar.cmpi .eq v2 c6_i32_27
  let c2_i32_28 : BitVec 32 := 2#32
  let c5_i32_25 : BitVec 32 := 5#32
  let v41 : BitVec 1 := Scalar.cmpi .eq v2 c5_i32_25
  let c9_i32_26 : BitVec 32 := 9#32
  let c4_i32_23 : BitVec 32 := 4#32
  let v39 : BitVec 1 := Scalar.cmpi .eq v2 c4_i32_23
  let c0_i32_24 : BitVec 32 := 0#32
  let c3_i32_21 : BitVec 32 := 3#32
  let v37 : BitVec 1 := Scalar.cmpi .eq v2 c3_i32_21
  let c7_i32_22 : BitVec 32 := 7#32
  let c2_i32_19 : BitVec 32 := 2#32
  let v35 : BitVec 1 := Scalar.cmpi .eq v2 c2_i32_19
  let c3_i32_20 : BitVec 32 := 3#32
  let c1_i32_16 : BitVec 32 := 1#32
  let v33 : BitVec 1 := Scalar.cmpi .eq v2 c1_i32_16
  let c5_i32_17 : BitVec 32 := 5#32
  let c1_i32_18 : BitVec 32 := 1#32
  let v34 : BitVec 32 := Scalar.select v33 c5_i32_17 c1_i32_18
  let v36 : BitVec 32 := Scalar.select v35 c3_i32_20 v34
  let v38 : BitVec 32 := Scalar.select v37 c7_i32_22 v36
  let v40 : BitVec 32 := Scalar.select v39 c0_i32_24 v38
  let v42 : BitVec 32 := Scalar.select v41 c9_i32_26 v40
  let v44 : BitVec 32 := Scalar.select v43 c2_i32_28 v42
  let v46 : BitVec 32 := Scalar.select v45 c11_i32_30 v44
  let v48 : BitVec 32 := Scalar.select v47 c4_i32_32 v46
  let v50 : BitVec 32 := Scalar.select v49 c13_i32_34 v48
  let v52 : BitVec 32 := Scalar.select v51 c6_i32_36 v50
  let v54 : BitVec 32 := Scalar.select v53 c15_i32_38 v52
  let v56 : BitVec 32 := Scalar.select v55 c8_i32_40 v54
  let v58 : BitVec 32 := Scalar.select v57 c14_i32_42 v56
  let v60 : BitVec 32 := Scalar.select v59 c10_i32_44 v58
  let v62 : BitVec 32 := Scalar.select v61 c12_i32_46 v60
  let c1_i32_5360 : BitVec 32 := 1#32
  let v5814 : BitVec 32 := Scalar.muli v62 c1_i32_5360
  let v5815 : BitVec 32 := Scalar.addi c0_i32_5361 v5814
  v5815.toNat
def k0_dev101 (d0 : Dev nD) : Nat :=
  let c0_i32_5409 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c11_i32_77 : BitVec 32 := 11#32
  let c14_i32_74 : BitVec 32 := 14#32
  let v89 : BitVec 1 := Scalar.cmpi .eq v2 c14_i32_74
  let c13_i32_75 : BitVec 32 := 13#32
  let c13_i32_72 : BitVec 32 := 13#32
  let v87 : BitVec 1 := Scalar.cmpi .eq v2 c13_i32_72
  let c9_i32_73 : BitVec 32 := 9#32
  let c12_i32_70 : BitVec 32 := 12#32
  let v85 : BitVec 1 := Scalar.cmpi .eq v2 c12_i32_70
  let c15_i32_71 : BitVec 32 := 15#32
  let c11_i32_68 : BitVec 32 := 11#32
  let v83 : BitVec 1 := Scalar.cmpi .eq v2 c11_i32_68
  let c7_i32_69 : BitVec 32 := 7#32
  let c10_i32_66 : BitVec 32 := 10#32
  let v81 : BitVec 1 := Scalar.cmpi .eq v2 c10_i32_66
  let c14_i32_67 : BitVec 32 := 14#32
  let c9_i32_64 : BitVec 32 := 9#32
  let v79 : BitVec 1 := Scalar.cmpi .eq v2 c9_i32_64
  let c5_i32_65 : BitVec 32 := 5#32
  let c8_i32_62 : BitVec 32 := 8#32
  let v77 : BitVec 1 := Scalar.cmpi .eq v2 c8_i32_62
  let c12_i32_63 : BitVec 32 := 12#32
  let c7_i32_60 : BitVec 32 := 7#32
  let v75 : BitVec 1 := Scalar.cmpi .eq v2 c7_i32_60
  let c3_i32_61 : BitVec 32 := 3#32
  let c6_i32_58 : BitVec 32 := 6#32
  let v73 : BitVec 1 := Scalar.cmpi .eq v2 c6_i32_58
  let c10_i32_59 : BitVec 32 := 10#32
  let c5_i32_56 : BitVec 32 := 5#32
  let v71 : BitVec 1 := Scalar.cmpi .eq v2 c5_i32_56
  let c1_i32_57 : BitVec 32 := 1#32
  let c4_i32_54 : BitVec 32 := 4#32
  let v69 : BitVec 1 := Scalar.cmpi .eq v2 c4_i32_54
  let c8_i32_55 : BitVec 32 := 8#32
  let c3_i32_52 : BitVec 32 := 3#32
  let v67 : BitVec 1 := Scalar.cmpi .eq v2 c3_i32_52
  let c2_i32_53 : BitVec 32 := 2#32
  let c2_i32_50 : BitVec 32 := 2#32
  let v65 : BitVec 1 := Scalar.cmpi .eq v2 c2_i32_50
  let c6_i32_51 : BitVec 32 := 6#32
  let c1_i32_47 : BitVec 32 := 1#32
  let v63 : BitVec 1 := Scalar.cmpi .eq v2 c1_i32_47
  let c0_i32_48 : BitVec 32 := 0#32
  let c4_i32_49 : BitVec 32 := 4#32
  let v64 : BitVec 32 := Scalar.select v63 c0_i32_48 c4_i32_49
  let v66 : BitVec 32 := Scalar.select v65 c6_i32_51 v64
  let v68 : BitVec 32 := Scalar.select v67 c2_i32_53 v66
  let v70 : BitVec 32 := Scalar.select v69 c8_i32_55 v68
  let v72 : BitVec 32 := Scalar.select v71 c1_i32_57 v70
  let v74 : BitVec 32 := Scalar.select v73 c10_i32_59 v72
  let v76 : BitVec 32 := Scalar.select v75 c3_i32_61 v74
  let v78 : BitVec 32 := Scalar.select v77 c12_i32_63 v76
  let v80 : BitVec 32 := Scalar.select v79 c5_i32_65 v78
  let v82 : BitVec 32 := Scalar.select v81 c14_i32_67 v80
  let v84 : BitVec 32 := Scalar.select v83 c7_i32_69 v82
  let v86 : BitVec 32 := Scalar.select v85 c15_i32_71 v84
  let v88 : BitVec 32 := Scalar.select v87 c9_i32_73 v86
  let v90 : BitVec 32 := Scalar.select v89 c13_i32_75 v88
  let v92 : BitVec 32 := Scalar.select v91 c11_i32_77 v90
  let c1_i32_5408 : BitVec 32 := 1#32
  let v5869 : BitVec 32 := Scalar.muli v92 c1_i32_5408
  let v5870 : BitVec 32 := Scalar.addi c0_i32_5409 v5869
  v5870.toNat
def k0_dev102 (d0 : Dev nD) : Nat :=
  let c0_i32_5457 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c12_i32_46 : BitVec 32 := 12#32
  let c14_i32_43 : BitVec 32 := 14#32
  let v59 : BitVec 1 := Scalar.cmpi .eq v2 c14_i32_43
  let c10_i32_44 : BitVec 32 := 10#32
  let c13_i32_41 : BitVec 32 := 13#32
  let v57 : BitVec 1 := Scalar.cmpi .eq v2 c13_i32_41
  let c14_i32_42 : BitVec 32 := 14#32
  let c12_i32_39 : BitVec 32 := 12#32
  let v55 : BitVec 1 := Scalar.cmpi .eq v2 c12_i32_39
  let c8_i32_40 : BitVec 32 := 8#32
  let c11_i32_37 : BitVec 32 := 11#32
  let v53 : BitVec 1 := Scalar.cmpi .eq v2 c11_i32_37
  let c15_i32_38 : BitVec 32 := 15#32
  let c10_i32_35 : BitVec 32 := 10#32
  let v51 : BitVec 1 := Scalar.cmpi .eq v2 c10_i32_35
  let c6_i32_36 : BitVec 32 := 6#32
  let c9_i32_33 : BitVec 32 := 9#32
  let v49 : BitVec 1 := Scalar.cmpi .eq v2 c9_i32_33
  let c13_i32_34 : BitVec 32 := 13#32
  let c8_i32_31 : BitVec 32 := 8#32
  let v47 : BitVec 1 := Scalar.cmpi .eq v2 c8_i32_31
  let c4_i32_32 : BitVec 32 := 4#32
  let c7_i32_29 : BitVec 32 := 7#32
  let v45 : BitVec 1 := Scalar.cmpi .eq v2 c7_i32_29
  let c11_i32_30 : BitVec 32 := 11#32
  let c6_i32_27 : BitVec 32 := 6#32
  let v43 : BitVec 1 := Scalar.cmpi .eq v2 c6_i32_27
  let c2_i32_28 : BitVec 32 := 2#32
  let c5_i32_25 : BitVec 32 := 5#32
  let v41 : BitVec 1 := Scalar.cmpi .eq v2 c5_i32_25
  let c9_i32_26 : BitVec 32 := 9#32
  let c4_i32_23 : BitVec 32 := 4#32
  let v39 : BitVec 1 := Scalar.cmpi .eq v2 c4_i32_23
  let c0_i32_24 : BitVec 32 := 0#32
  let c3_i32_21 : BitVec 32 := 3#32
  let v37 : BitVec 1 := Scalar.cmpi .eq v2 c3_i32_21
  let c7_i32_22 : BitVec 32 := 7#32
  let c2_i32_19 : BitVec 32 := 2#32
  let v35 : BitVec 1 := Scalar.cmpi .eq v2 c2_i32_19
  let c3_i32_20 : BitVec 32 := 3#32
  let c1_i32_16 : BitVec 32 := 1#32
  let v33 : BitVec 1 := Scalar.cmpi .eq v2 c1_i32_16
  let c5_i32_17 : BitVec 32 := 5#32
  let c1_i32_18 : BitVec 32 := 1#32
  let v34 : BitVec 32 := Scalar.select v33 c5_i32_17 c1_i32_18
  let v36 : BitVec 32 := Scalar.select v35 c3_i32_20 v34
  let v38 : BitVec 32 := Scalar.select v37 c7_i32_22 v36
  let v40 : BitVec 32 := Scalar.select v39 c0_i32_24 v38
  let v42 : BitVec 32 := Scalar.select v41 c9_i32_26 v40
  let v44 : BitVec 32 := Scalar.select v43 c2_i32_28 v42
  let v46 : BitVec 32 := Scalar.select v45 c11_i32_30 v44
  let v48 : BitVec 32 := Scalar.select v47 c4_i32_32 v46
  let v50 : BitVec 32 := Scalar.select v49 c13_i32_34 v48
  let v52 : BitVec 32 := Scalar.select v51 c6_i32_36 v50
  let v54 : BitVec 32 := Scalar.select v53 c15_i32_38 v52
  let v56 : BitVec 32 := Scalar.select v55 c8_i32_40 v54
  let v58 : BitVec 32 := Scalar.select v57 c14_i32_42 v56
  let v60 : BitVec 32 := Scalar.select v59 c10_i32_44 v58
  let v62 : BitVec 32 := Scalar.select v61 c12_i32_46 v60
  let c1_i32_5456 : BitVec 32 := 1#32
  let v5924 : BitVec 32 := Scalar.muli v62 c1_i32_5456
  let v5925 : BitVec 32 := Scalar.addi c0_i32_5457 v5924
  v5925.toNat
def k0_dev103 (d0 : Dev nD) : Nat :=
  let c0_i32_5505 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c11_i32_77 : BitVec 32 := 11#32
  let c14_i32_74 : BitVec 32 := 14#32
  let v89 : BitVec 1 := Scalar.cmpi .eq v2 c14_i32_74
  let c13_i32_75 : BitVec 32 := 13#32
  let c13_i32_72 : BitVec 32 := 13#32
  let v87 : BitVec 1 := Scalar.cmpi .eq v2 c13_i32_72
  let c9_i32_73 : BitVec 32 := 9#32
  let c12_i32_70 : BitVec 32 := 12#32
  let v85 : BitVec 1 := Scalar.cmpi .eq v2 c12_i32_70
  let c15_i32_71 : BitVec 32 := 15#32
  let c11_i32_68 : BitVec 32 := 11#32
  let v83 : BitVec 1 := Scalar.cmpi .eq v2 c11_i32_68
  let c7_i32_69 : BitVec 32 := 7#32
  let c10_i32_66 : BitVec 32 := 10#32
  let v81 : BitVec 1 := Scalar.cmpi .eq v2 c10_i32_66
  let c14_i32_67 : BitVec 32 := 14#32
  let c9_i32_64 : BitVec 32 := 9#32
  let v79 : BitVec 1 := Scalar.cmpi .eq v2 c9_i32_64
  let c5_i32_65 : BitVec 32 := 5#32
  let c8_i32_62 : BitVec 32 := 8#32
  let v77 : BitVec 1 := Scalar.cmpi .eq v2 c8_i32_62
  let c12_i32_63 : BitVec 32 := 12#32
  let c7_i32_60 : BitVec 32 := 7#32
  let v75 : BitVec 1 := Scalar.cmpi .eq v2 c7_i32_60
  let c3_i32_61 : BitVec 32 := 3#32
  let c6_i32_58 : BitVec 32 := 6#32
  let v73 : BitVec 1 := Scalar.cmpi .eq v2 c6_i32_58
  let c10_i32_59 : BitVec 32 := 10#32
  let c5_i32_56 : BitVec 32 := 5#32
  let v71 : BitVec 1 := Scalar.cmpi .eq v2 c5_i32_56
  let c1_i32_57 : BitVec 32 := 1#32
  let c4_i32_54 : BitVec 32 := 4#32
  let v69 : BitVec 1 := Scalar.cmpi .eq v2 c4_i32_54
  let c8_i32_55 : BitVec 32 := 8#32
  let c3_i32_52 : BitVec 32 := 3#32
  let v67 : BitVec 1 := Scalar.cmpi .eq v2 c3_i32_52
  let c2_i32_53 : BitVec 32 := 2#32
  let c2_i32_50 : BitVec 32 := 2#32
  let v65 : BitVec 1 := Scalar.cmpi .eq v2 c2_i32_50
  let c6_i32_51 : BitVec 32 := 6#32
  let c1_i32_47 : BitVec 32 := 1#32
  let v63 : BitVec 1 := Scalar.cmpi .eq v2 c1_i32_47
  let c0_i32_48 : BitVec 32 := 0#32
  let c4_i32_49 : BitVec 32 := 4#32
  let v64 : BitVec 32 := Scalar.select v63 c0_i32_48 c4_i32_49
  let v66 : BitVec 32 := Scalar.select v65 c6_i32_51 v64
  let v68 : BitVec 32 := Scalar.select v67 c2_i32_53 v66
  let v70 : BitVec 32 := Scalar.select v69 c8_i32_55 v68
  let v72 : BitVec 32 := Scalar.select v71 c1_i32_57 v70
  let v74 : BitVec 32 := Scalar.select v73 c10_i32_59 v72
  let v76 : BitVec 32 := Scalar.select v75 c3_i32_61 v74
  let v78 : BitVec 32 := Scalar.select v77 c12_i32_63 v76
  let v80 : BitVec 32 := Scalar.select v79 c5_i32_65 v78
  let v82 : BitVec 32 := Scalar.select v81 c14_i32_67 v80
  let v84 : BitVec 32 := Scalar.select v83 c7_i32_69 v82
  let v86 : BitVec 32 := Scalar.select v85 c15_i32_71 v84
  let v88 : BitVec 32 := Scalar.select v87 c9_i32_73 v86
  let v90 : BitVec 32 := Scalar.select v89 c13_i32_75 v88
  let v92 : BitVec 32 := Scalar.select v91 c11_i32_77 v90
  let c1_i32_5504 : BitVec 32 := 1#32
  let v5979 : BitVec 32 := Scalar.muli v92 c1_i32_5504
  let v5980 : BitVec 32 := Scalar.addi c0_i32_5505 v5979
  v5980.toNat
def k0_dev104 (d0 : Dev nD) : Nat :=
  let c0_i32_5553 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c12_i32_46 : BitVec 32 := 12#32
  let c14_i32_43 : BitVec 32 := 14#32
  let v59 : BitVec 1 := Scalar.cmpi .eq v2 c14_i32_43
  let c10_i32_44 : BitVec 32 := 10#32
  let c13_i32_41 : BitVec 32 := 13#32
  let v57 : BitVec 1 := Scalar.cmpi .eq v2 c13_i32_41
  let c14_i32_42 : BitVec 32 := 14#32
  let c12_i32_39 : BitVec 32 := 12#32
  let v55 : BitVec 1 := Scalar.cmpi .eq v2 c12_i32_39
  let c8_i32_40 : BitVec 32 := 8#32
  let c11_i32_37 : BitVec 32 := 11#32
  let v53 : BitVec 1 := Scalar.cmpi .eq v2 c11_i32_37
  let c15_i32_38 : BitVec 32 := 15#32
  let c10_i32_35 : BitVec 32 := 10#32
  let v51 : BitVec 1 := Scalar.cmpi .eq v2 c10_i32_35
  let c6_i32_36 : BitVec 32 := 6#32
  let c9_i32_33 : BitVec 32 := 9#32
  let v49 : BitVec 1 := Scalar.cmpi .eq v2 c9_i32_33
  let c13_i32_34 : BitVec 32 := 13#32
  let c8_i32_31 : BitVec 32 := 8#32
  let v47 : BitVec 1 := Scalar.cmpi .eq v2 c8_i32_31
  let c4_i32_32 : BitVec 32 := 4#32
  let c7_i32_29 : BitVec 32 := 7#32
  let v45 : BitVec 1 := Scalar.cmpi .eq v2 c7_i32_29
  let c11_i32_30 : BitVec 32 := 11#32
  let c6_i32_27 : BitVec 32 := 6#32
  let v43 : BitVec 1 := Scalar.cmpi .eq v2 c6_i32_27
  let c2_i32_28 : BitVec 32 := 2#32
  let c5_i32_25 : BitVec 32 := 5#32
  let v41 : BitVec 1 := Scalar.cmpi .eq v2 c5_i32_25
  let c9_i32_26 : BitVec 32 := 9#32
  let c4_i32_23 : BitVec 32 := 4#32
  let v39 : BitVec 1 := Scalar.cmpi .eq v2 c4_i32_23
  let c0_i32_24 : BitVec 32 := 0#32
  let c3_i32_21 : BitVec 32 := 3#32
  let v37 : BitVec 1 := Scalar.cmpi .eq v2 c3_i32_21
  let c7_i32_22 : BitVec 32 := 7#32
  let c2_i32_19 : BitVec 32 := 2#32
  let v35 : BitVec 1 := Scalar.cmpi .eq v2 c2_i32_19
  let c3_i32_20 : BitVec 32 := 3#32
  let c1_i32_16 : BitVec 32 := 1#32
  let v33 : BitVec 1 := Scalar.cmpi .eq v2 c1_i32_16
  let c5_i32_17 : BitVec 32 := 5#32
  let c1_i32_18 : BitVec 32 := 1#32
  let v34 : BitVec 32 := Scalar.select v33 c5_i32_17 c1_i32_18
  let v36 : BitVec 32 := Scalar.select v35 c3_i32_20 v34
  let v38 : BitVec 32 := Scalar.select v37 c7_i32_22 v36
  let v40 : BitVec 32 := Scalar.select v39 c0_i32_24 v38
  let v42 : BitVec 32 := Scalar.select v41 c9_i32_26 v40
  let v44 : BitVec 32 := Scalar.select v43 c2_i32_28 v42
  let v46 : BitVec 32 := Scalar.select v45 c11_i32_30 v44
  let v48 : BitVec 32 := Scalar.select v47 c4_i32_32 v46
  let v50 : BitVec 32 := Scalar.select v49 c13_i32_34 v48
  let v52 : BitVec 32 := Scalar.select v51 c6_i32_36 v50
  let v54 : BitVec 32 := Scalar.select v53 c15_i32_38 v52
  let v56 : BitVec 32 := Scalar.select v55 c8_i32_40 v54
  let v58 : BitVec 32 := Scalar.select v57 c14_i32_42 v56
  let v60 : BitVec 32 := Scalar.select v59 c10_i32_44 v58
  let v62 : BitVec 32 := Scalar.select v61 c12_i32_46 v60
  let c1_i32_5552 : BitVec 32 := 1#32
  let v6034 : BitVec 32 := Scalar.muli v62 c1_i32_5552
  let v6035 : BitVec 32 := Scalar.addi c0_i32_5553 v6034
  v6035.toNat
def k0_dev105 (d0 : Dev nD) : Nat :=
  let c0_i32_5601 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c11_i32_77 : BitVec 32 := 11#32
  let c14_i32_74 : BitVec 32 := 14#32
  let v89 : BitVec 1 := Scalar.cmpi .eq v2 c14_i32_74
  let c13_i32_75 : BitVec 32 := 13#32
  let c13_i32_72 : BitVec 32 := 13#32
  let v87 : BitVec 1 := Scalar.cmpi .eq v2 c13_i32_72
  let c9_i32_73 : BitVec 32 := 9#32
  let c12_i32_70 : BitVec 32 := 12#32
  let v85 : BitVec 1 := Scalar.cmpi .eq v2 c12_i32_70
  let c15_i32_71 : BitVec 32 := 15#32
  let c11_i32_68 : BitVec 32 := 11#32
  let v83 : BitVec 1 := Scalar.cmpi .eq v2 c11_i32_68
  let c7_i32_69 : BitVec 32 := 7#32
  let c10_i32_66 : BitVec 32 := 10#32
  let v81 : BitVec 1 := Scalar.cmpi .eq v2 c10_i32_66
  let c14_i32_67 : BitVec 32 := 14#32
  let c9_i32_64 : BitVec 32 := 9#32
  let v79 : BitVec 1 := Scalar.cmpi .eq v2 c9_i32_64
  let c5_i32_65 : BitVec 32 := 5#32
  let c8_i32_62 : BitVec 32 := 8#32
  let v77 : BitVec 1 := Scalar.cmpi .eq v2 c8_i32_62
  let c12_i32_63 : BitVec 32 := 12#32
  let c7_i32_60 : BitVec 32 := 7#32
  let v75 : BitVec 1 := Scalar.cmpi .eq v2 c7_i32_60
  let c3_i32_61 : BitVec 32 := 3#32
  let c6_i32_58 : BitVec 32 := 6#32
  let v73 : BitVec 1 := Scalar.cmpi .eq v2 c6_i32_58
  let c10_i32_59 : BitVec 32 := 10#32
  let c5_i32_56 : BitVec 32 := 5#32
  let v71 : BitVec 1 := Scalar.cmpi .eq v2 c5_i32_56
  let c1_i32_57 : BitVec 32 := 1#32
  let c4_i32_54 : BitVec 32 := 4#32
  let v69 : BitVec 1 := Scalar.cmpi .eq v2 c4_i32_54
  let c8_i32_55 : BitVec 32 := 8#32
  let c3_i32_52 : BitVec 32 := 3#32
  let v67 : BitVec 1 := Scalar.cmpi .eq v2 c3_i32_52
  let c2_i32_53 : BitVec 32 := 2#32
  let c2_i32_50 : BitVec 32 := 2#32
  let v65 : BitVec 1 := Scalar.cmpi .eq v2 c2_i32_50
  let c6_i32_51 : BitVec 32 := 6#32
  let c1_i32_47 : BitVec 32 := 1#32
  let v63 : BitVec 1 := Scalar.cmpi .eq v2 c1_i32_47
  let c0_i32_48 : BitVec 32 := 0#32
  let c4_i32_49 : BitVec 32 := 4#32
  let v64 : BitVec 32 := Scalar.select v63 c0_i32_48 c4_i32_49
  let v66 : BitVec 32 := Scalar.select v65 c6_i32_51 v64
  let v68 : BitVec 32 := Scalar.select v67 c2_i32_53 v66
  let v70 : BitVec 32 := Scalar.select v69 c8_i32_55 v68
  let v72 : BitVec 32 := Scalar.select v71 c1_i32_57 v70
  let v74 : BitVec 32 := Scalar.select v73 c10_i32_59 v72
  let v76 : BitVec 32 := Scalar.select v75 c3_i32_61 v74
  let v78 : BitVec 32 := Scalar.select v77 c12_i32_63 v76
  let v80 : BitVec 32 := Scalar.select v79 c5_i32_65 v78
  let v82 : BitVec 32 := Scalar.select v81 c14_i32_67 v80
  let v84 : BitVec 32 := Scalar.select v83 c7_i32_69 v82
  let v86 : BitVec 32 := Scalar.select v85 c15_i32_71 v84
  let v88 : BitVec 32 := Scalar.select v87 c9_i32_73 v86
  let v90 : BitVec 32 := Scalar.select v89 c13_i32_75 v88
  let v92 : BitVec 32 := Scalar.select v91 c11_i32_77 v90
  let c1_i32_5600 : BitVec 32 := 1#32
  let v6089 : BitVec 32 := Scalar.muli v92 c1_i32_5600
  let v6090 : BitVec 32 := Scalar.addi c0_i32_5601 v6089
  v6090.toNat
def k0_dev106 (d0 : Dev nD) : Nat :=
  let c0_i32_5649 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c12_i32_46 : BitVec 32 := 12#32
  let c14_i32_43 : BitVec 32 := 14#32
  let v59 : BitVec 1 := Scalar.cmpi .eq v2 c14_i32_43
  let c10_i32_44 : BitVec 32 := 10#32
  let c13_i32_41 : BitVec 32 := 13#32
  let v57 : BitVec 1 := Scalar.cmpi .eq v2 c13_i32_41
  let c14_i32_42 : BitVec 32 := 14#32
  let c12_i32_39 : BitVec 32 := 12#32
  let v55 : BitVec 1 := Scalar.cmpi .eq v2 c12_i32_39
  let c8_i32_40 : BitVec 32 := 8#32
  let c11_i32_37 : BitVec 32 := 11#32
  let v53 : BitVec 1 := Scalar.cmpi .eq v2 c11_i32_37
  let c15_i32_38 : BitVec 32 := 15#32
  let c10_i32_35 : BitVec 32 := 10#32
  let v51 : BitVec 1 := Scalar.cmpi .eq v2 c10_i32_35
  let c6_i32_36 : BitVec 32 := 6#32
  let c9_i32_33 : BitVec 32 := 9#32
  let v49 : BitVec 1 := Scalar.cmpi .eq v2 c9_i32_33
  let c13_i32_34 : BitVec 32 := 13#32
  let c8_i32_31 : BitVec 32 := 8#32
  let v47 : BitVec 1 := Scalar.cmpi .eq v2 c8_i32_31
  let c4_i32_32 : BitVec 32 := 4#32
  let c7_i32_29 : BitVec 32 := 7#32
  let v45 : BitVec 1 := Scalar.cmpi .eq v2 c7_i32_29
  let c11_i32_30 : BitVec 32 := 11#32
  let c6_i32_27 : BitVec 32 := 6#32
  let v43 : BitVec 1 := Scalar.cmpi .eq v2 c6_i32_27
  let c2_i32_28 : BitVec 32 := 2#32
  let c5_i32_25 : BitVec 32 := 5#32
  let v41 : BitVec 1 := Scalar.cmpi .eq v2 c5_i32_25
  let c9_i32_26 : BitVec 32 := 9#32
  let c4_i32_23 : BitVec 32 := 4#32
  let v39 : BitVec 1 := Scalar.cmpi .eq v2 c4_i32_23
  let c0_i32_24 : BitVec 32 := 0#32
  let c3_i32_21 : BitVec 32 := 3#32
  let v37 : BitVec 1 := Scalar.cmpi .eq v2 c3_i32_21
  let c7_i32_22 : BitVec 32 := 7#32
  let c2_i32_19 : BitVec 32 := 2#32
  let v35 : BitVec 1 := Scalar.cmpi .eq v2 c2_i32_19
  let c3_i32_20 : BitVec 32 := 3#32
  let c1_i32_16 : BitVec 32 := 1#32
  let v33 : BitVec 1 := Scalar.cmpi .eq v2 c1_i32_16
  let c5_i32_17 : BitVec 32 := 5#32
  let c1_i32_18 : BitVec 32 := 1#32
  let v34 : BitVec 32 := Scalar.select v33 c5_i32_17 c1_i32_18
  let v36 : BitVec 32 := Scalar.select v35 c3_i32_20 v34
  let v38 : BitVec 32 := Scalar.select v37 c7_i32_22 v36
  let v40 : BitVec 32 := Scalar.select v39 c0_i32_24 v38
  let v42 : BitVec 32 := Scalar.select v41 c9_i32_26 v40
  let v44 : BitVec 32 := Scalar.select v43 c2_i32_28 v42
  let v46 : BitVec 32 := Scalar.select v45 c11_i32_30 v44
  let v48 : BitVec 32 := Scalar.select v47 c4_i32_32 v46
  let v50 : BitVec 32 := Scalar.select v49 c13_i32_34 v48
  let v52 : BitVec 32 := Scalar.select v51 c6_i32_36 v50
  let v54 : BitVec 32 := Scalar.select v53 c15_i32_38 v52
  let v56 : BitVec 32 := Scalar.select v55 c8_i32_40 v54
  let v58 : BitVec 32 := Scalar.select v57 c14_i32_42 v56
  let v60 : BitVec 32 := Scalar.select v59 c10_i32_44 v58
  let v62 : BitVec 32 := Scalar.select v61 c12_i32_46 v60
  let c1_i32_5648 : BitVec 32 := 1#32
  let v6144 : BitVec 32 := Scalar.muli v62 c1_i32_5648
  let v6145 : BitVec 32 := Scalar.addi c0_i32_5649 v6144
  v6145.toNat
def k0_dev107 (d0 : Dev nD) : Nat :=
  let c0_i32_5697 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c11_i32_77 : BitVec 32 := 11#32
  let c14_i32_74 : BitVec 32 := 14#32
  let v89 : BitVec 1 := Scalar.cmpi .eq v2 c14_i32_74
  let c13_i32_75 : BitVec 32 := 13#32
  let c13_i32_72 : BitVec 32 := 13#32
  let v87 : BitVec 1 := Scalar.cmpi .eq v2 c13_i32_72
  let c9_i32_73 : BitVec 32 := 9#32
  let c12_i32_70 : BitVec 32 := 12#32
  let v85 : BitVec 1 := Scalar.cmpi .eq v2 c12_i32_70
  let c15_i32_71 : BitVec 32 := 15#32
  let c11_i32_68 : BitVec 32 := 11#32
  let v83 : BitVec 1 := Scalar.cmpi .eq v2 c11_i32_68
  let c7_i32_69 : BitVec 32 := 7#32
  let c10_i32_66 : BitVec 32 := 10#32
  let v81 : BitVec 1 := Scalar.cmpi .eq v2 c10_i32_66
  let c14_i32_67 : BitVec 32 := 14#32
  let c9_i32_64 : BitVec 32 := 9#32
  let v79 : BitVec 1 := Scalar.cmpi .eq v2 c9_i32_64
  let c5_i32_65 : BitVec 32 := 5#32
  let c8_i32_62 : BitVec 32 := 8#32
  let v77 : BitVec 1 := Scalar.cmpi .eq v2 c8_i32_62
  let c12_i32_63 : BitVec 32 := 12#32
  let c7_i32_60 : BitVec 32 := 7#32
  let v75 : BitVec 1 := Scalar.cmpi .eq v2 c7_i32_60
  let c3_i32_61 : BitVec 32 := 3#32
  let c6_i32_58 : BitVec 32 := 6#32
  let v73 : BitVec 1 := Scalar.cmpi .eq v2 c6_i32_58
  let c10_i32_59 : BitVec 32 := 10#32
  let c5_i32_56 : BitVec 32 := 5#32
  let v71 : BitVec 1 := Scalar.cmpi .eq v2 c5_i32_56
  let c1_i32_57 : BitVec 32 := 1#32
  let c4_i32_54 : BitVec 32 := 4#32
  let v69 : BitVec 1 := Scalar.cmpi .eq v2 c4_i32_54
  let c8_i32_55 : BitVec 32 := 8#32
  let c3_i32_52 : BitVec 32 := 3#32
  let v67 : BitVec 1 := Scalar.cmpi .eq v2 c3_i32_52
  let c2_i32_53 : BitVec 32 := 2#32
  let c2_i32_50 : BitVec 32 := 2#32
  let v65 : BitVec 1 := Scalar.cmpi .eq v2 c2_i32_50
  let c6_i32_51 : BitVec 32 := 6#32
  let c1_i32_47 : BitVec 32 := 1#32
  let v63 : BitVec 1 := Scalar.cmpi .eq v2 c1_i32_47
  let c0_i32_48 : BitVec 32 := 0#32
  let c4_i32_49 : BitVec 32 := 4#32
  let v64 : BitVec 32 := Scalar.select v63 c0_i32_48 c4_i32_49
  let v66 : BitVec 32 := Scalar.select v65 c6_i32_51 v64
  let v68 : BitVec 32 := Scalar.select v67 c2_i32_53 v66
  let v70 : BitVec 32 := Scalar.select v69 c8_i32_55 v68
  let v72 : BitVec 32 := Scalar.select v71 c1_i32_57 v70
  let v74 : BitVec 32 := Scalar.select v73 c10_i32_59 v72
  let v76 : BitVec 32 := Scalar.select v75 c3_i32_61 v74
  let v78 : BitVec 32 := Scalar.select v77 c12_i32_63 v76
  let v80 : BitVec 32 := Scalar.select v79 c5_i32_65 v78
  let v82 : BitVec 32 := Scalar.select v81 c14_i32_67 v80
  let v84 : BitVec 32 := Scalar.select v83 c7_i32_69 v82
  let v86 : BitVec 32 := Scalar.select v85 c15_i32_71 v84
  let v88 : BitVec 32 := Scalar.select v87 c9_i32_73 v86
  let v90 : BitVec 32 := Scalar.select v89 c13_i32_75 v88
  let v92 : BitVec 32 := Scalar.select v91 c11_i32_77 v90
  let c1_i32_5696 : BitVec 32 := 1#32
  let v6199 : BitVec 32 := Scalar.muli v92 c1_i32_5696
  let v6200 : BitVec 32 := Scalar.addi c0_i32_5697 v6199
  v6200.toNat
def k0_dev108 (d0 : Dev nD) : Nat :=
  let c0_i32_5745 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c12_i32_46 : BitVec 32 := 12#32
  let c14_i32_43 : BitVec 32 := 14#32
  let v59 : BitVec 1 := Scalar.cmpi .eq v2 c14_i32_43
  let c10_i32_44 : BitVec 32 := 10#32
  let c13_i32_41 : BitVec 32 := 13#32
  let v57 : BitVec 1 := Scalar.cmpi .eq v2 c13_i32_41
  let c14_i32_42 : BitVec 32 := 14#32
  let c12_i32_39 : BitVec 32 := 12#32
  let v55 : BitVec 1 := Scalar.cmpi .eq v2 c12_i32_39
  let c8_i32_40 : BitVec 32 := 8#32
  let c11_i32_37 : BitVec 32 := 11#32
  let v53 : BitVec 1 := Scalar.cmpi .eq v2 c11_i32_37
  let c15_i32_38 : BitVec 32 := 15#32
  let c10_i32_35 : BitVec 32 := 10#32
  let v51 : BitVec 1 := Scalar.cmpi .eq v2 c10_i32_35
  let c6_i32_36 : BitVec 32 := 6#32
  let c9_i32_33 : BitVec 32 := 9#32
  let v49 : BitVec 1 := Scalar.cmpi .eq v2 c9_i32_33
  let c13_i32_34 : BitVec 32 := 13#32
  let c8_i32_31 : BitVec 32 := 8#32
  let v47 : BitVec 1 := Scalar.cmpi .eq v2 c8_i32_31
  let c4_i32_32 : BitVec 32 := 4#32
  let c7_i32_29 : BitVec 32 := 7#32
  let v45 : BitVec 1 := Scalar.cmpi .eq v2 c7_i32_29
  let c11_i32_30 : BitVec 32 := 11#32
  let c6_i32_27 : BitVec 32 := 6#32
  let v43 : BitVec 1 := Scalar.cmpi .eq v2 c6_i32_27
  let c2_i32_28 : BitVec 32 := 2#32
  let c5_i32_25 : BitVec 32 := 5#32
  let v41 : BitVec 1 := Scalar.cmpi .eq v2 c5_i32_25
  let c9_i32_26 : BitVec 32 := 9#32
  let c4_i32_23 : BitVec 32 := 4#32
  let v39 : BitVec 1 := Scalar.cmpi .eq v2 c4_i32_23
  let c0_i32_24 : BitVec 32 := 0#32
  let c3_i32_21 : BitVec 32 := 3#32
  let v37 : BitVec 1 := Scalar.cmpi .eq v2 c3_i32_21
  let c7_i32_22 : BitVec 32 := 7#32
  let c2_i32_19 : BitVec 32 := 2#32
  let v35 : BitVec 1 := Scalar.cmpi .eq v2 c2_i32_19
  let c3_i32_20 : BitVec 32 := 3#32
  let c1_i32_16 : BitVec 32 := 1#32
  let v33 : BitVec 1 := Scalar.cmpi .eq v2 c1_i32_16
  let c5_i32_17 : BitVec 32 := 5#32
  let c1_i32_18 : BitVec 32 := 1#32
  let v34 : BitVec 32 := Scalar.select v33 c5_i32_17 c1_i32_18
  let v36 : BitVec 32 := Scalar.select v35 c3_i32_20 v34
  let v38 : BitVec 32 := Scalar.select v37 c7_i32_22 v36
  let v40 : BitVec 32 := Scalar.select v39 c0_i32_24 v38
  let v42 : BitVec 32 := Scalar.select v41 c9_i32_26 v40
  let v44 : BitVec 32 := Scalar.select v43 c2_i32_28 v42
  let v46 : BitVec 32 := Scalar.select v45 c11_i32_30 v44
  let v48 : BitVec 32 := Scalar.select v47 c4_i32_32 v46
  let v50 : BitVec 32 := Scalar.select v49 c13_i32_34 v48
  let v52 : BitVec 32 := Scalar.select v51 c6_i32_36 v50
  let v54 : BitVec 32 := Scalar.select v53 c15_i32_38 v52
  let v56 : BitVec 32 := Scalar.select v55 c8_i32_40 v54
  let v58 : BitVec 32 := Scalar.select v57 c14_i32_42 v56
  let v60 : BitVec 32 := Scalar.select v59 c10_i32_44 v58
  let v62 : BitVec 32 := Scalar.select v61 c12_i32_46 v60
  let c1_i32_5744 : BitVec 32 := 1#32
  let v6254 : BitVec 32 := Scalar.muli v62 c1_i32_5744
  let v6255 : BitVec 32 := Scalar.addi c0_i32_5745 v6254
  v6255.toNat
def k0_dev109 (d0 : Dev nD) : Nat :=
  let c0_i32_5793 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c11_i32_77 : BitVec 32 := 11#32
  let c14_i32_74 : BitVec 32 := 14#32
  let v89 : BitVec 1 := Scalar.cmpi .eq v2 c14_i32_74
  let c13_i32_75 : BitVec 32 := 13#32
  let c13_i32_72 : BitVec 32 := 13#32
  let v87 : BitVec 1 := Scalar.cmpi .eq v2 c13_i32_72
  let c9_i32_73 : BitVec 32 := 9#32
  let c12_i32_70 : BitVec 32 := 12#32
  let v85 : BitVec 1 := Scalar.cmpi .eq v2 c12_i32_70
  let c15_i32_71 : BitVec 32 := 15#32
  let c11_i32_68 : BitVec 32 := 11#32
  let v83 : BitVec 1 := Scalar.cmpi .eq v2 c11_i32_68
  let c7_i32_69 : BitVec 32 := 7#32
  let c10_i32_66 : BitVec 32 := 10#32
  let v81 : BitVec 1 := Scalar.cmpi .eq v2 c10_i32_66
  let c14_i32_67 : BitVec 32 := 14#32
  let c9_i32_64 : BitVec 32 := 9#32
  let v79 : BitVec 1 := Scalar.cmpi .eq v2 c9_i32_64
  let c5_i32_65 : BitVec 32 := 5#32
  let c8_i32_62 : BitVec 32 := 8#32
  let v77 : BitVec 1 := Scalar.cmpi .eq v2 c8_i32_62
  let c12_i32_63 : BitVec 32 := 12#32
  let c7_i32_60 : BitVec 32 := 7#32
  let v75 : BitVec 1 := Scalar.cmpi .eq v2 c7_i32_60
  let c3_i32_61 : BitVec 32 := 3#32
  let c6_i32_58 : BitVec 32 := 6#32
  let v73 : BitVec 1 := Scalar.cmpi .eq v2 c6_i32_58
  let c10_i32_59 : BitVec 32 := 10#32
  let c5_i32_56 : BitVec 32 := 5#32
  let v71 : BitVec 1 := Scalar.cmpi .eq v2 c5_i32_56
  let c1_i32_57 : BitVec 32 := 1#32
  let c4_i32_54 : BitVec 32 := 4#32
  let v69 : BitVec 1 := Scalar.cmpi .eq v2 c4_i32_54
  let c8_i32_55 : BitVec 32 := 8#32
  let c3_i32_52 : BitVec 32 := 3#32
  let v67 : BitVec 1 := Scalar.cmpi .eq v2 c3_i32_52
  let c2_i32_53 : BitVec 32 := 2#32
  let c2_i32_50 : BitVec 32 := 2#32
  let v65 : BitVec 1 := Scalar.cmpi .eq v2 c2_i32_50
  let c6_i32_51 : BitVec 32 := 6#32
  let c1_i32_47 : BitVec 32 := 1#32
  let v63 : BitVec 1 := Scalar.cmpi .eq v2 c1_i32_47
  let c0_i32_48 : BitVec 32 := 0#32
  let c4_i32_49 : BitVec 32 := 4#32
  let v64 : BitVec 32 := Scalar.select v63 c0_i32_48 c4_i32_49
  let v66 : BitVec 32 := Scalar.select v65 c6_i32_51 v64
  let v68 : BitVec 32 := Scalar.select v67 c2_i32_53 v66
  let v70 : BitVec 32 := Scalar.select v69 c8_i32_55 v68
  let v72 : BitVec 32 := Scalar.select v71 c1_i32_57 v70
  let v74 : BitVec 32 := Scalar.select v73 c10_i32_59 v72
  let v76 : BitVec 32 := Scalar.select v75 c3_i32_61 v74
  let v78 : BitVec 32 := Scalar.select v77 c12_i32_63 v76
  let v80 : BitVec 32 := Scalar.select v79 c5_i32_65 v78
  let v82 : BitVec 32 := Scalar.select v81 c14_i32_67 v80
  let v84 : BitVec 32 := Scalar.select v83 c7_i32_69 v82
  let v86 : BitVec 32 := Scalar.select v85 c15_i32_71 v84
  let v88 : BitVec 32 := Scalar.select v87 c9_i32_73 v86
  let v90 : BitVec 32 := Scalar.select v89 c13_i32_75 v88
  let v92 : BitVec 32 := Scalar.select v91 c11_i32_77 v90
  let c1_i32_5792 : BitVec 32 := 1#32
  let v6309 : BitVec 32 := Scalar.muli v92 c1_i32_5792
  let v6310 : BitVec 32 := Scalar.addi c0_i32_5793 v6309
  v6310.toNat
def k0_dev110 (d0 : Dev nD) : Nat :=
  let c0_i32_5841 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c12_i32_46 : BitVec 32 := 12#32
  let c14_i32_43 : BitVec 32 := 14#32
  let v59 : BitVec 1 := Scalar.cmpi .eq v2 c14_i32_43
  let c10_i32_44 : BitVec 32 := 10#32
  let c13_i32_41 : BitVec 32 := 13#32
  let v57 : BitVec 1 := Scalar.cmpi .eq v2 c13_i32_41
  let c14_i32_42 : BitVec 32 := 14#32
  let c12_i32_39 : BitVec 32 := 12#32
  let v55 : BitVec 1 := Scalar.cmpi .eq v2 c12_i32_39
  let c8_i32_40 : BitVec 32 := 8#32
  let c11_i32_37 : BitVec 32 := 11#32
  let v53 : BitVec 1 := Scalar.cmpi .eq v2 c11_i32_37
  let c15_i32_38 : BitVec 32 := 15#32
  let c10_i32_35 : BitVec 32 := 10#32
  let v51 : BitVec 1 := Scalar.cmpi .eq v2 c10_i32_35
  let c6_i32_36 : BitVec 32 := 6#32
  let c9_i32_33 : BitVec 32 := 9#32
  let v49 : BitVec 1 := Scalar.cmpi .eq v2 c9_i32_33
  let c13_i32_34 : BitVec 32 := 13#32
  let c8_i32_31 : BitVec 32 := 8#32
  let v47 : BitVec 1 := Scalar.cmpi .eq v2 c8_i32_31
  let c4_i32_32 : BitVec 32 := 4#32
  let c7_i32_29 : BitVec 32 := 7#32
  let v45 : BitVec 1 := Scalar.cmpi .eq v2 c7_i32_29
  let c11_i32_30 : BitVec 32 := 11#32
  let c6_i32_27 : BitVec 32 := 6#32
  let v43 : BitVec 1 := Scalar.cmpi .eq v2 c6_i32_27
  let c2_i32_28 : BitVec 32 := 2#32
  let c5_i32_25 : BitVec 32 := 5#32
  let v41 : BitVec 1 := Scalar.cmpi .eq v2 c5_i32_25
  let c9_i32_26 : BitVec 32 := 9#32
  let c4_i32_23 : BitVec 32 := 4#32
  let v39 : BitVec 1 := Scalar.cmpi .eq v2 c4_i32_23
  let c0_i32_24 : BitVec 32 := 0#32
  let c3_i32_21 : BitVec 32 := 3#32
  let v37 : BitVec 1 := Scalar.cmpi .eq v2 c3_i32_21
  let c7_i32_22 : BitVec 32 := 7#32
  let c2_i32_19 : BitVec 32 := 2#32
  let v35 : BitVec 1 := Scalar.cmpi .eq v2 c2_i32_19
  let c3_i32_20 : BitVec 32 := 3#32
  let c1_i32_16 : BitVec 32 := 1#32
  let v33 : BitVec 1 := Scalar.cmpi .eq v2 c1_i32_16
  let c5_i32_17 : BitVec 32 := 5#32
  let c1_i32_18 : BitVec 32 := 1#32
  let v34 : BitVec 32 := Scalar.select v33 c5_i32_17 c1_i32_18
  let v36 : BitVec 32 := Scalar.select v35 c3_i32_20 v34
  let v38 : BitVec 32 := Scalar.select v37 c7_i32_22 v36
  let v40 : BitVec 32 := Scalar.select v39 c0_i32_24 v38
  let v42 : BitVec 32 := Scalar.select v41 c9_i32_26 v40
  let v44 : BitVec 32 := Scalar.select v43 c2_i32_28 v42
  let v46 : BitVec 32 := Scalar.select v45 c11_i32_30 v44
  let v48 : BitVec 32 := Scalar.select v47 c4_i32_32 v46
  let v50 : BitVec 32 := Scalar.select v49 c13_i32_34 v48
  let v52 : BitVec 32 := Scalar.select v51 c6_i32_36 v50
  let v54 : BitVec 32 := Scalar.select v53 c15_i32_38 v52
  let v56 : BitVec 32 := Scalar.select v55 c8_i32_40 v54
  let v58 : BitVec 32 := Scalar.select v57 c14_i32_42 v56
  let v60 : BitVec 32 := Scalar.select v59 c10_i32_44 v58
  let v62 : BitVec 32 := Scalar.select v61 c12_i32_46 v60
  let c1_i32_5840 : BitVec 32 := 1#32
  let v6364 : BitVec 32 := Scalar.muli v62 c1_i32_5840
  let v6365 : BitVec 32 := Scalar.addi c0_i32_5841 v6364
  v6365.toNat
def k0_dev111 (d0 : Dev nD) : Nat :=
  let c0_i32_5889 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c11_i32_77 : BitVec 32 := 11#32
  let c14_i32_74 : BitVec 32 := 14#32
  let v89 : BitVec 1 := Scalar.cmpi .eq v2 c14_i32_74
  let c13_i32_75 : BitVec 32 := 13#32
  let c13_i32_72 : BitVec 32 := 13#32
  let v87 : BitVec 1 := Scalar.cmpi .eq v2 c13_i32_72
  let c9_i32_73 : BitVec 32 := 9#32
  let c12_i32_70 : BitVec 32 := 12#32
  let v85 : BitVec 1 := Scalar.cmpi .eq v2 c12_i32_70
  let c15_i32_71 : BitVec 32 := 15#32
  let c11_i32_68 : BitVec 32 := 11#32
  let v83 : BitVec 1 := Scalar.cmpi .eq v2 c11_i32_68
  let c7_i32_69 : BitVec 32 := 7#32
  let c10_i32_66 : BitVec 32 := 10#32
  let v81 : BitVec 1 := Scalar.cmpi .eq v2 c10_i32_66
  let c14_i32_67 : BitVec 32 := 14#32
  let c9_i32_64 : BitVec 32 := 9#32
  let v79 : BitVec 1 := Scalar.cmpi .eq v2 c9_i32_64
  let c5_i32_65 : BitVec 32 := 5#32
  let c8_i32_62 : BitVec 32 := 8#32
  let v77 : BitVec 1 := Scalar.cmpi .eq v2 c8_i32_62
  let c12_i32_63 : BitVec 32 := 12#32
  let c7_i32_60 : BitVec 32 := 7#32
  let v75 : BitVec 1 := Scalar.cmpi .eq v2 c7_i32_60
  let c3_i32_61 : BitVec 32 := 3#32
  let c6_i32_58 : BitVec 32 := 6#32
  let v73 : BitVec 1 := Scalar.cmpi .eq v2 c6_i32_58
  let c10_i32_59 : BitVec 32 := 10#32
  let c5_i32_56 : BitVec 32 := 5#32
  let v71 : BitVec 1 := Scalar.cmpi .eq v2 c5_i32_56
  let c1_i32_57 : BitVec 32 := 1#32
  let c4_i32_54 : BitVec 32 := 4#32
  let v69 : BitVec 1 := Scalar.cmpi .eq v2 c4_i32_54
  let c8_i32_55 : BitVec 32 := 8#32
  let c3_i32_52 : BitVec 32 := 3#32
  let v67 : BitVec 1 := Scalar.cmpi .eq v2 c3_i32_52
  let c2_i32_53 : BitVec 32 := 2#32
  let c2_i32_50 : BitVec 32 := 2#32
  let v65 : BitVec 1 := Scalar.cmpi .eq v2 c2_i32_50
  let c6_i32_51 : BitVec 32 := 6#32
  let c1_i32_47 : BitVec 32 := 1#32
  let v63 : BitVec 1 := Scalar.cmpi .eq v2 c1_i32_47
  let c0_i32_48 : BitVec 32 := 0#32
  let c4_i32_49 : BitVec 32 := 4#32
  let v64 : BitVec 32 := Scalar.select v63 c0_i32_48 c4_i32_49
  let v66 : BitVec 32 := Scalar.select v65 c6_i32_51 v64
  let v68 : BitVec 32 := Scalar.select v67 c2_i32_53 v66
  let v70 : BitVec 32 := Scalar.select v69 c8_i32_55 v68
  let v72 : BitVec 32 := Scalar.select v71 c1_i32_57 v70
  let v74 : BitVec 32 := Scalar.select v73 c10_i32_59 v72
  let v76 : BitVec 32 := Scalar.select v75 c3_i32_61 v74
  let v78 : BitVec 32 := Scalar.select v77 c12_i32_63 v76
  let v80 : BitVec 32 := Scalar.select v79 c5_i32_65 v78
  let v82 : BitVec 32 := Scalar.select v81 c14_i32_67 v80
  let v84 : BitVec 32 := Scalar.select v83 c7_i32_69 v82
  let v86 : BitVec 32 := Scalar.select v85 c15_i32_71 v84
  let v88 : BitVec 32 := Scalar.select v87 c9_i32_73 v86
  let v90 : BitVec 32 := Scalar.select v89 c13_i32_75 v88
  let v92 : BitVec 32 := Scalar.select v91 c11_i32_77 v90
  let c1_i32_5888 : BitVec 32 := 1#32
  let v6419 : BitVec 32 := Scalar.muli v92 c1_i32_5888
  let v6420 : BitVec 32 := Scalar.addi c0_i32_5889 v6419
  v6420.toNat
def k0_dev112 (d0 : Dev nD) : Nat :=
  let c0_i32_5937 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c12_i32_46 : BitVec 32 := 12#32
  let c14_i32_43 : BitVec 32 := 14#32
  let v59 : BitVec 1 := Scalar.cmpi .eq v2 c14_i32_43
  let c10_i32_44 : BitVec 32 := 10#32
  let c13_i32_41 : BitVec 32 := 13#32
  let v57 : BitVec 1 := Scalar.cmpi .eq v2 c13_i32_41
  let c14_i32_42 : BitVec 32 := 14#32
  let c12_i32_39 : BitVec 32 := 12#32
  let v55 : BitVec 1 := Scalar.cmpi .eq v2 c12_i32_39
  let c8_i32_40 : BitVec 32 := 8#32
  let c11_i32_37 : BitVec 32 := 11#32
  let v53 : BitVec 1 := Scalar.cmpi .eq v2 c11_i32_37
  let c15_i32_38 : BitVec 32 := 15#32
  let c10_i32_35 : BitVec 32 := 10#32
  let v51 : BitVec 1 := Scalar.cmpi .eq v2 c10_i32_35
  let c6_i32_36 : BitVec 32 := 6#32
  let c9_i32_33 : BitVec 32 := 9#32
  let v49 : BitVec 1 := Scalar.cmpi .eq v2 c9_i32_33
  let c13_i32_34 : BitVec 32 := 13#32
  let c8_i32_31 : BitVec 32 := 8#32
  let v47 : BitVec 1 := Scalar.cmpi .eq v2 c8_i32_31
  let c4_i32_32 : BitVec 32 := 4#32
  let c7_i32_29 : BitVec 32 := 7#32
  let v45 : BitVec 1 := Scalar.cmpi .eq v2 c7_i32_29
  let c11_i32_30 : BitVec 32 := 11#32
  let c6_i32_27 : BitVec 32 := 6#32
  let v43 : BitVec 1 := Scalar.cmpi .eq v2 c6_i32_27
  let c2_i32_28 : BitVec 32 := 2#32
  let c5_i32_25 : BitVec 32 := 5#32
  let v41 : BitVec 1 := Scalar.cmpi .eq v2 c5_i32_25
  let c9_i32_26 : BitVec 32 := 9#32
  let c4_i32_23 : BitVec 32 := 4#32
  let v39 : BitVec 1 := Scalar.cmpi .eq v2 c4_i32_23
  let c0_i32_24 : BitVec 32 := 0#32
  let c3_i32_21 : BitVec 32 := 3#32
  let v37 : BitVec 1 := Scalar.cmpi .eq v2 c3_i32_21
  let c7_i32_22 : BitVec 32 := 7#32
  let c2_i32_19 : BitVec 32 := 2#32
  let v35 : BitVec 1 := Scalar.cmpi .eq v2 c2_i32_19
  let c3_i32_20 : BitVec 32 := 3#32
  let c1_i32_16 : BitVec 32 := 1#32
  let v33 : BitVec 1 := Scalar.cmpi .eq v2 c1_i32_16
  let c5_i32_17 : BitVec 32 := 5#32
  let c1_i32_18 : BitVec 32 := 1#32
  let v34 : BitVec 32 := Scalar.select v33 c5_i32_17 c1_i32_18
  let v36 : BitVec 32 := Scalar.select v35 c3_i32_20 v34
  let v38 : BitVec 32 := Scalar.select v37 c7_i32_22 v36
  let v40 : BitVec 32 := Scalar.select v39 c0_i32_24 v38
  let v42 : BitVec 32 := Scalar.select v41 c9_i32_26 v40
  let v44 : BitVec 32 := Scalar.select v43 c2_i32_28 v42
  let v46 : BitVec 32 := Scalar.select v45 c11_i32_30 v44
  let v48 : BitVec 32 := Scalar.select v47 c4_i32_32 v46
  let v50 : BitVec 32 := Scalar.select v49 c13_i32_34 v48
  let v52 : BitVec 32 := Scalar.select v51 c6_i32_36 v50
  let v54 : BitVec 32 := Scalar.select v53 c15_i32_38 v52
  let v56 : BitVec 32 := Scalar.select v55 c8_i32_40 v54
  let v58 : BitVec 32 := Scalar.select v57 c14_i32_42 v56
  let v60 : BitVec 32 := Scalar.select v59 c10_i32_44 v58
  let v62 : BitVec 32 := Scalar.select v61 c12_i32_46 v60
  let c1_i32_5936 : BitVec 32 := 1#32
  let v6474 : BitVec 32 := Scalar.muli v62 c1_i32_5936
  let v6475 : BitVec 32 := Scalar.addi c0_i32_5937 v6474
  v6475.toNat
def k0_dev113 (d0 : Dev nD) : Nat :=
  let c0_i32_5985 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c11_i32_77 : BitVec 32 := 11#32
  let c14_i32_74 : BitVec 32 := 14#32
  let v89 : BitVec 1 := Scalar.cmpi .eq v2 c14_i32_74
  let c13_i32_75 : BitVec 32 := 13#32
  let c13_i32_72 : BitVec 32 := 13#32
  let v87 : BitVec 1 := Scalar.cmpi .eq v2 c13_i32_72
  let c9_i32_73 : BitVec 32 := 9#32
  let c12_i32_70 : BitVec 32 := 12#32
  let v85 : BitVec 1 := Scalar.cmpi .eq v2 c12_i32_70
  let c15_i32_71 : BitVec 32 := 15#32
  let c11_i32_68 : BitVec 32 := 11#32
  let v83 : BitVec 1 := Scalar.cmpi .eq v2 c11_i32_68
  let c7_i32_69 : BitVec 32 := 7#32
  let c10_i32_66 : BitVec 32 := 10#32
  let v81 : BitVec 1 := Scalar.cmpi .eq v2 c10_i32_66
  let c14_i32_67 : BitVec 32 := 14#32
  let c9_i32_64 : BitVec 32 := 9#32
  let v79 : BitVec 1 := Scalar.cmpi .eq v2 c9_i32_64
  let c5_i32_65 : BitVec 32 := 5#32
  let c8_i32_62 : BitVec 32 := 8#32
  let v77 : BitVec 1 := Scalar.cmpi .eq v2 c8_i32_62
  let c12_i32_63 : BitVec 32 := 12#32
  let c7_i32_60 : BitVec 32 := 7#32
  let v75 : BitVec 1 := Scalar.cmpi .eq v2 c7_i32_60
  let c3_i32_61 : BitVec 32 := 3#32
  let c6_i32_58 : BitVec 32 := 6#32
  let v73 : BitVec 1 := Scalar.cmpi .eq v2 c6_i32_58
  let c10_i32_59 : BitVec 32 := 10#32
  let c5_i32_56 : BitVec 32 := 5#32
  let v71 : BitVec 1 := Scalar.cmpi .eq v2 c5_i32_56
  let c1_i32_57 : BitVec 32 := 1#32
  let c4_i32_54 : BitVec 32 := 4#32
  let v69 : BitVec 1 := Scalar.cmpi .eq v2 c4_i32_54
  let c8_i32_55 : BitVec 32 := 8#32
  let c3_i32_52 : BitVec 32 := 3#32
  let v67 : BitVec 1 := Scalar.cmpi .eq v2 c3_i32_52
  let c2_i32_53 : BitVec 32 := 2#32
  let c2_i32_50 : BitVec 32 := 2#32
  let v65 : BitVec 1 := Scalar.cmpi .eq v2 c2_i32_50
  let c6_i32_51 : BitVec 32 := 6#32
  let c1_i32_47 : BitVec 32 := 1#32
  let v63 : BitVec 1 := Scalar.cmpi .eq v2 c1_i32_47
  let c0_i32_48 : BitVec 32 := 0#32
  let c4_i32_49 : BitVec 32 := 4#32
  let v64 : BitVec 32 := Scalar.select v63 c0_i32_48 c4_i32_49
  let v66 : BitVec 32 := Scalar.select v65 c6_i32_51 v64
  let v68 : BitVec 32 := Scalar.select v67 c2_i32_53 v66
  let v70 : BitVec 32 := Scalar.select v69 c8_i32_55 v68
  let v72 : BitVec 32 := Scalar.select v71 c1_i32_57 v70
  let v74 : BitVec 32 := Scalar.select v73 c10_i32_59 v72
  let v76 : BitVec 32 := Scalar.select v75 c3_i32_61 v74
  let v78 : BitVec 32 := Scalar.select v77 c12_i32_63 v76
  let v80 : BitVec 32 := Scalar.select v79 c5_i32_65 v78
  let v82 : BitVec 32 := Scalar.select v81 c14_i32_67 v80
  let v84 : BitVec 32 := Scalar.select v83 c7_i32_69 v82
  let v86 : BitVec 32 := Scalar.select v85 c15_i32_71 v84
  let v88 : BitVec 32 := Scalar.select v87 c9_i32_73 v86
  let v90 : BitVec 32 := Scalar.select v89 c13_i32_75 v88
  let v92 : BitVec 32 := Scalar.select v91 c11_i32_77 v90
  let c1_i32_5984 : BitVec 32 := 1#32
  let v6529 : BitVec 32 := Scalar.muli v92 c1_i32_5984
  let v6530 : BitVec 32 := Scalar.addi c0_i32_5985 v6529
  v6530.toNat
def k0_dev114 (d0 : Dev nD) : Nat :=
  let c0_i32_6033 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c12_i32_46 : BitVec 32 := 12#32
  let c14_i32_43 : BitVec 32 := 14#32
  let v59 : BitVec 1 := Scalar.cmpi .eq v2 c14_i32_43
  let c10_i32_44 : BitVec 32 := 10#32
  let c13_i32_41 : BitVec 32 := 13#32
  let v57 : BitVec 1 := Scalar.cmpi .eq v2 c13_i32_41
  let c14_i32_42 : BitVec 32 := 14#32
  let c12_i32_39 : BitVec 32 := 12#32
  let v55 : BitVec 1 := Scalar.cmpi .eq v2 c12_i32_39
  let c8_i32_40 : BitVec 32 := 8#32
  let c11_i32_37 : BitVec 32 := 11#32
  let v53 : BitVec 1 := Scalar.cmpi .eq v2 c11_i32_37
  let c15_i32_38 : BitVec 32 := 15#32
  let c10_i32_35 : BitVec 32 := 10#32
  let v51 : BitVec 1 := Scalar.cmpi .eq v2 c10_i32_35
  let c6_i32_36 : BitVec 32 := 6#32
  let c9_i32_33 : BitVec 32 := 9#32
  let v49 : BitVec 1 := Scalar.cmpi .eq v2 c9_i32_33
  let c13_i32_34 : BitVec 32 := 13#32
  let c8_i32_31 : BitVec 32 := 8#32
  let v47 : BitVec 1 := Scalar.cmpi .eq v2 c8_i32_31
  let c4_i32_32 : BitVec 32 := 4#32
  let c7_i32_29 : BitVec 32 := 7#32
  let v45 : BitVec 1 := Scalar.cmpi .eq v2 c7_i32_29
  let c11_i32_30 : BitVec 32 := 11#32
  let c6_i32_27 : BitVec 32 := 6#32
  let v43 : BitVec 1 := Scalar.cmpi .eq v2 c6_i32_27
  let c2_i32_28 : BitVec 32 := 2#32
  let c5_i32_25 : BitVec 32 := 5#32
  let v41 : BitVec 1 := Scalar.cmpi .eq v2 c5_i32_25
  let c9_i32_26 : BitVec 32 := 9#32
  let c4_i32_23 : BitVec 32 := 4#32
  let v39 : BitVec 1 := Scalar.cmpi .eq v2 c4_i32_23
  let c0_i32_24 : BitVec 32 := 0#32
  let c3_i32_21 : BitVec 32 := 3#32
  let v37 : BitVec 1 := Scalar.cmpi .eq v2 c3_i32_21
  let c7_i32_22 : BitVec 32 := 7#32
  let c2_i32_19 : BitVec 32 := 2#32
  let v35 : BitVec 1 := Scalar.cmpi .eq v2 c2_i32_19
  let c3_i32_20 : BitVec 32 := 3#32
  let c1_i32_16 : BitVec 32 := 1#32
  let v33 : BitVec 1 := Scalar.cmpi .eq v2 c1_i32_16
  let c5_i32_17 : BitVec 32 := 5#32
  let c1_i32_18 : BitVec 32 := 1#32
  let v34 : BitVec 32 := Scalar.select v33 c5_i32_17 c1_i32_18
  let v36 : BitVec 32 := Scalar.select v35 c3_i32_20 v34
  let v38 : BitVec 32 := Scalar.select v37 c7_i32_22 v36
  let v40 : BitVec 32 := Scalar.select v39 c0_i32_24 v38
  let v42 : BitVec 32 := Scalar.select v41 c9_i32_26 v40
  let v44 : BitVec 32 := Scalar.select v43 c2_i32_28 v42
  let v46 : BitVec 32 := Scalar.select v45 c11_i32_30 v44
  let v48 : BitVec 32 := Scalar.select v47 c4_i32_32 v46
  let v50 : BitVec 32 := Scalar.select v49 c13_i32_34 v48
  let v52 : BitVec 32 := Scalar.select v51 c6_i32_36 v50
  let v54 : BitVec 32 := Scalar.select v53 c15_i32_38 v52
  let v56 : BitVec 32 := Scalar.select v55 c8_i32_40 v54
  let v58 : BitVec 32 := Scalar.select v57 c14_i32_42 v56
  let v60 : BitVec 32 := Scalar.select v59 c10_i32_44 v58
  let v62 : BitVec 32 := Scalar.select v61 c12_i32_46 v60
  let c1_i32_6032 : BitVec 32 := 1#32
  let v6584 : BitVec 32 := Scalar.muli v62 c1_i32_6032
  let v6585 : BitVec 32 := Scalar.addi c0_i32_6033 v6584
  v6585.toNat
def k0_dev115 (d0 : Dev nD) : Nat :=
  let c0_i32_6081 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c11_i32_77 : BitVec 32 := 11#32
  let c14_i32_74 : BitVec 32 := 14#32
  let v89 : BitVec 1 := Scalar.cmpi .eq v2 c14_i32_74
  let c13_i32_75 : BitVec 32 := 13#32
  let c13_i32_72 : BitVec 32 := 13#32
  let v87 : BitVec 1 := Scalar.cmpi .eq v2 c13_i32_72
  let c9_i32_73 : BitVec 32 := 9#32
  let c12_i32_70 : BitVec 32 := 12#32
  let v85 : BitVec 1 := Scalar.cmpi .eq v2 c12_i32_70
  let c15_i32_71 : BitVec 32 := 15#32
  let c11_i32_68 : BitVec 32 := 11#32
  let v83 : BitVec 1 := Scalar.cmpi .eq v2 c11_i32_68
  let c7_i32_69 : BitVec 32 := 7#32
  let c10_i32_66 : BitVec 32 := 10#32
  let v81 : BitVec 1 := Scalar.cmpi .eq v2 c10_i32_66
  let c14_i32_67 : BitVec 32 := 14#32
  let c9_i32_64 : BitVec 32 := 9#32
  let v79 : BitVec 1 := Scalar.cmpi .eq v2 c9_i32_64
  let c5_i32_65 : BitVec 32 := 5#32
  let c8_i32_62 : BitVec 32 := 8#32
  let v77 : BitVec 1 := Scalar.cmpi .eq v2 c8_i32_62
  let c12_i32_63 : BitVec 32 := 12#32
  let c7_i32_60 : BitVec 32 := 7#32
  let v75 : BitVec 1 := Scalar.cmpi .eq v2 c7_i32_60
  let c3_i32_61 : BitVec 32 := 3#32
  let c6_i32_58 : BitVec 32 := 6#32
  let v73 : BitVec 1 := Scalar.cmpi .eq v2 c6_i32_58
  let c10_i32_59 : BitVec 32 := 10#32
  let c5_i32_56 : BitVec 32 := 5#32
  let v71 : BitVec 1 := Scalar.cmpi .eq v2 c5_i32_56
  let c1_i32_57 : BitVec 32 := 1#32
  let c4_i32_54 : BitVec 32 := 4#32
  let v69 : BitVec 1 := Scalar.cmpi .eq v2 c4_i32_54
  let c8_i32_55 : BitVec 32 := 8#32
  let c3_i32_52 : BitVec 32 := 3#32
  let v67 : BitVec 1 := Scalar.cmpi .eq v2 c3_i32_52
  let c2_i32_53 : BitVec 32 := 2#32
  let c2_i32_50 : BitVec 32 := 2#32
  let v65 : BitVec 1 := Scalar.cmpi .eq v2 c2_i32_50
  let c6_i32_51 : BitVec 32 := 6#32
  let c1_i32_47 : BitVec 32 := 1#32
  let v63 : BitVec 1 := Scalar.cmpi .eq v2 c1_i32_47
  let c0_i32_48 : BitVec 32 := 0#32
  let c4_i32_49 : BitVec 32 := 4#32
  let v64 : BitVec 32 := Scalar.select v63 c0_i32_48 c4_i32_49
  let v66 : BitVec 32 := Scalar.select v65 c6_i32_51 v64
  let v68 : BitVec 32 := Scalar.select v67 c2_i32_53 v66
  let v70 : BitVec 32 := Scalar.select v69 c8_i32_55 v68
  let v72 : BitVec 32 := Scalar.select v71 c1_i32_57 v70
  let v74 : BitVec 32 := Scalar.select v73 c10_i32_59 v72
  let v76 : BitVec 32 := Scalar.select v75 c3_i32_61 v74
  let v78 : BitVec 32 := Scalar.select v77 c12_i32_63 v76
  let v80 : BitVec 32 := Scalar.select v79 c5_i32_65 v78
  let v82 : BitVec 32 := Scalar.select v81 c14_i32_67 v80
  let v84 : BitVec 32 := Scalar.select v83 c7_i32_69 v82
  let v86 : BitVec 32 := Scalar.select v85 c15_i32_71 v84
  let v88 : BitVec 32 := Scalar.select v87 c9_i32_73 v86
  let v90 : BitVec 32 := Scalar.select v89 c13_i32_75 v88
  let v92 : BitVec 32 := Scalar.select v91 c11_i32_77 v90
  let c1_i32_6080 : BitVec 32 := 1#32
  let v6639 : BitVec 32 := Scalar.muli v92 c1_i32_6080
  let v6640 : BitVec 32 := Scalar.addi c0_i32_6081 v6639
  v6640.toNat
def k0_dev116 (d0 : Dev nD) : Nat :=
  let c0_i32_6129 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c12_i32_46 : BitVec 32 := 12#32
  let c14_i32_43 : BitVec 32 := 14#32
  let v59 : BitVec 1 := Scalar.cmpi .eq v2 c14_i32_43
  let c10_i32_44 : BitVec 32 := 10#32
  let c13_i32_41 : BitVec 32 := 13#32
  let v57 : BitVec 1 := Scalar.cmpi .eq v2 c13_i32_41
  let c14_i32_42 : BitVec 32 := 14#32
  let c12_i32_39 : BitVec 32 := 12#32
  let v55 : BitVec 1 := Scalar.cmpi .eq v2 c12_i32_39
  let c8_i32_40 : BitVec 32 := 8#32
  let c11_i32_37 : BitVec 32 := 11#32
  let v53 : BitVec 1 := Scalar.cmpi .eq v2 c11_i32_37
  let c15_i32_38 : BitVec 32 := 15#32
  let c10_i32_35 : BitVec 32 := 10#32
  let v51 : BitVec 1 := Scalar.cmpi .eq v2 c10_i32_35
  let c6_i32_36 : BitVec 32 := 6#32
  let c9_i32_33 : BitVec 32 := 9#32
  let v49 : BitVec 1 := Scalar.cmpi .eq v2 c9_i32_33
  let c13_i32_34 : BitVec 32 := 13#32
  let c8_i32_31 : BitVec 32 := 8#32
  let v47 : BitVec 1 := Scalar.cmpi .eq v2 c8_i32_31
  let c4_i32_32 : BitVec 32 := 4#32
  let c7_i32_29 : BitVec 32 := 7#32
  let v45 : BitVec 1 := Scalar.cmpi .eq v2 c7_i32_29
  let c11_i32_30 : BitVec 32 := 11#32
  let c6_i32_27 : BitVec 32 := 6#32
  let v43 : BitVec 1 := Scalar.cmpi .eq v2 c6_i32_27
  let c2_i32_28 : BitVec 32 := 2#32
  let c5_i32_25 : BitVec 32 := 5#32
  let v41 : BitVec 1 := Scalar.cmpi .eq v2 c5_i32_25
  let c9_i32_26 : BitVec 32 := 9#32
  let c4_i32_23 : BitVec 32 := 4#32
  let v39 : BitVec 1 := Scalar.cmpi .eq v2 c4_i32_23
  let c0_i32_24 : BitVec 32 := 0#32
  let c3_i32_21 : BitVec 32 := 3#32
  let v37 : BitVec 1 := Scalar.cmpi .eq v2 c3_i32_21
  let c7_i32_22 : BitVec 32 := 7#32
  let c2_i32_19 : BitVec 32 := 2#32
  let v35 : BitVec 1 := Scalar.cmpi .eq v2 c2_i32_19
  let c3_i32_20 : BitVec 32 := 3#32
  let c1_i32_16 : BitVec 32 := 1#32
  let v33 : BitVec 1 := Scalar.cmpi .eq v2 c1_i32_16
  let c5_i32_17 : BitVec 32 := 5#32
  let c1_i32_18 : BitVec 32 := 1#32
  let v34 : BitVec 32 := Scalar.select v33 c5_i32_17 c1_i32_18
  let v36 : BitVec 32 := Scalar.select v35 c3_i32_20 v34
  let v38 : BitVec 32 := Scalar.select v37 c7_i32_22 v36
  let v40 : BitVec 32 := Scalar.select v39 c0_i32_24 v38
  let v42 : BitVec 32 := Scalar.select v41 c9_i32_26 v40
  let v44 : BitVec 32 := Scalar.select v43 c2_i32_28 v42
  let v46 : BitVec 32 := Scalar.select v45 c11_i32_30 v44
  let v48 : BitVec 32 := Scalar.select v47 c4_i32_32 v46
  let v50 : BitVec 32 := Scalar.select v49 c13_i32_34 v48
  let v52 : BitVec 32 := Scalar.select v51 c6_i32_36 v50
  let v54 : BitVec 32 := Scalar.select v53 c15_i32_38 v52
  let v56 : BitVec 32 := Scalar.select v55 c8_i32_40 v54
  let v58 : BitVec 32 := Scalar.select v57 c14_i32_42 v56
  let v60 : BitVec 32 := Scalar.select v59 c10_i32_44 v58
  let v62 : BitVec 32 := Scalar.select v61 c12_i32_46 v60
  let c1_i32_6128 : BitVec 32 := 1#32
  let v6694 : BitVec 32 := Scalar.muli v62 c1_i32_6128
  let v6695 : BitVec 32 := Scalar.addi c0_i32_6129 v6694
  v6695.toNat
def k0_dev117 (d0 : Dev nD) : Nat :=
  let c0_i32_6177 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c11_i32_77 : BitVec 32 := 11#32
  let c14_i32_74 : BitVec 32 := 14#32
  let v89 : BitVec 1 := Scalar.cmpi .eq v2 c14_i32_74
  let c13_i32_75 : BitVec 32 := 13#32
  let c13_i32_72 : BitVec 32 := 13#32
  let v87 : BitVec 1 := Scalar.cmpi .eq v2 c13_i32_72
  let c9_i32_73 : BitVec 32 := 9#32
  let c12_i32_70 : BitVec 32 := 12#32
  let v85 : BitVec 1 := Scalar.cmpi .eq v2 c12_i32_70
  let c15_i32_71 : BitVec 32 := 15#32
  let c11_i32_68 : BitVec 32 := 11#32
  let v83 : BitVec 1 := Scalar.cmpi .eq v2 c11_i32_68
  let c7_i32_69 : BitVec 32 := 7#32
  let c10_i32_66 : BitVec 32 := 10#32
  let v81 : BitVec 1 := Scalar.cmpi .eq v2 c10_i32_66
  let c14_i32_67 : BitVec 32 := 14#32
  let c9_i32_64 : BitVec 32 := 9#32
  let v79 : BitVec 1 := Scalar.cmpi .eq v2 c9_i32_64
  let c5_i32_65 : BitVec 32 := 5#32
  let c8_i32_62 : BitVec 32 := 8#32
  let v77 : BitVec 1 := Scalar.cmpi .eq v2 c8_i32_62
  let c12_i32_63 : BitVec 32 := 12#32
  let c7_i32_60 : BitVec 32 := 7#32
  let v75 : BitVec 1 := Scalar.cmpi .eq v2 c7_i32_60
  let c3_i32_61 : BitVec 32 := 3#32
  let c6_i32_58 : BitVec 32 := 6#32
  let v73 : BitVec 1 := Scalar.cmpi .eq v2 c6_i32_58
  let c10_i32_59 : BitVec 32 := 10#32
  let c5_i32_56 : BitVec 32 := 5#32
  let v71 : BitVec 1 := Scalar.cmpi .eq v2 c5_i32_56
  let c1_i32_57 : BitVec 32 := 1#32
  let c4_i32_54 : BitVec 32 := 4#32
  let v69 : BitVec 1 := Scalar.cmpi .eq v2 c4_i32_54
  let c8_i32_55 : BitVec 32 := 8#32
  let c3_i32_52 : BitVec 32 := 3#32
  let v67 : BitVec 1 := Scalar.cmpi .eq v2 c3_i32_52
  let c2_i32_53 : BitVec 32 := 2#32
  let c2_i32_50 : BitVec 32 := 2#32
  let v65 : BitVec 1 := Scalar.cmpi .eq v2 c2_i32_50
  let c6_i32_51 : BitVec 32 := 6#32
  let c1_i32_47 : BitVec 32 := 1#32
  let v63 : BitVec 1 := Scalar.cmpi .eq v2 c1_i32_47
  let c0_i32_48 : BitVec 32 := 0#32
  let c4_i32_49 : BitVec 32 := 4#32
  let v64 : BitVec 32 := Scalar.select v63 c0_i32_48 c4_i32_49
  let v66 : BitVec 32 := Scalar.select v65 c6_i32_51 v64
  let v68 : BitVec 32 := Scalar.select v67 c2_i32_53 v66
  let v70 : BitVec 32 := Scalar.select v69 c8_i32_55 v68
  let v72 : BitVec 32 := Scalar.select v71 c1_i32_57 v70
  let v74 : BitVec 32 := Scalar.select v73 c10_i32_59 v72
  let v76 : BitVec 32 := Scalar.select v75 c3_i32_61 v74
  let v78 : BitVec 32 := Scalar.select v77 c12_i32_63 v76
  let v80 : BitVec 32 := Scalar.select v79 c5_i32_65 v78
  let v82 : BitVec 32 := Scalar.select v81 c14_i32_67 v80
  let v84 : BitVec 32 := Scalar.select v83 c7_i32_69 v82
  let v86 : BitVec 32 := Scalar.select v85 c15_i32_71 v84
  let v88 : BitVec 32 := Scalar.select v87 c9_i32_73 v86
  let v90 : BitVec 32 := Scalar.select v89 c13_i32_75 v88
  let v92 : BitVec 32 := Scalar.select v91 c11_i32_77 v90
  let c1_i32_6176 : BitVec 32 := 1#32
  let v6749 : BitVec 32 := Scalar.muli v92 c1_i32_6176
  let v6750 : BitVec 32 := Scalar.addi c0_i32_6177 v6749
  v6750.toNat
def k0_dev118 (d0 : Dev nD) : Nat :=
  let c0_i32_6225 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c12_i32_46 : BitVec 32 := 12#32
  let c14_i32_43 : BitVec 32 := 14#32
  let v59 : BitVec 1 := Scalar.cmpi .eq v2 c14_i32_43
  let c10_i32_44 : BitVec 32 := 10#32
  let c13_i32_41 : BitVec 32 := 13#32
  let v57 : BitVec 1 := Scalar.cmpi .eq v2 c13_i32_41
  let c14_i32_42 : BitVec 32 := 14#32
  let c12_i32_39 : BitVec 32 := 12#32
  let v55 : BitVec 1 := Scalar.cmpi .eq v2 c12_i32_39
  let c8_i32_40 : BitVec 32 := 8#32
  let c11_i32_37 : BitVec 32 := 11#32
  let v53 : BitVec 1 := Scalar.cmpi .eq v2 c11_i32_37
  let c15_i32_38 : BitVec 32 := 15#32
  let c10_i32_35 : BitVec 32 := 10#32
  let v51 : BitVec 1 := Scalar.cmpi .eq v2 c10_i32_35
  let c6_i32_36 : BitVec 32 := 6#32
  let c9_i32_33 : BitVec 32 := 9#32
  let v49 : BitVec 1 := Scalar.cmpi .eq v2 c9_i32_33
  let c13_i32_34 : BitVec 32 := 13#32
  let c8_i32_31 : BitVec 32 := 8#32
  let v47 : BitVec 1 := Scalar.cmpi .eq v2 c8_i32_31
  let c4_i32_32 : BitVec 32 := 4#32
  let c7_i32_29 : BitVec 32 := 7#32
  let v45 : BitVec 1 := Scalar.cmpi .eq v2 c7_i32_29
  let c11_i32_30 : BitVec 32 := 11#32
  let c6_i32_27 : BitVec 32 := 6#32
  let v43 : BitVec 1 := Scalar.cmpi .eq v2 c6_i32_27
  let c2_i32_28 : BitVec 32 := 2#32
  let c5_i32_25 : BitVec 32 := 5#32
  let v41 : BitVec 1 := Scalar.cmpi .eq v2 c5_i32_25
  let c9_i32_26 : BitVec 32 := 9#32
  let c4_i32_23 : BitVec 32 := 4#32
  let v39 : BitVec 1 := Scalar.cmpi .eq v2 c4_i32_23
  let c0_i32_24 : BitVec 32 := 0#32
  let c3_i32_21 : BitVec 32 := 3#32
  let v37 : BitVec 1 := Scalar.cmpi .eq v2 c3_i32_21
  let c7_i32_22 : BitVec 32 := 7#32
  let c2_i32_19 : BitVec 32 := 2#32
  let v35 : BitVec 1 := Scalar.cmpi .eq v2 c2_i32_19
  let c3_i32_20 : BitVec 32 := 3#32
  let c1_i32_16 : BitVec 32 := 1#32
  let v33 : BitVec 1 := Scalar.cmpi .eq v2 c1_i32_16
  let c5_i32_17 : BitVec 32 := 5#32
  let c1_i32_18 : BitVec 32 := 1#32
  let v34 : BitVec 32 := Scalar.select v33 c5_i32_17 c1_i32_18
  let v36 : BitVec 32 := Scalar.select v35 c3_i32_20 v34
  let v38 : BitVec 32 := Scalar.select v37 c7_i32_22 v36
  let v40 : BitVec 32 := Scalar.select v39 c0_i32_24 v38
  let v42 : BitVec 32 := Scalar.select v41 c9_i32_26 v40
  let v44 : BitVec 32 := Scalar.select v43 c2_i32_28 v42
  let v46 : BitVec 32 := Scalar.select v45 c11_i32_30 v44
  let v48 : BitVec 32 := Scalar.select v47 c4_i32_32 v46
  let v50 : BitVec 32 := Scalar.select v49 c13_i32_34 v48
  let v52 : BitVec 32 := Scalar.select v51 c6_i32_36 v50
  let v54 : BitVec 32 := Scalar.select v53 c15_i32_38 v52
  let v56 : BitVec 32 := Scalar.select v55 c8_i32_40 v54
  let v58 : BitVec 32 := Scalar.select v57 c14_i32_42 v56
  let v60 : BitVec 32 := Scalar.select v59 c10_i32_44 v58
  let v62 : BitVec 32 := Scalar.select v61 c12_i32_46 v60
  let c1_i32_6224 : BitVec 32 := 1#32
  let v6804 : BitVec 32 := Scalar.muli v62 c1_i32_6224
  let v6805 : BitVec 32 := Scalar.addi c0_i32_6225 v6804
  v6805.toNat
def k0_dev119 (d0 : Dev nD) : Nat :=
  let c0_i32_6304 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c12_i32_46 : BitVec 32 := 12#32
  let c14_i32_43 : BitVec 32 := 14#32
  let v59 : BitVec 1 := Scalar.cmpi .eq v2 c14_i32_43
  let c10_i32_44 : BitVec 32 := 10#32
  let c13_i32_41 : BitVec 32 := 13#32
  let v57 : BitVec 1 := Scalar.cmpi .eq v2 c13_i32_41
  let c14_i32_42 : BitVec 32 := 14#32
  let c12_i32_39 : BitVec 32 := 12#32
  let v55 : BitVec 1 := Scalar.cmpi .eq v2 c12_i32_39
  let c8_i32_40 : BitVec 32 := 8#32
  let c11_i32_37 : BitVec 32 := 11#32
  let v53 : BitVec 1 := Scalar.cmpi .eq v2 c11_i32_37
  let c15_i32_38 : BitVec 32 := 15#32
  let c10_i32_35 : BitVec 32 := 10#32
  let v51 : BitVec 1 := Scalar.cmpi .eq v2 c10_i32_35
  let c6_i32_36 : BitVec 32 := 6#32
  let c9_i32_33 : BitVec 32 := 9#32
  let v49 : BitVec 1 := Scalar.cmpi .eq v2 c9_i32_33
  let c13_i32_34 : BitVec 32 := 13#32
  let c8_i32_31 : BitVec 32 := 8#32
  let v47 : BitVec 1 := Scalar.cmpi .eq v2 c8_i32_31
  let c4_i32_32 : BitVec 32 := 4#32
  let c7_i32_29 : BitVec 32 := 7#32
  let v45 : BitVec 1 := Scalar.cmpi .eq v2 c7_i32_29
  let c11_i32_30 : BitVec 32 := 11#32
  let c6_i32_27 : BitVec 32 := 6#32
  let v43 : BitVec 1 := Scalar.cmpi .eq v2 c6_i32_27
  let c2_i32_28 : BitVec 32 := 2#32
  let c5_i32_25 : BitVec 32 := 5#32
  let v41 : BitVec 1 := Scalar.cmpi .eq v2 c5_i32_25
  let c9_i32_26 : BitVec 32 := 9#32
  let c4_i32_23 : BitVec 32 := 4#32
  let v39 : BitVec 1 := Scalar.cmpi .eq v2 c4_i32_23
  let c0_i32_24 : BitVec 32 := 0#32
  let c3_i32_21 : BitVec 32 := 3#32
  let v37 : BitVec 1 := Scalar.cmpi .eq v2 c3_i32_21
  let c7_i32_22 : BitVec 32 := 7#32
  let c2_i32_19 : BitVec 32 := 2#32
  let v35 : BitVec 1 := Scalar.cmpi .eq v2 c2_i32_19
  let c3_i32_20 : BitVec 32 := 3#32
  let c1_i32_16 : BitVec 32 := 1#32
  let v33 : BitVec 1 := Scalar.cmpi .eq v2 c1_i32_16
  let c5_i32_17 : BitVec 32 := 5#32
  let c1_i32_18 : BitVec 32 := 1#32
  let v34 : BitVec 32 := Scalar.select v33 c5_i32_17 c1_i32_18
  let v36 : BitVec 32 := Scalar.select v35 c3_i32_20 v34
  let v38 : BitVec 32 := Scalar.select v37 c7_i32_22 v36
  let v40 : BitVec 32 := Scalar.select v39 c0_i32_24 v38
  let v42 : BitVec 32 := Scalar.select v41 c9_i32_26 v40
  let v44 : BitVec 32 := Scalar.select v43 c2_i32_28 v42
  let v46 : BitVec 32 := Scalar.select v45 c11_i32_30 v44
  let v48 : BitVec 32 := Scalar.select v47 c4_i32_32 v46
  let v50 : BitVec 32 := Scalar.select v49 c13_i32_34 v48
  let v52 : BitVec 32 := Scalar.select v51 c6_i32_36 v50
  let v54 : BitVec 32 := Scalar.select v53 c15_i32_38 v52
  let v56 : BitVec 32 := Scalar.select v55 c8_i32_40 v54
  let v58 : BitVec 32 := Scalar.select v57 c14_i32_42 v56
  let v60 : BitVec 32 := Scalar.select v59 c10_i32_44 v58
  let v62 : BitVec 32 := Scalar.select v61 c12_i32_46 v60
  let c1_i32_6303 : BitVec 32 := 1#32
  let v6893 : BitVec 32 := Scalar.muli v62 c1_i32_6303
  let v6894 : BitVec 32 := Scalar.addi c0_i32_6304 v6893
  v6894.toNat
def k0_dev120 (d0 : Dev nD) : Nat :=
  let c0_i32_6383 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c12_i32_46 : BitVec 32 := 12#32
  let c14_i32_43 : BitVec 32 := 14#32
  let v59 : BitVec 1 := Scalar.cmpi .eq v2 c14_i32_43
  let c10_i32_44 : BitVec 32 := 10#32
  let c13_i32_41 : BitVec 32 := 13#32
  let v57 : BitVec 1 := Scalar.cmpi .eq v2 c13_i32_41
  let c14_i32_42 : BitVec 32 := 14#32
  let c12_i32_39 : BitVec 32 := 12#32
  let v55 : BitVec 1 := Scalar.cmpi .eq v2 c12_i32_39
  let c8_i32_40 : BitVec 32 := 8#32
  let c11_i32_37 : BitVec 32 := 11#32
  let v53 : BitVec 1 := Scalar.cmpi .eq v2 c11_i32_37
  let c15_i32_38 : BitVec 32 := 15#32
  let c10_i32_35 : BitVec 32 := 10#32
  let v51 : BitVec 1 := Scalar.cmpi .eq v2 c10_i32_35
  let c6_i32_36 : BitVec 32 := 6#32
  let c9_i32_33 : BitVec 32 := 9#32
  let v49 : BitVec 1 := Scalar.cmpi .eq v2 c9_i32_33
  let c13_i32_34 : BitVec 32 := 13#32
  let c8_i32_31 : BitVec 32 := 8#32
  let v47 : BitVec 1 := Scalar.cmpi .eq v2 c8_i32_31
  let c4_i32_32 : BitVec 32 := 4#32
  let c7_i32_29 : BitVec 32 := 7#32
  let v45 : BitVec 1 := Scalar.cmpi .eq v2 c7_i32_29
  let c11_i32_30 : BitVec 32 := 11#32
  let c6_i32_27 : BitVec 32 := 6#32
  let v43 : BitVec 1 := Scalar.cmpi .eq v2 c6_i32_27
  let c2_i32_28 : BitVec 32 := 2#32
  let c5_i32_25 : BitVec 32 := 5#32
  let v41 : BitVec 1 := Scalar.cmpi .eq v2 c5_i32_25
  let c9_i32_26 : BitVec 32 := 9#32
  let c4_i32_23 : BitVec 32 := 4#32
  let v39 : BitVec 1 := Scalar.cmpi .eq v2 c4_i32_23
  let c0_i32_24 : BitVec 32 := 0#32
  let c3_i32_21 : BitVec 32 := 3#32
  let v37 : BitVec 1 := Scalar.cmpi .eq v2 c3_i32_21
  let c7_i32_22 : BitVec 32 := 7#32
  let c2_i32_19 : BitVec 32 := 2#32
  let v35 : BitVec 1 := Scalar.cmpi .eq v2 c2_i32_19
  let c3_i32_20 : BitVec 32 := 3#32
  let c1_i32_16 : BitVec 32 := 1#32
  let v33 : BitVec 1 := Scalar.cmpi .eq v2 c1_i32_16
  let c5_i32_17 : BitVec 32 := 5#32
  let c1_i32_18 : BitVec 32 := 1#32
  let v34 : BitVec 32 := Scalar.select v33 c5_i32_17 c1_i32_18
  let v36 : BitVec 32 := Scalar.select v35 c3_i32_20 v34
  let v38 : BitVec 32 := Scalar.select v37 c7_i32_22 v36
  let v40 : BitVec 32 := Scalar.select v39 c0_i32_24 v38
  let v42 : BitVec 32 := Scalar.select v41 c9_i32_26 v40
  let v44 : BitVec 32 := Scalar.select v43 c2_i32_28 v42
  let v46 : BitVec 32 := Scalar.select v45 c11_i32_30 v44
  let v48 : BitVec 32 := Scalar.select v47 c4_i32_32 v46
  let v50 : BitVec 32 := Scalar.select v49 c13_i32_34 v48
  let v52 : BitVec 32 := Scalar.select v51 c6_i32_36 v50
  let v54 : BitVec 32 := Scalar.select v53 c15_i32_38 v52
  let v56 : BitVec 32 := Scalar.select v55 c8_i32_40 v54
  let v58 : BitVec 32 := Scalar.select v57 c14_i32_42 v56
  let v60 : BitVec 32 := Scalar.select v59 c10_i32_44 v58
  let v62 : BitVec 32 := Scalar.select v61 c12_i32_46 v60
  let c1_i32_6382 : BitVec 32 := 1#32
  let v6982 : BitVec 32 := Scalar.muli v62 c1_i32_6382
  let v6983 : BitVec 32 := Scalar.addi c0_i32_6383 v6982
  v6983.toNat
def k0_dev121 (d0 : Dev nD) : Nat :=
  let c0_i32_6462 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c12_i32_46 : BitVec 32 := 12#32
  let c14_i32_43 : BitVec 32 := 14#32
  let v59 : BitVec 1 := Scalar.cmpi .eq v2 c14_i32_43
  let c10_i32_44 : BitVec 32 := 10#32
  let c13_i32_41 : BitVec 32 := 13#32
  let v57 : BitVec 1 := Scalar.cmpi .eq v2 c13_i32_41
  let c14_i32_42 : BitVec 32 := 14#32
  let c12_i32_39 : BitVec 32 := 12#32
  let v55 : BitVec 1 := Scalar.cmpi .eq v2 c12_i32_39
  let c8_i32_40 : BitVec 32 := 8#32
  let c11_i32_37 : BitVec 32 := 11#32
  let v53 : BitVec 1 := Scalar.cmpi .eq v2 c11_i32_37
  let c15_i32_38 : BitVec 32 := 15#32
  let c10_i32_35 : BitVec 32 := 10#32
  let v51 : BitVec 1 := Scalar.cmpi .eq v2 c10_i32_35
  let c6_i32_36 : BitVec 32 := 6#32
  let c9_i32_33 : BitVec 32 := 9#32
  let v49 : BitVec 1 := Scalar.cmpi .eq v2 c9_i32_33
  let c13_i32_34 : BitVec 32 := 13#32
  let c8_i32_31 : BitVec 32 := 8#32
  let v47 : BitVec 1 := Scalar.cmpi .eq v2 c8_i32_31
  let c4_i32_32 : BitVec 32 := 4#32
  let c7_i32_29 : BitVec 32 := 7#32
  let v45 : BitVec 1 := Scalar.cmpi .eq v2 c7_i32_29
  let c11_i32_30 : BitVec 32 := 11#32
  let c6_i32_27 : BitVec 32 := 6#32
  let v43 : BitVec 1 := Scalar.cmpi .eq v2 c6_i32_27
  let c2_i32_28 : BitVec 32 := 2#32
  let c5_i32_25 : BitVec 32 := 5#32
  let v41 : BitVec 1 := Scalar.cmpi .eq v2 c5_i32_25
  let c9_i32_26 : BitVec 32 := 9#32
  let c4_i32_23 : BitVec 32 := 4#32
  let v39 : BitVec 1 := Scalar.cmpi .eq v2 c4_i32_23
  let c0_i32_24 : BitVec 32 := 0#32
  let c3_i32_21 : BitVec 32 := 3#32
  let v37 : BitVec 1 := Scalar.cmpi .eq v2 c3_i32_21
  let c7_i32_22 : BitVec 32 := 7#32
  let c2_i32_19 : BitVec 32 := 2#32
  let v35 : BitVec 1 := Scalar.cmpi .eq v2 c2_i32_19
  let c3_i32_20 : BitVec 32 := 3#32
  let c1_i32_16 : BitVec 32 := 1#32
  let v33 : BitVec 1 := Scalar.cmpi .eq v2 c1_i32_16
  let c5_i32_17 : BitVec 32 := 5#32
  let c1_i32_18 : BitVec 32 := 1#32
  let v34 : BitVec 32 := Scalar.select v33 c5_i32_17 c1_i32_18
  let v36 : BitVec 32 := Scalar.select v35 c3_i32_20 v34
  let v38 : BitVec 32 := Scalar.select v37 c7_i32_22 v36
  let v40 : BitVec 32 := Scalar.select v39 c0_i32_24 v38
  let v42 : BitVec 32 := Scalar.select v41 c9_i32_26 v40
  let v44 : BitVec 32 := Scalar.select v43 c2_i32_28 v42
  let v46 : BitVec 32 := Scalar.select v45 c11_i32_30 v44
  let v48 : BitVec 32 := Scalar.select v47 c4_i32_32 v46
  let v50 : BitVec 32 := Scalar.select v49 c13_i32_34 v48
  let v52 : BitVec 32 := Scalar.select v51 c6_i32_36 v50
  let v54 : BitVec 32 := Scalar.select v53 c15_i32_38 v52
  let v56 : BitVec 32 := Scalar.select v55 c8_i32_40 v54
  let v58 : BitVec 32 := Scalar.select v57 c14_i32_42 v56
  let v60 : BitVec 32 := Scalar.select v59 c10_i32_44 v58
  let v62 : BitVec 32 := Scalar.select v61 c12_i32_46 v60
  let c1_i32_6461 : BitVec 32 := 1#32
  let v7071 : BitVec 32 := Scalar.muli v62 c1_i32_6461
  let v7072 : BitVec 32 := Scalar.addi c0_i32_6462 v7071
  v7072.toNat
def k0_dev122 (d0 : Dev nD) : Nat :=
  let c0_i32_6541 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c12_i32_46 : BitVec 32 := 12#32
  let c14_i32_43 : BitVec 32 := 14#32
  let v59 : BitVec 1 := Scalar.cmpi .eq v2 c14_i32_43
  let c10_i32_44 : BitVec 32 := 10#32
  let c13_i32_41 : BitVec 32 := 13#32
  let v57 : BitVec 1 := Scalar.cmpi .eq v2 c13_i32_41
  let c14_i32_42 : BitVec 32 := 14#32
  let c12_i32_39 : BitVec 32 := 12#32
  let v55 : BitVec 1 := Scalar.cmpi .eq v2 c12_i32_39
  let c8_i32_40 : BitVec 32 := 8#32
  let c11_i32_37 : BitVec 32 := 11#32
  let v53 : BitVec 1 := Scalar.cmpi .eq v2 c11_i32_37
  let c15_i32_38 : BitVec 32 := 15#32
  let c10_i32_35 : BitVec 32 := 10#32
  let v51 : BitVec 1 := Scalar.cmpi .eq v2 c10_i32_35
  let c6_i32_36 : BitVec 32 := 6#32
  let c9_i32_33 : BitVec 32 := 9#32
  let v49 : BitVec 1 := Scalar.cmpi .eq v2 c9_i32_33
  let c13_i32_34 : BitVec 32 := 13#32
  let c8_i32_31 : BitVec 32 := 8#32
  let v47 : BitVec 1 := Scalar.cmpi .eq v2 c8_i32_31
  let c4_i32_32 : BitVec 32 := 4#32
  let c7_i32_29 : BitVec 32 := 7#32
  let v45 : BitVec 1 := Scalar.cmpi .eq v2 c7_i32_29
  let c11_i32_30 : BitVec 32 := 11#32
  let c6_i32_27 : BitVec 32 := 6#32
  let v43 : BitVec 1 := Scalar.cmpi .eq v2 c6_i32_27
  let c2_i32_28 : BitVec 32 := 2#32
  let c5_i32_25 : BitVec 32 := 5#32
  let v41 : BitVec 1 := Scalar.cmpi .eq v2 c5_i32_25
  let c9_i32_26 : BitVec 32 := 9#32
  let c4_i32_23 : BitVec 32 := 4#32
  let v39 : BitVec 1 := Scalar.cmpi .eq v2 c4_i32_23
  let c0_i32_24 : BitVec 32 := 0#32
  let c3_i32_21 : BitVec 32 := 3#32
  let v37 : BitVec 1 := Scalar.cmpi .eq v2 c3_i32_21
  let c7_i32_22 : BitVec 32 := 7#32
  let c2_i32_19 : BitVec 32 := 2#32
  let v35 : BitVec 1 := Scalar.cmpi .eq v2 c2_i32_19
  let c3_i32_20 : BitVec 32 := 3#32
  let c1_i32_16 : BitVec 32 := 1#32
  let v33 : BitVec 1 := Scalar.cmpi .eq v2 c1_i32_16
  let c5_i32_17 : BitVec 32 := 5#32
  let c1_i32_18 : BitVec 32 := 1#32
  let v34 : BitVec 32 := Scalar.select v33 c5_i32_17 c1_i32_18
  let v36 : BitVec 32 := Scalar.select v35 c3_i32_20 v34
  let v38 : BitVec 32 := Scalar.select v37 c7_i32_22 v36
  let v40 : BitVec 32 := Scalar.select v39 c0_i32_24 v38
  let v42 : BitVec 32 := Scalar.select v41 c9_i32_26 v40
  let v44 : BitVec 32 := Scalar.select v43 c2_i32_28 v42
  let v46 : BitVec 32 := Scalar.select v45 c11_i32_30 v44
  let v48 : BitVec 32 := Scalar.select v47 c4_i32_32 v46
  let v50 : BitVec 32 := Scalar.select v49 c13_i32_34 v48
  let v52 : BitVec 32 := Scalar.select v51 c6_i32_36 v50
  let v54 : BitVec 32 := Scalar.select v53 c15_i32_38 v52
  let v56 : BitVec 32 := Scalar.select v55 c8_i32_40 v54
  let v58 : BitVec 32 := Scalar.select v57 c14_i32_42 v56
  let v60 : BitVec 32 := Scalar.select v59 c10_i32_44 v58
  let v62 : BitVec 32 := Scalar.select v61 c12_i32_46 v60
  let c1_i32_6540 : BitVec 32 := 1#32
  let v7160 : BitVec 32 := Scalar.muli v62 c1_i32_6540
  let v7161 : BitVec 32 := Scalar.addi c0_i32_6541 v7160
  v7161.toNat
abbrev stage0_0 : Fin 1 → Memref sig .tc .vmem S1024x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S1024x1024 : Shape := ⟨2, ![1024, 1024]⟩

abbrev nBuf : Space → Nat
  | .hbm => 3
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.Sched.lean ====
/-
The schedule of the messages, as plain data: which message each stream sends at which step, which block of rows it
carries, and the order in which a device starts and receives its messages. Nothing here mentions a program.
-/
module

public import Idealize.ShloMosaic.Lib.Pipeline.Launch

@[expose] public section

namespace Cert.Ring

/-- A message of a device: its stream (0 … 7) and its slot in that stream (0 … 14). -/
abbrev Msg : Type := Fin 8 × Fin 15

/-- The odd streams go to the next device of the ring, the even ones to the device before. -/
def fwd (st : Fin 8) : Bool := st.val % 2 == 1

/-- The quarter of the columns a stream works on. -/
def piece (st : Fin 8) : Fin 4 := ⟨st.val / 2, by have := st.isLt; omega⟩

/-- A message of the reducing half lands in a communication slot; the others land in the result itself. -/
def red (st : Fin 8) (slot : Fin 15) : Bool := if fwd st then slot.val < 7 else slot.val < 8

/-- The row block a message carries, counted from the sender's rank. -/
def sendJ (st : Fin 8) (slot : Fin 15) : Fin 16 :=
  ⟨(if fwd st then 23 - slot.val else 8 + slot.val) % 16, Nat.mod_lt _ (by decide)⟩

/-- The row block a message carries, counted from the receiver's rank. -/
def recvJ (st : Fin 8) (slot : Fin 15) : Fin 16 :=
  ⟨(if fwd st then 22 - slot.val else 9 + slot.val) % 16, Nat.mod_lt _ (by decide)⟩

/-- The step at which a message is started; it is received at the next. -/
def startK (st : Fin 8) (slot : Fin 15) : Nat := if fwd st && !red st slot then slot.val + 1 else slot.val

/-- The two things a device does with a message of its own stream and slot: start the one it sends, receive the one
    its neighbour sends. -/
inductive Op where
  | s (st : Fin 8) (slot : Fin 15)
  | r (st : Fin 8) (slot : Fin 15)
deriving DecidableEq

/-- What a stream does at step `k`: receive what the step before started, then start the step's own messages. -/
def stepOps (k : Nat) (st : Fin 8) : List Op :=
  (((List.finRange 15).filter fun slot => startK st slot + 1 == k).map fun slot => .r st slot)
    ++ (((List.finRange 15).filter fun slot => startK st slot == k).map fun slot => .s st slot)

/-- Everything a device does after the barrier, in order. -/
def script : List Op := (List.range 17).flatMap fun k => (List.finRange 8).flatMap fun st => stepOps k st

/-- The number of the row block `j` places after rank `r`. -/
def blockOf (r : Nat) (j : Fin 16) : Fin 16 := ⟨(r + j.val) % 16, Nat.mod_lt _ (by decide)⟩

end Cert.Ring

end
-- ==== Proof.Tok.lean ====
/-
What a device holds while it works through its list of messages, as plain data: a list of tokens. Each list entry takes
some tokens and leaves others; `simOK_true` says that from the tokens a device has after the barrier the whole list can
be worked through, and names the tokens that are left. What a token stands for is said where the program is proved.
-/
module

public import proofs.«01_k».proof.Proof.Sched

@[expose] public section

namespace Cert.Ring

/-- What a device can hold. -/
inductive Tok where
  /-- the neighbour's communication slot of a reducing message, to be written -/
  | nc (st : Fin 8) (slot : Fin 15)
  /-- the right to send a message -/
  | tk (st : Fin 8) (slot : Fin 15)
  /-- the right to wait for a message, sent and received -/
  | ps (st : Fin 8) (slot : Fin 15)
  /-- that a message is under way -/
  | cs (st : Fin 8) (slot : Fin 15)
  /-- that both waits of a message are over -/
  | dn (st : Fin 8) (slot : Fin 15)
  /-- its own communication slot, back -/
  | cm (st : Fin 8) (slot : Fin 15)
  /-- the block of the neighbour's result that a reducing message was sent from -/
  | nb (st : Fin 8) (slot : Fin 15)
  /-- the block of its own result in piece `p`, `j` places after its rank; untouched (0), partly summed (1), final (2) -/
  | out (p : Fin 4) (j : Fin 16) (k : Fin 3)
  /-- half a share of its own final block -/
  | half (p : Fin 4) (b : Bool)

/-- A number for each token. -/
def Tok.code : Tok → Nat
  | .nc st slot => 0 + 9 * (st.val + 8 * slot.val)
  | .tk st slot => 1 + 9 * (st.val + 8 * slot.val)
  | .ps st slot => 2 + 9 * (st.val + 8 * slot.val)
  | .cs st slot => 3 + 9 * (st.val + 8 * slot.val)
  | .dn st slot => 4 + 9 * (st.val + 8 * slot.val)
  | .cm st slot => 5 + 9 * (st.val + 8 * slot.val)
  | .nb st slot => 6 + 9 * (st.val + 8 * slot.val)
  | .out p j k => 7 + 9 * (k.val + 3 * (p.val + 4 * j.val))
  | .half p b => 8 + 9 * (p.val + 4 * b.toNat)

/-- Different tokens have different numbers. -/
theorem Tok.code_inj : ∀ {a b : Tok}, a.code = b.code → a = b := by
  intro a b h
  cases a <;> cases b <;> simp only [Tok.code] at h <;> first
    | (rename_i s t s' t'
       first
         | (exfalso; omega)
         | (have h1 : s = s' := by ext; have := s.isLt; have := s'.isLt; omega
            have h2 : t = t' := by ext; have := s.isLt; have := s'.isLt; omega
            subst h1 h2; rfl)
         | (have hb : t = t' := by
              have := s.isLt; have := s'.isLt
              cases t <;> cases t' <;> first | rfl | (exfalso; simp only [Bool.toNat_false, Bool.toNat_true] at h; omega)
            subst hb
            have h1 : s = s' := by ext; omega
            subst h1; rfl))
    | (rename_i p j k p' j' k'
       have := p.isLt; have := p'.isLt; have := k.isLt; have := k'.isLt
       have h1 : p = p' := by ext; omega
       have h2 : j = j' := by ext; omega
       have h3 : k = k' := by ext; omega
       subst h1 h2 h3; rfl)
    | (exfalso; omega)

/-- A list without one of a given token; `none` when it holds none. -/
def takeOne (t : Tok) : List Tok → Option (List Tok)
  | [] => none
  | x :: l => bif x.code == t.code then some l else match takeOne t l with
    | some l' => some (x :: l')
    | none => none

/-- Taking a token out and putting it back gives the list again, up to order. -/
theorem takeOne_perm {t : Tok} : ∀ {l l' : List Tok}, takeOne t l = some l' → l.Perm (t :: l')
  | [], _, h => by cases h
  | x :: l, l', h => by
    unfold takeOne at h
    cases hx : x.code == t.code with
    | true =>
      rw [hx, cond_true] at h
      cases h
      rw [Tok.code_inj (beq_iff_eq.mp hx)]
    | false =>
      rw [hx, cond_false] at h
      cases hl : takeOne t l with
      | none => rw [hl] at h; cases h
      | some l₁ =>
        rw [hl] at h; cases h
        exact ((takeOne_perm hl).cons x).trans (List.Perm.swap t x l₁)

/-- A list without the tokens of another. -/
def takeAll : List Tok → List Tok → Option (List Tok)
  | [], l => some l
  | t :: ts, l => match takeOne t l with
    | some l' => takeAll ts l'
    | none => none

/-- The same for a list of tokens. -/
theorem takeAll_perm : ∀ {ts l l' : List Tok}, takeAll ts l = some l' → l.Perm (ts ++ l')
  | [], _, _, h => by cases h; exact List.Perm.refl _
  | t :: ts, l, l', h => by
    unfold takeAll at h
    cases hl : takeOne t l with
    | none => rw [hl] at h; cases h
    | some l₁ => rw [hl] at h; exact (takeOne_perm hl).trans ((takeAll_perm h).cons t)

/-- The other stream of the same piece. -/
def swapS (st : Fin 8) : Fin 8 := ⟨if st.val % 2 = 0 then st.val + 1 else st.val - 1, by have := st.isLt; split <;> omega⟩
/-- The slot counted from the end. -/
def revS (slot : Fin 15) : Fin 15 := ⟨14 - slot.val, by omega⟩

/-- The second of the two sums into a device's own block. -/
def last (st : Fin 8) (slot : Fin 15) : Bool := red st slot && (recvJ st slot).val == 0 && !fwd st

/-- The block a gathering message is sent from. -/
def srcTok (st : Fin 8) (slot : Fin 15) : Tok :=
  if (sendJ st slot).val = 0 then .half (piece st) (fwd st) else .out (piece st) (sendJ st slot) 2

/-- What an entry takes. -/
def need : Op → List Tok
  | .s st slot => if red st slot then [.tk st slot, .nc st slot, .out (piece st) (sendJ st slot) 1]
      else [.tk st slot, .nb (swapS st) (revS slot), srcTok st slot]
  | .r st slot => if red st slot then [.cs st slot, .ps st slot, .out (piece st) (recvJ st slot) (if last st slot then 1 else 0)]
      else [.cs st slot, .ps st slot]

/-- What an entry leaves. -/
def give : Op → List Tok
  | .s st slot => [.cs st slot]
  | .r st slot => if red st slot then
        [.dn st slot, .cm st slot, .nb st slot]
          ++ (if last st slot then [.half (piece st) false, .half (piece st) true] else [.out (piece st) (recvJ st slot) 1])
      else [.dn st slot, .out (piece st) (recvJ st slot) 2, srcTok st slot]

/-- The tokens left after a list of entries. -/
def sim : List Op → List Tok → Option (List Tok)
  | [], l => some l
  | o :: os, l => match takeAll (need o) l with
    | some l' => sim os (give o ++ l')
    | none => none

/-- All the messages, and the reducing ones. -/
def msgs : List Msg := (List.finRange 8).flatMap fun st => (List.finRange 15).map fun slot => (st, slot)
/-- The reducing messages. -/
def reds : List Msg := msgs.filter fun m => red m.1 m.2
/-- The blocks of the result: piece and place after the rank. -/
def blks : List (Fin 4 × Fin 16) := (List.finRange 4).flatMap fun p => (List.finRange 16).map fun j => (p, j)

/-- How far a block is summed at the start. -/
def stage0 (j : Fin 16) : Fin 3 := if j.val = 7 ∨ j.val = 8 then 1 else 0

/-- The tokens after the barrier. -/
def initToks : List Tok :=
  reds.map (fun m => .nc m.1 m.2) ++ (msgs.map (fun m => .tk m.1 m.2) ++ (msgs.map (fun m => .ps m.1 m.2)
    ++ blks.map fun b => .out b.1 b.2 (stage0 b.2)))
/-- The tokens at the end. -/
def finToks : List Tok :=
  msgs.map (fun m => .dn m.1 m.2) ++ (reds.map (fun m => .cm m.1 m.2)
    ++ (((List.finRange 4).flatMap fun p => [.half p false, .half p true])
      ++ (blks.filter fun b => b.2.val != 0).map fun b => .out b.1 b.2 2))

/-- The whole list can be worked through, and leaves just the final tokens. -/
def simOK : Bool := match sim script initToks with
  | some l => match takeAll finToks l with
    | some [] => true
    | _ => false
  | none => false

set_option maxRecDepth 100000 in
/-- The computation succeeds. -/
theorem simOK_true : simOK = true := by decide +kernel

/-- So from the tokens after the barrier the list can be worked through, and the final tokens are left. -/
theorem sim_script : ∃ l, sim script initToks = some l ∧ l.Perm finToks := by
  have h := simOK_true
  unfold simOK at h
  cases h1 : sim script initToks with
  | none => rw [h1] at h; cases h
  | some l =>
    rw [h1] at h
    refine ⟨l, rfl, ?_⟩
    cases h2 : takeAll finToks l with
    | none => simp only [h2] at h; cases h
    | some l' =>
      simp only [h2] at h
      cases l' with
      | nil => have := takeAll_perm h2; rwa [List.append_nil] at this
      | cons _ _ => cases h

/-- Whenever a message is received, whatever is still to be started starts later than it did. -/
def lateOK : List Op → Bool
  | [] => true
  | .s _ _ :: l => lateOK l
  | .r st slot :: l => (l.all fun | .s a b => Nat.blt (startK st slot) (startK a b) | .r _ _ => true) && lateOK l

set_option maxRecDepth 100000 in
/-- The device's list is in such an order. -/
theorem script_late : lateOK script = true := by decide +kernel

/-- Each message is started once. -/
def starts : List Op → List Msg
  | [] => []
  | .s a b :: l => (a, b) :: starts l
  | .r _ _ :: l => starts l

/-- No message is started twice. -/
theorem starts_nodup : (starts script).Nodup := by decide +kernel
/-- Every message is started. -/
theorem starts_all : ∀ m : Msg, m ∈ starts script := by decide +kernel
/-- The list of messages has no message twice. -/
theorem msgs_nodup : msgs.Nodup := by decide +kernel
/-- It has every message. -/
theorem msgs_all : (Finset.univ : Finset Msg) = msgs.toFinset := by decide +kernel

end Cert.Ring

end
-- ==== Proof.KernelIdeal.Ops.lean ====
/-
The kernel's body, written as a list of messages started and received.

The printed body is a straight line of some seven hundred effects. Here it is read as: one product, the barrier, and
then one short program per list entry (`startAt`, `recvAt`); `body_raw` says that the two are the same program. The
device numbers and the offsets the program computes from the firing device are then replaced by the neighbour on the
ring and the row block's offset (`body_eq`).
-/
module

public import proofs.«01_k».proof.Proof.Sched
public import proofs.«01_k».proof.Proof.Gen.KernelIdeal
public import proofs.«01_k».proof.Proof.Gen.KernelIdeal.Skeleton
public import proofs.«01_k».proof.Proof.Gen.KernelIdeal.Launch

@[expose] public section

set_option maxRecDepth 16384

noncomputable section

namespace Cert.KernelIdeal.Ring

open Cert.KernelIdeal Cert.KernelIdeal.Gen Cert.Ring
open Idealize.ShloMosaic Idealize.ShloMosaic.TcCoe Idealize.SL.Sem

variable {F : FTy → Type} [FloatOps F]

/-! ## The ring -/

/-- The device after `d` on the ring, by number. -/
def nxtN (d : Dev nD) : Nat := (if d.val = 15 then 12 else (if d.val = 14 then 10 else (if d.val = 13 then 14 else (if d.val = 12 then 8 else (if d.val = 11 then 15 else (if d.val = 10 then 6 else (if d.val = 9 then 13 else (if d.val = 8 then 4 else (if d.val = 7 then 11 else (if d.val = 6 then 2 else (if d.val = 5 then 9 else (if d.val = 4 then 0 else (if d.val = 3 then 7 else (if d.val = 2 then 3 else (if d.val = 1 then 5 else 1)))))))))))))))

/-- The device before `d` on the ring, by number. -/
def prvN (d : Dev nD) : Nat := (if d.val = 15 then 11 else (if d.val = 14 then 13 else (if d.val = 13 then 9 else (if d.val = 12 then 15 else (if d.val = 11 then 7 else (if d.val = 10 then 14 else (if d.val = 9 then 5 else (if d.val = 8 then 12 else (if d.val = 7 then 3 else (if d.val = 6 then 10 else (if d.val = 5 then 1 else (if d.val = 4 then 8 else (if d.val = 3 then 2 else (if d.val = 2 then 6 else (if d.val = 1 then 0 else 4)))))))))))))))

/-- The next device is a device, -/
theorem nxtN_lt : ∀ d : Dev nD, nxtN d < nD := by decide +kernel
/-- and so is the one before. -/
theorem prvN_lt : ∀ d : Dev nD, prvN d < nD := by decide +kernel

/-- The device after `d` on the ring. -/
def nxt (d : Dev nD) : Dev nD := ⟨nxtN d, nxtN_lt d⟩
/-- The device before `d` on the ring. -/
def prv (d : Dev nD) : Dev nD := ⟨prvN d, prvN_lt d⟩

/-- The devices in the order of the ring. -/
def devAt (r : Fin 16) : Dev nD := (![0, 1, 5, 9, 13, 14, 10, 6, 2, 3, 7, 11, 15, 12, 8, 4] : Fin 16 → Dev nD) r
/-- A device's place on the ring. -/
def rank (d : Dev nD) : Fin 16 := (![0, 1, 8, 9, 15, 2, 7, 10, 14, 3, 6, 11, 13, 4, 5, 12] : Fin 16 → Fin 16) d

/-- The device at a device's rank is the device. -/
theorem devAt_rank : ∀ d : Dev nD, devAt (rank d) = d := by decide +kernel
/-- The rank of the device at a place is the place. -/
theorem rank_devAt : ∀ r : Fin 16, rank (devAt r) = r := by decide +kernel
/-- The next device's rank is one more, around the ring. -/
theorem rank_nxt : ∀ d : Dev nD, (rank (nxt d)).val = ((rank d).val + 1) % 16 := by decide +kernel
/-- The rank of the device before is one less, around the ring. -/
theorem rank_prv : ∀ d : Dev nD, (rank (prv d)).val = ((rank d).val + 15) % 16 := by decide +kernel
/-- The device after the one before is the device itself, -/
theorem nxt_prv : ∀ d : Dev nD, nxt (prv d) = d := by decide +kernel
/-- and so is the one before the next. -/
theorem prv_nxt : ∀ d : Dev nD, prv (nxt d) = d := by decide +kernel

/-- The number of the device a stream sends to. -/
def toN (d : Dev nD) (st : Fin 8) : Nat := if fwd st then nxtN d else prvN d
/-- The device a stream sends to is a device. -/
theorem toN_lt (d : Dev nD) (st : Fin 8) : toN d st < nD := by unfold toN; split; exact nxtN_lt d; exact prvN_lt d
/-- The device a stream sends to, and the device it hears from. -/
def dst (d : Dev nD) (st : Fin 8) : Dev nD := ⟨toN d st, toN_lt d st⟩
/-- The device a stream's messages come from. -/
def src (d : Dev nD) (st : Fin 8) : Dev nD := if fwd st then prv d else nxt d

/-- Where a stream comes from sends here. -/
theorem dst_src : ∀ (d : Dev nD) (st : Fin 8), dst (src d st) st = d := by decide +kernel
/-- Where a stream goes hears from here. -/
theorem src_dst : ∀ (d : Dev nD) (st : Fin 8), src (dst d st) st = d := by decide +kernel

/-! ## The memrefs and the semaphores -/

/-- The first operand's buffer, -/
abbrev xM : Memref sig .tc .vmem S1024x64 .f32 := Memref.whole cc0_stg0_0
/-- the second's, -/
abbrev wM : Memref sig .tc .vmem S64x1024 .f32 := Memref.whole cc0_stg1_0
/-- the result's, -/
abbrev oM : Memref sig .tc .vmem S1024x1024 .f32 := Memref.whole cc0_stg2_0
/-- and the communication buffer. -/
abbrev cM : Memref sig .tc .vmem S8x8x64x256 .f32 := Memref.whole cc0_scratch0

/-- An offset that leaves room for a block of the result. -/
abbrev InB (off : Fin 2 → Nat) : Prop := ∀ a, off a + S64x256.size a ≤ S1024x1024.size a

/-- The rectangle of a block of the result. -/
abbrev oR (off : Fin 2 → Nat) (h : InB off) : Rect S1024x1024 := Rect.unit (s := S1024x1024) off S64x256.size h
/-- A block of the result, as a memref. -/
abbrev oB (off : Fin 2 → Nat) (h : InB off) : Memref sig .tc .vmem S64x256 .f32 := oM.slice (oR off h) (fun _ => rfl)

/-- Every slot lies in the communication buffer. -/
theorem cInb (st : Fin 8) (k : Fin 8) : ∀ a, (![st.val, k.val, 0, 0] : Fin 4 → Nat) a + S1x1x64x256.size a ≤ S8x8x64x256.size a := by
  revert st k; decide +kernel
/-- The rectangle of a communication slot. -/
abbrev cR (st k : Fin 8) : Rect S8x8x64x256 := Rect.unit (s := S8x8x64x256) ![st.val, k.val, 0, 0] S1x1x64x256.size (cInb st k)
/-- A communication slot as a memref, with its two axes of length one, and without. -/
abbrev cB' (st k : Fin 8) : Memref sig .tc .vmem S1x1x64x256 .f32 := cM.slice (cR st k) (fun _ => rfl)
/-- The slot as a block of 64 rows and 256 columns. -/
abbrev cB (st k : Fin 8) : Memref sig .tc .vmem S64x256 .f32 := (cB' st k).squeeze S64x256 squeezes_S1x1x64x256_S64x256

/-- Every message's semaphore lies in its array. -/
theorem semInb (st : Fin 8) (slot : Fin 15) : ∀ a, (![st.val, slot.val] : Fin 2 → Nat) a + S1x1.size a ≤ S8x15.size a := by
  revert st slot; decide +kernel
/-- One semaphore of an 8 × 15 array of them. -/
abbrev semOf (A : DmaSems sig S8x15) (st : Fin 8) (slot : Fin 15) : DmaSem sig :=
  ((A.slice (Rect.unit (s := S8x15) ![st.val, slot.val] S1x1.size (semInb st slot))).squeeze S_ squeezes_S1x1_S_).sem

/-- The semaphore a message's departure is counted on, and the one its arrival is. -/
def sendS (st : Fin 8) (slot : Fin 15) : DmaSem sig := semOf cc0_scratch1 st slot
/-- The semaphore of a message's arrival. -/
def recvS (st : Fin 8) (slot : Fin 15) : DmaSem sig := semOf cc0_scratch2 st slot

/-- A reducing message's slot number is one of the eight a stream has. -/
def cslot (slot : Fin 15) : Fin 8 := ⟨slot.val % 8, Nat.mod_lt _ (by decide)⟩

/-- The barrier semaphore. -/
abbrev barS : Sems sig S_ := SemArray.scalar (sig.barrier 0 rfl)

/-! ## One message started, one message received -/

/-- The sum the program stores: the block of the result and the communication slot, element by element. -/
def addBlk (v : Vec F S64x256 .f32) (u : Vec F S1x1x64x256 .f32) : FVec F S64x256 .f32 :=
  addf (shapeCast S64x256 v shapeCasts_S64x256_S64x256) (shapeCast S64x256 u shapeCasts_S1x1x64x256_S64x256)

/-- The block at `off` sent to device `n`: into its communication slot, or into the same block of its result. -/
def startAt (n : Dev nD) (st : Fin 8) (slot : Fin 15) (off : Fin 2 → Nat) (h : InB off) :
    Prog (TpuEff nD τ sig (Elt F) Λ₀ .tc) PUnit :=
  bif red st slot then
    Prog.lift (.enqueueDma (oB off h) (.remote (Dev.tc n) (cB st (cslot slot)) (.dma (sendS st slot))) (.dma (recvS st slot))
      (View.wordExact_bits rfl) ((View.wordExact_bits rfl).reshape _ _) ⟨⟨rfl, Or.inl rfl⟩, trivial⟩)
  else
    Prog.lift (.enqueueDma (oB off h) (.remote (Dev.tc n) (oB off h) (.dma (sendS st slot))) (.dma (recvS st slot))
      (View.wordExact_bits rfl) (View.wordExact_bits rfl) ⟨⟨rfl, Or.inl rfl⟩, trivial⟩)

/-- The two waits of a message, on its departure and on its arrival, and the sum when it is a reducing one; `off` is the block
    this device has sent, `off'` the block it receives or adds into. -/
def recvAt (st : Fin 8) (slot : Fin 15) (off off' : Fin 2 → Nat) (h : InB off) (h' : InB off') :
    Prog (TpuEff nD τ sig (Elt F) Λ₀ .tc) PUnit :=
  bif red st slot then do
    Prog.lift (.waitDma2 (sendS st slot) (cB st (cslot slot)) (oB off h) ((View.wordExact_bits rfl).reshape _ _) (View.wordExact_bits rfl))
    Prog.lift (.waitDma2 (recvS st slot) (oB off h) (cB st (cslot slot)) (View.wordExact_bits rfl) ((View.wordExact_bits rfl).reshape _ _))
    let v : Vec F S64x256 .f32 ← Prog.lift (.load oM (oR off' h').toLoadRect (View.loadsAt_vmem h_S64x256))
    let u : Vec F S1x1x64x256 .f32 ← Prog.lift (.load cM (cR st (cslot slot)).toLoadRect (View.loadsAt_vmem h_S1x1x64x256))
    let _ : Vec F S64x256 .f32 ← Prog.lift (.load oM (oR off' h').toLoadRect (View.loadsAt_vmem h_S64x256))
    Prog.lift (.store oM (oR off' h') (addBlk v u) Finset.univ (View.stores_vmem_bits_univ h_S64x256 rfl) (.inl rfl))
  else do
    Prog.lift (.waitDma2 (sendS st slot) (oB off' h') (oB off h) (View.wordExact_bits rfl) (View.wordExact_bits rfl))
    Prog.lift (.waitDma2 (recvS st slot) (oB off h) (oB off' h') (View.wordExact_bits rfl) (View.wordExact_bits rfl))

/-- A list of programs run one after the other. -/
def runAll {α : Type} (f : α → Prog (TpuEff nD τ sig (Elt F) Λ₀ .tc) PUnit) : List α → Prog (TpuEff nD τ sig (Elt F) Λ₀ .tc) PUnit
  | [] => pure ⟨⟩
  | a :: l => f a >>= fun _ => runAll f l

/-- What precedes the messages: the product stored, both neighbours signalled, two signals awaited. -/
def prologue (n n' : Dev nD) : Prog (TpuEff nD τ sig (Elt F) Λ₀ .tc) PUnit := do
  let v : Vec F S1024x64 .f32 ← Prog.lift (.load xM (Rect.unit (s := S1024x64) ![0, 0] S1024x64.size inb_S1024x64_S1024x64_0_0).toLoadRect (View.loadsAt_vmem h_S1024x64))
  let w : Vec F S64x1024 .f32 ← Prog.lift (.load wM (Rect.unit (s := S64x1024) ![0, 0] S64x1024.size inb_S64x1024_S64x1024_0_0).toLoadRect (View.loadsAt_vmem h_S64x1024))
  let _ : Vec F S1024x1024 .f32 ← Prog.lift (.load oM (Rect.unit (s := S1024x1024) ![0, 0] S1024x1024.size inb_S1024x1024_S1024x1024_0_0).toLoadRect (View.loadsAt_vmem h_S1024x1024))
  Prog.lift (.store oM (Rect.unit (s := S1024x1024) ![0, 0] S1024x1024.size inb_S1024x1024_S1024x1024_0_0) (k0_pay1 v w) Finset.univ (View.stores_vmem_bits_univ h_S1024x1024 rfl) (.inl rfl))
  semSignalWord n barS.sem 1#32
  semSignalWord n' barS.sem 1#32
  semWaitWord barS.sem 2#32

/-! ## The offsets the program computes -/

/-- The place of row block `j` in the table of offsets a piece's sends are read from, and in the table of its sums. -/
def idxS (j : Fin 16) : Fin 16 := ⟨if j.val < 8 then 15 - 2 * j.val else 2 * j.val - 16, by have := j.isLt; split <;> omega⟩
/-- The same in the table of its sums. -/
def idxR (j : Fin 16) : Fin 14 := ⟨(if j.val < 7 then 13 - 2 * j.val else 2 * j.val - 18) % 14, Nat.mod_lt _ (by decide)⟩

/-- The offset of row block `j` as the program computes it for a send (and for a wait), in piece `p`. -/
def offS (d : Dev nD) (p : Fin 4) (j : Fin 16) : Fin 2 → Nat :=
  match p with
  | 0 => k0_off1 d (k0_off1_at (idxS j))
  | 1 => k0_off2 d (k0_off2_at (idxS j))
  | 2 => k0_off3 d (k0_off3_at (idxS j))
  | 3 => k0_off4 d (k0_off4_at (idxS j))

/-- The offset of row block `j` as the program computes it for a sum, in piece `p`. -/
def offR (d : Dev nD) (p : Fin 4) (j : Fin 16) : Fin 2 → Nat :=
  match p with
  | 0 => k0_off5 d (k0_off5_at (idxR j))
  | 1 => k0_off6 d (k0_off6_at (idxR j))
  | 2 => k0_off7 d (k0_off7_at (idxR j))
  | 3 => k0_off8 d (k0_off8_at (idxR j))

/-- The offset computed for a send lies in the result, -/
theorem offS_inb (d : Dev nD) (p : Fin 4) (j : Fin 16) : InB (offS d p j) :=
  match p with
  | 0 => k0_off1_inb d (idxS j)
  | 1 => k0_off2_inb d (idxS j)
  | 2 => k0_off3_inb d (idxS j)
  | 3 => k0_off4_inb d (idxS j)
/-- and so does the one computed for a sum. -/
theorem offR_inb (d : Dev nD) (p : Fin 4) (j : Fin 16) : InB (offR d p j) :=
  match p with
  | 0 => k0_off5_inb d (idxR j)
  | 1 => k0_off6_inb d (idxR j)
  | 2 => k0_off7_inb d (idxR j)
  | 3 => k0_off8_inb d (idxR j)

/-! ## The body as printed -/

/-- A list entry as the program has it: a start names its target by the number the program computes. -/
inductive Raw (d : Dev nD) where
  | s (st : Fin 8) (slot : Fin 15) {n : Nat} (hn : n < nD) (e : n = toN d st)
  | r (st : Fin 8) (slot : Fin 15)

/-- The entry's program, with the offsets the program computes. -/
def rawProg (d : Dev nD) : Raw d → Prog (TpuEff nD τ sig (Elt F) Λ₀ .tc) PUnit
  | .s st slot (n := n) hn _ => startAt ⟨n, hn⟩ st slot (offS d (piece st) (sendJ st slot)) (offS_inb _ _ _)
  | .r st slot =>
    bif red st slot then recvAt st slot (offS d (piece st) (sendJ st slot)) (offR d (piece st) (recvJ st slot)) (offS_inb _ _ _) (offR_inb _ _ _)
    else recvAt st slot (offS d (piece st) (sendJ st slot)) (offS d (piece st) (recvJ st slot)) (offS_inb _ _ _) (offS_inb _ _ _)

/-- The messages in the printed order. -/
def rawScript (d : Dev nD) : List (Raw d) :=
  [
    .s 0 0 (k0_dev3_lt d) (k0_dev3_eq d), .s 1 0 (k0_dev4_lt d) (k0_dev4_eq d), .s 2 0 (k0_dev5_lt d) (k0_dev5_eq d), .s 3 0 (k0_dev6_lt d) (k0_dev6_eq d),
    .s 4 0 (k0_dev7_lt d) (k0_dev7_eq d), .s 5 0 (k0_dev8_lt d) (k0_dev8_eq d), .s 6 0 (k0_dev9_lt d) (k0_dev9_eq d), .s 7 0 (k0_dev10_lt d) (k0_dev10_eq d),
    .r 0 0, .s 0 1 (k0_dev11_lt d) (k0_dev11_eq d), .r 1 0, .s 1 1 (k0_dev12_lt d) (k0_dev12_eq d),
    .r 2 0, .s 2 1 (k0_dev13_lt d) (k0_dev13_eq d), .r 3 0, .s 3 1 (k0_dev14_lt d) (k0_dev14_eq d),
    .r 4 0, .s 4 1 (k0_dev15_lt d) (k0_dev15_eq d), .r 5 0, .s 5 1 (k0_dev16_lt d) (k0_dev16_eq d),
    .r 6 0, .s 6 1 (k0_dev17_lt d) (k0_dev17_eq d), .r 7 0, .s 7 1 (k0_dev18_lt d) (k0_dev18_eq d),
    .r 0 1, .s 0 2 (k0_dev19_lt d) (k0_dev19_eq d), .r 1 1, .s 1 2 (k0_dev20_lt d) (k0_dev20_eq d),
    .r 2 1, .s 2 2 (k0_dev21_lt d) (k0_dev21_eq d), .r 3 1, .s 3 2 (k0_dev22_lt d) (k0_dev22_eq d),
    .r 4 1, .s 4 2 (k0_dev23_lt d) (k0_dev23_eq d), .r 5 1, .s 5 2 (k0_dev24_lt d) (k0_dev24_eq d),
    .r 6 1, .s 6 2 (k0_dev25_lt d) (k0_dev25_eq d), .r 7 1, .s 7 2 (k0_dev26_lt d) (k0_dev26_eq d),
    .r 0 2, .s 0 3 (k0_dev27_lt d) (k0_dev27_eq d), .r 1 2, .s 1 3 (k0_dev28_lt d) (k0_dev28_eq d),
    .r 2 2, .s 2 3 (k0_dev29_lt d) (k0_dev29_eq d), .r 3 2, .s 3 3 (k0_dev30_lt d) (k0_dev30_eq d),
    .r 4 2, .s 4 3 (k0_dev31_lt d) (k0_dev31_eq d), .r 5 2, .s 5 3 (k0_dev32_lt d) (k0_dev32_eq d),
    .r 6 2, .s 6 3 (k0_dev33_lt d) (k0_dev33_eq d), .r 7 2, .s 7 3 (k0_dev34_lt d) (k0_dev34_eq d),
    .r 0 3, .s 0 4 (k0_dev35_lt d) (k0_dev35_eq d), .r 1 3, .s 1 4 (k0_dev36_lt d) (k0_dev36_eq d),
    .r 2 3, .s 2 4 (k0_dev37_lt d) (k0_dev37_eq d), .r 3 3, .s 3 4 (k0_dev38_lt d) (k0_dev38_eq d),
    .r 4 3, .s 4 4 (k0_dev39_lt d) (k0_dev39_eq d), .r 5 3, .s 5 4 (k0_dev40_lt d) (k0_dev40_eq d),
    .r 6 3, .s 6 4 (k0_dev41_lt d) (k0_dev41_eq d), .r 7 3, .s 7 4 (k0_dev42_lt d) (k0_dev42_eq d),
    .r 0 4, .s 0 5 (k0_dev43_lt d) (k0_dev43_eq d), .r 1 4, .s 1 5 (k0_dev44_lt d) (k0_dev44_eq d),
    .r 2 4, .s 2 5 (k0_dev45_lt d) (k0_dev45_eq d), .r 3 4, .s 3 5 (k0_dev46_lt d) (k0_dev46_eq d),
    .r 4 4, .s 4 5 (k0_dev47_lt d) (k0_dev47_eq d), .r 5 4, .s 5 5 (k0_dev48_lt d) (k0_dev48_eq d),
    .r 6 4, .s 6 5 (k0_dev49_lt d) (k0_dev49_eq d), .r 7 4, .s 7 5 (k0_dev50_lt d) (k0_dev50_eq d),
    .r 0 5, .s 0 6 (k0_dev51_lt d) (k0_dev51_eq d), .r 1 5, .s 1 6 (k0_dev52_lt d) (k0_dev52_eq d),
    .r 2 5, .s 2 6 (k0_dev53_lt d) (k0_dev53_eq d), .r 3 5, .s 3 6 (k0_dev54_lt d) (k0_dev54_eq d),
    .r 4 5, .s 4 6 (k0_dev55_lt d) (k0_dev55_eq d), .r 5 5, .s 5 6 (k0_dev56_lt d) (k0_dev56_eq d),
    .r 6 5, .s 6 6 (k0_dev57_lt d) (k0_dev57_eq d), .r 7 5, .s 7 6 (k0_dev58_lt d) (k0_dev58_eq d),
    .r 0 6, .s 0 7 (k0_dev59_lt d) (k0_dev59_eq d), .r 1 6, .r 2 6,
    .s 2 7 (k0_dev60_lt d) (k0_dev60_eq d), .r 3 6, .r 4 6, .s 4 7 (k0_dev61_lt d) (k0_dev61_eq d),
    .r 5 6, .r 6 6, .s 6 7 (k0_dev62_lt d) (k0_dev62_eq d), .r 7 6,
    .r 0 7, .s 0 8 (k0_dev63_lt d) (k0_dev63_eq d), .s 1 7 (k0_dev64_lt d) (k0_dev64_eq d), .r 2 7,
    .s 2 8 (k0_dev65_lt d) (k0_dev65_eq d), .s 3 7 (k0_dev66_lt d) (k0_dev66_eq d), .r 4 7, .s 4 8 (k0_dev67_lt d) (k0_dev67_eq d),
    .s 5 7 (k0_dev68_lt d) (k0_dev68_eq d), .r 6 7, .s 6 8 (k0_dev69_lt d) (k0_dev69_eq d), .s 7 7 (k0_dev70_lt d) (k0_dev70_eq d),
    .r 0 8, .s 0 9 (k0_dev71_lt d) (k0_dev71_eq d), .r 1 7, .s 1 8 (k0_dev72_lt d) (k0_dev72_eq d),
    .r 2 8, .s 2 9 (k0_dev73_lt d) (k0_dev73_eq d), .r 3 7, .s 3 8 (k0_dev74_lt d) (k0_dev74_eq d),
    .r 4 8, .s 4 9 (k0_dev75_lt d) (k0_dev75_eq d), .r 5 7, .s 5 8 (k0_dev76_lt d) (k0_dev76_eq d),
    .r 6 8, .s 6 9 (k0_dev77_lt d) (k0_dev77_eq d), .r 7 7, .s 7 8 (k0_dev78_lt d) (k0_dev78_eq d),
    .r 0 9, .s 0 10 (k0_dev79_lt d) (k0_dev79_eq d), .r 1 8, .s 1 9 (k0_dev80_lt d) (k0_dev80_eq d),
    .r 2 9, .s 2 10 (k0_dev81_lt d) (k0_dev81_eq d), .r 3 8, .s 3 9 (k0_dev82_lt d) (k0_dev82_eq d),
    .r 4 9, .s 4 10 (k0_dev83_lt d) (k0_dev83_eq d), .r 5 8, .s 5 9 (k0_dev84_lt d) (k0_dev84_eq d),
    .r 6 9, .s 6 10 (k0_dev85_lt d) (k0_dev85_eq d), .r 7 8, .s 7 9 (k0_dev86_lt d) (k0_dev86_eq d),
    .r 0 10, .s 0 11 (k0_dev87_lt d) (k0_dev87_eq d), .r 1 9, .s 1 10 (k0_dev88_lt d) (k0_dev88_eq d),
    .r 2 10, .s 2 11 (k0_dev89_lt d) (k0_dev89_eq d), .r 3 9, .s 3 10 (k0_dev90_lt d) (k0_dev90_eq d),
    .r 4 10, .s 4 11 (k0_dev91_lt d) (k0_dev91_eq d), .r 5 9, .s 5 10 (k0_dev92_lt d) (k0_dev92_eq d),
    .r 6 10, .s 6 11 (k0_dev93_lt d) (k0_dev93_eq d), .r 7 9, .s 7 10 (k0_dev94_lt d) (k0_dev94_eq d),
    .r 0 11, .s 0 12 (k0_dev95_lt d) (k0_dev95_eq d), .r 1 10, .s 1 11 (k0_dev96_lt d) (k0_dev96_eq d),
    .r 2 11, .s 2 12 (k0_dev97_lt d) (k0_dev97_eq d), .r 3 10, .s 3 11 (k0_dev98_lt d) (k0_dev98_eq d),
    .r 4 11, .s 4 12 (k0_dev99_lt d) (k0_dev99_eq d), .r 5 10, .s 5 11 (k0_dev100_lt d) (k0_dev100_eq d),
    .r 6 11, .s 6 12 (k0_dev101_lt d) (k0_dev101_eq d), .r 7 10, .s 7 11 (k0_dev102_lt d) (k0_dev102_eq d),
    .r 0 12, .s 0 13 (k0_dev103_lt d) (k0_dev103_eq d), .r 1 11, .s 1 12 (k0_dev104_lt d) (k0_dev104_eq d),
    .r 2 12, .s 2 13 (k0_dev105_lt d) (k0_dev105_eq d), .r 3 11, .s 3 12 (k0_dev106_lt d) (k0_dev106_eq d),
    .r 4 12, .s 4 13 (k0_dev107_lt d) (k0_dev107_eq d), .r 5 11, .s 5 12 (k0_dev108_lt d) (k0_dev108_eq d),
    .r 6 12, .s 6 13 (k0_dev109_lt d) (k0_dev109_eq d), .r 7 11, .s 7 12 (k0_dev110_lt d) (k0_dev110_eq d),
    .r 0 13, .s 0 14 (k0_dev111_lt d) (k0_dev111_eq d), .r 1 12, .s 1 13 (k0_dev112_lt d) (k0_dev112_eq d),
    .r 2 13, .s 2 14 (k0_dev113_lt d) (k0_dev113_eq d), .r 3 12, .s 3 13 (k0_dev114_lt d) (k0_dev114_eq d),
    .r 4 13, .s 4 14 (k0_dev115_lt d) (k0_dev115_eq d), .r 5 12, .s 5 13 (k0_dev116_lt d) (k0_dev116_eq d),
    .r 6 13, .s 6 14 (k0_dev117_lt d) (k0_dev117_eq d), .r 7 12, .s 7 13 (k0_dev118_lt d) (k0_dev118_eq d),
    .r 0 14, .r 1 13, .s 1 14 (k0_dev119_lt d) (k0_dev119_eq d), .r 2 14,
    .r 3 13, .s 3 14 (k0_dev120_lt d) (k0_dev120_eq d), .r 4 14, .r 5 13,
    .s 5 14 (k0_dev121_lt d) (k0_dev121_eq d), .r 6 14, .r 7 13, .s 7 14 (k0_dev122_lt d) (k0_dev122_eq d),
    .r 1 14, .r 3 14, .r 5 14, .r 7 14]

/-- The printed body on the kernel's buffers. -/
abbrev theBody : Prog (TpuEff nD τ sig (Elt F) Λ₀ .tc) PUnit :=
  cc0_body xM (Memref.isWhole_whole _) wM (Memref.isWhole_whole _) oM (Memref.isWhole_whole _) cM (Memref.isWhole_whole _) cc0_scratch1 cc0_scratch2

set_option maxRecDepth 1000000 in
set_option maxHeartbeats 4000000 in
/-- The printed body is the product, the barrier and the list. -/
theorem body_raw : theBody (F := F) = (do
    let d : Dev nD ← Prog.lift .deviceId
    prologue ⟨k0_dev1 d, k0_dev1_lt d⟩ ⟨k0_dev2 d, k0_dev2_lt d⟩
    runAll (rawProg d) (rawScript d)) := rfl

/-! ## The canonical form -/

/-- The offset of the block of the result at row block `c` and column piece `p`. -/
def coff (c : Fin 16) (p : Fin 4) : Fin 2 → Nat := ![64 * c.val, 256 * p.val]
/-- Every such block lies in the result. -/
theorem coff_inb (c : Fin 16) (p : Fin 4) : InB (coff c p) := by
  revert c p; decide +kernel

/-- The offset computed for a send is the block's, counted from the device's rank, -/
theorem offS_coff : ∀ (d : Dev nD) (p : Fin 4) (j : Fin 16), offS d p j = coff (blockOf (rank d).val j) p := by
  have h : ∀ (d : Dev nD) (p : Fin 4) (j : Fin 16) (a : Fin 2), offS d p j a = coff (blockOf (rank d).val j) p a := by decide +kernel
  exact fun d p j => funext (h d p j)

/-- and so is the one computed for a sum. -/
theorem offR_coff : ∀ (d : Dev nD) (p : Fin 4) (j : Fin 16), j.val ≠ 7 ∧ j.val ≠ 8 → offR d p j = coff (blockOf (rank d).val j) p := by
  have h : ∀ (d : Dev nD) (p : Fin 4) (j : Fin 16), j.val ≠ 7 ∧ j.val ≠ 8 → ∀ a : Fin 2, offR d p j a = coff (blockOf (rank d).val j) p a := by
    decide +kernel
  exact fun d p j hj => funext (h d p j hj)

/-- A reducing message is not added into the two blocks that are sent away first. -/
theorem recvJ_red : ∀ (st : Fin 8) (slot : Fin 15), red st slot = true → (recvJ st slot).val ≠ 7 ∧ (recvJ st slot).val ≠ 8 := by decide +kernel

/-- The row block a message of `d`'s carries away, and the row block it receives or adds into. -/
abbrev sBlk (d : Dev nD) (st : Fin 8) (slot : Fin 15) : Fin 16 := blockOf (rank d).val (sendJ st slot)
/-- The row block a message of the device's receives or adds into. -/
abbrev rBlk (d : Dev nD) (st : Fin 8) (slot : Fin 15) : Fin 16 := blockOf (rank d).val (recvJ st slot)

/-- The program of one list entry on device `d`. -/
def opProg (d : Dev nD) : Op → Prog (TpuEff nD τ sig (Elt F) Λ₀ .tc) PUnit
  | .s st slot => startAt (dst d st) st slot (coff (sBlk d st slot) (piece st)) (coff_inb _ _)
  | .r st slot => recvAt st slot (coff (sBlk d st slot) (piece st)) (coff (rBlk d st slot) (piece st)) (coff_inb _ _) (coff_inb _ _)

/-- The list entry without the numbers. -/
def Raw.op {d : Dev nD} : Raw d → Op
  | .s st slot _ _ => .s st slot
  | .r st slot => .r st slot

/-- A start depends on the peer and the offset alone. -/
theorem startAt_congr {n n' : Dev nD} (hn : n = n') (st : Fin 8) (slot : Fin 15) {off off' : Fin 2 → Nat} (ho : off = off') (h : InB off) (h' : InB off') :
    startAt (F := F) n st slot off h = startAt n' st slot off' h' := by subst hn ho; rfl

/-- A receive depends on its two offsets alone. -/
theorem recvAt_congr (st : Fin 8) (slot : Fin 15) {o₁ o₂ o₁' o₂' : Fin 2 → Nat} (e₁ : o₁ = o₁') (e₂ : o₂ = o₂') (h₁ : InB o₁) (h₂ : InB o₂)
    (h₁' : InB o₁') (h₂' : InB o₂') : recvAt (F := F) st slot o₁ o₂ h₁ h₂ = recvAt st slot o₁' o₂' h₁' h₂' := by subst e₁ e₂; rfl

/-- The program of a printed entry is the program of the list entry. -/
theorem rawProg_eq (d : Dev nD) (x : Raw d) : rawProg (F := F) d x = opProg d x.op := by
  cases x with
  | s st slot hn e => exact startAt_congr (Fin.ext e) st slot (offS_coff d _ _) _ _
  | r st slot =>
    cases hr : red st slot with
    | true =>
      exact (show rawProg (F := F) d (.r st slot) = _ by simp only [rawProg, hr, cond_true]).trans
        (recvAt_congr (F := F) st slot (offS_coff d _ _) (offR_coff d _ _ (recvJ_red st slot hr)) (offS_inb _ _ _) (offR_inb _ _ _) (coff_inb _ _) (coff_inb _ _))
    | false =>
      exact (show rawProg (F := F) d (.r st slot) = _ by simp only [rawProg, hr, cond_false]).trans
        (recvAt_congr (F := F) st slot (offS_coff d _ _) (offS_coff d _ _) (offS_inb _ _ _) (offS_inb _ _ _) (coff_inb _ _) (coff_inb _ _))

/-- The same for a list of entries. -/
theorem runAll_raw (d : Dev nD) (l : List (Raw d)) : runAll (F := F) (rawProg d) l = runAll (opProg d) (l.map Raw.op) := by
  induction l with
  | nil => rfl
  | cons x l ih => simp only [List.map_cons, runAll, rawProg_eq, ih]

set_option maxHeartbeats 4000000 in
/-- The printed list is the device's list. -/
theorem rawScript_op (d : Dev nD) : (rawScript d).map Raw.op = script := by
  have h : script = (rawScript 0).map Raw.op := by decide +kernel
  rw [h]; rfl

/-- The first peer the program computes is the next device, -/
theorem nxt_eq (d : Dev nD) : (⟨k0_dev1 d, k0_dev1_lt d⟩ : Dev nD) = nxt d := Fin.ext (k0_dev1_eq d)
/-- and the second the device before. -/
theorem prv_eq (d : Dev nD) : (⟨k0_dev2 d, k0_dev2_lt d⟩ : Dev nD) = prv d := Fin.ext (k0_dev2_eq d)

/-- The printed body, in terms of the ring. -/
theorem body_eq : theBody (F := F) = (do
    let d : Dev nD ← Prog.lift .deviceId
    prologue (nxt d) (prv d)
    runAll (opProg d) script) := by
  rw [body_raw]; simp only [nxt_eq, prv_eq, runAll_raw, rawScript_op]

end Cert.KernelIdeal.Ring

end
-- ==== Proof.KernelIdeal.Contents.lean ====
/-
What the blocks of the result hold, as functions of the launch memory: the product each device computes (`dot`), the
partial sums that travel along the ring in either direction (`accA`, `accB`), and the finished block (`fin`). The sums
are in the order in which the devices add, so nothing here uses a law of addition.
-/
module

public import proofs.«01_k».proof.Proof.Tok
public import proofs.«01_k».proof.Proof.KernelIdeal.Ops
public import Idealize.ShloMosaic.Lib.Pipeline.Kit
public import Idealize.ShloMosaic.Lib.Pipeline.Value
public import Idealize.ShloMosaic.Lib.MemrefSat
public import Idealize.ShloMosaic.Lib.Tactic

@[expose] public section

set_option maxRecDepth 16384

noncomputable section

namespace Cert.KernelIdeal.Ring

open Cert.KernelIdeal Cert.KernelIdeal.Gen Cert.Ring
open Idealize.ShloMosaic Idealize.ShloMosaic.TcCoe Idealize.SL.Sem

variable {F : FTy → Type} [FloatOps F]

variable (m : (ℓ : Loc nD τ sig) → Buf (Elt F) ℓ)

/-- The operands in a device's memory, as its pipeline stages them. -/
def xstg (d : Dev nD) : (cc0_stg0_0 : Ref sig .tc).ty.Contents (Elt F) :=
  (win0_0.blk (0 : Fin 1)).view.read (Elt F) (m ((d : Thread nD τ).loc main_arg0))
/-- and the second operand. -/
def wstg (d : Dev nD) : (cc0_stg1_0 : Ref sig .tc).ty.Contents (Elt F) :=
  (win0_1.blk (0 : Fin 1)).view.read (Elt F) (m ((d : Thread nD τ).loc main_arg1))

/-- The product a device computes. -/
def dot (d : Dev nD) : Vec F S1024x1024 .f32 := k0_pay1 (xstg m d) (wstg m d)

/-- The contents of a block of the result: 64 rows of 256 columns. -/
abbrev Blk (F : FTy → Type) [FloatOps F] : Type := Vec F S64x256 .f32

/-- A block of the product. -/
def PB (d : Dev nD) (p : Fin 4) (c : Fin 16) : Blk F := fun j => dot m d ((oR (coff c p) (coff_inb c p)).emb j)

/-- The sum of two blocks. -/
def add (a b : Blk F) : Blk F := addf (s := S64x256) (φ := .f32) a b

/-- What the program adds into a block is the sum of the block and the slot's contents. -/
theorem addBlk_eq (v : Blk F) (u : Vec F S1x1x64x256 .f32) :
    addBlk v u = add v (shapeCast S64x256 u shapeCasts_S1x1x64x256_S64x256) := by
  unfold addBlk add; rw [shapeCast_self]

/-- The device at a place of the ring, counted past the end. -/
def dv (n : Nat) : Dev nD := devAt ⟨n % 16, Nat.mod_lt _ (by decide)⟩

/-- The partial sum of block `c` that travels forward, and the one that travels back, after so many devices. -/
def accA (p : Fin 4) (c : Fin 16) : Nat → Blk F
  | 0 => PB m (dv (c.val + 9)) p c
  | s + 1 => add (PB m (dv (c.val + 10 + s)) p c) (accA p c s)
/-- The sum of block `c` that travels back, after so many devices. -/
def accB (p : Fin 4) (c : Fin 16) : Nat → Blk F
  | 0 => PB m (dv (c.val + 8)) p c
  | t + 1 => add (PB m (dv (c.val + 23 - t)) p c) (accB p c t)

/-- The finished block. -/
def fin (p : Fin 4) (c : Fin 16) : Blk F := add (add (PB m (dv c.val) p c) (accA m p c 6)) (accB m p c 7)

/-- What the block of the result `j` places after the device's rank holds at each stage. -/
def outVal (d : Dev nD) (p : Fin 4) (j : Fin 16) (k : Fin 3) : Blk F :=
  if k = 0 then PB m d p (blockOf (rank d).val j)
  else if k = 1 then
    if j.val = 0 then add (PB m d p (blockOf (rank d).val j)) (accA m p (blockOf (rank d).val j) 6)
    else if j.val ≤ 7 then accA m p (blockOf (rank d).val j) (7 - j.val)
    else accB m p (blockOf (rank d).val j) (j.val - 8)
  else fin m p (blockOf (rank d).val j)

/-- What a reducing message about block `c` carries. -/
def msgVal (st : Fin 8) (slot : Fin 15) (c : Fin 16) : Blk F :=
  if fwd st then accA m (piece st) c slot.val else accB m (piece st) c slot.val

/-! ## The places on the ring -/

/-- The device at a device's own place is the device. -/
theorem dv_self : ∀ d : Dev nD, dv (rank d).val = d := by decide +kernel
/-- The block at the rank itself is the device's own. -/
theorem block_zero : ∀ (d : Dev nD) (j : Fin 16), j.val = 0 → blockOf (rank d).val j = rank d := by decide +kernel
/-- The device is the first to add to the block seven places on, of the sum that travels forward, -/
theorem block_seven : ∀ (d : Dev nD) (j : Fin 16), j.val = 7 → dv ((blockOf (rank d).val j).val + 9) = d := by decide +kernel
/-- and to the block eight places on, of the sum that travels back. -/
theorem block_eight : ∀ (d : Dev nD) (j : Fin 16), j.val = 8 → dv ((blockOf (rank d).val j).val + 8) = d := by decide +kernel

/-- What a message carries away here is what it brings where it goes. -/
theorem rBlk_dst : ∀ (d : Dev nD) (st : Fin 8) (slot : Fin 15), rBlk (dst d st) st slot = sBlk d st slot := by decide +kernel
/-- The other stream of a piece comes from where this one goes. -/
theorem src_swap : ∀ (d : Dev nD) (st : Fin 8), src d (swapS st) = dst d st := by decide +kernel
/-- It works on the same piece. -/
theorem piece_swap : ∀ st : Fin 8, piece (swapS st) = piece st := by decide +kernel
/-- A gathering message carries the block that the other stream brought at the slot counted from the end. -/
theorem rBlk_swap : ∀ (d : Dev nD) (st : Fin 8) (slot : Fin 15), red st slot = false → rBlk d (swapS st) (revS slot) = sBlk d st slot := by
  decide +kernel

/-- A device that receives a sum travelling forward is the next to add to it, -/
theorem dv_fwd : ∀ (d : Dev nD) (st : Fin 8) (slot : Fin 15), red st slot = true → fwd st = true →
    dv ((rBlk d st slot).val + 10 + slot.val) = d := by decide +kernel
/-- and so for a sum travelling back. -/
theorem dv_back : ∀ (d : Dev nD) (st : Fin 8) (slot : Fin 15), red st slot = true → fwd st = false →
    dv ((rBlk d st slot).val + 23 - slot.val) = d := by decide +kernel

/-- Which block a reducing message carries forward, -/
theorem sendJ_fwd : ∀ (st : Fin 8) (slot : Fin 15), red st slot = true → fwd st = true →
    (sendJ st slot).val ≠ 0 ∧ (sendJ st slot).val ≤ 7 ∧ 7 - (sendJ st slot).val = slot.val := by decide +kernel
/-- and which it carries back. -/
theorem sendJ_back : ∀ (st : Fin 8) (slot : Fin 15), red st slot = true → fwd st = false →
    (sendJ st slot).val ≠ 0 ∧ ¬ (sendJ st slot).val ≤ 7 ∧ (sendJ st slot).val - 8 = slot.val := by decide +kernel
/-- Which block a reducing message that travels forward is added into: the own one at the last slot, else the one sent on next, -/
theorem recvJ_fwd : ∀ (st : Fin 8) (slot : Fin 15), red st slot = true → fwd st = true →
    ((recvJ st slot).val = 0 ∧ slot.val = 6) ∨ ((recvJ st slot).val ≠ 0 ∧ (recvJ st slot).val ≤ 7 ∧ 7 - (recvJ st slot).val = slot.val + 1) := by decide +kernel
/-- and which one a reducing message that travels back. -/
theorem recvJ_back : ∀ (st : Fin 8) (slot : Fin 15), red st slot = true → fwd st = false →
    ((recvJ st slot).val = 0 ∧ slot.val = 7) ∨ ((recvJ st slot).val ≠ 0 ∧ ¬ (recvJ st slot).val ≤ 7 ∧ (recvJ st slot).val - 8 = slot.val + 1) := by decide +kernel

/-! ## The sums -/

section Stages
variable (d : Dev nD) (p : Fin 4) (j : Fin 16)

/-- An untouched block holds the device's own product. -/
theorem outVal_zero : outVal m d p j 0 = PB m d p (blockOf (rank d).val j) := rfl
/-- The own block, partly summed, holds the product and the sum that came forward. -/
theorem outVal_one_own (h : j.val = 0) :
    outVal m d p j 1 = add (PB m d p (blockOf (rank d).val j)) (accA m p (blockOf (rank d).val j) 6) := if_pos h
/-- A block up to seven places on, partly summed, holds the sum that travels forward, -/
theorem outVal_one_fwd (h : j.val ≠ 0) (h' : j.val ≤ 7) : outVal m d p j 1 = accA m p (blockOf (rank d).val j) (7 - j.val) :=
  (if_neg h).trans (if_pos h')
/-- and a block further on the sum that travels back. -/
theorem outVal_one_back (h : j.val ≠ 0) (h' : ¬ j.val ≤ 7) : outVal m d p j 1 = accB m p (blockOf (rank d).val j) (j.val - 8) :=
  (if_neg h).trans (if_neg h')
/-- A final block holds the finished sum. -/
theorem outVal_two : outVal m d p j 2 = fin m p (blockOf (rank d).val j) := rfl
end Stages

/-- A reducing message of a forward stream carries the sum that travels forward, -/
theorem msgVal_fwd {st : Fin 8} (slot : Fin 15) (c : Fin 16) (h : fwd st = true) : msgVal m st slot c = accA m (piece st) c slot.val := if_pos h
/-- and one of a backward stream the sum that travels back. -/
theorem msgVal_back {st : Fin 8} (slot : Fin 15) (c : Fin 16) (h : fwd st = false) : msgVal m st slot c = accB m (piece st) c slot.val :=
  if_neg fun h' => by rw [h] at h'; cases h'

variable {m}

/-- A block is sent on for a sum once it holds what the message should. -/
theorem outVal_send {d : Dev nD} {st : Fin 8} {slot : Fin 15} (hr : red st slot = true) :
    outVal m d (piece st) (sendJ st slot) 1 = msgVal m st slot (sBlk d st slot) := by
  cases hf : fwd st with
  | true =>
    obtain ⟨h1, h2, h3⟩ := sendJ_fwd st slot hr hf
    rw [outVal_one_fwd m d _ _ h1 h2, msgVal_fwd m slot _ hf, h3]
  | false =>
    obtain ⟨h1, h2, h3⟩ := sendJ_back st slot hr hf
    rw [outVal_one_back m d _ _ h1 h2, msgVal_back m slot _ hf, h3]

/-- The sum of a received message, when it is not the last. -/
theorem outVal_recv {d : Dev nD} {st : Fin 8} {slot : Fin 15} (hr : red st slot = true) (hl : last st slot = false) :
    add (outVal m d (piece st) (recvJ st slot) 0) (msgVal m st slot (rBlk d st slot)) = outVal m d (piece st) (recvJ st slot) 1 := by
  rw [outVal_zero]
  cases hf : fwd st with
  | true =>
    rw [msgVal_fwd m slot _ hf]
    rcases recvJ_fwd st slot hr hf with ⟨h1, h2⟩ | ⟨h1, h2, h3⟩
    · rw [outVal_one_own m d _ _ h1, h2]
    · rw [outVal_one_fwd m d _ _ h1 h2, h3, accA, dv_fwd d st slot hr hf]
  | false =>
    rw [msgVal_back m slot _ hf]
    rcases recvJ_back st slot hr hf with ⟨h1, h2⟩ | ⟨h1, h2, h3⟩
    · exfalso; unfold last at hl; rw [hr, hf, h1] at hl; exact absurd hl (by decide)
    · rw [outVal_one_back m d _ _ h1 h2, h3, accB, dv_back d st slot hr hf]

/-- The last sum finishes the device's own block. -/
theorem outVal_last {d : Dev nD} {st : Fin 8} {slot : Fin 15} (hl : last st slot = true) :
    add (outVal m d (piece st) (recvJ st slot) 1) (msgVal m st slot (rBlk d st slot)) = outVal m d (piece st) (recvJ st slot) 2 := by
  unfold last at hl
  rw [Bool.and_eq_true, Bool.and_eq_true, beq_iff_eq, Bool.not_eq_true'] at hl
  obtain ⟨⟨hr, h0⟩, hf⟩ := hl
  rw [outVal_one_own m d _ _ h0, outVal_two, msgVal_back m slot _ hf]
  rcases recvJ_back st slot hr hf with ⟨_, h2⟩ | ⟨h1, _⟩
  · rw [h2, show rBlk d st slot = rank d from block_zero d _ h0, block_zero d _ h0, fin, dv_self d]
  · exact absurd h0 h1

/-- At the start two blocks count as partly summed: the ones the device sends first. -/
theorem outVal_stage0 (d : Dev nD) (p : Fin 4) (j : Fin 16) : outVal m d p j (stage0 j) = PB m d p (blockOf (rank d).val j) := by
  unfold stage0
  by_cases h7 : j.val = 7
  · rw [if_pos (Or.inl h7), outVal_one_fwd m d _ _ (by omega) (by omega), show 7 - j.val = 0 by omega, accA, block_seven d j h7]
  by_cases h8 : j.val = 8
  · rw [if_pos (Or.inr h8), outVal_one_back m d _ _ (by omega) (by omega), show j.val - 8 = 0 by omega, accB, block_eight d j h8]
  · rw [if_neg (by omega), outVal_zero]

end Cert.KernelIdeal.Ring

end
-- ==== Proof.KernelIdeal.Sch.lean ====
/-
The semaphores' schedule: for every semaphore of a device, who pays it, how much, and what each payment hands over.

Every cell has one round. A device's barrier semaphore is paid a unit by each neighbour, who hands over the communication
slots this device will write; the semaphore of a message's departure is paid by the device's own transfer and gives the
block back when the message is a gathering one; the semaphore of a message's arrival is paid by the neighbour's transfer
and hands over the block that has landed, and with a reducing message also the block it was sent from, which a gathering
message will later overwrite.
-/
module

public import proofs.«01_k».proof.Proof.KernelIdeal.Contents

@[expose] public section

set_option maxRecDepth 16384

noncomputable section

namespace Cert.KernelIdeal.Ring

open Cert.KernelIdeal Cert.KernelIdeal.Gen Cert.Ring
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy of the rounds, and the ring's -/

/-- The ring's ghost state, -/
abbrev UB : Type := URounds (GSem nD τ sig) Bool
/-- and the pipeline's beside it. -/
abbrev UU : Type := UR sig nD τ × UB

local notation "𝕄" => MT nD τ sig Unit (Elt F) ℕ UU ℕ

/-- Where the pipeline's ghost state lies in the whole, -/
abbrev EP : Emb (UR sig nD τ) (MT nD τ sig Unit (Elt F) ℕ UU ℕ) := embL
/-- and where the ring's lies. -/
abbrev ER : Emb UB (MT nD τ sig Unit (Elt F) ℕ UU ℕ) := embR

variable (m : (ℓ : Loc nD τ sig) → Buf (Elt F) ℓ)

/-! ## The cells -/

/-- A device's cells: the barrier, the departure (`false`) and the arrival (`true`) of each message. -/
abbrev KI : Type := Option (Bool × Msg)

/-- The semaphore of a cell. -/
def csem : KI → SemLoc sig
  | none => .reg barS.sem
  | some (false, x) => .dma (sendS x.1 x.2)
  | some (true, x) => .dma (recvS x.1 x.2)

/-- Which of the cells a semaphore is. -/
def kindOf : SemLoc sig → Option KI
  | .reg s => if s = barS.sem then some none else none
  | .dma i =>
    if i.val < 3 then none
    else if i.val < 123 then some (some (false, (⟨(i.val - 3) / 15 % 8, Nat.mod_lt _ (by decide)⟩, ⟨(i.val - 3) % 15, Nat.mod_lt _ (by decide)⟩)))
    else some (some (true, (⟨(i.val - 123) / 15 % 8, Nat.mod_lt _ (by decide)⟩, ⟨(i.val - 123) % 15, Nat.mod_lt _ (by decide)⟩)))

/-- It is that cell's. -/
theorem kindOf_csem : ∀ k : KI, kindOf (csem k) = some k := by decide +kernel

/-- A device's barrier, -/
abbrev barCell (d : Dev nD) : GSem nD τ sig := ((d : Thread nD τ), .reg barS.sem)
/-- the departure of a message, -/
abbrev sendCell (d : Dev nD) (st : Fin 8) (slot : Fin 15) : GSem nD τ sig := ((d : Thread nD τ), .dma (sendS st slot))
/-- the arrival of a message, -/
abbrev recvCell (d : Dev nD) (st : Fin 8) (slot : Fin 15) : GSem nD τ sig := ((d : Thread nD τ), .dma (recvS st slot))
/-- and any of a device's cells. -/
abbrev kcell (x : Dev nD × KI) : GSem nD τ sig := ((x.1 : Thread nD τ), csem x.2)

/-- The barrier semaphore is the barrier cell's, -/
theorem kind_bar : kindOf (.reg barS.sem) = some none := kindOf_csem none
/-- a departure semaphore the departure's, -/
theorem kind_send (st : Fin 8) (slot : Fin 15) : kindOf (.dma (sendS st slot)) = some (some (false, (st, slot))) := kindOf_csem (some (false, (st, slot)))
/-- and an arrival semaphore the arrival's. -/
theorem kind_recv (st : Fin 8) (slot : Fin 15) : kindOf (.dma (recvS st slot)) = some (some (true, (st, slot))) := kindOf_csem (some (true, (st, slot)))

/-- The units a message pays. -/
abbrev N : ℕ := (oB (coff 0 0) (coff_inb 0 0)).view.dmaCredit
/-- A message pays at least one unit. -/
theorem N_pos : 0 < N := View.dmaCredit_pos _ (by decide)

/-! ## What is handed over -/

/-- The block of device `d`'s result at row block `c` and piece `p`, at share `q` with contents `X`; -/
abbrev blk (d : Dev nD) (p : Fin 4) (c : Fin 16) (q : PosShare TreeShare) (X : Blk F) : sProp 𝕄 :=
  owns (d : Thread nD τ) (oB (coff c p) (coff_inb c p)) q X
/-- with any contents. -/
abbrev blkAny (d : Dev nD) (p : Fin 4) (c : Fin 16) : sProp 𝕄 := iprop(∃ X, blk (F := F) d p c fullShare X)
/-- A communication slot of device `d`, with contents `X`; -/
abbrev com (d : Dev nD) (st k : Fin 8) (X : Blk F) : sProp 𝕄 := owns (d : Thread nD τ) (cB st k) fullShare X
/-- with any contents. -/
abbrev comAny (d : Dev nD) (st k : Fin 8) : sProp 𝕄 := iprop(∃ X, com (F := F) d st k X)

/-- The share of its block a gathering message is sent from: its own block goes both ways, half each. -/
def qSrc (st : Fin 8) (slot : Fin 15) : PosShare TreeShare :=
  if (sendJ st slot).val = 0 then (if fwd st then fullShare.right else fullShare.left) else fullShare

/-- The reducing messages of one direction. -/
def redsOf (b : Bool) : Finset Msg := Finset.univ.filter fun x => red x.1 x.2 = true ∧ fwd x.1 = b

/-- What a neighbour hands over at the barrier: its slots for the messages of the direction that goes to it. -/
def barPay (d : Dev nD) (b : Bool) : sProp 𝕄 := bigSep (redsOf b) fun x => comAny (F := F) (dst d x.1) x.1 (cslot x.2)
/-- What a departure gives back: nothing of a reducing message, the sent block of a gathering one. -/
def sendPay (d : Dev nD) (st : Fin 8) (slot : Fin 15) : sProp 𝕄 :=
  if red st slot then iprop(emp) else blk d (piece st) (sBlk d st slot) (qSrc st slot) (fin m (piece st) (sBlk d st slot))
/-- What an arrival hands over: of a reducing message its slot and the block it was sent from, of a gathering one the block. -/
def recvPay (d : Dev nD) (st : Fin 8) (slot : Fin 15) : sProp 𝕄 :=
  if red st slot then iprop(com d st (cslot slot) (msgVal m st slot (rBlk d st slot)) ∗ blkAny (F := F) (src d st) (piece st) (rBlk d st slot))
  else blk d (piece st) (rBlk d st slot) fullShare (fin m (piece st) (rBlk d st slot))

/-- What the barrier hands over may be kept in an invariant, -/
instance barPay_storable (d : Dev nD) (b : Bool) : BI.Storable (upEmb : UEmb _ 𝕄) (barPay (F := F) d b) := by unfold barPay; infer_instance
/-- and what a departure gives back, -/
instance sendPay_storable (d : Dev nD) (st : Fin 8) (slot : Fin 15) : BI.Storable (upEmb : UEmb _ 𝕄) (sendPay m d st slot) := by
  unfold sendPay; split <;> infer_instance
/-- and what an arrival hands over. -/
instance recvPay_storable (d : Dev nD) (st : Fin 8) (slot : Fin 15) : BI.Storable (upEmb : UEmb _ 𝕄) (recvPay m d st slot) := by
  unfold recvPay; split <;> infer_instance

/-! ## The schedule -/

/-- What a payment on a cell hands over. -/
def payOf (d : Dev nD) (b : Bool) : Option KI → sProp 𝕄
  | some none => barPay d b
  | some (some (false, x)) => sendPay m d x.1 x.2
  | some (some (true, x)) => recvPay m d x.1 x.2
  | none => iprop(emp)
/-- The payments of a cell: two on the barrier, one on the others. -/
def dutOf : Option KI → Finset Bool
  | some none => Finset.univ
  | some (some _) => {false}
  | none => ∅
/-- The units of a payment: one on the barrier, a message's on the others. -/
def amtOf : Option KI → ℕ
  | some none => 1
  | _ => N

/-- The schedule of all the cells: one round each. -/
def Rd : Rounds.Schedule (GSem nD τ sig) Bool 𝕄 where
  duties g r := if r = 0 ∧ g.1.2 = .tc then dutOf (kindOf g.2) else ∅
  unitless _ := False
  amount g _ _ := amtOf (kindOf g.2)
  payload g _ b := payOf m g.1.1 b (kindOf g.2)
  amount_pos g _ _ _ := by
    unfold amtOf; split
    · exact Nat.one_pos
    · exact N_pos

/-- What a payment hands over may be kept in an invariant, -/
instance payOf_storable (d : Dev nD) (b : Bool) (k : Option KI) : BI.Storable (upEmb : UEmb _ 𝕄) (payOf m d b k) := by
  unfold payOf; split <;> infer_instance
/-- whatever the cell and the round. -/
instance Rd_storable (g : GSem nD τ sig) (r : ℕ) (b : Bool) : BI.Storable (upEmb : UEmb _ 𝕄) ((Rd m).payload g r b) := payOf_storable m _ _ _

section Lemmas
variable (d : Dev nD) (st : Fin 8) (slot : Fin 15) (b : Bool)

/-- The payments of a cell in its round, -/
theorem duties_at (x : Dev nD × KI) : (Rd m).duties (kcell x) 0 = dutOf (some x.2) := by
  show (if 0 = 0 ∧ (kcell x).1.2 = .tc then dutOf (kindOf (csem x.2)) else ∅) = _
  rw [if_pos ⟨rfl, rfl⟩, kindOf_csem]
/-- of the barrier, -/
theorem duties_bar : (Rd m).duties (barCell d) 0 = Finset.univ := duties_at m (d, none)
/-- of a departure, -/
theorem duties_send : (Rd m).duties (sendCell d st slot) 0 = {false} := duties_at m (d, some (false, (st, slot)))
/-- and of an arrival. -/
theorem duties_recv : (Rd m).duties (recvCell d st slot) 0 = {false} := duties_at m (d, some (true, (st, slot)))
/-- There are none in later rounds. -/
theorem duties_later (g : GSem nD τ sig) : ∀ r, 1 ≤ r → (Rd m).duties g r = ∅ := fun r hr => if_neg fun h => by omega

/-- A payment on the barrier is one unit, -/
theorem amount_bar : (Rd m).amount (barCell d) 0 b = 1 := congrArg amtOf kind_bar
/-- on a departure a message's units, -/
theorem amount_send : (Rd m).amount (sendCell d st slot) 0 b = N := congrArg amtOf (kind_send st slot)
/-- and on an arrival too. -/
theorem amount_recv : (Rd m).amount (recvCell d st slot) 0 b = N := congrArg amtOf (kind_recv st slot)

/-- What a payment on the barrier hands over, -/
theorem payload_bar : (Rd m).payload (barCell d) 0 b = barPay d b := congrArg (payOf m d b) kind_bar
/-- on a departure, -/
theorem payload_send : (Rd m).payload (sendCell d st slot) 0 b = sendPay m d st slot := congrArg (payOf m d b) (kind_send st slot)
/-- and on an arrival. -/
theorem payload_recv : (Rd m).payload (recvCell d st slot) 0 b = recvPay m d st slot := congrArg (payOf m d b) (kind_recv st slot)

/-- The barrier expects two units, -/
theorem expect_bar : (Rd m).expect (barCell d) 0 = 2 := by
  unfold Schedule.expect Schedule.amountOf
  rw [duties_bar, Finset.sum_congr rfl fun b _ => amount_bar m d b, Finset.sum_const, Finset.card_univ, Fintype.card_bool, smul_eq_mul]
/-- a departure a message's units, -/
theorem expect_send : (Rd m).expect (sendCell d st slot) 0 = N := by
  unfold Schedule.expect Schedule.amountOf; rw [duties_send, Finset.sum_singleton, amount_send]
/-- and an arrival too. -/
theorem expect_recv : (Rd m).expect (recvCell d st slot) 0 = N := by
  unfold Schedule.expect Schedule.amountOf; rw [duties_recv, Finset.sum_singleton, amount_recv]

/-- All that the barrier's wait takes: the slots of both neighbours, -/
theorem rest_bar : bigSep ((Rd m).duties (barCell d) 0 \ ∅) (fun b => (Rd m).payload (barCell d) 0 b) = iprop(barPay (F := F) d false ∗ barPay d true) := by
  rw [Finset.sdiff_empty, duties_bar, bigSep_univ_eq_bigSepL [false, true] (by decide) (by decide), bigSepL_cons_cons, bigSepL_singleton,
    payload_bar, payload_bar]
  rfl
/-- all that a departure's wait takes, -/
theorem rest_send : bigSep ((Rd m).duties (sendCell d st slot) 0 \ ∅) (fun b => (Rd m).payload (sendCell d st slot) 0 b) = sendPay m d st slot := by
  rw [Finset.sdiff_empty, duties_send, bigSep_singleton, payload_send]
/-- and all that an arrival's wait takes. -/
theorem rest_recv : bigSep ((Rd m).duties (recvCell d st slot) 0 \ ∅) (fun b => (Rd m).payload (recvCell d st slot) 0 b) = recvPay m d st slot := by
  rw [Finset.sdiff_empty, duties_recv, bigSep_singleton, payload_recv]

end Lemmas

/-! ## What is owed, and the levels -/

/-- What device `d` owes before it works through a list: for each message it will start, its units at the arrival cell of
    the device it goes to. -/
def owed (d : Dev nD) : List Op → CellTallies nD τ sig Unit
  | [] => 0
  | .s st slot :: l => owed d l + tallyAt (recvCell (dst d st) st slot) () N
  | .r _ _ :: l => owed d l

/-- At the launch a device owes its messages and each neighbour's barrier a unit. -/
def O₁ (d : Dev nD) : CellTallies nD τ sig Unit := owed d script + tallyAt (barCell (prv d)) () 1
/-- What a device owes at the launch, its first signal included. -/
def O₀ (d : Dev nD) : CellTallies nD τ sig Unit := O₁ d + tallyAt (barCell (nxt d)) () 1

/-- The one index of a TensorCore's tallies. -/
def L (g : GSem nD τ sig) : Finset Unit := if g.1.2 = .tc then {()} else ∅
/-- A TensorCore's semaphore has that index, -/
theorem L_tc (d : Dev nD) (sm : SemLoc sig) : L ((d : Thread nD τ), sm) = {()} := if_pos rfl
/-- and no other thread's has one. -/
theorem L_of_ne (g : GSem nD τ sig) (h : g.1.2 ≠ .tc) : L g = ∅ := if_neg h

/-- The barrier at 1, an arrival by the step its message starts at, everything else at 0. -/
def lvOf : Option KI → ℕ
  | some none => 1
  | some (some (true, x)) => startK x.1 x.2 + 2
  | _ => 0
/-- The level of a semaphore. -/
def lv (g : GSem nD τ sig) (_ : Unit) : ℕ := lvOf (kindOf g.2)

/-- The barrier's level, -/
theorem lv_bar (d : Dev nD) : lv (barCell d) () = 1 := congrArg lvOf kind_bar
/-- a departure's, -/
theorem lv_send (d : Dev nD) (st : Fin 8) (slot : Fin 15) : lv (sendCell d st slot) () = 0 := congrArg lvOf (kind_send st slot)
/-- and an arrival's. -/
theorem lv_recv (d : Dev nD) (st : Fin 8) (slot : Fin 15) : lv (recvCell d st slot) () = startK st slot + 2 := congrArg lvOf (kind_recv st slot)

/-- What is owed is owed to arrivals of messages still to be started. -/
theorem owed_pos {d : Dev nD} {g : GSem nD τ sig} {u : Unit} : ∀ {l : List Op}, 0 < owed d l g u →
    ∃ st slot, Op.s st slot ∈ l ∧ g = recvCell (dst d st) st slot
  | [], h => absurd h (Nat.lt_irrefl 0)
  | .r _ _ :: l, h => by
    obtain ⟨st, slot, h1, h2⟩ := owed_pos (l := l) h
    exact ⟨st, slot, List.mem_cons_of_mem _ h1, h2⟩
  | .s a b :: l, h => by
    unfold owed at h
    rw [Pi.add_apply, Finsupp.add_apply, tallyAt_apply] at h
    by_cases hg : g = recvCell (dst d a) a b ∧ u = ()
    · exact ⟨a, b, List.mem_cons_self, hg.1⟩
    · rw [if_neg hg, Nat.add_zero] at h
      obtain ⟨st, slot, h1, h2⟩ := owed_pos (l := l) h
      exact ⟨st, slot, List.mem_cons_of_mem _ h1, h2⟩

/-- At the launch only arrivals and barriers are owed anything. -/
theorem O₀_pos {d : Dev nD} {g : GSem nD τ sig} {u : Unit} (h : 0 < O₀ d g u) :
    (∃ st slot, g = recvCell (dst d st) st slot) ∨ ∃ e, g = barCell e := by
  unfold O₀ O₁ at h
  rw [Pi.add_apply, Finsupp.add_apply, Pi.add_apply, Finsupp.add_apply, tallyAt_apply, tallyAt_apply] at h
  by_cases h1 : g = barCell (nxt d) ∧ u = ()
  · exact Or.inr ⟨_, h1.1⟩
  by_cases h2 : g = barCell (prv d) ∧ u = ()
  · exact Or.inr ⟨_, h2.1⟩
  rw [if_neg h1, if_neg h2, Nat.add_zero] at h
  obtain ⟨st, slot, -, h⟩ := owed_pos (d := d) (l := script) h
  exact Or.inl ⟨st, slot, h⟩

/-- A wait on a cell below everything owed may be made. -/
theorem mayWait_of (d : Dev nD) (sm : SemLoc sig) (O : CellTallies nD τ sig Unit) (k : ℕ) (hk : lv ((d : Thread nD τ), sm) () ≤ k)
    (hO : ∀ g u, 0 < O g u → u ∈ L g ∧ k < lv g u) : (levAts L lv : sProp 𝕄) ⊢ MayWait (d : Thread nD τ) sm () O :=
  MayOwe.of_cut (L := L) (lev := lv) k (fun p hp => by rw [Finset.mem_singleton.mp hp, L_tc]; exact Finset.mem_singleton_self _)
    (fun g u hg => (hO g u hg).1) (fun p hp => by rw [Finset.mem_singleton.mp hp]; exact hk) (fun g u hg => (hO g u hg).2)

/-- What is owed lies above a level when every message still to be started does. -/
theorem owed_above {d : Dev nD} {l : List Op} {k : ℕ} (h : ∀ st slot, Op.s st slot ∈ l → k < startK st slot + 2) :
    ∀ g u, 0 < owed d l g u → u ∈ L g ∧ k < lv g u := fun g u hg => by
  obtain ⟨st, slot, h1, rfl⟩ := owed_pos hg
  exact ⟨by rw [L_tc]; exact Finset.mem_singleton_self _, by rw [show u = () from rfl, lv_recv]; exact h st slot h1⟩

/-- The waits of the body: on the barrier, on a departure, on an arrival. -/
theorem mayWait_bar (d : Dev nD) : (levAts L lv : sProp 𝕄) ⊢ MayWait (d : Thread nD τ) (.reg barS.sem) () (owed d script) :=
  mayWait_of d _ _ 1 (lv_bar d).le (owed_above fun _ _ _ => by omega)
/-- A departure may be waited for whatever messages are still owed, -/
theorem mayWait_send (d : Dev nD) (st : Fin 8) (slot : Fin 15) (l : List Op) :
    (levAts L lv : sProp 𝕄) ⊢ MayWait (d : Thread nD τ) (.dma (sendS st slot)) () (owed d l) :=
  mayWait_of d _ _ 0 (lv_send d st slot).le (owed_above fun _ _ _ => by omega)
/-- and an arrival when the messages still to be started start later. -/
theorem mayWait_recv (d : Dev nD) (st : Fin 8) (slot : Fin 15) (l : List Op) (h : lateOK (.r st slot :: l) = true) :
    (levAts L lv : sProp 𝕄) ⊢ MayWait (d : Thread nD τ) (.dma (recvS st slot)) () (owed d l) :=
  mayWait_of d _ _ (startK st slot + 2) (lv_recv d st slot).le (owed_above fun a b hm => by
    unfold lateOK at h
    have := List.all_eq_true.mp ((Bool.and_eq_true _ _).mp h).1 _ hm
    have := Nat.blt_eq.mp this
    omega)

/-- The staging cells' waits, before the body and after it. -/
theorem mayWait_stage (d : Dev nD) (q : DmaSem sig) (hq : kindOf (.dma q) = none) (O : CellTallies nD τ sig Unit) (hO : O = O₀ d ∨ O = 0) :
    (levAts L lv : sProp 𝕄) ⊢ MayWait (d : Thread nD τ) (.dma q) () O := by
  refine mayWait_of d _ _ 0 (show lvOf (kindOf (.dma q)) ≤ 0 by rw [hq]; exact le_refl _) fun g u hg => ?_
  rcases hO with rfl | rfl
  · rcases O₀_pos hg with ⟨st, slot, rfl⟩ | ⟨e, rfl⟩
    · exact ⟨by rw [L_tc]; exact Finset.mem_singleton_self _, by rw [show u = () from rfl, lv_recv]; omega⟩
    · exact ⟨by rw [L_tc]; exact Finset.mem_singleton_self _, by rw [show u = () from rfl, lv_bar]; omega⟩
  · exact absurd hg (Nat.lt_irrefl 0)

end Cert.KernelIdeal.Ring

end
-- ==== Proof.KernelIdeal.Steps.lean ====
/-
One list entry, run: what each token stands for on a device, and for each entry that its program, from the tokens it
takes, reaches the tokens it leaves.
-/
module

public import proofs.«01_k».proof.Proof.KernelIdeal.Sch

@[expose] public section

set_option maxRecDepth 16384

noncomputable section

namespace Cert.KernelIdeal.Ring

open Cert.KernelIdeal Cert.KernelIdeal.Gen Cert.Ring
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- The program has no loops that need a variant. -/
abbrev 𝒱₀ : Variants := Variants.none

/-! ## What everyone knows -/

/-- Every cell's invariant, at its name, and that its round is open. -/
def records (K : Dev nD × KI → ℕ) : sProp 𝕄 :=
  iprop((bigSep Finset.univ fun x : Dev nD × KI => cellInv ER (Rd m) (K x) (kcell x)) ∗ bigSep Finset.univ fun x : Dev nD × KI => reached ER (kcell x) 0)

/-- What everyone knows stays known. -/
instance records_persistent (K : Dev nD × KI → ℕ) : BI.Persistent (records m K) := by unfold records; infer_instance

/-- It contains each cell's invariant, -/
theorem records_inv (K : Dev nD × KI → ℕ) (x : Dev nD × KI) : records m K ⊢ cellInv ER (Rd m) (K x) (kcell x) := by
  unfold records; exact sep_elim_left.trans (bigSep_elim (Finset.mem_univ x))
/-- and that each cell is at its round. -/
theorem records_reached (K : Dev nD × KI → ℕ) (x : Dev nD × KI) : records m K ⊢ (reached ER (kcell x) 0 : sProp 𝕄) := by
  unfold records; exact sep_elim_right.trans (bigSep_elim (Finset.mem_univ x))

section At
variable (K : Dev nD × KI → ℕ) (d : Dev nD) (st : Fin 8) (slot : Fin 15)
/-- The invariant of a departure, -/
theorem inv_send : records m K ⊢ cellInv ER (Rd m) (K (d, some (false, (st, slot)))) (sendCell d st slot) := records_inv m K (d, some (false, (st, slot)))
/-- of an arrival, -/
theorem inv_recv : records m K ⊢ cellInv ER (Rd m) (K (d, some (true, (st, slot)))) (recvCell d st slot) := records_inv m K (d, some (true, (st, slot)))
/-- and of the barrier. -/
theorem inv_bar : records m K ⊢ cellInv ER (Rd m) (K (d, none)) (barCell d) := records_inv m K (d, none)
/-- A departure is at its round, -/
theorem reached_send : records m K ⊢ (reached ER (sendCell d st slot) 0 : sProp 𝕄) := records_reached m K (d, some (false, (st, slot)))
/-- and so is an arrival, -/
theorem reached_recv : records m K ⊢ (reached ER (recvCell d st slot) 0 : sProp 𝕄) := records_reached m K (d, some (true, (st, slot)))
/-- and so is the barrier. -/
theorem reached_bar : records m K ⊢ (reached ER (barCell d) 0 : sProp 𝕄) := records_reached m K (d, none)
end At

/-! ## The tokens -/

/-- What a token stands for on device `d`. -/
def tok (d : Dev nD) : Tok → sProp 𝕄
  | .nc st slot => comAny (F := F) (dst d st) st (cslot slot)
  | .tk st slot => iprop(dutyTok ER (sendCell d st slot) 0 false ∗ dutyTok ER (recvCell (dst d st) st slot) 0 false)
  | .ps st slot => iprop(atPos ER (sendCell d st slot) 0 ∅ 0 ∗ atPos ER (recvCell d st slot) 0 ∅ 0 ∗ cred (tallyAt (recvCell d st slot) () N))
  | .cs st slot => cred (tallyAt (sendCell d st slot) () N)
  | .dn st slot => iprop(atPos ER (sendCell d st slot) (0 + 1) ∅ 0 ∗ atPos ER (recvCell d st slot) (0 + 1) ∅ 0)
  | .cm st slot => comAny (F := F) d st (cslot slot)
  | .nb st slot => blkAny (F := F) (src d st) (piece st) (rBlk d st slot)
  | .out p j k => blk d p (blockOf (rank d).val j) fullShare (outVal m d p j k)
  | .half p b => blk d p (rank d) (if b then fullShare.right else fullShare.left) (fin m p (rank d))

/-- What a list of tokens stands for. -/
abbrev holds (d : Dev nD) (l : List Tok) : sProp 𝕄 := bigSepL l (tok m d)

/-- A conjunction over a list does not depend on the order. -/
theorem bigSepL_perm' {I : Type} {l l' : List I} (h : l.Perm l') (Φ : I → sProp 𝕄) : bigSepL l Φ = bigSepL l' Φ := by
  induction h with
  | nil => rfl
  | cons x _ ih => rw [bigSepL_cons, bigSepL_cons, ih]
  | swap x y l => rw [bigSepL_cons, bigSepL_cons, bigSepL_cons, bigSepL_cons]; exact BI.Entails.antisymm (sep_left_comm (PROP := sProp 𝕄)).1 (sep_left_comm (PROP := sProp 𝕄)).2
  | trans _ _ h₁ h₂ => exact h₁.trans h₂

/-- The block a gathering message is sent from, at its share. -/
theorem tok_src (d : Dev nD) (st : Fin 8) (slot : Fin 15) :
    tok m d (srcTok st slot) = blk d (piece st) (sBlk d st slot) (qSrc st slot) (fin m (piece st) (sBlk d st slot)) := by
  unfold srcTok qSrc
  by_cases h : (sendJ st slot).val = 0
  · rw [if_pos h, if_pos h]; unfold tok; rw [show sBlk d st slot = rank d from block_zero d _ h]
  · rw [if_neg h, if_neg h]; simp only [tok]; rw [outVal_two]

/-! ## The payloads, by the kind of message -/

section Pay
variable {st : Fin 8} {slot : Fin 15}
/-- A reducing message's departure gives nothing back, -/
theorem sendPay_red (d : Dev nD) (hr : red st slot = true) : sendPay m d st slot = iprop(emp) := by
  unfold sendPay; rw [if_pos hr]
/-- a gathering one's gives its block back. -/
theorem sendPay_gath (d : Dev nD) (hr : red st slot = false) :
    sendPay m d st slot = blk d (piece st) (sBlk d st slot) (qSrc st slot) (fin m (piece st) (sBlk d st slot)) := by
  unfold sendPay; rw [hr, if_neg Bool.false_ne_true]
/-- A reducing message's arrival hands over its slot and the block it was sent from, -/
theorem recvPay_red (d : Dev nD) (hr : red st slot = true) :
    recvPay m d st slot = iprop(com d st (cslot slot) (msgVal m st slot (rBlk d st slot)) ∗ blkAny (F := F) (src d st) (piece st) (rBlk d st slot)) := by
  unfold recvPay; rw [if_pos hr]
/-- a gathering one's hands over the block. -/
theorem recvPay_gath (d : Dev nD) (hr : red st slot = false) :
    recvPay m d st slot = blk d (piece st) (rBlk d st slot) fullShare (fin m (piece st) (rBlk d st slot)) := by
  unfold recvPay; rw [hr, if_neg Bool.false_ne_true]
end Pay

/-- Owning a view is holding its elements with contents that read so, -/
theorem owns_open {d : Dev nD} {sp : Space} {sh : Shape} {e : EltTy} (M : Memref sig .tc sp sh e) (q : PosShare TreeShare) (X : sh.Idx → Elt F e) :
    owns (d : Thread nD τ) M q X ⊢ (iprop(∃ f, ⌜M.view.read (Elt F) f = X⌝ ∗ (M.view.loc (d : Thread nD τ) ↦[M.view.set]{q} f)) : sProp 𝕄) := Entails.rfl

/-- and the other way round. -/
theorem owns_close {d : Dev nD} {sp : Space} {sh : Shape} {e : EltTy} (M : Memref sig .tc sp sh e) (q : PosShare TreeShare) {X : sh.Idx → Elt F e}
    {f : Buf (Elt F) (M.view.loc (d : Thread nD τ))} (h : M.view.read (Elt F) f = X) :
    ((M.view.loc (d : Thread nD τ) ↦[M.view.set]{q} f) : sProp 𝕄) ⊢ owns (d : Thread nD τ) M q X := by
  unfold owns
  iintro H; iexists f; isplitr
  · ipureintro; exact h
  iexact H

/-! ## The start of a message -/

/-- The start of a reducing message: the block and the neighbour's slot go with it. -/
theorem start_red (K : Dev nD × KI → ℕ) (d : Dev nD) (st : Fin 8) (slot : Fin 15) (hr : red st slot = true) (l : List Op) (W : Waits sig Unit)
    {α : Type} (Q : α → sProp 𝕄) (k : PUnit → Prog (TpuEff nD τ sig (Elt F) Λ₀ .tc) α) :
    iprop(records m K ∗ tok m d (.tk st slot) ∗ tok m d (.nc st slot) ∗ tok m d (.out (piece st) (sendJ st slot) 1)
        ∗ owes (d : Thread nD τ) (owed d (.s st slot :: l)) W)
      ⊢ iprop(((tok m d (.cs st slot) ∗ owes (d : Thread nD τ) (owed d l) W) -∗ wp frame (wpE (defs₀ (F := F)) 𝒱₀ (d : Thread nD τ) none) Set.univ (k ⟨⟩) Q)
          -∗ wp frame (wpE (defs₀ (F := F)) 𝒱₀ (d : Thread nD τ) none) Set.univ (opProg d (.s st slot) >>= k) Q) := by
  simp only [opProg, startAt, hr, cond_true, Prog.lift, Prog.bind_op, Prog.bind_ret]
  simp only [tok]; unfold blk comAny com owns
  iintro ⟨#HR, ⟨Ht1, Ht2⟩, ⟨%X, %fd, %hfd, Hd⟩, ⟨%fs, %hfs, Hs⟩, HO⟩ Hk
  iapply (Rounds.wp_send_landing_pointsTo 𝒱₀ ER (Rd m) (d : Thread nD τ) none (c' := (dst d st : Thread nD τ)) (src := oB (coff (sBlk d st slot) (piece st)) (coff_inb _ _))
    (dst := cB st (cslot slot)) (κ₁ := K (d, some (false, (st, slot))))
    (κ₂ := K (dst d st, some (true, (st, slot)))) (r₁ := 0) (r₂ := 0) (d₁ := false) (d₂ := false) (fs := fs) (fd := fd)
    (by rw [duties_send]; exact Finset.mem_singleton_self _) (by rw [duties_recv]; exact Finset.mem_singleton_self _)
    () () N rfl (amount_send m d st slot false) (amount_recv m (dst d st) st slot false) (owed d l) rfl (W := W)
    (by rw [payload_send]; rw [sendPay_red m _ hr])
    (by
      rw [payload_recv]; rw [recvPay_red m _ hr, rBlk_dst, src_dst, ← outVal_send hr, ← hfs]
      refine BIClass.sep_mono ?_ ?_
      · unfold com owns
        iintro H; iexists _; isplitr
        swap; · iexact H
        ipureintro; exact View.read_write_univ _ _
      · unfold blkAny blk owns
        iintro H; iexists _, _; isplitr
        swap; · iexact H
        ipureintro; rfl)) $$ [Ht1 Ht2 Hd Hs HO]
  · isplitr; · iapply (inv_send m K d st slot); iexact HR
    isplitr; · iapply (inv_recv m K (dst d st) st slot); iexact HR
    isplitl [Hs]; · iexact Hs
    isplitl [Hd]; · iexact Hd
    isplitl [HO]; · iexact HO
    isplitl [Ht1]; · iexact Ht1
    isplitr; · iapply (reached_send m K d st slot); iexact HR
    isplitl [Ht2]; · iexact Ht2
    iapply (reached_recv m K (dst d st) st slot); iexact HR
  iexact Hk

/-- The start of a gathering message: the neighbour's block is overwritten. -/
theorem start_gath (K : Dev nD × KI → ℕ) (d : Dev nD) (st : Fin 8) (slot : Fin 15) (hr : red st slot = false) (l : List Op) (W : Waits sig Unit)
    {α : Type} (Q : α → sProp 𝕄) (k : PUnit → Prog (TpuEff nD τ sig (Elt F) Λ₀ .tc) α) :
    iprop(records m K ∗ tok m d (.tk st slot) ∗ tok m d (.nb (swapS st) (revS slot)) ∗ tok m d (srcTok st slot)
        ∗ owes (d : Thread nD τ) (owed d (.s st slot :: l)) W)
      ⊢ iprop(((tok m d (.cs st slot) ∗ owes (d : Thread nD τ) (owed d l) W) -∗ wp frame (wpE (defs₀ (F := F)) 𝒱₀ (d : Thread nD τ) none) Set.univ (k ⟨⟩) Q)
          -∗ wp frame (wpE (defs₀ (F := F)) 𝒱₀ (d : Thread nD τ) none) Set.univ (opProg d (.s st slot) >>= k) Q) := by
  rw [tok_src]
  simp only [opProg, startAt, hr, cond_false, Prog.lift, Prog.bind_op, Prog.bind_ret]
  simp only [tok]
  simp only [src_swap, piece_swap, rBlk_swap d st slot hr]
  unfold blkAny blk owns
  iintro ⟨#HR, ⟨Ht1, Ht2⟩, ⟨%X, %fd, %hfd, Hd⟩, ⟨%fs, %hfs, Hs⟩, HO⟩ Hk
  iapply (Rounds.wp_send_pointsTo 𝒱₀ ER (Rd m) (d : Thread nD τ) none (c' := (dst d st : Thread nD τ)) (src := oB (coff (sBlk d st slot) (piece st)) (coff_inb _ _))
    (dst := oB (coff (sBlk d st slot) (piece st)) (coff_inb _ _)) (κ₁ := K (d, some (false, (st, slot))))
    (κ₂ := K (dst d st, some (true, (st, slot)))) (r₁ := 0) (r₂ := 0) (d₁ := false) (d₂ := false) (fs := fs) (fd := fd)
    (by rw [duties_send]; exact Finset.mem_singleton_self _) (by rw [duties_recv]; exact Finset.mem_singleton_self _)
    () () N rfl (amount_send m d st slot false) (amount_recv m (dst d st) st slot false) (owed d l) rfl (W := W)
    (by
      rw [payload_send]; rw [sendPay_gath m _ hr, ← hfs]
      unfold blk owns
      iintro H; iexists _; isplitr
      swap; · iexact H
      ipureintro; rfl)
    (by
      rw [payload_recv]; rw [recvPay_gath m _ hr, rBlk_dst, ← hfs]
      unfold blk owns
      iintro H; iexists _; isplitr
      swap; · iexact H
      ipureintro; exact View.read_write_univ _ _)) $$ [Ht1 Ht2 Hd Hs HO]
  · isplitr; · iapply (inv_send m K d st slot); iexact HR
    isplitr; · iapply (inv_recv m K (dst d st) st slot); iexact HR
    isplitl [Hs]; · iexact Hs
    isplitl [Hd]; · iexact Hd
    isplitl [HO]; · iexact HO
    isplitl [Ht1]; · iexact Ht1
    isplitr; · iapply (reached_send m K d st slot); iexact HR
    isplitl [Ht2]; · iexact Ht2
    iapply (reached_recv m K (dst d st) st slot); iexact HR
  iexact Hk

/-! ## The receipt of a message -/

/-- The receipt of a gathering message: its block is final, and the block sent is back. -/
theorem recv_gath (K : Dev nD × KI → ℕ) (d : Dev nD) (st : Fin 8) (slot : Fin 15) (hr : red st slot = false) (l : List Op)
    (hl : lateOK (.r st slot :: l) = true) (W : Waits sig Unit)
    {α : Type} (Q : α → sProp 𝕄) (k : PUnit → Prog (TpuEff nD τ sig (Elt F) Λ₀ .tc) α) :
    iprop(records m K ∗ levAts L lv ∗ tok m d (.cs st slot) ∗ tok m d (.ps st slot) ∗ owes (d : Thread nD τ) (owed d (.r st slot :: l)) W)
      ⊢ iprop(((tok m d (.dn st slot) ∗ tok m d (.out (piece st) (recvJ st slot) 2) ∗ tok m d (srcTok st slot) ∗ ∃ W, owes (d : Thread nD τ) (owed d l) W)
            -∗ wp frame (wpE (defs₀ (F := F)) 𝒱₀ (d : Thread nD τ) none) Set.univ (k ⟨⟩) Q)
          -∗ wp frame (wpE (defs₀ (F := F)) 𝒱₀ (d : Thread nD τ) none) Set.univ (opProg d (.r st slot) >>= k) Q) := by
  rw [tok_src]
  simp only [opProg, recvAt, hr, cond_false, Prog.lift, Prog.bind_op, Prog.bind_ret]
  simp only [tok, owed]
  rw [outVal_two]
  iintro ⟨#HR, #Hlev, HcS, ⟨HaS, HaR, HcR⟩, HO⟩ Hk
  iapply (Rounds.wp_wait_rest_token 𝒱₀ ER (Rd m) (d : Thread nD τ) none (κ := K (d, some (false, (st, slot))))
      (wpE_waitDma2_eq 𝒱₀ (d : Thread nD τ) none Set.univ) (Set.mem_univ _) () (O := owed d l) (W := W) (R := 0) (m := 0) (T := ∅)
      (by rw [Nat.zero_add, expect_send])) $$ [HcS HO HaS]
  · isplitr; · iapply (inv_send m K d st slot); iexact HR
    isplitl [HcS]; · iexact HcS
    isplitl [HO]; · iexact HO
    isplitr; · iapply (mayWait_send d st slot l); iexact Hlev
    iexact HaS
  iintro ⟨HO, HaS, -, Hpay⟩
  ihave Hp1 := (Entails.of_eq ((rest_send m d st slot).trans (sendPay_gath m d hr))) $$ Hpay
  iapply (Rounds.wp_wait_rest_token 𝒱₀ ER (Rd m) (d : Thread nD τ) none (κ := K (d, some (true, (st, slot))))
      (wpE_waitDma2_eq 𝒱₀ (d : Thread nD τ) none Set.univ) (Set.mem_univ _) () (O := owed d l) (R := 0) (m := 0) (T := ∅)
      (by rw [Nat.zero_add, expect_recv])) $$ [HcR HO HaR]
  · isplitr; · iapply (inv_recv m K d st slot); iexact HR
    isplitl [HcR]; · iexact HcR
    isplitl [HO]; · iexact HO
    isplitr; · iapply (mayWait_recv d st slot l hl); iexact Hlev
    iexact HaR
  iintro ⟨HO, HaR, -, Hpay⟩
  ihave Hp2 := (Entails.of_eq ((rest_recv m d st slot).trans (recvPay_gath m d hr))) $$ Hpay
  iapply Hk
  isplitl [HaS HaR]
  · isplitl [HaS] <;> iassumption
  isplitl [Hp2]; · iexact Hp2
  isplitl [Hp1]; · iexact Hp1
  iexists _; iexact HO

/-- What the sum writes. -/
theorem add_close (d : Dev nD) (p : Fin 4) (c : Fin 16) (st k : Fin 8) {X Y : Blk F}
    {fo : Buf (Elt F) ((oB (coff c p) (coff_inb c p)).view.loc (d : Thread nD τ))} {fc : Buf (Elt F) ((cB st k).view.loc (d : Thread nD τ))}
    (ho : (oB (coff c p) (coff_inb c p)).view.read (Elt F) fo = X) (hc : (cB st k).view.read (Elt F) fc = Y) :
    (((oB (coff c p) (coff_inb c p)).view.loc (d : Thread nD τ) ↦[(oB (coff c p) (coff_inb c p)).view.set]{fullShare}
        (oM.access (oR (coff c p) (coff_inb c p))).write (Elt F) fo
          (addBlk ((oM.access (oR (coff c p) (coff_inb c p))).read (Elt F) fo) ((cM.access (cR st k)).read (Elt F) fc)) Finset.univ) : sProp 𝕄)
      ⊢ blk d p c fullShare (add X Y) := by
  refine owns_close _ _ ?_
  refine (View.read_write_univ _ _).trans ?_
  rw [addBlk_eq, ← ho, ← hc]
  rfl

/-- The receipt of a reducing message: what has landed is added into a block of the result. -/
theorem recv_red (K : Dev nD × KI → ℕ) (d : Dev nD) (st : Fin 8) (slot : Fin 15) (hr : red st slot = true) (l : List Op)
    (hl : lateOK (.r st slot :: l) = true) (W : Waits sig Unit) (j : Fin 3)
    {α : Type} (Q : α → sProp 𝕄) (k : PUnit → Prog (TpuEff nD τ sig (Elt F) Λ₀ .tc) α) :
    iprop(records m K ∗ levAts L lv ∗ tok m d (.cs st slot) ∗ tok m d (.ps st slot) ∗ tok m d (.out (piece st) (recvJ st slot) j)
        ∗ owes (d : Thread nD τ) (owed d (.r st slot :: l)) W)
      ⊢ iprop(((tok m d (.dn st slot) ∗ tok m d (.cm st slot) ∗ tok m d (.nb st slot)
              ∗ blk d (piece st) (rBlk d st slot) fullShare (add (outVal m d (piece st) (recvJ st slot) j) (msgVal m st slot (rBlk d st slot)))
              ∗ ∃ W, owes (d : Thread nD τ) (owed d l) W)
            -∗ wp frame (wpE (defs₀ (F := F)) 𝒱₀ (d : Thread nD τ) none) Set.univ (k ⟨⟩) Q)
          -∗ wp frame (wpE (defs₀ (F := F)) 𝒱₀ (d : Thread nD τ) none) Set.univ (opProg d (.r st slot) >>= k) Q) := by
  simp only [opProg, recvAt, hr, cond_true, Prog.lift, Prog.bind_op, Prog.bind_ret]
  simp only [tok, owed]
  iintro ⟨#HR, #Hlev, HcS, ⟨HaS, HaR, HcR⟩, Hout, HO⟩ Hk
  iapply (Rounds.wp_wait_rest_token 𝒱₀ ER (Rd m) (d : Thread nD τ) none (κ := K (d, some (false, (st, slot))))
      (wpE_waitDma2_eq 𝒱₀ (d : Thread nD τ) none Set.univ) (Set.mem_univ _) () (O := owed d l) (W := W) (R := 0) (m := 0) (T := ∅)
      (by rw [Nat.zero_add, expect_send])) $$ [HcS HO HaS]
  · isplitr; · iapply (inv_send m K d st slot); iexact HR
    isplitl [HcS]; · iexact HcS
    isplitl [HO]; · iexact HO
    isplitr; · iapply (mayWait_send d st slot l); iexact Hlev
    iexact HaS
  iintro ⟨HO, HaS, -, -⟩
  iapply (Rounds.wp_wait_rest_token 𝒱₀ ER (Rd m) (d : Thread nD τ) none (κ := K (d, some (true, (st, slot))))
      (wpE_waitDma2_eq 𝒱₀ (d : Thread nD τ) none Set.univ) (Set.mem_univ _) () (O := owed d l) (R := 0) (m := 0) (T := ∅)
      (by rw [Nat.zero_add, expect_recv])) $$ [HcR HO HaR]
  · isplitr; · iapply (inv_recv m K d st slot); iexact HR
    isplitl [HcR]; · iexact HcR
    isplitl [HO]; · iexact HO
    isplitr; · iapply (mayWait_recv d st slot l hl); iexact Hlev
    iexact HaR
  iintro ⟨HO, HaR, -, Hpay⟩
  icases (Entails.of_eq ((rest_recv m d st slot).trans (recvPay_red m d hr))) $$ Hpay with ⟨Hcom, Hnb⟩
  icases (owns_open _ _ _) $$ Hout with ⟨%fo, %hfo, Hout⟩
  icases (owns_open _ _ _) $$ Hcom with ⟨%fc, %hfc, Hcom⟩
  iapply (wp_load 𝒱₀ (d : Thread nD τ) none Set.univ (m := oM) (le_of_eq (View.set_slice _ _).symm)) $$ Hout; iintro Hout
  iapply (wp_load 𝒱₀ (d : Thread nD τ) none Set.univ (m := cM)
    (le_of_eq ((View.set_slice _ _).symm.trans (Memref.set_view_squeeze _ _).symm))) $$ Hcom; iintro Hcom
  iapply (wp_load 𝒱₀ (d : Thread nD τ) none Set.univ (m := oM) (le_of_eq (View.set_slice _ _).symm)) $$ Hout; iintro Hout
  iapply (wp_store 𝒱₀ (d : Thread nD τ) none Set.univ (m := oM) (r := oR (coff (rBlk d st slot) (piece st)) (coff_inb _ _)) (Mk := Finset.univ)
    (S := (oB (coff (rBlk d st slot) (piece st)) (coff_inb _ _)).view.set) (le_of_eq rfl)) $$ Hout; iintro Hout
  iapply Hk
  isplitl [HaS HaR]
  · isplitl [HaS] <;> iassumption
  isplitl [Hcom]
  · iexists _; iapply (owns_close _ _ hfc); iexact Hcom
  isplitl [Hnb]; · iexact Hnb
  isplitl [Hout]
  · iapply (add_close d (piece st) (rBlk d st slot) st (cslot slot) hfo hfc)
    iexact Hout
  iexists _; iexact HO

end Cert.KernelIdeal.Ring

end
-- ==== Proof.KernelIdeal.Walk.lean ====
/-
The whole list, run: every entry finds its tokens, so from the tokens at the start the program of the list reaches the
tokens at the end.
-/
module

public import proofs.«01_k».proof.Proof.KernelIdeal.Steps
public import Idealize.ShloMosaic.Lib.Pipeline.BigSepL

@[expose] public section

set_option maxRecDepth 16384

noncomputable section

namespace Cert.KernelIdeal.Ring

open Cert.KernelIdeal Cert.KernelIdeal.Gen Cert.Ring
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- One token of a list, and three. -/
theorem holds_cons (d : Dev nD) (t : Tok) (l : List Tok) : holds m d (t :: l) = iprop(tok m d t ∗ holds m d l) := bigSepL_cons' t l _
/-- One token held, -/
theorem holds_one (d : Dev nD) (t : Tok) : holds m d [t] = tok m d t := rfl
/-- two tokens, -/
theorem holds_two (d : Dev nD) (t u : Tok) : holds m d [t, u] = iprop(tok m d t ∗ tok m d u) := rfl
/-- and three. -/
theorem holds_three (d : Dev nD) (t u v : Tok) : holds m d [t, u, v] = iprop(tok m d t ∗ tok m d u ∗ tok m d v) := rfl

/-- The block that has become final at its own device, in halves. -/
theorem half_split (d : Dev nD) (st : Fin 8) (slot : Fin 15) (hl : last st slot = true) :
    blk d (piece st) (rBlk d st slot) fullShare (add (outVal m d (piece st) (recvJ st slot) 1) (msgVal m st slot (rBlk d st slot)))
      ⊢ holds m d [.half (piece st) false, .half (piece st) true] := by
  have h0 : (recvJ st slot).val = 0 := by
    unfold last at hl
    rw [Bool.and_eq_true, Bool.and_eq_true, beq_iff_eq] at hl
    exact hl.1.2
  rw [outVal_last hl, outVal_two, show rBlk d st slot = rank d from block_zero d _ h0, block_zero d _ h0, holds_two]
  simp only [tok, if_pos, Bool.false_eq_true, if_false]
  exact (owns_halves _ _ _ _).1

/-- One entry: from the tokens it takes to the tokens it leaves. -/
theorem step (K : Dev nD × KI → ℕ) (d : Dev nD) (o : Op) (l : List Op) (hl : lateOK (o :: l) = true)
    {α : Type} (Q : α → sProp 𝕄) (k : PUnit → Prog (TpuEff nD τ sig (Elt F) Λ₀ .tc) α) :
    iprop(records m K ∗ levAts L lv ∗ holds m d (need o) ∗ ∃ W, owes (d : Thread nD τ) (owed d (o :: l)) W)
      ⊢ iprop(((holds m d (give o) ∗ ∃ W, owes (d : Thread nD τ) (owed d l) W)
            -∗ wp frame (wpE (defs₀ (F := F)) 𝒱₀ (d : Thread nD τ) none) Set.univ (k ⟨⟩) Q)
          -∗ wp frame (wpE (defs₀ (F := F)) 𝒱₀ (d : Thread nD τ) none) Set.univ (opProg d o >>= k) Q) := by
  cases o with
  | s st slot =>
    cases hr : red st slot with
    | true =>
      rw [need, give, if_pos hr, holds_three, holds_one]
      iintro ⟨#HR, #-, ⟨Ht, Hn, Ho⟩, ⟨%W, HO⟩⟩ Hk
      iapply (start_red m K d st slot hr l W Q k) $$ [Ht Hn Ho HO]
      · isplitr; · iexact HR
        isplitl [Ht]; · iexact Ht
        isplitl [Hn]; · iexact Hn
        isplitl [Ho]; · iexact Ho
        iexact HO
      iintro ⟨Hc, HO⟩
      iapply Hk
      isplitl [Hc]; · iexact Hc
      iexists W; iexact HO
    | false =>
      rw [need, give, hr, if_neg Bool.false_ne_true, holds_three, holds_one]
      iintro ⟨#HR, #-, ⟨Ht, Hn, Ho⟩, ⟨%W, HO⟩⟩ Hk
      iapply (start_gath m K d st slot hr l W Q k) $$ [Ht Hn Ho HO]
      · isplitr; · iexact HR
        isplitl [Ht]; · iexact Ht
        isplitl [Hn]; · iexact Hn
        isplitl [Ho]; · iexact Ho
        iexact HO
      iintro ⟨Hc, HO⟩
      iapply Hk
      isplitl [Hc]; · iexact Hc
      iexists W; iexact HO
  | r st slot =>
    cases hr : red st slot with
    | true =>
      rw [need, give, if_pos hr, if_pos hr, holds_three]
      iintro ⟨#HR, #Hlev, ⟨Hc, Hp, Ho⟩, ⟨%W, HO⟩⟩ Hk
      iapply (recv_red m K d st slot hr l hl W (if last st slot then 1 else 0) Q k) $$ [Hc Hp Ho HO]
      · isplitr; · iexact HR
        isplitr; · iexact Hlev
        isplitl [Hc]; · iexact Hc
        isplitl [Hp]; · iexact Hp
        isplitl [Ho]; · iexact Ho
        iexact HO
      iintro ⟨Hdn, Hcm, Hnb, Ho, HO⟩
      iapply Hk
      isplitr [HO]
      swap; · iexact HO
      simp only [List.cons_append, List.nil_append, holds_cons]
      isplitl [Hdn]; · iexact Hdn
      isplitl [Hcm]; · iexact Hcm
      isplitl [Hnb]; · iexact Hnb
      cases hla : last st slot with
      | true =>
        rw [if_pos rfl, if_pos rfl]
        iapply (half_split m d st slot hla); iexact Ho
      | false =>
        rw [if_neg Bool.false_ne_true, if_neg Bool.false_ne_true, outVal_recv hr hla, holds_one]
        iapply (show blk d (piece st) (rBlk d st slot) fullShare (outVal m d (piece st) (recvJ st slot) 1)
          ⊢ tok m d (.out (piece st) (recvJ st slot) 1) from Entails.rfl)
        iexact Ho
    | false =>
      rw [need, give, hr, if_neg Bool.false_ne_true, if_neg Bool.false_ne_true, holds_two, holds_three]
      iintro ⟨#HR, #Hlev, ⟨Hc, Hp⟩, ⟨%W, HO⟩⟩ Hk
      iapply (recv_gath m K d st slot hr l hl W Q k) $$ [Hc Hp HO]
      · isplitr; · iexact HR
        isplitr; · iexact Hlev
        isplitl [Hc]; · iexact Hc
        isplitl [Hp]; · iexact Hp
        iexact HO
      iintro ⟨Hdn, Hout, Hsrc, HO⟩
      iapply Hk
      isplitr [HO]
      swap; · iexact HO
      isplitl [Hdn]; · iexact Hdn
      isplitl [Hout]; · iexact Hout
      iexact Hsrc

/-- The order stays right for the rest of the list. -/
theorem lateOK_tail {o : Op} {l : List Op} (h : lateOK (o :: l) = true) : lateOK l = true := by
  cases o with
  | s st slot => exact h
  | r st slot => unfold lateOK at h; rw [Bool.and_eq_true] at h; exact h.2

/-- The whole list. -/
theorem walk (K : Dev nD × KI → ℕ) (d : Dev nD) {α : Type} (Q : α → sProp 𝕄) (k : PUnit → Prog (TpuEff nD τ sig (Elt F) Λ₀ .tc) α) :
    ∀ (ops : List Op) (t t' : List Tok), lateOK ops = true → sim ops t = some t' →
    (iprop(records m K ∗ levAts L lv ∗ holds m d t ∗ ∃ W, owes (d : Thread nD τ) (owed d ops) W)
      ⊢ iprop(((holds m d t' ∗ ∃ W, owes (d : Thread nD τ) 0 W)
            -∗ wp frame (wpE (defs₀ (F := F)) 𝒱₀ (d : Thread nD τ) none) Set.univ (k ⟨⟩) Q)
          -∗ wp frame (wpE (defs₀ (F := F)) 𝒱₀ (d : Thread nD τ) none) Set.univ (runAll (opProg d) ops >>= k) Q))
  | [], t, t', _, hs => by
    cases hs
    iintro ⟨#-, #-, Ht, HO⟩ Hk
    iapply Hk
    isplitl [Ht]; · iexact Ht
    iexact HO
  | o :: ops, t, t', hla, hs => by
    unfold sim at hs
    cases htk : takeAll (need o) t with
    | none => rw [htk] at hs; cases hs
    | some t₁ =>
      rw [htk] at hs
      have hperm := takeAll_perm htk
      have ih := walk K d Q k ops (give o ++ t₁) t' (lateOK_tail hla) hs
      unfold holds
      rw [bigSepL_perm' hperm, bigSepL_append]
      unfold runAll
      rw [show ((opProg (F := F) d o >>= fun _ => runAll (opProg d) ops) >>= k) = (opProg d o >>= fun _ => runAll (opProg d) ops >>= k) from Prog.bind_assoc _ _ _]
      iintro ⟨#HR, #Hlev, ⟨Hn, Ht⟩, HO⟩ Hk
      iapply (step m K d o ops hla Q (fun _ => runAll (opProg d) ops >>= k)) $$ [Hn HO]
      · isplitr; · iexact HR
        isplitr; · iexact Hlev
        isplitl [Hn]; · iexact Hn
        iexact HO
      iintro ⟨Hg, HO⟩
      iapply ih $$ [Hg Ht HO]
      · isplitr; · iexact HR
        isplitr; · iexact Hlev
        isplitr [HO]
        · unfold holds; rw [bigSepL_append]; isplitl [Hg] <;> iassumption
        iexact HO
      iexact Hk

end Cert.KernelIdeal.Ring

end
-- ==== Proof.KernelIdeal.Buffers.lean ====
/-
The result and the communication buffer, cut into the blocks and slots the tokens speak of, and joined again.
-/
module

public import proofs.«01_k».proof.Proof.KernelIdeal.Walk

@[expose] public section

set_option maxRecDepth 16384

noncomputable section

namespace Cert.KernelIdeal.Ring

open Cert.KernelIdeal Cert.KernelIdeal.Gen Cert.Ring
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The finished result, element by element -/

/-- The row block an element lies in. -/
def rowBlk (i : S1024x1024.Idx) : Fin 16 := ⟨(i 0).val / 64, by have : (i 0).val < 1024 := (i 0).isLt; omega⟩

/-- The two partial sums at an element of row block `c`. -/
def sumA (c : Fin 16) (i : S1024x1024.Idx) : Nat → F .f32
  | 0 => dot m (dv (c.val + 9)) i
  | s + 1 => FloatOps.addf (dot m (dv (c.val + 10 + s)) i) (sumA c i s)
/-- The same for the sum that travels back. -/
def sumB (c : Fin 16) (i : S1024x1024.Idx) : Nat → F .f32
  | 0 => dot m (dv (c.val + 8)) i
  | t + 1 => FloatOps.addf (dot m (dv (c.val + 23 - t)) i) (sumB c i t)
/-- The finished result. -/
def outFin : (cc0_stg2_0 : Ref sig .tc).ty.Contents (Elt F) := fun i =>
  FloatOps.addf (FloatOps.addf (dot m (dv (rowBlk i).val) i) (sumA m (rowBlk i) i 6)) (sumB m (rowBlk i) i 7)

section At
variable (p : Fin 4) (c : Fin 16) (j : S64x256.Idx)
/-- An element of the block sum that travels forward is the sum of elements. -/
theorem accA_at : ∀ s, accA m p c s j = sumA m c ((oR (coff c p) (coff_inb c p)).emb j) s
  | 0 => rfl
  | s + 1 => congrArg (FloatOps.addf _) (accA_at s)
/-- An element of the block sum that travels back is the sum of elements. -/
theorem accB_at : ∀ t, accB m p c t j = sumB m c ((oR (coff c p) (coff_inb c p)).emb j) t
  | 0 => rfl
  | t + 1 => congrArg (FloatOps.addf _) (accB_at t)
/-- An element of row block `c` lies in row block `c`. -/
theorem rowBlk_emb : rowBlk ((oR (coff c p) (coff_inb c p)).emb j) = c := by
  refine Fin.ext ?_
  show (64 * c.val + 1 * (j 0).val) / 64 = c.val
  have : (j 0).val < 64 := (j 0).isLt
  omega
/-- The finished result read in a block is the finished block. -/
theorem outFin_emb : outFin m ((oR (coff c p) (coff_inb c p)).emb j) = fin m p c j := by
  unfold outFin
  rw [rowBlk_emb, ← accA_at, ← accB_at]
  rfl
end At

/-! ## The result in blocks -/

/-- The rectangles of a device's blocks, by piece and place after the rank. -/
abbrev bR (d : Dev nD) (t : Fin 4 × Fin 16) : Rect S1024x1024 :=
  oR (coff (blockOf (rank d).val t.2) t.1) (coff_inb (blockOf (rank d).val t.2) t.1)

/-- An index lies in a block when its row is in the row block and its column in the piece. -/
theorem bR_mem (d : Dev nD) (t : Fin 4 × Fin 16) (i : S1024x1024.Idx) :
    i ∈ (bR d t).set ↔ (i 0).val / 64 = (blockOf (rank d).val t.2).val ∧ (i 1).val / 256 = t.1.val := by
  rw [Rect.mem_set_unit]
  have h0 : (i 0).val < 1024 := (i 0).isLt
  have h1 : (i 1).val < 1024 := (i 1).isLt
  constructor
  · intro h
    have a0 : 64 * (blockOf (rank d).val t.2).val ≤ (i 0).val ∧ (i 0).val < 64 * (blockOf (rank d).val t.2).val + 64 := h 0
    have a1 : 256 * t.1.val ≤ (i 1).val ∧ (i 1).val < 256 * t.1.val + 256 := h 1
    omega
  · rintro ⟨e0, e1⟩ a
    match a with
    | 0 => show 64 * (blockOf (rank d).val t.2).val ≤ (i 0).val ∧ (i 0).val < 64 * (blockOf (rank d).val t.2).val + 64; omega
    | 1 => show 256 * t.1.val ≤ (i 1).val ∧ (i 1).val < 256 * t.1.val + 256; omega

/-- Different blocks do not meet. -/
theorem bR_disjoint (d : Dev nD) (t t' : Fin 4 × Fin 16) (h : t ≠ t') : Disjoint (bR d t).set (bR d t').set := by
  rw [Finset.disjoint_left]
  intro i hi hi'
  obtain ⟨a0, a1⟩ := (bR_mem d t i).mp hi
  obtain ⟨b0, b1⟩ := (bR_mem d t' i).mp hi'
  refine h (Prod.ext (Fin.ext (a1.symm.trans b1)) (Fin.ext ?_))
  have e : ((rank d).val + t.2.val) % 16 = ((rank d).val + t'.2.val) % 16 := a0.symm.trans b0
  have := t.2.isLt; have := t'.2.isLt
  omega

/-- The blocks are the whole result. -/
theorem bR_cover (d : Dev nD) : (Finset.univ : Finset (Fin 4 × Fin 16)).biUnion (fun t => (bR d t).set) = Finset.univ := by
  refine Finset.eq_univ_of_forall fun i => ?_
  have h0 : (i 0).val < 1024 := (i 0).isLt
  have h1 : (i 1).val < 1024 := (i 1).isLt
  have hr := (rank d).isLt
  refine Finset.mem_biUnion.mpr ⟨(⟨(i 1).val / 256, by omega⟩, ⟨((i 0).val / 64 + 16 - (rank d).val) % 16, Nat.mod_lt _ (by decide)⟩), Finset.mem_univ _, ?_⟩
  rw [bR_mem]
  refine ⟨?_, rfl⟩
  show (i 0).val / 64 = ((rank d).val + ((i 0).val / 64 + 16 - (rank d).val) % 16) % 16
  omega

/-- Equal assertions entail each other. -/
theorem ent_eq {M : Type} [URA M] {P Q : sProp M} (h : P = Q) : Idealize.SL.BI.Entails P Q := h ▸ Idealize.SL.BI.Entails.refl P

/-- The list of blocks has no block twice. -/
theorem blks_nodup : blks.Nodup := by decide +kernel
/-- It has every block. -/
theorem blks_all : (Finset.univ : Finset (Fin 4 × Fin 16)) = blks.toFinset := by decide +kernel

/-- A conjunction over a list of images. -/
theorem bigSepL_map' {I J : Type} (f : I → J) (Φ : J → sProp 𝕄) : ∀ l : List I, bigSepL (l.map f) Φ = bigSepL l fun i => Φ (f i)
  | [] => rfl
  | i :: l => by rw [List.map_cons, bigSepL_cons, bigSepL_cons, bigSepL_map' f Φ l]

/-- The product, in blocks. -/
theorem out_split (d : Dev nD) :
    owns (d : Thread nD τ) oM fullShare (dot m d) ⊢ holds m d (blks.map fun b => .out b.1 b.2 (stage0 b.2)) := by
  unfold holds
  rw [bigSepL_map', ← bigSep_univ_eq_bigSepL blks blks_all blks_nodup]
  refine (owns_rects (d : Thread nD τ) oM fullShare (bR d) (fun _ _ => rfl) (bR_disjoint d) (bR_cover d) (dot m d)).trans ?_
  refine bigSep_mono fun t _ => ent_eq ?_
  simp only [tok]
  rw [outVal_stage0]
  rfl

/-- The finished blocks are the finished result. -/
theorem out_join' (d : Dev nD) :
    holds m d (blks.map fun b => .out b.1 b.2 2) ⊢ owns (d : Thread nD τ) oM fullShare (outFin m) := by
  unfold holds
  rw [bigSepL_map', ← bigSep_univ_eq_bigSepL blks blks_all blks_nodup]
  refine BIBase.Entails.trans ?_ (owns_of_rects (d : Thread nD τ) oM fullShare (bR d) (fun _ _ => rfl) (bR_disjoint d) (bR_cover d) (outFin m))
  refine bigSep_mono fun t _ => ent_eq ?_
  simp only [tok]
  rw [outVal_two, show (fun j => outFin m ((bR d t).emb j)) = fin m t.1 (blockOf (rank d).val t.2) from
    funext fun j => outFin_emb m t.1 (blockOf (rank d).val t.2) j]

/-- The device's own blocks and the others are all the blocks. -/
theorem blks_perm : (((List.finRange 4).map fun p => ((p, 0) : Fin 4 × Fin 16)) ++ blks.filter fun b => b.2.val != 0).Perm blks := by
  decide +kernel

/-- Two halves are a block. -/
theorem half_join (d : Dev nD) : ∀ l : List (Fin 4),
    holds m d (l.flatMap fun p => [.half p false, .half p true]) ⊢ holds m d (l.map fun p => .out p 0 2)
  | [] => Entails.rfl
  | p :: l => by
    rw [List.flatMap_cons, List.map_cons, List.cons_append, List.cons_append, List.nil_append, holds_cons, holds_cons, holds_cons]
    refine (sep_assoc (PROP := sProp 𝕄)).2.trans (BIClass.sep_mono ?_ (half_join d l))
    simp only [tok, if_pos, Bool.false_eq_true, if_false]
    rw [outVal_two, block_zero d 0 rfl]
    exact (owns_halves _ _ _ _).2

/-- The final tokens of the result's blocks are the whole result buffer, finished. -/
theorem out_join (d : Dev nD) :
    holds m d (((List.finRange 4).flatMap fun p => [.half p false, .half p true])
        ++ (blks.filter fun b => b.2.val != 0).map fun b => .out b.1 b.2 2)
      ⊢ owns (d : Thread nD τ) oM fullShare (outFin m) := by
  refine BIBase.Entails.trans ?_ (out_join' m d)
  unfold holds
  rw [bigSepL_append, ← bigSepL_perm' (blks_perm.map fun b : Fin 4 × Fin 16 => Tok.out b.1 b.2 2), List.map_append, bigSepL_append, List.map_map]
  exact BIClass.sep_mono (half_join m d _) Entails.rfl

/-! ## The communication buffer in slots -/

/-- The reducing messages. -/
def redS : Finset Msg := redsOf false ∪ redsOf true
/-- No message goes both ways. -/
theorem reds_disjoint : Disjoint (redsOf false) (redsOf true) :=
  Finset.disjoint_filter.mpr fun _ _ h h' => Bool.false_ne_true (h.2.symm.trans h'.2)
/-- The messages of this set are reducing ones. -/
theorem redS_red {x : Msg} (h : x ∈ redS) : red x.1 x.2 = true := by
  rcases Finset.mem_union.mp h with h | h <;> exact (Finset.mem_filter.mp h).2.1
/-- They are the listed ones. -/
theorem redS_list : redS = reds.toFinset := by decide +kernel
/-- No reducing message is listed twice. -/
theorem reds_nodup : reds.Nodup := by decide +kernel

/-- Different reducing messages of a stream have different communication slots. -/
theorem cslot_inj : ∀ (st : Fin 8) (k k' : Fin 15), red st k = true → red st k' = true → (cslot k).val = (cslot k').val → k = k' := by decide +kernel

/-- The communication buffer of device `d`. -/
abbrev cLoc (d : Dev nD) : Loc nD τ sig := (d : Thread nD τ).loc cc0_scratch0

/-- The elements of a message's slot. -/
abbrev cset (d : Dev nD) (x : Msg) : Finset (Idx (cLoc d)) := (cR x.1 (cslot x.2)).set

/-- The slots of different reducing messages do not meet. -/
theorem cset_disjoint (d : Dev nD) : ∀ x ∈ redS, ∀ y ∈ redS, x ≠ y → Disjoint (cset d x) (cset d y) := by
  intro x hx y hy hne
  rw [Finset.disjoint_left]
  intro i hi hi'
  rw [Rect.mem_set_unit] at hi hi'
  have a0 : x.1.val ≤ (i 0).val ∧ (i 0).val < x.1.val + 1 := hi 0
  have a1 : (cslot x.2).val ≤ (i 1).val ∧ (i 1).val < (cslot x.2).val + 1 := hi 1
  have b0 : y.1.val ≤ (i 0).val ∧ (i 0).val < y.1.val + 1 := hi' 0
  have b1 : (cslot y.2).val ≤ (i 1).val ∧ (i 1).val < (cslot y.2).val + 1 := hi' 1
  have e : x.1 = y.1 := Fin.ext (by omega)
  exact hne (Prod.ext e (cslot_inj x.1 x.2 y.2 (redS_red hx) (e ▸ redS_red hy) (by omega)))

/-- The elements of a slot's view are those of its rectangle. -/
theorem cset_eq (st k : Fin 8) : (cB st k).view.set = (cR st k).set := by
  rw [Memref.set_view_squeeze]
  show (cM.view.slice (cR st k)).set = _
  rw [View.set_slice]
  exact Finset.map_refl

/-- A slot held is its elements held, -/
theorem comAny_open (d : Dev nD) (x : Msg) :
    comAny (F := F) d x.1 (cslot x.2) ⊢ (iprop(∃ f : Buf (Elt F) (cLoc d), (cLoc d) ↦[cset d x]{fullShare} f) : sProp 𝕄) := by
  unfold comAny com owns
  rw [cset_eq]
  iintro ⟨%X, %f, -, H⟩
  iexists f; iexact H
/-- and the other way round. -/
theorem comAny_close (d : Dev nD) (x : Msg) (f : Buf (Elt F) (cLoc d)) :
    ((cLoc d ↦[cset d x]{fullShare} f) : sProp 𝕄) ⊢ comAny (F := F) d x.1 (cslot x.2) := by
  unfold comAny com owns
  rw [cset_eq]
  iintro H
  iexists _, f
  isplitr
  · ipureintro; rfl
  iexact H

/-- What is left of the buffer beside the slots in use. -/
def cRest (d : Dev nD) : sProp 𝕄 := iprop(∃ f : Buf (Elt F) (cLoc d), (cLoc d) ↦[Finset.univ \ redS.biUnion (cset d)]{fullShare} f)

/-- The communication buffer is cut into the slots in use and the rest, -/
theorem com_split (d : Dev nD) (f : Buf (Elt F) (cLoc d)) :
    ((cLoc d ↦{fullShare} f) : sProp 𝕄) ⊢ iprop((bigSep redS fun x => comAny (F := F) d x.1 (cslot x.2)) ∗ cRest (F := F) d) := by
  refine (pointsTo_split_subset (Finset.subset_univ (redS.biUnion (cset d)))).1.trans ?_
  rw [pointsTo_biUnion redS (cset d) (cset_disjoint d)]
  refine BIClass.sep_mono (bigSep_mono fun x _ => comAny_close d x f) ?_
  unfold cRest
  iintro H; iexists f; iexact H

/-- and put together again. -/
theorem com_join (d : Dev nD) :
    iprop((bigSep redS fun x => comAny (F := F) d x.1 (cslot x.2)) ∗ cRest (F := F) d) ⊢ (iprop(∃ f : Buf (Elt F) (cLoc d), (cLoc d) ↦{fullShare} f) : sProp 𝕄) := by
  refine (sep_mono_left (bigSep_mono fun x _ => comAny_open d x)).trans ?_
  unfold cRest
  iintro ⟨H1, ⟨%r, H2⟩⟩
  have : Nonempty (Buf (Elt F) (cLoc d)) := ⟨r⟩
  ihave H1 := (bigSep_exists_pi redS (fun x (f : Buf (Elt F) (cLoc d)) => ((cLoc d) ↦[cset d x]{fullShare} f : sProp 𝕄))) $$ H1
  icases H1 with ⟨%fs, H1⟩
  ihave H1 := (pointsTo_biUnion_join redS (cset d) fs r (cset_disjoint d)) $$ H1
  icases H1 with ⟨%g, -, H1⟩
  ihave H := (pointsTo_join_subset (Finset.subset_univ (redS.biUnion (cset d)))) $$ [H1 H2]
  · isplitl [H1]; · iexact H1
    iexact H2
  iexists _; iexact H

/-- A backward stream of the next device comes here, -/
theorem dst_nxt : ∀ (d : Dev nD) (st : Fin 8), fwd st = false → dst (nxt d) st = d := by decide +kernel
/-- and so does a forward stream of the device before. -/
theorem dst_prv : ∀ (d : Dev nD) (st : Fin 8), fwd st = true → dst (prv d) st = d := by decide +kernel

/-- The slots of device `d`, and the slots it may send into, by the direction of the stream. -/
theorem slots_barPay (d : Dev nD) :
    (bigSep redS fun x => comAny (F := F) d x.1 (cslot x.2)) ⊢ (iprop(barPay (F := F) (nxt d) false ∗ barPay (prv d) true) : sProp 𝕄) := by
  unfold redS barPay
  rw [bigSep_union reds_disjoint]
  refine BIClass.sep_mono (bigSep_mono fun x hx => ent_eq ?_) (bigSep_mono fun x hx => ent_eq ?_)
  · rw [show dst (nxt d) x.1 = d from dst_nxt d x.1 (Finset.mem_filter.mp hx).2.2]
  · rw [show dst (prv d) x.1 = d from dst_prv d x.1 (Finset.mem_filter.mp hx).2.2]

/-- What the barrier hands over are the tokens of the neighbours' slots. -/
theorem barPay_toks (d : Dev nD) :
    iprop(barPay (F := F) d false ∗ barPay d true) ⊢ holds m d (reds.map fun x => .nc x.1 x.2) := by
  unfold holds
  rw [bigSepL_map', ← bigSep_eq_bigSepL_of_eq reds redS_list reds_nodup]
  unfold redS barPay
  rw [bigSep_union reds_disjoint]
  exact BIClass.sep_mono (bigSep_mono fun x _ => ent_eq rfl) (bigSep_mono fun x _ => ent_eq rfl)

/-- The tokens of the device's own slots, back, are the slots. -/
theorem toks_slots (d : Dev nD) :
    holds m d (reds.map fun x => .cm x.1 x.2) ⊢ (bigSep redS fun x => comAny (F := F) d x.1 (cslot x.2)) := by
  unfold holds
  rw [bigSepL_map', ← bigSep_eq_bigSepL_of_eq reds redS_list reds_nodup]
  exact bigSep_mono fun x _ => ent_eq rfl

end Cert.KernelIdeal.Ring

end
-- ==== Proof.KernelIdeal.Body.lean ====
/-
A device's body, from what it holds at the start to what it holds at the end: the product and the barrier, then the list
of messages, then every cell closed.
-/
module

public import proofs.«01_k».proof.Proof.KernelIdeal.Buffers
public import proofs.«01_k».proof.Proof.Gen.KernelIdeal.Points

@[expose] public section

set_option maxRecDepth 16384

noncomputable section

namespace Cert.KernelIdeal.Ring

open Cert.KernelIdeal Cert.KernelIdeal.Gen Cert.Ring
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The product and the barrier -/

/-- The offset of a whole array is zero on both axes. -/
theorem hz : (![0, 0] : Fin 2 → Nat) = fun _ => 0 := funext fun a => by fin_cases a <;> rfl

/-- The whole of the first operand, as the rectangle the body loads, -/
abbrev xR : Rect S1024x64 := Rect.unit (s := S1024x64) ![0, 0] S1024x64.size inb_S1024x64_S1024x64_0_0
/-- of the second, -/
abbrev wR : Rect S64x1024 := Rect.unit (s := S64x1024) ![0, 0] S64x1024.size inb_S64x1024_S64x1024_0_0
/-- and of the result, as the rectangle it stores. -/
abbrev yR : Rect S1024x1024 := Rect.unit (s := S1024x1024) ![0, 0] S1024x1024.size inb_S1024x1024_S1024x1024_0_0

/-- Loading the whole first operand reads what its buffer holds. -/
theorem read_x (f : (cc0_stg0_0 : Ref sig .tc).ty.Contents (Elt F)) : (xM : Memref sig .tc .vmem S1024x64 .f32).view.readAt (Elt F) xR.toLoadRect f = f :=
  Memref.readAt_unit_zero (Elt F) cc0_stg0_0 hz _ f
/-- Loading the whole second operand reads what its buffer holds. -/
theorem read_w (f : (cc0_stg1_0 : Ref sig .tc).ty.Contents (Elt F)) : (wM : Memref sig .tc .vmem S64x1024 .f32).view.readAt (Elt F) wR.toLoadRect f = f :=
  Memref.readAt_unit_zero (Elt F) cc0_stg1_0 hz _ f
/-- Storing the whole result leaves just what was stored. -/
theorem write_y (f w : (cc0_stg2_0 : Ref sig .tc).ty.Contents (Elt F)) :
    ((oM : Memref sig .tc .vmem S1024x1024 .f32).access yR : View sig .tc _ _ _).write (Elt F) f w Finset.univ = w :=
  Memref.write_access_unit_zero_univ (Elt F) cc0_stg2_0 hz _ f w

/-- A buffer held whole at given contents. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- Owning the result buffer as a view is owning the buffer. -/
theorem stg_owns (d : Dev nD) (X : (cc0_stg2_0 : Ref sig .tc).ty.Contents (Elt F)) :
    (owns (d : Thread nD τ) oM fullShare X : sProp 𝕄) = stg d cc0_stg2_0 X := owns_whole_eq (d : Thread nD τ) cc0_stg2_0 fullShare X

/-- The first part of the body: the product stored in the result; the slots handed to the neighbours, and theirs received. -/
theorem prologue_wp (K : Dev nD × KI → ℕ) (d : Dev nD) (W : Waits sig Unit) (fo : Buf (Elt F) ((d : Thread nD τ).loc cc0_stg2_0)) (fc : Buf (Elt F) (cLoc d))
    {α : Type} (Q : α → sProp 𝕄) (k : PUnit → Prog (TpuEff nD τ sig (Elt F) Λ₀ .tc) α) :
    iprop(records m K ∗ levAts L lv ∗ atPos ER (barCell d) 0 ∅ 0 ∗ dutyTok ER (barCell (nxt d)) 0 false ∗ dutyTok ER (barCell (prv d)) 0 true
        ∗ cred (tallyAt (barCell d) () 2) ∗ stg d cc0_stg0_0 (xstg m d) ∗ stg d cc0_stg1_0 (wstg m d)
        ∗ (((d : Thread nD τ).loc cc0_stg2_0) ↦{fullShare} fo) ∗ (cLoc d ↦{fullShare} fc) ∗ owes (d : Thread nD τ) (O₀ d) W)
      ⊢ iprop(((atPos ER (barCell d) (0 + 1) ∅ 0 ∗ stg d cc0_stg0_0 (xstg m d) ∗ stg d cc0_stg1_0 (wstg m d) ∗ stg d cc0_stg2_0 (dot m d)
              ∗ cRest (F := F) d ∗ (barPay (F := F) d false ∗ barPay d true) ∗ ∃ W, owes (d : Thread nD τ) (owed d script) W)
            -∗ wp frame (wpE (defs₀ (F := F)) 𝒱₀ (d : Thread nD τ) none) Set.univ (k ⟨⟩) Q)
          -∗ wp frame (wpE (defs₀ (F := F)) 𝒱₀ (d : Thread nD τ) none) Set.univ (prologue (nxt d) (prv d) >>= k) Q) := by
  simp only [prologue, semSignalWord, semWaitWord, Prog.lift, Prog.bind_op, Prog.bind_ret]
  iintro ⟨#HR, #Hlev, HatB, HtN, HtP, HcB, ⟨%gx, %hgx, Hx⟩, ⟨%gw, %hgw, Hw⟩, Hout, Hcom, HO⟩ Hk
  subst hgx hgw
  iapply (wp_load 𝒱₀ (d : Thread nD τ) none Set.univ (m := xM) (Finset.subset_univ _)) $$ Hx; iintro Hx
  rw [read_x]
  iapply (wp_load 𝒱₀ (d : Thread nD τ) none Set.univ (m := wM) (Finset.subset_univ _)) $$ Hw; iintro Hw
  rw [read_w]
  iapply (wp_load 𝒱₀ (d : Thread nD τ) none Set.univ (m := oM) (Finset.subset_univ _)) $$ Hout; iintro Hout
  iapply (wp_store 𝒱₀ (d : Thread nD τ) none Set.univ (m := oM) (r := yR) (Mk := Finset.univ) (Finset.subset_univ _)) $$ Hout; iintro Hout
  rw [write_y]
  icases (com_split (F := F) d fc) $$ Hcom with ⟨Hcom, Hrest⟩
  icases (slots_barPay (F := F) d) $$ Hcom with ⟨HpN, HpP⟩
  iapply (Rounds.wp_signal 𝒱₀ ER (Rd m) (d : Thread nD τ) none (dst := (nxt d : Thread nD τ)) (κ := K (nxt d, none))
      (d := false) (by rw [duties_bar]; exact Finset.mem_univ _) ((amount_bar m (nxt d) false).trans (by decide)) () (O₁ d) rfl)
    $$ [HO HtN HpN]
  · isplitr; · iapply (inv_bar m K (nxt d)); iexact HR
    isplitl [HO]; · iexact HO
    isplitl [HtN]; · iexact HtN
    isplitl [HpN]; · rw [payload_bar]; iexact HpN
    iapply (reached_bar m K (nxt d)); iexact HR
  iintro HO
  iapply (Rounds.wp_signal 𝒱₀ ER (Rd m) (d : Thread nD τ) none (dst := (prv d : Thread nD τ)) (κ := K (prv d, none))
      (d := true) (by rw [duties_bar]; exact Finset.mem_univ _) ((amount_bar m (prv d) true).trans (by decide)) () (owed d script) rfl)
    $$ [HO HtP HpP]
  · isplitr; · iapply (inv_bar m K (prv d)); iexact HR
    isplitl [HO]; · iexact HO
    isplitl [HtP]; · iexact HtP
    isplitl [HpP]; · rw [payload_bar]; iexact HpP
    iapply (reached_bar m K (prv d)); iexact HR
  iintro HO
  iapply (Rounds.wp_wait_rest_token 𝒱₀ ER (Rd m) (d : Thread nD τ) none (κ := K (d, none))
      (wpE_semWait_eq 𝒱₀ (d : Thread nD τ) none Set.univ) (Set.mem_univ _) () (O := owed d script) (W := W) (R := 0) (m := 0) (T := ∅)
      (by rw [expect_bar]; decide)) $$ [HcB HO HatB]
  · isplitr; · iapply (inv_bar m K d); iexact HR
    isplitl [HcB]; · iexact HcB
    isplitl [HO]; · iexact HO
    isplitr; · iapply (mayWait_bar d); iexact Hlev
    iexact HatB
  iintro ⟨HO, HatB, -, Hpay⟩
  ihave Hp := (Entails.of_eq (rest_bar m d)) $$ Hpay
  iapply Hk
  isplitl [HatB]; · iexact HatB
  isplitl [Hx]
  · iexists _; isplitr; · (ipureintro; rfl)
    iexact Hx
  isplitl [Hw]
  · iexists _; isplitr; · (ipureintro; rfl)
    iexact Hw
  isplitl [Hout]
  · iexists _; isplitr; · (ipureintro; rfl)
    iexact Hout
  isplitl [Hrest]; · iexact Hrest
  isplitl [Hp]; · iexact Hp
  iexists _; iexact HO

/-! ## The cells closed -/

/-- A message's two counters at zero. -/
def zero (d : Dev nD) (x : Msg) : sProp 𝕄 := iprop(semVal (sendCell d x.1 x.2) 0 ∗ semVal (recvCell d x.1 x.2) 0)

/-- Once both waits of every message are over, all their counters stand at zero. -/
theorem close_all (K : Dev nD × KI → ℕ) (d : Dev nD) : ∀ l : List Msg,
    iprop(records m K ∗ holds m d (l.map fun x => .dn x.1 x.2)) ⊢ (|={Set.univ}=> bigSepL l (zero d) : sProp 𝕄)
  | [] => by
    iintro ⟨#-, H⟩
    imodintro; iexact H
  | x :: l => by
    rw [List.map_cons, holds_cons, bigSepL_cons']
    have ih := close_all K d l
    simp only [tok]
    iintro ⟨#HR, ⟨HS, HV⟩, Hl⟩
    imod (Rounds.cell_close ER (Rd m) (Set.mem_univ (K (d, some (false, x)))) (fun h => h) (R := 0 + 1) (duties_later m (sendCell d x.1 x.2))) $$ [HS] with HzS
    · isplitr; · iapply (inv_send m K d x.1 x.2); iexact HR
      iexact HS
    imod (Rounds.cell_close ER (Rd m) (Set.mem_univ (K (d, some (true, x)))) (fun h => h) (R := 0 + 1) (duties_later m (recvCell d x.1 x.2))) $$ [HV] with HzV
    · isplitr; · iapply (inv_recv m K d x.1 x.2); iexact HR
      iexact HV
    imod ih $$ [Hl] with Hz
    · isplitr; · iexact HR
      iexact Hl
    imodintro
    isplitr [Hz]
    · unfold zero; isplitl [HzS] <;> iassumption
    iexact Hz

/-! ## The data of the launch -/

/-- What device `d` starts from, beside its buffers. -/
def linear (d : Dev nD) : sProp 𝕄 :=
  iprop(atPos ER (barCell d) 0 ∅ 0 ∗ dutyTok ER (barCell (nxt d)) 0 false ∗ dutyTok ER (barCell (prv d)) 0 true
    ∗ cred (tallyAt (barCell d) () 2) ∗ holds m d (msgs.map fun x => .tk x.1 x.2) ∗ holds m d (msgs.map fun x => .ps x.1 x.2))
/-- What a device's body starts with beside its buffers: the invariants, the levels, and its own tokens and places. -/
def start (d : Dev nD) : sProp 𝕄 := iprop((∃ K, records m K) ∗ levAts L lv ∗ linear m d)

/-- What it holds beside the staged buffers before the body, -/
def Φ₀ (d : Dev nD) : sProp 𝕄 := iprop(start m d ∗ ∃ f : Buf (Elt F) (cLoc d), cLoc d ↦{fullShare} f)
/-- and after it: the communication buffer, and every counter at zero. -/
def Φ₁ (d : Dev nD) : sProp 𝕄 :=
  iprop((∃ f : Buf (Elt F) (cLoc d), cLoc d ↦{fullShare} f) ∗ semVal (barCell d) 0 ∗ bigSepL msgs (zero d))

variable (ρ : Dev nD → PrngReg)

/-- The launch's state: no counter raised. -/
def s₀ : MemSt nD τ sig (Elt F) := ⟨m, fun _ => 0, ρ⟩

/-- The proof's data for the pipeline: what each array holds, what each staged block holds after the body, what the device owes. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m c
    | ⟨1, _⟩ => wstg m c
    | ⟨2, _⟩ => outFin m
  Φ t := match t with
    | ⟨0, _⟩ => Φ₀ m c
    | ⟨_ + 1, _⟩ => Φ₁ c
  q _ := fullShare
  owed t := match t with
    | ⟨0, _⟩ => O₀ c
    | ⟨_ + 1, _⟩ => 0

/-! ## The body -/

/-- What the body is given, -/
def bodyPre (c : Dev nD) : sProp 𝕄 :=
  iprop(Φ₀ m c ∗ (dats m ρ 0 c).owesAt () t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))

/-- and what it leaves. -/
def bodyPost (c : Dev nD) : sProp 𝕄 :=
  iprop(Φ₁ c ∗ (dats m ρ 0 c).owesAt () t0_0.succ ∗ stg c cc0_stg0_0 (xstg m c) ∗ stg c cc0_stg1_0 (wstg m c) ∗ stg c cc0_stg2_0 (outFin m))

/-- The tokens at the start and at the end, kind by kind. -/
theorem init_holds (d : Dev nD) : holds m d Cert.Ring.initToks
    = iprop(holds m d (reds.map fun x => .nc x.1 x.2) ∗ holds m d (msgs.map fun x => .tk x.1 x.2) ∗ holds m d (msgs.map fun x => .ps x.1 x.2)
        ∗ holds m d (blks.map fun b => .out b.1 b.2 (stage0 b.2))) := by
  unfold Cert.Ring.initToks holds; rw [bigSepL_append, bigSepL_append, bigSepL_append]
/-- The final tokens, by kind. -/
theorem fin_holds (d : Dev nD) : holds m d finToks
    = iprop(holds m d (msgs.map fun x => .dn x.1 x.2) ∗ holds m d (reds.map fun x => .cm x.1 x.2)
        ∗ holds m d (((List.finRange 4).flatMap fun p => [.half p false, .half p true]) ++ (blks.filter fun b => b.2.val != 0).map fun b => .out b.1 b.2 2)) := by
  unfold finToks holds; rw [bigSepL_append, bigSepL_append]

/-- The list of messages, from the tokens at the start to those at the end. -/
theorem script_wp (K : Dev nD × KI → ℕ) (d : Dev nD) {α : Type} (Q : α → sProp 𝕄) (k : PUnit → Prog (TpuEff nD τ sig (Elt F) Λ₀ .tc) α) :
    iprop(records m K ∗ levAts L lv ∗ holds m d Cert.Ring.initToks ∗ ∃ W, owes (d : Thread nD τ) (owed d script) W)
      ⊢ iprop(((holds m d finToks ∗ ∃ W, owes (d : Thread nD τ) 0 W)
            -∗ wp frame (wpE (defs₀ (F := F)) 𝒱₀ (d : Thread nD τ) none) Set.univ (k ⟨⟩) Q)
          -∗ wp frame (wpE (defs₀ (F := F)) 𝒱₀ (d : Thread nD τ) none) Set.univ (runAll (opProg d) script >>= k) Q) := by
  obtain ⟨l, h1, h2⟩ := sim_script
  have h := walk m K d Q k script Cert.Ring.initToks l script_late h1
  unfold holds at h ⊢
  rwa [bigSepL_perm' h2] at h

/-- The body. -/
theorem sound_body (c : Dev nD) (Kt : PUnit → sProp 𝕄) :
    iprop(bodyPre m ρ c ∗ (bodyPost m ρ c -∗ Kt ⟨⟩)) ⊢ wp frame (wpE (defs₀ (F := F)) 𝒱₀ c none) Set.univ (theBody (F := F)) Kt := by
  rw [body_eq]
  simp only [Prog.lift, Prog.bind_op, Prog.bind_ret, wp_deviceId]
  rw [show (runAll (opProg (F := F) c) script) = (runAll (opProg c) script >>= fun x => .ret x) from (Prog.bind_pure _).symm]
  unfold bodyPre Φ₀ start linear
  iintro ⟨⟨⟨⟨⟨%K, #HR⟩, #Hlev, HatB, HtN, HtP, HcB, Htk, Hps⟩, ⟨%fc, Hcom⟩⟩, Ho, ⟨%d0, %g0, %hg0, Hx⟩, ⟨%d1, %g1, %hg1, Hw⟩, ⟨%d2, %g2, -, Hout⟩⟩, Hk⟩
  have hx : g0 = xstg m c := by rw [hg0]; unfold Dat.before; rw [if_pos (fetch0_0 t0_0)]; rfl
  have hw : g1 = wstg m c := by rw [hg1]; unfold Dat.before; rw [if_pos (fetch0_1 t0_0)]; rfl
  unfold Dat.owesAt Pipeline.owesWithin
  icases Ho with ⟨%W, %hW, HO⟩
  rw [show (dats m ρ 0 c).owed t0_0.castSucc = O₀ c from rfl]
  iapply (prologue_wp m K c W g2 fc) $$ [HatB HtN HtP HcB Hx Hw Hout Hcom HO]
  · isplitr; · iexact HR
    isplitr; · iexact Hlev
    isplitl [HatB]; · iexact HatB
    isplitl [HtN]; · iexact HtN
    isplitl [HtP]; · iexact HtP
    isplitl [HcB]; · iexact HcB
    isplitl [Hx]
    · iexists g0; isplitr; · (ipureintro; exact hx)
      iexact Hx
    isplitl [Hw]
    · iexists g1; isplitr; · (ipureintro; exact hw)
      iexact Hw
    isplitl [Hout]; · iexact Hout
    isplitl [Hcom]; · iexact Hcom
    iexact HO
  iintro ⟨HatB, Hx, Hw, Hout, Hrest, Hbar, HO⟩
  ihave Hnc := (barPay_toks m c) $$ Hbar
  ihave Hout := (Entails.of_eq (stg_owns (F := F) c (dot m c)).symm) $$ Hout
  ihave Hout := (out_split m c) $$ Hout
  iapply (script_wp m K c) $$ [Htk Hps Hnc Hout HO]
  · isplitr; · iexact HR
    isplitr; · iexact Hlev
    isplitr [HO]
    · rw [init_holds]
      isplitl [Hnc]; · iexact Hnc
      isplitl [Htk]; · iexact Htk
      isplitl [Hps]; · iexact Hps
      iexact Hout
    iexact HO
  iintro ⟨Hfin, ⟨%W', HO⟩⟩
  icases (Entails.of_eq (fin_holds m c)) $$ Hfin with ⟨Hdn, Hcm, Hout⟩
  ihave Hout := (out_join m c) $$ Hout
  ihave Hout := (Entails.of_eq (stg_owns (F := F) c (outFin m))) $$ Hout
  ihave Hcm := (toks_slots m c) $$ Hcm
  ihave Hcom := (com_join (F := F) c) $$ [Hcm Hrest]
  · isplitl [Hcm] <;> iassumption
  imod (close_all m K c msgs) $$ [Hdn] with Hz
  · isplitr; · iexact HR
    iexact Hdn
  imod (Rounds.cell_close ER (Rd m) (Set.mem_univ (K (c, none))) (fun h => h) (R := 0 + 1) (duties_later m (barCell c))) $$ [HatB] with HzB
  · isplitr; · iapply (inv_bar m K c); iexact HR
    iexact HatB
  rw [wp_ret]; imodintro
  iapply Hk
  unfold bodyPost Φ₁ Dat.owesAt Pipeline.owesWithin
  rw [show (dats m ρ 0 c).owed t0_0.succ = 0 from rfl]
  isplitl [Hcom Hz HzB]
  · isplitl [Hcom]; · iexact Hcom
    isplitl [HzB]; · iexact HzB
    iexact Hz
  isplitl [HO]
  · iexists W'
    isplitr; · ipureintro; exact fun _ _ => Or.inl trivial
    iexact HO
  isplitl [Hx]; · iexact Hx
  isplitl [Hw]; · iexact Hw
  iexact Hout

set_option maxRecDepth 1000000 in
/-- The library's body obligation on core `c`. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  show bodyPre m ρ c ⊢ wp frame (wpE (defs₀ (F := F)) 𝒱₀ c none) Set.univ (theBody (F := F)) (fun _ => bodyPost m ρ c)
  iintro H
  iapply (sound_body m ρ c fun _ => bodyPost m ρ c)
  isplitl [H]; · iexact H
  iintro H; iexact H

end Cert.KernelIdeal.Ring

end
-- ==== Proof.KernelIdeal.Run.lean ====
/-
The launch: what the devices hold before the first step is dealt out — the cells' invariants to all of them, the tokens
to the devices that pay with them, the credits from what everyone owes — and the whole program is run.
-/
module

public import proofs.«01_k».proof.Proof.KernelIdeal.Body
public import Idealize.ShloMosaic.Lib.Pipeline.CollectiveSegs

@[expose] public section

set_option maxRecDepth 16384

noncomputable section

namespace Cert.KernelIdeal.Ring

open Cert.KernelIdeal Cert.KernelIdeal.Gen Cert.Ring
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells and the tokens -/

/-- A device's cells, kind by kind. -/
def kiEquiv : Unit ⊕ (Msg ⊕ Msg) ≃ KI where
  toFun
    | .inl _ => none
    | .inr (.inl x) => some (false, x)
    | .inr (.inr x) => some (true, x)
  invFun
    | none => .inl ()
    | some (false, x) => .inr (.inl x)
    | some (true, x) => .inr (.inr x)
  left_inv := by rintro (_ | _ | _) <;> rfl
  right_inv := by rintro (_ | ⟨_ | _, _⟩) <;> rfl

/-- A conjunction over a device's cells: the barrier, the departures, the arrivals. -/
theorem bigSep_KI (Φ : KI → sProp 𝕄) : bigSep Finset.univ Φ
    = iprop(Φ none ∗ (bigSep Finset.univ fun x : Msg => Φ (some (false, x))) ∗ bigSep Finset.univ fun x : Msg => Φ (some (true, x))) := by
  rw [bigSep_univ_equiv kiEquiv, bigSep_univ_sum, bigSep_univ_sum, Finset.univ_unique, bigSep_singleton]
  rfl

/-- A token for every message, as a conjunction over the messages. -/
theorem holds_msgs (d : Dev nD) (f : Msg → Tok) : holds m d (msgs.map f) = bigSep Finset.univ fun x => tok m d (f x) := by
  unfold holds; rw [bigSepL_map', ← bigSep_univ_eq_bigSepL msgs msgs_all msgs_nodup]

/-- Different cells are different semaphores. -/
theorem kcell_injective : Function.Injective (kcell : Dev nD × KI → GSem nD τ sig) := fun x y h => by
  have h1 : x.1 = y.1 := congrArg (fun g : GSem nD τ sig => g.1.1) h
  have h2 : kindOf (csem x.2) = kindOf (csem y.2) := congrArg (fun g : GSem nD τ sig => kindOf g.2) h
  rw [kindOf_csem, kindOf_csem] at h2
  exact Prod.ext h1 (Option.some.inj h2)

/-- Barrier cells are equal when the devices are, -/
theorem barCell_iff {a b : Dev nD} : barCell a = barCell b ↔ a = b :=
  ⟨fun h => congrArg Prod.fst (kcell_injective (a₁ := (a, none)) (a₂ := (b, none)) h), fun h => h ▸ rfl⟩
/-- arrival cells when the devices and the messages are, -/
theorem recvCell_iff {a b : Dev nD} {x y : Msg} : recvCell a x.1 x.2 = recvCell b y.1 y.2 ↔ a = b ∧ x = y := by
  constructor
  · intro h
    have h := kcell_injective (a₁ := (a, some (true, x))) (a₂ := (b, some (true, y))) h
    exact ⟨congrArg Prod.fst h, congrArg Prod.snd (Option.some.inj (congrArg Prod.snd h))⟩
  · rintro ⟨rfl, rfl⟩; rfl
/-- and no arrival cell is a barrier cell. -/
theorem recvCell_ne_bar {a b : Dev nD} (x : Msg) : recvCell a x.1 x.2 ≠ barCell b := fun h => by
  have h := kcell_injective (a₁ := (a, some (true, x))) (a₂ := (b, none)) h
  cases congrArg Prod.snd h

/-- The kernel's own semaphores: all of a device's cells but the barrier. -/
abbrev osem (y : Bool × Msg) : SemLoc sig := csem (some y)

/-- The kernel's own semaphores are scoped, different from one another, and none of the pipeline's. -/
theorem ownSemFacts : Pipeline.OwnSemFacts cfg0.spec osem where
  isScoped := by decide +kernel
  inj := fun x y h => by
    have h2 : kindOf (csem (some x)) = kindOf (csem (some y)) := congrArg kindOf h
    rw [kindOf_csem, kindOf_csem] at h2
    exact Option.some.inj (Option.some.inj h2)
  disj := fun k w s h => by
    have h2 : kindOf (csem (some k)) = kindOf (.dma ((cfg0.spec w).sem s)) := congrArg kindOf h
    rw [kindOf_csem] at h2
    have h3 : kindOf (.dma ((cfg0.spec w).sem s)) = none := by fin_cases w <;> fin_cases s <;> decide
    rw [h3] at h2; cases h2

/-- The proof holds every window's array whole. -/
theorem share_eq (c : Dev nD) (w : Fin cfg0.W) : (dats m ρ 0 c).share w = fullShare := by unfold Dat.share; split <;> rfl

/-- All the ring's cells. -/
def ringCells : Finset (GSem nD τ sig) := Finset.univ.map ⟨kcell, kcell_injective⟩

/-- The tokens minted: one of every cell, and a second one of a barrier. -/
abbrev tokOf : (Dev nD × KI) ⊕ Dev nD → GSem nD τ sig × ℕ × Bool
  | .inl x => (kcell x, 0, false)
  | .inr d => (barCell d, 0, true)
/-- No token is minted twice. -/
theorem tokOf_injective : Function.Injective tokOf := by
  rintro (x | x) (y | y) h
  · exact congrArg Sum.inl (kcell_injective (congrArg Prod.fst h))
  · exact absurd (congrArg (fun z : GSem nD τ sig × ℕ × Bool => z.2.2) h) Bool.false_ne_true
  · exact absurd (congrArg (fun z : GSem nD τ sig × ℕ × Bool => z.2.2) h).symm Bool.false_ne_true
  · exact congrArg Sum.inr (barCell_iff.mp (congrArg Prod.fst h))
/-- All the tokens minted. -/
def ringToks : Finset (GSem nD τ sig × ℕ × Bool) := Finset.univ.map ⟨tokOf, tokOf_injective⟩

/-- The ghost state at the launch. -/
def u₀ : UU := (initOf (Pipeline.cells cfgs cellOf_inj) (Pipeline.launchToks cfgs cellOf_inj), initOf ringCells ringToks)

/-- The tokens of a device's own cells. -/
def ownToks (d : Dev nD) : sProp 𝕄 := iprop((bigSep Finset.univ fun k : KI => dutyTok ER (kcell (d, k)) 0 false) ∗ dutyTok ER (barCell d) 0 true)
/-- The tokens a device pays with. -/
def payToks (d : Dev nD) : sProp 𝕄 :=
  iprop(dutyTok ER (barCell (nxt d)) 0 false ∗ dutyTok ER (barCell (prv d)) 0 true
    ∗ bigSep Finset.univ fun x : Msg => iprop(dutyTok ER (sendCell d x.1 x.2) 0 false ∗ dutyTok ER (recvCell (dst d x.1) x.1 x.2) 0 false))
/-- A device's place at each of its cells. -/
def places (d : Dev nD) : sProp 𝕄 :=
  iprop(atPos ER (barCell d) 0 ∅ 0 ∗ bigSep Finset.univ fun x : Msg => iprop(atPos ER (sendCell d x.1 x.2) 0 ∅ 0 ∗ atPos ER (recvCell d x.1 x.2) 0 ∅ 0))

/-- What a device is dealt, -/
def G (d : Dev nD) : sProp 𝕄 :=
  iprop((bigSep Finset.univ fun k : KI => roundState ER (Rd m) (kcell (d, k)) 0)
    ∗ (bigSep Finset.univ fun k : KI => atPos ER (kcell (d, k)) 0 ∅ 0) ∗ (bigSep Finset.univ fun k : KI => reached ER (kcell (d, k)) 0) ∗ ownToks d)
/-- and what it holds of it once the cells' invariants stand and the tokens are passed on. -/
def G' (d : Dev nD) : sProp 𝕄 := iprop((∃ K, records m K) ∗ places d ∗ payToks d)

/-- The ring's ghost state at the launch is dealt to the devices. -/
theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : KI => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => ownToks c := by
    unfold ringToks ownToks
    rw [bigSep_map, bigSep_univ_sum, bigSep_univ_prod, bigSep_sep']
    rfl
  iintro HX
  imod (Rounds.fund ER (Rd m) ringCells ringToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat']; · iexact Hat'
  isplitl [Hr']; · iexact Hr'
  iexact Htok'

/-! ## The counters, and the invariants over them -/

/-- The one unscoped semaphore of a device is its barrier. -/
theorem unscopedSems0_eq (c : Dev nD) : (unscopedSems0 c : sProp 𝕄) = semVal (barCell c) 0 := by
  unfold unscopedSems0; rw [bigSep_eq_bigSepL_of_eq [SemLoc.reg barS.sem] (by decide +kernel) (by decide)]; rfl

/-- The kernel's own semaphores are the departures and the arrivals. -/
theorem ownSems0_eq (c : Dev nD) : (Pipeline.ownSems0 (Ix := Unit) (Name := ℕ) (U := UU) (Lvl := ℕ) (Val := Elt F) (τ := τ) osem c : sProp 𝕄)
    = bigSep Finset.univ fun x : Msg => zero c x := by
  unfold Pipeline.ownSems0 zero
  rw [bigSep_sep', bigSep_univ_prod, bigSep_univ_eq_bigSepL [false, true] (by decide) (by decide), bigSepL_cons_cons, bigSepL_singleton]
  rfl

/-- All of a device's counters stand at zero at the launch. -/
theorem sems0 (c : Dev nD) :
    iprop(Pipeline.ownSems0 (Ix := Unit) (Name := ℕ) (U := UU) (Lvl := ℕ) (Val := Elt F) (τ := τ) osem c ∗ unscopedSems0 c)
      ⊢ (bigSep Finset.univ fun k : KI => semVal (kcell (c, k)) 0 : sProp 𝕄) := by
  rw [bigSep_KI, ownSems0_eq, unscopedSems0_eq]
  unfold zero; rw [bigSep_sep']
  iintro ⟨⟨HS, HV⟩, HB⟩
  isplitl [HB]; · iexact HB
  isplitl [HS]; · iexact HS
  iexact HV

/-- A device's invariants, allocated. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Rd m) κ (kcell (c, k))))
          ∗ (bigSep Finset.univ fun k => atPos ER (kcell (c, k)) 0 ∅ 0) ∗ (bigSep Finset.univ fun k => reached ER (kcell (c, k)) 0) ∗ ownToks c) := by
  unfold G
  iintro ⟨Hos, Hus, Hst, Hat, Hr, Htok⟩
  ihave Hv := (sems0 (F := F) c) $$ [Hos Hus]
  · isplitl [Hos] <;> iassumption
  imod (show iprop((bigSep Finset.univ fun k : KI => semVal (kcell (c, k)) 0) ∗ bigSep Finset.univ fun k : KI => roundState ER (Rd m) (kcell (c, k)) 0)
      ⊢ (|={Set.univ}=> bigSep Finset.univ fun k => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Hr]; · iexact Hr
  iexact Htok

/-- The ring as a permutation, and a stream's direction on it. -/
def ring : Dev nD ≃ Dev nD := ⟨nxt, prv, prv_nxt, nxt_prv⟩
/-- A stream's direction, as a permutation of the devices. -/
def along (st : Fin 8) : Dev nD ≃ Dev nD := ⟨fun d => dst d st, fun d => src d st, fun d => src_dst d st, fun d => dst_src d st⟩

/-- By device and then by message, or the other way round. -/
theorem swap (Φ : Dev nD → Msg → sProp 𝕄) :
    (bigSep Finset.univ fun c => bigSep Finset.univ fun x => Φ c x) = bigSep Finset.univ fun x => bigSep Finset.univ fun c => Φ c x := by
  rw [← bigSep_univ_prod fun y : Dev nD × Msg => Φ y.1 y.2, bigSep_univ_equiv (Equiv.prodComm Msg (Dev nD)), bigSep_univ_prod]
  rfl

/-- The tokens passed to the devices that pay with them. -/
theorem toks_around : (bigSep Finset.univ fun c : Dev nD => (ownToks c : sProp 𝕄)) ⊢ bigSep Finset.univ fun c : Dev nD => payToks c := by
  have h (x : Msg) : (bigSep Finset.univ fun c : Dev nD => (dutyTok ER (recvCell c x.1 x.2) 0 false : sProp 𝕄))
      = bigSep Finset.univ fun c : Dev nD => dutyTok ER (recvCell (dst c x.1) x.1 x.2) 0 false := bigSep_univ_equiv (along x.1) _
  have hb : (bigSep Finset.univ fun c : Dev nD => (dutyTok ER (barCell c) 0 false : sProp 𝕄))
      = bigSep Finset.univ fun c : Dev nD => dutyTok ER (barCell (nxt c)) 0 false := bigSep_univ_equiv ring _
  have hb' : (bigSep Finset.univ fun c : Dev nD => (dutyTok ER (barCell c) 0 true : sProp 𝕄))
      = bigSep Finset.univ fun c : Dev nD => dutyTok ER (barCell (prv c)) 0 true := bigSep_univ_equiv ring.symm _
  unfold ownToks payToks
  simp only [bigSep_KI, bigSep_sep']
  have hr : (bigSep Finset.univ fun c : Dev nD => bigSep Finset.univ fun x : Msg => (dutyTok ER (kcell (c, some (true, x))) 0 false : sProp 𝕄))
      = bigSep Finset.univ fun c : Dev nD => bigSep Finset.univ fun x : Msg => dutyTok ER (recvCell (dst c x.1) x.1 x.2) 0 false := by
    rw [swap, swap]; exact bigSep_congr fun x _ => h x
  rw [hr, hb']
  rw [show (bigSep Finset.univ fun c : Dev nD => (dutyTok ER (kcell (c, none)) 0 false : sProp 𝕄)) = _ from hb]
  iintro ⟨⟨H1, H2, H3⟩, H4⟩
  isplitl [H1]; · iexact H1
  isplitl [H4]; · iexact H4
  isplitl [H2]; · iexact H2
  iexact H3

/-- A device's places, by the kind of cell. -/
theorem places_eq (c : Dev nD) : (bigSep Finset.univ fun k : KI => (atPos ER (kcell (c, k)) 0 ∅ 0 : sProp 𝕄)) = places c := by
  unfold places; rw [bigSep_KI, bigSep_sep']; rfl

/-- What everyone knows goes to everyone. -/
theorem spread {I : Type} [DecidableEq I] {S : Finset I} {R : sProp 𝕄} [BI.Persistent R] (Φ : I → sProp 𝕄) :
    iprop(R ∗ bigSep S Φ) ⊢ bigSep S fun i => iprop(R ∗ Φ i) :=
  (sep_mono_left (BI.bigSep_of_persistent S R)).trans (Entails.of_eq (bigSep_sep' S (fun _ => R) Φ).symm)

/-- With the invariants, its places and its tokens a device has what it should hold. -/
theorem G'_intro (K : Dev nD × KI → ℕ) (c : Dev nD) : iprop(records m K ∗ places c ∗ payToks c) ⊢ G' m c := by
  unfold G'
  iintro ⟨HK, H⟩
  isplitl [HK]; · iexists K; iexact HK
  iexact H

/-- Every device's invariants are known to all, and the tokens are passed on. -/
theorem regroup :
    (bigSep Finset.univ fun c : Dev nD => iprop((bigSep Finset.univ fun k => iprop(∃ κ : ℕ, cellInv ER (Rd m) κ (kcell (c, k))))
          ∗ (bigSep Finset.univ fun k => atPos ER (kcell (c, k)) 0 ∅ 0) ∗ (bigSep Finset.univ fun k => reached ER (kcell (c, k)) 0) ∗ ownToks c) : sProp 𝕄)
      ⊢ bigSep Finset.univ (G' m) := by
  simp only [bigSep_sep', places_eq]
  rw [← bigSep_univ_prod (fun x : Dev nD × KI => iprop(∃ κ : ℕ, cellInv ER (Rd m) κ (kcell x))),
    ← bigSep_univ_prod (fun x : Dev nD × KI => (reached ER (kcell x) 0 : sProp 𝕄))]
  iintro ⟨HI, Hat, #HR, Htok⟩
  ihave Htok := (toks_around (F := F)) $$ Htok
  icases (BI.bigSep_exists_pi Finset.univ (fun (x : Dev nD × KI) (κ : ℕ) => (cellInv ER (Rd m) κ (kcell x) : sProp 𝕄))) $$ HI with ⟨%K, #HI⟩
  ihave H := (spread (S := Finset.univ) (R := records m K) (fun c : Dev nD => iprop(places c ∗ payToks c))) $$ [Hat Htok]
  · isplitr
    · unfold records; isplitl; · iexact HI
      iexact HR
    · rw [bigSep_sep']; isplitl [Hat] <;> iassumption
  iapply (show BIBase.Entails (bigSep Finset.univ fun c : Dev nD => iprop(records m K ∗ places c ∗ payToks c)) (bigSep Finset.univ (G' m)) from
    bigSep_mono fun c _ => G'_intro m K c)
  iexact H

/-- From what the devices are dealt to what they hold. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credits -/

/-- A list of messages owes no barrier anything. -/
theorem owed_at_bar (d e : Dev nD) : ∀ l : List Op, owed d l (barCell e) () = 0
  | [] => rfl
  | .r _ _ :: l => owed_at_bar d e l
  | .s a b :: l => by
    unfold owed
    rw [Pi.add_apply, Finsupp.add_apply, owed_at_bar d e l, tallyAt_ne_cell (fun h => recvCell_ne_bar (a, b) h.symm), Finsupp.zero_apply, Nat.add_zero]

/-- What it owes an arrival: the units of the message, if it starts it and the device is the target. -/
theorem owed_at_recv (d e : Dev nD) (x : Msg) : ∀ l : List Op,
    owed d l (recvCell e x.1 x.2) () = if dst d x.1 = e then (starts l).count x * N else 0
  | [] => by unfold starts owed; rw [List.count_nil, Nat.zero_mul]; split <;> rfl
  | .r _ _ :: l => owed_at_recv d e x l
  | .s a b :: l => by
    unfold owed starts
    rw [Pi.add_apply, Finsupp.add_apply, owed_at_recv d e x l, tallyAt_apply, List.count_cons]
    by_cases hx : ((a, b) : Msg) = x
    · subst hx
      rw [if_pos (beq_self_eq_true _)]
      by_cases hd : dst d a = e
      · rw [if_pos hd, if_pos hd, if_pos ⟨by rw [hd], rfl⟩, Nat.add_mul, Nat.one_mul]
      · rw [if_neg hd, if_neg hd, if_neg fun h => hd (recvCell_iff (x := (a, b)) (y := (a, b)).mp h.1).1.symm]
    · have h1 : ¬ (recvCell e x.1 x.2 = recvCell (dst d a) a b ∧ () = ()) := fun h => hx (recvCell_iff (x := x) (y := (a, b)).mp h.1).2.symm
      rw [if_neg (c := ((a, b) == x) = true) (fun h => hx (eq_of_beq h)), Nat.add_zero, if_neg h1, Nat.add_zero]

/-- What a device owes a barrier: a unit if it is a neighbour's. -/
theorem owes_bar (d c : Dev nD) : O₀ d (barCell c) () = (if d = nxt c then 1 else 0) + (if d = prv c then 1 else 0) := by
  unfold O₀ O₁
  rw [Pi.add_apply, Finsupp.add_apply, Pi.add_apply, Finsupp.add_apply, owed_at_bar, tallyAt_apply, tallyAt_apply, Nat.zero_add]
  have h1 : (barCell c = barCell (prv d) ∧ () = ()) ↔ d = nxt c :=
    ⟨fun h => by rw [barCell_iff.mp h.1, nxt_prv], fun h => ⟨by rw [h, prv_nxt], rfl⟩⟩
  have h2 : (barCell c = barCell (nxt d) ∧ () = ()) ↔ d = prv c :=
    ⟨fun h => by rw [barCell_iff.mp h.1, prv_nxt], fun h => ⟨by rw [h, nxt_prv], rfl⟩⟩
  rw [if_congr h1 rfl rfl, if_congr h2 rfl rfl]

/-- What a device owes an arrival: the message's units if it is the sender. -/
theorem owes_recv (d c : Dev nD) (x : Msg) : O₀ d (recvCell c x.1 x.2) () = if d = src c x.1 then N else 0 := by
  unfold O₀ O₁
  rw [Pi.add_apply, Finsupp.add_apply, Pi.add_apply, Finsupp.add_apply, owed_at_recv, tallyAt_ne_cell (recvCell_ne_bar x),
    tallyAt_ne_cell (recvCell_ne_bar x), Finsupp.zero_apply, Nat.add_zero, Nat.add_zero,
    List.count_eq_one_of_mem starts_nodup (starts_all x), Nat.one_mul]
  have h : dst d x.1 = c ↔ d = src c x.1 := ⟨fun h => by rw [← h, src_dst], fun h => by rw [h, dst_src]⟩
  rw [if_congr h rfl rfl]

/-- In all a barrier is owed two units, -/
theorem credit_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owes_bar d c, Finset.sum_add_distrib,
    Finset.sum_ite_eq' Finset.univ (nxt c) fun _ => 1, Finset.sum_ite_eq' Finset.univ (prv c) fun _ => 1, if_pos (Finset.mem_univ _), if_pos (Finset.mem_univ _)]

/-- and an arrival its message's units. -/
theorem credit_recv (c : Dev nD) (x : Msg) :
    tallyOn (recvCell c x.1 x.2) (launchCredit (Pipeline.owing O₀) 0 (recvCell c x.1 x.2)) = (tallyAt (recvCell c x.1 x.2) () N : CellTallies nD τ sig Unit) := by
  unfold tallyAt; refine congrArg _ (Finsupp.ext fun u => ?_); cases u
  rw [Pipeline.launchCredit_owing, Finsupp.single_eq_same, Finset.sum_congr rfl fun d _ => owes_recv d c x,
    Finset.sum_ite_eq' Finset.univ (src c x.1) fun _ => N, if_pos (Finset.mem_univ _)]

/-- The arrivals' semaphores of a device. -/
def recvSems : Finset (SemLoc sig) := Finset.univ.map ⟨fun x : Msg => csem (some (true, x)), fun x y h => by
  have h2 : kindOf (csem (some (true, x))) = kindOf (csem (some (true, y))) := congrArg kindOf h
  rw [kindOf_csem, kindOf_csem] at h2
  exact congrArg Prod.snd (Option.some.inj (Option.some.inj h2))⟩

/-- So the launch's credit of a device is two units at its barrier and a message's at each arrival. -/
theorem credits (c : Dev nD) :
    (Pipeline.launchCred O₀ c : sProp 𝕄) ⊢ iprop(cred (tallyAt (barCell c) () 2) ∗ bigSep Finset.univ fun x : Msg => cred (tallyAt (recvCell c x.1 x.2) () N)) := by
  unfold Pipeline.launchCred
  rw [bigSep_univ_at _ (SemLoc.reg barS.sem), credit_bar]
  refine sep_mono_right ?_
  refine BIBase.Entails.trans (bigSep_subset (t := recvSems) fun s hs => ?_) ?_
  · obtain ⟨x, -, rfl⟩ := Finset.mem_map.mp hs
    exact Finset.mem_erase.mpr ⟨fun h => (by
      have h2 : kindOf (csem (some (true, x))) = kindOf (csem none) := congrArg kindOf h
      rw [kindOf_csem, kindOf_csem] at h2
      cases h2), Finset.mem_univ _⟩
  · unfold recvSems; rw [bigSep_map]
    exact bigSep_mono fun x _ => ent_eq (congrArg cred (credit_recv c x))

/-! ## The launch theorem's conditions -/

/-- What the launch leaves a device is what its body starts with. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  unfold G' places payToks start linear
  rw [holds_msgs, holds_msgs]
  simp only [tok, bigSep_sep']
  iintro ⟨-, Hlev, Hcr, -, HK, ⟨HatB, HatS, HatV⟩, HtN, HtP, HtS, HtV⟩
  icases (credits (F := F) c) $$ Hcr with ⟨HcB, HcV⟩
  imodintro
  isplitl
  · isplitl [HK]; · iexact HK
    isplitl [Hlev]; · iexact Hlev
    isplitl [HatB]; · iexact HatB
    isplitl [HtN]; · iexact HtN
    isplitl [HtP]; · iexact HtP
    isplitl [HcB]; · iexact HcB
    isplitl [HtS HtV]
    · isplitl [HtS] <;> iassumption
    isplitl [HatS]; · iexact HatS
    isplitl [HatV] <;> iassumption
  · iempintro

/-- With the communication buffer, that is what it holds before the body. -/
theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀
  iintro ⟨Hs, -, Hr⟩
  isplitl [Hs]; · iexact Hs
  iexact Hr

/-- What it holds after the body gives back the counters at zero and the communication buffer. -/
theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems0_eq, unscopedSems0_eq,
    bigSep_univ_eq_bigSepL msgs msgs_all msgs_nodup]
  unfold Φ₁
  iintro ⟨Hr, HzB, Hz⟩
  isplitl [HzB]; · iexact HzB
  isplitl [Hz]; · iexact Hz
  iexact Hr

/-- The pipeline's own waits are allowed. -/
theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

/-- A device's array at the end. -/
def finalA (c : Dev nD) (w : Fin cfg0.W) : Buf (Elt F) ((cfg0.win w).arr.view.loc (c : Thread nD τ)) := (dats m ρ 0 c).arrAt w cfg0.N

/-- What is read of the memory at the end: every window's array. -/
def QC : PUnit × MemSt nD τ sig (Elt F) → Prop := fun r =>
  ∀ c : Dev nD, ∀ w : Fin cfg0.W, r.2.mem ((cfg0.win w).arr.view.loc (c : Thread nD τ)) = finalA m ρ c w

set_option maxRecDepth 1000000 in
/-- From any memory with every counter at zero, each run of the program on the sixteen devices ends, with every array at
    its final contents and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The arguments' arrays are as they were. -/
theorem finalA_x (c : Dev nD) : finalA m ρ c (0 : Fin 3) = m (win0_0.arr.view.loc (c : Thread nD τ)) := (dats (F := F) m ρ 0 c).arrAt_in (0 : Fin 3) rfl _
/-- The second operand's array ends as it began. -/
theorem finalA_w (c : Dev nD) : finalA m ρ c (1 : Fin 3) = m (win0_1.arr.view.loc (c : Thread nD τ)) := (dats (F := F) m ρ 0 c).arrAt_in (1 : Fin 3) rfl _

end Cert.KernelIdeal.Ring

end
-- ==== Proof.KernelIdeal.Value.lean ====
/-
The result at the ideal instance: what each device's result array holds at the end is the product of the whole operands,
the sum over the sixteen devices of the products of their parts.
-/
module

public import proofs.«01_k».proof.Proof.KernelIdeal.Run
public import proofs.«01_k».proof.Proof.Gen.ReferenceIdeal
public import Idealize.ShloMosaic.Lib.Pipeline.Value
public import Idealize.ShloMosaic.Lib.Pointwise
public import Idealize.ShloMosaic.Lib.Layout

@[expose] public section

set_option maxRecDepth 16384

noncomputable section

namespace Cert.KernelIdeal.Ring

open Cert.KernelIdeal Cert.KernelIdeal.Gen Cert.Ring
open Idealize.ShloMosaic Idealize.ShloMosaic.TcCoe Idealize.SL.Sem
open Idealize.ShloMosaic.Pipeline (Dat)

/-! ## The result array at the end -/

section Array
variable {F : FTy → Type} [FloatOps F]
variable (m : (ℓ : Loc nD τ sig) → Buf (Elt F) ℓ) (ρ : Dev nD → PrngReg)

/-- The staged first operand is the array, -/
theorem xstg_eq (d : Dev nD) : xstg m d = m ((d : Thread nD τ).loc main_arg0) :=
  Memref.read_access_unit_zero (Elt F) main_arg0 (funext fun a => by fin_cases a <;> rfl) _ _
/-- and so is the second. -/
theorem wstg_eq (d : Dev nD) : wstg m d = m ((d : Thread nD τ).loc main_arg1) :=
  Memref.read_access_unit_zero (Elt F) main_arg1 (funext fun a => by fin_cases a <;> rfl) _ _

/-- A device's result array ends as its result buffer does. -/
theorem finalA_o (c : Dev nD) : finalA m ρ c (2 : Fin 3) = outFin m :=
  (dats m ρ 0 c).arrAt_eq_of_cover (2 : Fin 3) (outFin m)
    (fun t _ => by
      rw [fin_N0 t]
      exact (Memref.read_access_unit_zero (Elt F) main_v1 (funext fun a => by fin_cases a <;> rfl) _ (outFin m)).symm)
    fun i => ⟨t0_0, flush0_2 t0_0, by
      show i ∈ ((View.whole main_v1).slice (win0_2.rect t0_0)).set
      rw [View.set_slice_whole, Rect.mem_set_unit]
      intro a
      match a with
      | ⟨0, _⟩ => exact ⟨Nat.zero_le _, (i 0).isLt⟩
      | ⟨1, _⟩ => exact ⟨Nat.zero_le _, (i 1).isLt⟩⟩

/-- The run, read: every device's result array holds the finished sum, its arguments are unchanged. -/
theorem run : θ_run defs (onTc (τ := τ) (main (F := F))) ⟨m, fun _ => 0, ρ⟩ fun r => (∀ c : Dev nD,
      r.2.mem ((c.tc : Thread nD τ).loc main_v1) = outFin m
      ∧ r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0 :=
  (θ_run defs _ _).mono (fun _ h => ⟨fun c => ⟨(h.1 c (2 : Fin 3)).trans (finalA_o m ρ c), (h.1 c (0 : Fin 3)).trans (finalA_x m ρ c),
    (h.1 c (1 : Fin 3)).trans (finalA_w m ρ c)⟩, h.2⟩) (run_main m ρ)

end Array

/-! ## The sum over the devices -/

variable (m : (ℓ : Loc nD τ sig) → Buf (Elt Ideal) ℓ)

/-- The devices whose products an element of row block `c` adds up: the block's own, those of the sum that travels
    forward, those of the sum that travels back. -/
def order (c : Fin 16) : List (Dev nD) :=
  dv c.val :: ((List.range 7).map (fun s => dv (c.val + 9 + s)) ++ (List.range 8).map fun t => dv (c.val + 24 - t))

/-- Those are all the devices, each once. -/
theorem order_perm : ∀ c : Fin 16, (order c).Perm (List.finRange nD) := by decide +kernel

/-- Places on the ring repeat after sixteen. -/
theorem dv_wrap (n : Nat) : dv (n + 16) = dv n := by unfold dv; congr 2; exact Nat.add_mod_right n 16

/-- The sum that travels forward is the sum over the devices it has passed, -/
theorem sumA_eq (c : Fin 16) (i : S1024x1024.Idx) : ∀ s, sumA m c i s = ∑ t ∈ Finset.range (s + 1), dot m (dv (c.val + 9 + t)) i
  | 0 => by rw [Finset.sum_range_one]; rfl
  | s + 1 => by
    rw [Finset.sum_range_succ, ← sumA_eq c i s, show c.val + 9 + (s + 1) = c.val + 10 + s by omega]
    exact add_comm (G := EReal) _ _
/-- and so is the one that travels back. -/
theorem sumB_eq (c : Fin 16) (i : S1024x1024.Idx) : ∀ s, s ≤ 23 → sumB m c i s = ∑ t ∈ Finset.range (s + 1), dot m (dv (c.val + 24 - t)) i
  | 0, _ => by rw [Finset.sum_range_one, show c.val + 24 - 0 = c.val + 8 + 16 by omega, dv_wrap]; rfl
  | s + 1, h => by
    rw [Finset.sum_range_succ, ← sumB_eq c i s (by omega), show c.val + 24 - (s + 1) = c.val + 23 - s by omega]
    exact add_comm (G := EReal) _ _

/-- Each element of the result is the sum of all the devices' products there. -/
theorem outFin_sum (i : S1024x1024.Idx) : outFin m i = ∑ d : Dev nD, dot m d i := by
  rw [Fin.sum_univ_def, ← (order_perm (rowBlk i)).map (fun d => dot m d i) |>.sum_eq]
  unfold order
  rw [List.map_cons, List.sum_cons, List.map_append, List.sum_append, List.map_map, List.map_map]
  show (dot m (dv (rowBlk i).val) i + sumA m (rowBlk i) i 6) + sumB m (rowBlk i) i 7 = _
  rw [sumA_eq, sumB_eq _ _ _ _ (by decide), add_assoc]
  rfl

/-! ## The products -/

/-- A device's operands, as arrays of numbers. -/
abbrev xArr (d : Dev nD) : S1024x64.Idx → EReal := m ((d : Thread nD τ).loc main_arg0)
/-- A device's second operand, as an array of numbers. -/
abbrev wArr (d : Dev nD) : S64x1024.Idx → EReal := m ((d : Thread nD τ).loc main_arg1)

/-- An element of a product is the sum over the contraction. -/
theorem pay_apply (x : Vec Ideal S1024x64 .f32) (w : Vec Ideal S64x1024 .f32) (i : S1024x1024.Idx) :
    k0_pay1 x w i = ∑ k : Fin 64, (x (ix2 (i 0) k) : EReal) * w (ix2 k (i 1)) := by
  unfold k0_pay1
  pointwise

/-- A device's product at an element. -/
theorem dot_apply (d : Dev nD) (i : S1024x1024.Idx) : dot m d i = ∑ k : Fin 64, xArr m d (ix2 (i 0) k) * wArr m d (ix2 k (i 1)) := by
  unfold dot
  rw [xstg_eq, wstg_eq, pay_apply]

/-- The product of the whole operands at an element. -/
theorem ref_apply (X W : S1024x1024.Idx → EReal) (i : S1024x1024.Idx) :
    Host.dotGeneral (F := Ideal) (φ₁ := .f32) (φ₂ := .f32) Cert.ReferenceIdeal.dot_S1024x1024_S1024x1024_S1024x1024_1_0_0_1_n_n none X W i = ∑ k : Fin 1024, X (ix2 (i 0) k) * W (ix2 k (i 1)) := by
  pointwise

/-- A sum over the whole contraction, cut into the devices' parts. -/
theorem sum_cut (f : Fin 1024 → EReal) : ∑ K : Fin 1024, f K = ∑ d : Dev nD, ∑ k : Fin 64, f ⟨d.val * 64 + k.val, by have : d.val < 16 := d.isLt; have := k.isLt; omega⟩ := by
  rw [← Fintype.sum_prod_type', ← (finProdFinEquiv (m := 16) (n := 64)).sum_comp f]
  refine Finset.sum_congr rfl fun x _ => congrArg f (Fin.ext ?_)
  show x.2.val + 64 * x.1.val = x.1.val * 64 + x.2.val
  omega

/-- So the result is the product of the whole operands, when every device holds its part of them. -/
theorem outFin_eq (X W : (⟨2, ![1024, 1024]⟩ : Shape).Idx → EReal)
    (hx : ∀ d : Dev nD, m ((d : Thread nD τ).loc main_arg0) = Layout.block ⟨2, ![1024, 64]⟩ ⟨2, ![1024, 1024]⟩ 1 16 d X)
    (hw : ∀ d : Dev nD, m ((d : Thread nD τ).loc main_arg1) = Layout.block ⟨2, ![64, 1024]⟩ ⟨2, ![1024, 1024]⟩ 0 16 d W) :
    outFin m = Host.dotGeneral (F := Ideal) (φ₁ := .f32) (φ₂ := .f32) Cert.ReferenceIdeal.dot_S1024x1024_S1024x1024_S1024x1024_1_0_0_1_n_n none X W := by
  funext i
  rw [ref_apply, sum_cut]
  refine (outFin_sum m i).trans (Finset.sum_congr (M := EReal) rfl fun d _ => (dot_apply m d i).trans ?_)
  unfold xArr wArr
  rw [hx, hw]
  refine Finset.sum_congr rfl fun k _ => ?_
  rw [Layout.block_apply, Layout.block_apply]
  congr 1
  · exact congrArg X (funext fun a => Fin.ext (by fin_cases a <;> rfl))
  · exact congrArg W (funext fun a => Fin.ext (by fin_cases a <;> rfl))

end Cert.KernelIdeal.Ring

end
-- ==== Proof.lean ====
/-
The certificate: the kernel, its idealization and the reference each run to the end and leave their arguments and every
semaphore counter as they found them; the idealization rewrites nothing; and over the extended reals every device's result
is the reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Kernel.Run
public import proofs.«01_k».proof.Proof.KernelIdeal.Value
public import Idealize.ShloMosaic.Adequacy
public import Idealize.ShloMosaic.Lib.Quiescent
public import Idealize.ShloMosaic.Init

@[expose] public section

noncomputable section

namespace Cert.Proof

open Idealize.ShloMosaic Idealize.SL.Sem

/-- The kernel as printed runs, leaves its arguments as they were and every semaphore at zero. -/
theorem kernel_frame : Cert.quiescent_Kernel (hKernel := Cert.Kernel.Gen.facts) := fun m g _ =>
  (θ_run _ _ _).mono (fun _ h => ⟨fun c => ⟨(h.1 c (0 : Fin 3)).trans (Cert.Kernel.Ring.finalA_x m g c),
    (h.1 c (1 : Fin 3)).trans (Cert.Kernel.Ring.finalA_w m g c)⟩, h.2⟩) (Cert.Kernel.Ring.run_main m g)

/-- So does its idealization. -/
theorem kernelIdeal_frame : Cert.quiescent_KernelIdeal (hKernelIdeal := Cert.KernelIdeal.Gen.facts) := fun m g _ =>
  (θ_run _ _ _).mono (fun _ h => ⟨fun c => (h.1 c).2, h.2⟩) (Cert.KernelIdeal.Ring.run m g)

/-- And so does the reference. -/
theorem reference_frame : Cert.quiescent_ReferenceIdeal (hReferenceIdeal := Cert.ReferenceIdeal.Gen.facts) := fun m' g' _ =>
  (θ_run _ _ _).mono (fun r h => ⟨fun c => (h c).2, sem_eq_zero_of_no_sems (by decide) r.2⟩) (Cert.ReferenceIdeal.Value.run m' g')

/-- The idealized kernel's result, on every device, is the reference's result. -/
theorem same_result : Cert.algebraic_KernelIdeal_ReferenceIdeal (hKernelIdeal := Cert.KernelIdeal.Gen.facts)
    (hReferenceIdeal := Cert.ReferenceIdeal.Gen.facts) := fun m g m' g' _ hm =>
  ⟨_, (θ_run _ _ _).mono (fun _ h c => ⟨(h.1 c).1.trans
      (Cert.KernelIdeal.Ring.outFin_eq m _ _ (fun d => (hm d).1) (fun d => (hm d).2)), (h.1 c).2⟩) (Cert.KernelIdeal.Ring.run m g),
    (θ_run _ _ _).mono (fun _ h => h 0) (Cert.ReferenceIdeal.Value.run m' g')⟩

/-- Everything the certificate claims. -/
theorem claim : Cert.Claim := ⟨Cert.Kernel.Gen.facts, Cert.KernelIdeal.Gen.facts, Cert.ReferenceIdeal.Gen.facts,
  kernel_frame, kernelIdeal_frame, reference_frame, trivial, same_result⟩

end Cert.Proof

end
